-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1Ideal_finite1 [hPre_finite1 : Cert.Pre_finite1.Facts] (m : (ℓ : Loc Cert.Ffn1Ideal.nD Cert.Ffn1Ideal.τ Cert.Ffn1Ideal.sig) → Buf (Elt Ideal) ℓ) : Prop :=
  ∀ c : Dev Cert.Ffn1Ideal.nD,
    (Cert.Pre_finite1.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5)) (m ((c.tc : Thread Cert.Ffn1Ideal.nD Cert.Ffn1Ideal.τ).loc Cert.Ffn1Ideal.main_arg6)) (m ((c.tc : Thread Cert.Ffn1Ideal.nD Cert.Ffn1Ideal.τ).loc Cert.Ffn1Ideal.main_arg7)) (m ((c.tc : Thread Cert.Ffn1Ideal.nD Cert.Ffn1Ideal.τ).loc Cert.Ffn1Ideal.main_arg8)) (m ((c.tc : Thread Cert.Ffn1Ideal.nD Cert.Ffn1Ideal.τ).loc Cert.Ffn1Ideal.main_arg9))).1 = (fun _ => 1#1)
    ∧ (Cert.Pre_finite1.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5)) (m ((c.tc : Thread Cert.Ffn1Ideal.nD Cert.Ffn1Ideal.τ).loc Cert.Ffn1Ideal.main_arg6)) (m ((c.tc : Thread Cert.Ffn1Ideal.nD Cert.Ffn1Ideal.τ).loc Cert.Ffn1Ideal.main_arg7)) (m ((c.tc : Thread Cert.Ffn1Ideal.nD Cert.Ffn1Ideal.τ).loc Cert.Ffn1Ideal.main_arg8)) (m ((c.tc : Thread Cert.Ffn1Ideal.nD Cert.Ffn1Ideal.τ).loc Cert.Ffn1Ideal.main_arg9))).2.1 = (fun _ => 1#1)
    ∧ (Cert.Pre_finite1.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5)) (m ((c.tc : Thread Cert.Ffn1Ideal.nD Cert.Ffn1Ideal.τ).loc Cert.Ffn1Ideal.main_arg6)) (m ((c.tc : Thread Cert.Ffn1Ideal.nD Cert.Ffn1Ideal.τ).loc Cert.Ffn1Ideal.main_arg7)) (m ((c.tc : Thread Cert.Ffn1Ideal.nD Cert.Ffn1Ideal.τ).loc Cert.Ffn1Ideal.main_arg8)) (m ((c.tc : Thread Cert.Ffn1Ideal.nD Cert.Ffn1Ideal.τ).loc Cert.Ffn1Ideal.main_arg9))).2.2.1 = (fun _ => 1#1)
    ∧ (Cert.Pre_finite1.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5)) (m ((c.tc : Thread Cert.Ffn1Ideal.nD Cert.Ffn1Ideal.τ).loc Cert.Ffn1Ideal.main_arg6)) (m ((c.tc : Thread Cert.Ffn1Ideal.nD Cert.Ffn1Ideal.τ).loc Cert.Ffn1Ideal.main_arg7)) (m ((c.tc : Thread Cert.Ffn1Ideal.nD Cert.Ffn1Ideal.τ).loc Cert.Ffn1Ideal.main_arg8)) (m ((c.tc : Thread Cert.Ffn1Ideal.nD Cert.Ffn1Ideal.τ).loc Cert.Ffn1Ideal.main_arg9))).2.2.2.1 = (fun _ => 1#1)
    ∧ (Cert.Pre_finite1.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5)) (m ((c.tc : Thread Cert.Ffn1Ideal.nD Cert.Ffn1Ideal.τ).loc Cert.Ffn1Ideal.main_arg6)) (m ((c.tc : Thread Cert.Ffn1Ideal.nD Cert.Ffn1Ideal.τ).loc Cert.Ffn1Ideal.main_arg7)) (m ((c.tc : Thread Cert.Ffn1Ideal.nD Cert.Ffn1Ideal.τ).loc Cert.Ffn1Ideal.main_arg8)) (m ((c.tc : Thread Cert.Ffn1Ideal.nD Cert.Ffn1Ideal.τ).loc Cert.Ffn1Ideal.main_arg9))).2.2.2.2.1 = (fun _ => 1#1)
    ∧ (Cert.Pre_finite1.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5)) (m ((c.tc : Thread Cert.Ffn1Ideal.nD Cert.Ffn1Ideal.τ).loc Cert.Ffn1Ideal.main_arg6)) (m ((c.tc : Thread Cert.Ffn1Ideal.nD Cert.Ffn1Ideal.τ).loc Cert.Ffn1Ideal.main_arg7)) (m ((c.tc : Thread Cert.Ffn1Ideal.nD Cert.Ffn1Ideal.τ).loc Cert.Ffn1Ideal.main_arg8)) (m ((c.tc : Thread Cert.Ffn1Ideal.nD Cert.Ffn1Ideal.τ).loc Cert.Ffn1Ideal.main_arg9))).2.2.2.2.2.1 = (fun _ => 1#1)
    ∧ (Cert.Pre_finite1.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5)) (m ((c.tc : Thread Cert.Ffn1Ideal.nD Cert.Ffn1Ideal.τ).loc Cert.Ffn1Ideal.main_arg6)) (m ((c.tc : Thread Cert.Ffn1Ideal.nD Cert.Ffn1Ideal.τ).loc Cert.Ffn1Ideal.main_arg7)) (m ((c.tc : Thread Cert.Ffn1Ideal.nD Cert.Ffn1Ideal.τ).loc Cert.Ffn1Ideal.main_arg8)) (m ((c.tc : Thread Cert.Ffn1Ideal.nD Cert.Ffn1Ideal.τ).loc Cert.Ffn1Ideal.main_arg9))).2.2.2.2.2.2.1 = (fun _ => 1#1)
    ∧ (Cert.Pre_finite1.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5)) (m ((c.tc : Thread Cert.Ffn1Ideal.nD Cert.Ffn1Ideal.τ).loc Cert.Ffn1Ideal.main_arg6)) (m ((c.tc : Thread Cert.Ffn1Ideal.nD Cert.Ffn1Ideal.τ).loc Cert.Ffn1Ideal.main_arg7)) (m ((c.tc : Thread Cert.Ffn1Ideal.nD Cert.Ffn1Ideal.τ).loc Cert.Ffn1Ideal.main_arg8)) (m ((c.tc : Thread Cert.Ffn1Ideal.nD Cert.Ffn1Ideal.τ).loc Cert.Ffn1Ideal.main_arg9))).2.2.2.2.2.2.2 = (fun _ => 1#1)

def Pre_RefFfn1Ideal (m : (ℓ : Loc Cert.RefFfn1Ideal.nD Cert.RefFfn1Ideal.τ Cert.RefFfn1Ideal.sig) → Buf (Elt Ideal) ℓ) : Prop :=
  True

def Pre_RefFfn1Ideal_finite1 [hPre_finite1 : Cert.Pre_finite1.Facts] (m : (ℓ : Loc Cert.RefFfn1Ideal.nD Cert.RefFfn1Ideal.τ Cert.RefFfn1Ideal.sig) → Buf (Elt Ideal) ℓ) : Prop :=
  ∀ c : Dev Cert.RefFfn1Ideal.nD,
    (Cert.Pre_finite1.fn (F := Ideal) (m ((c.tc : Thread Cert.RefFfn1Ideal.nD Cert.RefFfn1Ideal.τ).loc Cert.RefFfn1Ideal.main_arg0)) (m ((c.tc : Thread Cert.RefFfn1Ideal.nD Cert.RefFfn1Ideal.τ).loc Cert.RefFfn1Ideal.main_arg1)) (m ((c.tc : Thread Cert.RefFfn1Ideal.nD Cert.RefFfn1Ideal.τ).loc Cert.RefFfn1Ideal.main_arg2)) (m ((c.tc : Thread Cert.RefFfn1Ideal.nD Cert.RefFfn1Ideal.τ).loc Cert.RefFfn1Ideal.main_arg3)) (m ((c.tc : Thread Cert.RefFfn1Ideal.nD Cert.RefFfn1Ideal.τ).loc Cert.RefFfn1Ideal.main_arg4)) (m ((c.tc : Thread Cert.RefFfn1Ideal.nD Cert.RefFfn1Ideal.τ).loc Cert.RefFfn1Ideal.main_arg5)) (m ((c.tc : Thread Cert.RefFfn1Ideal.nD Cert.RefFfn1Ideal.τ).loc Cert.RefFfn1Ideal.main_arg6)) (m ((c.tc : Thread Cert.RefFfn1Ideal.nD Cert.RefFfn1Ideal.τ).loc Cert.RefFfn1Ideal.main_arg7)) (m ((c.tc : Thread Cert.RefFfn1Ideal.nD Cert.RefFfn1Ideal.τ).loc Cert.RefFfn1Ideal.main_arg8)) (m ((c.tc : Thread Cert.RefFfn1Ideal.nD Cert.RefFfn1Ideal.τ).loc Cert.RefFfn1Ideal.main_arg9))).1 = (fun _ => 1#1)
    ∧ (Cert.Pre_finite1.fn (F := Ideal) (m ((c.tc : Thread Cert.RefFfn1Ideal.nD Cert.RefFfn1Ideal.τ).loc Cert.RefFfn1Ideal.main_arg0)) (m ((c.tc : Thread Cert.RefFfn1Ideal.nD Cert.RefFfn1Ideal.τ).loc Cert.RefFfn1Ideal.main_arg1)) (m ((c.tc : Thread Cert.RefFfn1Ideal.nD Cert.RefFfn1Ideal.τ).loc Cert.RefFfn1Ideal.main_arg2)) (m ((c.tc : Thread Cert.RefFfn1Ideal.nD Cert.RefFfn1Ideal.τ).loc Cert.RefFfn1Ideal.main_arg3)) (m ((c.tc : Thread Cert.RefFfn1Ideal.nD Cert.RefFfn1Ideal.τ).loc Cert.RefFfn1Ideal.main_arg4)) (m ((c.tc : Thread Cert.RefFfn1Ideal.nD Cert.RefFfn1Ideal.τ).loc Cert.RefFfn1Ideal.main_arg5)) (m ((c.tc : Thread Cert.RefFfn1Ideal.nD Cert.RefFfn1Ideal.τ).loc Cert.RefFfn1Ideal.main_arg6)) (m ((c.tc : Thread Cert.RefFfn1Ideal.nD Cert.RefFfn1Ideal.τ).loc Cert.RefFfn1Ideal.main_arg7)) (m ((c.tc : Thread Cert.RefFfn1Ideal.nD Cert.RefFfn1Ideal.τ).loc Cert.RefFfn1Ideal.main_arg8)) (m ((c.tc : Thread Cert.RefFfn1Ideal.nD Cert.RefFfn1Ideal.τ).loc Cert.RefFfn1Ideal.main_arg9))).2.1 = (fun _ => 1#1)
    ∧ (Cert.Pre_finite1.fn (F := Ideal) (m ((c.tc : Thread Cert.RefFfn1Ideal.nD Cert.RefFfn1Ideal.τ).loc Cert.RefFfn1Ideal.main_arg0)) (m ((c.tc : Thread Cert.RefFfn1Ideal.nD Cert.RefFfn1Ideal.τ).loc Cert.RefFfn1Ideal.main_arg1)) (m ((c.tc : Thread Cert.RefFfn1Ideal.nD Cert.RefFfn1Ideal.τ).loc Cert.RefFfn1Ideal.main_arg2)) (m ((c.tc : Thread Cert.RefFfn1Ideal.nD Cert.RefFfn1Ideal.τ).loc Cert.RefFfn1Ideal.main_arg3)) (m ((c.tc : Thread Cert.RefFfn1Ideal.nD Cert.RefFfn1Ideal.τ).loc Cert.RefFfn1Ideal.main_arg4)) (m ((c.tc : Thread Cert.RefFfn1Ideal.nD Cert.RefFfn1Ideal.τ).loc Cert.RefFfn1Ideal.main_arg5)) (m ((c.tc : Thread Cert.RefFfn1Ideal.nD Cert.RefFfn1Ideal.τ).loc Cert.RefFfn1Ideal.main_arg6)) (m ((c.tc : Thread Cert.RefFfn1Ideal.nD Cert.RefFfn1Ideal.τ).loc Cert.RefFfn1Ideal.main_arg7)) (m ((c.tc : Thread Cert.RefFfn1Ideal.nD Cert.RefFfn1Ideal.τ).loc Cert.RefFfn1Ideal.main_arg8)) (m ((c.tc : Thread Cert.RefFfn1Ideal.nD Cert.RefFfn1Ideal.τ).loc Cert.RefFfn1Ideal.main_arg9))).2.2.1 = (fun _ => 1#1)
    ∧ (Cert.Pre_finite1.fn (F := Ideal) (m ((c.tc : Thread Cert.RefFfn1Ideal.nD Cert.RefFfn1Ideal.τ).loc Cert.RefFfn1Ideal.main_arg0)) (m ((c.tc : Thread Cert.RefFfn1Ideal.nD Cert.RefFfn1Ideal.τ).loc Cert.RefFfn1Ideal.main_arg1)) (m ((c.tc : Thread Cert.RefFfn1Ideal.nD Cert.RefFfn1Ideal.τ).loc Cert.RefFfn1Ideal.main_arg2)) (m ((c.tc : Thread Cert.RefFfn1Ideal.nD Cert.RefFfn1Ideal.τ).loc Cert.RefFfn1Ideal.main_arg3)) (m ((c.tc : Thread Cert.RefFfn1Ideal.nD Cert.RefFfn1Ideal.τ).loc Cert.RefFfn1Ideal.main_arg4)) (m ((c.tc : Thread Cert.RefFfn1Ideal.nD Cert.RefFfn1Ideal.τ).loc Cert.RefFfn1Ideal.main_arg5)) (m ((c.tc : Thread Cert.RefFfn1Ideal.nD Cert.RefFfn1Ideal.τ).loc Cert.RefFfn1Ideal.main_arg6)) (m ((c.tc : Thread Cert.RefFfn1Ideal.nD Cert.RefFfn1Ideal.τ).loc Cert.RefFfn1Ideal.main_arg7)) (m ((c.tc : Thread Cert.RefFfn1Ideal.nD Cert.RefFfn1Ideal.τ).loc Cert.RefFfn1Ideal.main_arg8)) (m ((c.tc : Thread Cert.RefFfn1Ideal.nD Cert.RefFfn1Ideal.τ).loc Cert.RefFfn1Ideal.main_arg9))).2.2.2.1 = (fun _ => 1#1)
    ∧ (Cert.Pre_finite1.fn (F := Ideal) (m ((c.tc : Thread Cert.RefFfn1Ideal.nD Cert.RefFfn1Ideal.τ).loc Cert.RefFfn1Ideal.main_arg0)) (m ((c.tc : Thread Cert.RefFfn1Ideal.nD Cert.RefFfn1Ideal.τ).loc Cert.RefFfn1Ideal.main_arg1)) (m ((c.tc : Thread Cert.RefFfn1Ideal.nD Cert.RefFfn1Ideal.τ).loc Cert.RefFfn1Ideal.main_arg2)) (m ((c.tc : Thread Cert.RefFfn1Ideal.nD Cert.RefFfn1Ideal.τ).loc Cert.RefFfn1Ideal.main_arg3)) (m ((c.tc : Thread Cert.RefFfn1Ideal.nD Cert.RefFfn1Ideal.τ).loc Cert.RefFfn1Ideal.main_arg4)) (m ((c.tc : Thread Cert.RefFfn1Ideal.nD Cert.RefFfn1Ideal.τ).loc Cert.RefFfn1Ideal.main_arg5)) (m ((c.tc : Thread Cert.RefFfn1Ideal.nD Cert.RefFfn1Ideal.τ).loc Cert.RefFfn1Ideal.main_arg6)) (m ((c.tc : Thread Cert.RefFfn1Ideal.nD Cert.RefFfn1Ideal.τ).loc Cert.RefFfn1Ideal.main_arg7)) (m ((c.tc : Thread Cert.RefFfn1Ideal.nD Cert.RefFfn1Ideal.τ).loc Cert.RefFfn1Ideal.main_arg8)) (m ((c.tc : Thread Cert.RefFfn1Ideal.nD Cert.RefFfn1Ideal.τ).loc Cert.RefFfn1Ideal.main_arg9))).2.2.2.2.1 = (fun _ => 1#1)
    ∧ (Cert.Pre_finite1.fn (F := Ideal) (m ((c.tc : Thread Cert.RefFfn1Ideal.nD Cert.RefFfn1Ideal.τ).loc Cert.RefFfn1Ideal.main_arg0)) (m ((c.tc : Thread Cert.RefFfn1Ideal.nD Cert.RefFfn1Ideal.τ).loc Cert.RefFfn1Ideal.main_arg1)) (m ((c.tc : Thread Cert.RefFfn1Ideal.nD Cert.RefFfn1Ideal.τ).loc Cert.RefFfn1Ideal.main_arg2)) (m ((c.tc : Thread Cert.RefFfn1Ideal.nD Cert.RefFfn1Ideal.τ).loc Cert.RefFfn1Ideal.main_arg3)) (m ((c.tc : Thread Cert.RefFfn1Ideal.nD Cert.RefFfn1Ideal.τ).loc Cert.RefFfn1Ideal.main_arg4)) (m ((c.tc : Thread Cert.RefFfn1Ideal.nD Cert.RefFfn1Ideal.τ).loc Cert.RefFfn1Ideal.main_arg5)) (m ((c.tc : Thread Cert.RefFfn1Ideal.nD Cert.RefFfn1Ideal.τ).loc Cert.RefFfn1Ideal.main_arg6)) (m ((c.tc : Thread Cert.RefFfn1Ideal.nD Cert.RefFfn1Ideal.τ).loc Cert.RefFfn1Ideal.main_arg7)) (m ((c.tc : Thread Cert.RefFfn1Ideal.nD Cert.RefFfn1Ideal.τ).loc Cert.RefFfn1Ideal.main_arg8)) (m ((c.tc : Thread Cert.RefFfn1Ideal.nD Cert.RefFfn1Ideal.τ).loc Cert.RefFfn1Ideal.main_arg9))).2.2.2.2.2.1 = (fun _ => 1#1)
    ∧ (Cert.Pre_finite1.fn (F := Ideal) (m ((c.tc : Thread Cert.RefFfn1Ideal.nD Cert.RefFfn1Ideal.τ).loc Cert.RefFfn1Ideal.main_arg0)) (m ((c.tc : Thread Cert.RefFfn1Ideal.nD Cert.RefFfn1Ideal.τ).loc Cert.RefFfn1Ideal.main_arg1)) (m ((c.tc : Thread Cert.RefFfn1Ideal.nD Cert.RefFfn1Ideal.τ).loc Cert.RefFfn1Ideal.main_arg2)) (m ((c.tc : Thread Cert.RefFfn1Ideal.nD Cert.RefFfn1Ideal.τ).loc Cert.RefFfn1Ideal.main_arg3)) (m ((c.tc : Thread Cert.RefFfn1Ideal.nD Cert.RefFfn1Ideal.τ).loc Cert.RefFfn1Ideal.main_arg4)) (m ((c.tc : Thread Cert.RefFfn1Ideal.nD Cert.RefFfn1Ideal.τ).loc Cert.RefFfn1Ideal.main_arg5)) (m ((c.tc : Thread Cert.RefFfn1Ideal.nD Cert.RefFfn1Ideal.τ).loc Cert.RefFfn1Ideal.main_arg6)) (m ((c.tc : Thread Cert.RefFfn1Ideal.nD Cert.RefFfn1Ideal.τ).loc Cert.RefFfn1Ideal.main_arg7)) (m ((c.tc : Thread Cert.RefFfn1Ideal.nD Cert.RefFfn1Ideal.τ).loc Cert.RefFfn1Ideal.main_arg8)) (m ((c.tc : Thread Cert.RefFfn1Ideal.nD Cert.RefFfn1Ideal.τ).loc Cert.RefFfn1Ideal.main_arg9))).2.2.2.2.2.2.1 = (fun _ => 1#1)
    ∧ (Cert.Pre_finite1.fn (F := Ideal) (m ((c.tc : Thread Cert.RefFfn1Ideal.nD Cert.RefFfn1Ideal.τ).loc Cert.RefFfn1Ideal.main_arg0)) (m ((c.tc : Thread Cert.RefFfn1Ideal.nD Cert.RefFfn1Ideal.τ).loc Cert.RefFfn1Ideal.main_arg1)) (m ((c.tc : Thread Cert.RefFfn1Ideal.nD Cert.RefFfn1Ideal.τ).loc Cert.RefFfn1Ideal.main_arg2)) (m ((c.tc : Thread Cert.RefFfn1Ideal.nD Cert.RefFfn1Ideal.τ).loc Cert.RefFfn1Ideal.main_arg3)) (m ((c.tc : Thread Cert.RefFfn1Ideal.nD Cert.RefFfn1Ideal.τ).loc Cert.RefFfn1Ideal.main_arg4)) (m ((c.tc : Thread Cert.RefFfn1Ideal.nD Cert.RefFfn1Ideal.τ).loc Cert.RefFfn1Ideal.main_arg5)) (m ((c.tc : Thread Cert.RefFfn1Ideal.nD Cert.RefFfn1Ideal.τ).loc Cert.RefFfn1Ideal.main_arg6)) (m ((c.tc : Thread Cert.RefFfn1Ideal.nD Cert.RefFfn1Ideal.τ).loc Cert.RefFfn1Ideal.main_arg7)) (m ((c.tc : Thread Cert.RefFfn1Ideal.nD Cert.RefFfn1Ideal.τ).loc Cert.RefFfn1Ideal.main_arg8)) (m ((c.tc : Thread Cert.RefFfn1Ideal.nD Cert.RefFfn1Ideal.τ).loc Cert.RefFfn1Ideal.main_arg9))).2.2.2.2.2.2.2 = (fun _ => 1#1)

def Pre_Ffn0 (m : (ℓ : Loc Cert.Ffn0.nD Cert.Ffn0.τ Cert.Ffn0.sig) → Buf (Elt Bits) ℓ) : Prop :=
  True

def Pre_Ffn0Ideal (m : (ℓ : Loc Cert.Ffn0Ideal.nD Cert.Ffn0Ideal.τ Cert.Ffn0Ideal.sig) → Buf (Elt Ideal) ℓ) : Prop :=
  True

def Pre_Ffn0Ideal_finite0 [hPre_finite0 : Cert.Pre_finite0.Facts] (m : (ℓ : Loc Cert.Ffn0Ideal.nD Cert.Ffn0Ideal.τ Cert.Ffn0Ideal.sig) → Buf (Elt Ideal) ℓ) : Prop :=
  ∀ c : Dev Cert.Ffn0Ideal.nD,
    (Cert.Pre_finite0.fn (F := Ideal) (m ((c.tc : Thread Cert.Ffn0Ideal.nD Cert.Ffn0Ideal.τ).loc Cert.Ffn0Ideal.main_arg0)) (m ((c.tc : Thread Cert.Ffn0Ideal.nD Cert.Ffn0Ideal.τ).loc Cert.Ffn0Ideal.main_arg1)) (m ((c.tc : Thread Cert.Ffn0Ideal.nD Cert.Ffn0Ideal.τ).loc Cert.Ffn0Ideal.main_arg2)) (m ((c.tc : Thread Cert.Ffn0Ideal.nD Cert.Ffn0Ideal.τ).loc Cert.Ffn0Ideal.main_arg3)) (m ((c.tc : Thread Cert.Ffn0Ideal.nD Cert.Ffn0Ideal.τ).loc Cert.Ffn0Ideal.main_arg4)) (m ((c.tc : Thread Cert.Ffn0Ideal.nD Cert.Ffn0Ideal.τ).loc Cert.Ffn0Ideal.main_arg5)) (m ((c.tc : Thread Cert.Ffn0Ideal.nD Cert.Ffn0Ideal.τ).loc Cert.Ffn0Ideal.main_arg6)) (m ((c.tc : Thread Cert.Ffn0Ideal.nD Cert.Ffn0Ideal.τ).loc Cert.Ffn0Ideal.main_arg7)) (m ((c.tc : Thread Cert.Ffn0Ideal.nD Cert.Ffn0Ideal.τ).loc Cert.Ffn0Ideal.main_arg8)) (m ((c.tc : Thread Cert.Ffn0Ideal.nD Cert.Ffn0Ideal.τ).loc Cert.Ffn0Ideal.main_arg9)) (m ((c.tc : Thread Cert.Ffn0Ideal.nD Cert.Ffn0Ideal.τ).loc Cert.Ffn0Ideal.main_arg10)) (m ((c.tc : Thread Cert.Ffn0Ideal.nD Cert.Ffn0Ideal.τ).loc Cert.Ffn0Ideal.main_arg11)) (m ((c.tc : Thread Cert.Ffn0Ideal.nD Cert.Ffn0Ideal.τ).loc Cert.Ffn0Ideal.main_arg12)) (m ((c.tc : Thread Cert.Ffn0Ideal.nD Cert.Ffn0Ideal.τ).loc Cert.Ffn0Ideal.main_arg13)) (m ((c.tc : Thread Cert.Ffn0Ideal.nD Cert.Ffn0Ideal.τ).loc Cert.Ffn0Ideal.main_arg14)) (m ((c.tc : Thread Cert.Ffn0Ideal.nD Cert.Ffn0Ideal.τ).loc Cert.Ffn0Ideal.main_arg15))).1 = (fun _ => 1#1)
    ∧ (Cert.Pre_finite0.fn (F := Ideal) (m ((c.tc : Thread Cert.Ffn0Ideal.nD Cert.Ffn0Ideal.τ).loc Cert.Ffn0Ideal.main_arg0)) (m ((c.tc : Thread Cert.Ffn0Ideal.nD Cert.Ffn0Ideal.τ).loc Cert.Ffn0Ideal.main_arg1)) (m ((c.tc : Thread Cert.Ffn0Ideal.nD Cert.Ffn0Ideal.τ).loc Cert.Ffn0Ideal.main_arg2)) (m ((c.tc : Thread Cert.Ffn0Ideal.nD Cert.Ffn0Ideal.τ).loc Cert.Ffn0Ideal.main_arg3)) (m ((c.tc : Thread Cert.Ffn0Ideal.nD Cert.Ffn0Ideal.τ).loc Cert.Ffn0Ideal.main_arg4)) (m ((c.tc : Thread Cert.Ffn0Ideal.nD Cert.Ffn0Ideal.τ).loc Cert.Ffn0Ideal.main_arg5)) (m ((c.tc : Thread Cert.Ffn0Ideal.nD Cert.Ffn0Ideal.τ).loc Cert.Ffn0Ideal.main_arg6)) (m ((c.tc : Thread Cert.Ffn0Ideal.nD Cert.Ffn0Ideal.τ).loc Cert.Ffn0Ideal.main_arg7)) (m ((c.tc : Thread Cert.Ffn0Ideal.nD Cert.Ffn0Ideal.τ).loc Cert.Ffn0Ideal.main_arg8)) (m ((c.tc : Thread Cert.Ffn0Ideal.nD Cert.Ffn0Ideal.τ).loc Cert.Ffn0Ideal.main_arg9)) (m ((c.tc : Thread Cert.Ffn0Ideal.nD Cert.Ffn0Ideal.τ).loc Cert.Ffn0Ideal.main_arg10)) (m ((c.tc : Thread Cert.Ffn0Ideal.nD Cert.Ffn0Ideal.τ).loc Cert.Ffn0Ideal.main_arg11)) (m ((c.tc : Thread Cert.Ffn0Ideal.nD Cert.Ffn0Ideal.τ).loc Cert.Ffn0Ideal.main_arg12)) (m ((c.tc : Thread Cert.Ffn0Ideal.nD Cert.Ffn0Ideal.τ).loc Cert.Ffn0Ideal.main_arg13)) (m ((c.tc : Thread Cert.Ffn0Ideal.nD Cert.Ffn0Ideal.τ).loc Cert.Ffn0Ideal.main_arg14)) (m ((c.tc : Thread Cert.Ffn0Ideal.nD Cert.Ffn0Ideal.τ).loc Cert.Ffn0Ideal.main_arg15))).2.1 = (fun _ => 1#1)
    ∧ (Cert.Pre_finite0.fn (F := Ideal) (m ((c.tc : Thread Cert.Ffn0Ideal.nD Cert.Ffn0Ideal.τ).loc Cert.Ffn0Ideal.main_arg0)) (m ((c.tc : Thread Cert.Ffn0Ideal.nD Cert.Ffn0Ideal.τ).loc Cert.Ffn0Ideal.main_arg1)) (m ((c.tc : Thread Cert.Ffn0Ideal.nD Cert.Ffn0Ideal.τ).loc Cert.Ffn0Ideal.main_arg2)) (m ((c.tc : Thread Cert.Ffn0Ideal.nD Cert.Ffn0Ideal.τ).loc Cert.Ffn0Ideal.main_arg3)) (m ((c.tc : Thread Cert.Ffn0Ideal.nD Cert.Ffn0Ideal.τ).loc Cert.Ffn0Ideal.main_arg4)) (m ((c.tc : Thread Cert.Ffn0Ideal.nD Cert.Ffn0Ideal.τ).loc Cert.Ffn0Ideal.main_arg5)) (m ((c.tc : Thread Cert.Ffn0Ideal.nD Cert.Ffn0Ideal.τ).loc Cert.Ffn0Ideal.main_arg6)) (m ((c.tc : Thread Cert.Ffn0Ideal.nD Cert.Ffn0Ideal.τ).loc Cert.Ffn0Ideal.main_arg7)) (m ((c.tc : Thread Cert.Ffn0Ideal.nD Cert.Ffn0Ideal.τ).loc Cert.Ffn0Ideal.main_arg8)) (m ((c.tc : Thread Cert.Ffn0Ideal.nD Cert.Ffn0Ideal.τ).loc Cert.Ffn0Ideal.main_arg9)) (m ((c.tc : Thread Cert.Ffn0Ideal.nD Cert.Ffn0Ideal.τ).loc Cert.Ffn0Ideal.main_arg10)) (m ((c.tc : Thread Cert.Ffn0Ideal.nD Cert.Ffn0Ideal.τ).loc Cert.Ffn0Ideal.main_arg11)) (m ((c.tc : Thread Cert.Ffn0Ideal.nD Cert.Ffn0Ideal.τ).loc Cert.Ffn0Ideal.main_arg12)) (m ((c.tc : Thread Cert.Ffn0Ideal.nD Cert.Ffn0Ideal.τ).loc Cert.Ffn0Ideal.main_arg13)) (m ((c.tc : Thread Cert.Ffn0Ideal.nD Cert.Ffn0Ideal.τ).loc Cert.Ffn0Ideal.main_arg14)) (m ((c.tc : Thread Cert.Ffn0Ideal.nD Cert.Ffn0Ideal.τ).loc Cert.Ffn0Ideal.main_arg15))).2.2.1 = (fun _ => 1#1)
    ∧ (Cert.Pre_finite0.fn (F := Ideal) (m ((c.tc : Thread Cert.Ffn0Ideal.nD Cert.Ffn0Ideal.τ).loc Cert.Ffn0Ideal.main_arg0)) (m ((c.tc : Thread Cert.Ffn0Ideal.nD Cert.Ffn0Ideal.τ).loc Cert.Ffn0Ideal.main_arg1)) (m ((c.tc : Thread Cert.Ffn0Ideal.nD Cert.Ffn0Ideal.τ).loc Cert.Ffn0Ideal.main_arg2)) (m ((c.tc : Thread Cert.Ffn0Ideal.nD Cert.Ffn0Ideal.τ).loc Cert.Ffn0Ideal.main_arg3)) (m ((c.tc : Thread Cert.Ffn0Ideal.nD Cert.Ffn0Ideal.τ).loc Cert.Ffn0Ideal.main_arg4)) (m ((c.tc : Thread Cert.Ffn0Ideal.nD Cert.Ffn0Ideal.τ).loc Cert.Ffn0Ideal.main_arg5)) (m ((c.tc : Thread Cert.Ffn0Ideal.nD Cert.Ffn0Ideal.τ).loc Cert.Ffn0Ideal.main_arg6)) (m ((c.tc : Thread Cert.Ffn0Ideal.nD Cert.Ffn0Ideal.τ).loc Cert.Ffn0Ideal.main_arg7)) (m ((c.tc : Thread Cert.Ffn0Ideal.nD Cert.Ffn0Ideal.τ).loc Cert.Ffn0Ideal.main_arg8)) (m ((c.tc : Thread Cert.Ffn0Ideal.nD Cert.Ffn0Ideal.τ).loc Cert.Ffn0Ideal.main_arg9)) (m ((c.tc : Thread Cert.Ffn0Ideal.nD Cert.Ffn0Ideal.τ).loc Cert.Ffn0Ideal.main_arg10)) (m ((c.tc : Thread Cert.Ffn0Ideal.nD Cert.Ffn0Ideal.τ).loc Cert.Ffn0Ideal.main_arg11)) (m ((c.tc : Thread Cert.Ffn0Ideal.nD Cert.Ffn0Ideal.τ).loc Cert.Ffn0Ideal.main_arg12)) (m ((c.tc : Thread Cert.Ffn0Ideal.nD Cert.Ffn0Ideal.τ).loc Cert.Ffn0Ideal.main_arg13)) (m ((c.tc : Thread Cert.Ffn0Ideal.nD Cert.Ffn0Ideal.τ).loc Cert.Ffn0Ideal.main_arg14)) (m ((c.tc : Thread Cert.Ffn0Ideal.nD Cert.Ffn0Ideal.τ).loc Cert.Ffn0Ideal.main_arg15))).2.2.2.1 = (fun _ => 1#1)
    ∧ (Cert.Pre_finite0.fn (F := Ideal) (m ((c.tc : Thread Cert.Ffn0Ideal.nD Cert.Ffn0Ideal.τ).loc Cert.Ffn0Ideal.main_arg0)) (m ((c.tc : Thread Cert.Ffn0Ideal.nD Cert.Ffn0Ideal.τ).loc Cert.Ffn0Ideal.main_arg1)) (m ((c.tc : Thread Cert.Ffn0Ideal.nD Cert.Ffn0Ideal.τ).loc Cert.Ffn0Ideal.main_arg2)) (m ((c.tc : Thread Cert.Ffn0Ideal.nD Cert.Ffn0Ideal.τ).loc Cert.Ffn0Ideal.main_arg3)) (m ((c.tc : Thread Cert.Ffn0Ideal.nD Cert.Ffn0Ideal.τ).loc Cert.Ffn0Ideal.main_arg4)) (m ((c.tc : Thread Cert.Ffn0Ideal.nD Cert.Ffn0Ideal.τ).loc Cert.Ffn0Ideal.main_arg5)) (m ((c.tc : Thread Cert.Ffn0Ideal.nD Cert.Ffn0Ideal.τ).loc Cert.Ffn0Ideal.main_arg6)) (m ((c.tc : Thread Cert.Ffn0Ideal.nD Cert.Ffn0Ideal.τ).loc Cert.Ffn0Ideal.main_arg7)) (m ((c.tc : Thread Cert.Ffn0Ideal.nD Cert.Ffn0Ideal.τ).loc Cert.Ffn0Ideal.main_arg8)) (m ((c.tc : Thread Cert.Ffn0Ideal.nD Cert.Ffn0Ideal.τ).loc Cert.Ffn0Ideal.main_arg9)) (m ((c.tc : Thread Cert.Ffn0Ideal.nD Cert.Ffn0Ideal.τ).loc Cert.Ffn0Ideal.main_arg10)) (m ((c.tc : Thread Cert.Ffn0Ideal.nD Cert.Ffn0Ideal.τ).loc Cert.Ffn0Ideal.main_arg11)) (m ((c.tc : Thread Cert.Ffn0Ideal.nD Cert.Ffn0Ideal.τ).loc Cert.Ffn0Ideal.main_arg12)) (m ((c.tc : Thread Cert.Ffn0Ideal.nD Cert.Ffn0Ideal.τ).loc Cert.Ffn0Ideal.main_arg13)) (m ((c.tc : Thread Cert.Ffn0Ideal.nD Cert.Ffn0Ideal.τ).loc Cert.Ffn0Ideal.main_arg14)) (m ((c.tc : Thread Cert.Ffn0Ideal.nD Cert.Ffn0Ideal.τ).loc Cert.Ffn0Ideal.main_arg15))).2.2.2.2.1 = (fun _ => 1#1)
    ∧ (Cert.Pre_finite0.fn (F := Ideal) (m ((c.tc : Thread Cert.Ffn0Ideal.nD Cert.Ffn0Ideal.τ).loc Cert.Ffn0Ideal.main_arg0)) (m ((c.tc : Thread Cert.Ffn0Ideal.nD Cert.Ffn0Ideal.τ).loc Cert.Ffn0Ideal.main_arg1)) (m ((c.tc : Thread Cert.Ffn0Ideal.nD Cert.Ffn0Ideal.τ).loc Cert.Ffn0Ideal.main_arg2)) (m ((c.tc : Thread Cert.Ffn0Ideal.nD Cert.Ffn0Ideal.τ).loc Cert.Ffn0Ideal.main_arg3)) (m ((c.tc : Thread Cert.Ffn0Ideal.nD Cert.Ffn0Ideal.τ).loc Cert.Ffn0Ideal.main_arg4)) (m ((c.tc : Thread Cert.Ffn0Ideal.nD Cert.Ffn0Ideal.τ).loc Cert.Ffn0Ideal.main_arg5)) (m ((c.tc : Thread Cert.Ffn0Ideal.nD Cert.Ffn0Ideal.τ).loc Cert.Ffn0Ideal.main_arg6)) (m ((c.tc : Thread Cert.Ffn0Ideal.nD Cert.Ffn0Ideal.τ).loc Cert.Ffn0Ideal.main_arg7)) (m ((c.tc : Thread Cert.Ffn0Ideal.nD Cert.Ffn0Ideal.τ).loc Cert.Ffn0Ideal.main_arg8)) (m ((c.tc : Thread Cert.Ffn0Ideal.nD Cert.Ffn0Ideal.τ).loc Cert.Ffn0Ideal.main_arg9)) (m ((c.tc : Thread Cert.Ffn0Ideal.nD Cert.Ffn0Ideal.τ).loc Cert.Ffn0Ideal.main_arg10)) (m ((c.tc : Thread Cert.Ffn0Ideal.nD Cert.Ffn0Ideal.τ).loc Cert.Ffn0Ideal.main_arg11)) (m ((c.tc : Thread Cert.Ffn0Ideal.nD Cert.Ffn0Ideal.τ).loc Cert.Ffn0Ideal.main_arg12)) (m ((c.tc : Thread Cert.Ffn0Ideal.nD Cert.Ffn0Ideal.τ).loc Cert.Ffn0Ideal.main_arg13)) (m ((c.tc : Thread Cert.Ffn0Ideal.nD Cert.Ffn0Ideal.τ).loc Cert.Ffn0Ideal.main_arg14)) (m ((c.tc : Thread Cert.Ffn0Ideal.nD Cert.Ffn0Ideal.τ).loc Cert.Ffn0Ideal.main_arg15))).2.2.2.2.2.1 = (fun _ => 1#1)
    ∧ (Cert.Pre_finite0.fn (F := Ideal) (m ((c.tc : Thread Cert.Ffn0Ideal.nD Cert.Ffn0Ideal.τ).loc Cert.Ffn0Ideal.main_arg0)) (m ((c.tc : Thread Cert.Ffn0Ideal.nD Cert.Ffn0Ideal.τ).loc Cert.Ffn0Ideal.main_arg1)) (m ((c.tc : Thread Cert.Ffn0Ideal.nD Cert.Ffn0Ideal.τ).loc Cert.Ffn0Ideal.main_arg2)) (m ((c.tc : Thread Cert.Ffn0Ideal.nD Cert.Ffn0Ideal.τ).loc Cert.Ffn0Ideal.main_arg3)) (m ((c.tc : Thread Cert.Ffn0Ideal.nD Cert.Ffn0Ideal.τ).loc Cert.Ffn0Ideal.main_arg4)) (m ((c.tc : Thread Cert.Ffn0Ideal.nD Cert.Ffn0Ideal.τ).loc Cert.Ffn0Ideal.main_arg5)) (m ((c.tc : Thread Cert.Ffn0Ideal.nD Cert.Ffn0Ideal.τ).loc Cert.Ffn0Ideal.main_arg6)) (m ((c.tc : Thread Cert.Ffn0Ideal.nD Cert.Ffn0Ideal.τ).loc Cert.Ffn0Ideal.main_arg7)) (m ((c.tc : Thread Cert.Ffn0Ideal.nD Cert.Ffn0Ideal.τ).loc Cert.Ffn0Ideal.main_arg8)) (m ((c.tc : Thread Cert.Ffn0Ideal.nD Cert.Ffn0Ideal.τ).loc Cert.Ffn0Ideal.main_arg9)) (m ((c.tc : Thread Cert.Ffn0Ideal.nD Cert.Ffn0Ideal.τ).loc Cert.Ffn0Ideal.main_arg10)) (m ((c.tc : Thread Cert.Ffn0Ideal.nD Cert.Ffn0Ideal.τ).loc Cert.Ffn0Ideal.main_arg11)) (m ((c.tc : Thread Cert.Ffn0Ideal.nD Cert.Ffn0Ideal.τ).loc Cert.Ffn0Ideal.main_arg12)) (m ((c.tc : Thread Cert.Ffn0Ideal.nD Cert.Ffn0Ideal.τ).loc Cert.Ffn0Ideal.main_arg13)) (m ((c.tc : Thread Cert.Ffn0Ideal.nD Cert.Ffn0Ideal.τ).loc Cert.Ffn0Ideal.main_arg14)) (m ((c.tc : Thread Cert.Ffn0Ideal.nD Cert.Ffn0Ideal.τ).loc Cert.Ffn0Ideal.main_arg15))).2.2.2.2.2.2.1 = (fun _ => 1#1)
    ∧ (Cert.Pre_finite0.fn (F := Ideal) (m ((c.tc : Thread Cert.Ffn0Ideal.nD Cert.Ffn0Ideal.τ).loc Cert.Ffn0Ideal.main_arg0)) (m ((c.tc : Thread Cert.Ffn0Ideal.nD Cert.Ffn0Ideal.τ).loc Cert.Ffn0Ideal.main_arg1)) (m ((c.tc : Thread Cert.Ffn0Ideal.nD Cert.Ffn0Ideal.τ).loc Cert.Ffn0Ideal.main_arg2)) (m ((c.tc : Thread Cert.Ffn0Ideal.nD Cert.Ffn0Ideal.τ).loc Cert.Ffn0Ideal.main_arg3)) (m ((c.tc : Thread Cert.Ffn0Ideal.nD Cert.Ffn0Ideal.τ).loc Cert.Ffn0Ideal.main_arg4)) (m ((c.tc : Thread Cert.Ffn0Ideal.nD Cert.Ffn0Ideal.τ).loc Cert.Ffn0Ideal.main_arg5)) (m ((c.tc : Thread Cert.Ffn0Ideal.nD Cert.Ffn0Ideal.τ).loc Cert.Ffn0Ideal.main_arg6)) (m ((c.tc : Thread Cert.Ffn0Ideal.nD Cert.Ffn0Ideal.τ).loc Cert.Ffn0Ideal.main_arg7)) (m ((c.tc : Thread Cert.Ffn0Ideal.nD Cert.Ffn0Ideal.τ).loc Cert.Ffn0Ideal.main_arg8)) (m ((c.tc : Thread Cert.Ffn0Ideal.nD Cert.Ffn0Ideal.τ).loc Cert.Ffn0Ideal.main_arg9)) (m ((c.tc : Thread Cert.Ffn0Ideal.nD Cert.Ffn0Ideal.τ).loc Cert.Ffn0Ideal.main_arg10)) (m ((c.tc : Thread Cert.Ffn0Ideal.nD Cert.Ffn0Ideal.τ).loc Cert.Ffn0Ideal.main_arg11)) (m ((c.tc : Thread Cert.Ffn0Ideal.nD Cert.Ffn0Ideal.τ).loc Cert.Ffn0Ideal.main_arg12)) (m ((c.tc : Thread Cert.Ffn0Ideal.nD Cert.Ffn0Ideal.τ).loc Cert.Ffn0Ideal.main_arg13)) (m ((c.tc : Thread Cert.Ffn0Ideal.nD Cert.Ffn0Ideal.τ).loc Cert.Ffn0Ideal.main_arg14)) (m ((c.tc : Thread Cert.Ffn0Ideal.nD Cert.Ffn0Ideal.τ).loc Cert.Ffn0Ideal.main_arg15))).2.2.2.2.2.2.2 = (fun _ => 1#1)

def Pre_RefFfn0Ideal (m : (ℓ : Loc Cert.RefFfn0Ideal.nD Cert.RefFfn0Ideal.τ Cert.RefFfn0Ideal.sig) → Buf (Elt Ideal) ℓ) : Prop :=
  True

def Pre_RefFfn0Ideal_finite0 [hPre_finite0 : Cert.Pre_finite0.Facts] (m : (ℓ : Loc Cert.RefFfn0Ideal.nD Cert.RefFfn0Ideal.τ Cert.RefFfn0Ideal.sig) → Buf (Elt Ideal) ℓ) : Prop :=
  ∀ c : Dev Cert.RefFfn0Ideal.nD,
    (Cert.Pre_finite0.fn (F := Ideal) (m ((c.tc : Thread Cert.RefFfn0Ideal.nD Cert.RefFfn0Ideal.τ).loc Cert.RefFfn0Ideal.main_arg0)) (m ((c.tc : Thread Cert.RefFfn0Ideal.nD Cert.RefFfn0Ideal.τ).loc Cert.RefFfn0Ideal.main_arg1)) (m ((c.tc : Thread Cert.RefFfn0Ideal.nD Cert.RefFfn0Ideal.τ).loc Cert.RefFfn0Ideal.main_arg2)) (m ((c.tc : Thread Cert.RefFfn0Ideal.nD Cert.RefFfn0Ideal.τ).loc Cert.RefFfn0Ideal.main_arg3)) (m ((c.tc : Thread Cert.RefFfn0Ideal.nD Cert.RefFfn0Ideal.τ).loc Cert.RefFfn0Ideal.main_arg4)) (m ((c.tc : Thread Cert.RefFfn0Ideal.nD Cert.RefFfn0Ideal.τ).loc Cert.RefFfn0Ideal.main_arg5)) (m ((c.tc : Thread Cert.RefFfn0Ideal.nD Cert.RefFfn0Ideal.τ).loc Cert.RefFfn0Ideal.main_arg6)) (m ((c.tc : Thread Cert.RefFfn0Ideal.nD Cert.RefFfn0Ideal.τ).loc Cert.RefFfn0Ideal.main_arg7)) (m ((c.tc : Thread Cert.RefFfn0Ideal.nD Cert.RefFfn0Ideal.τ).loc Cert.RefFfn0Ideal.main_arg8)) (m ((c.tc : Thread Cert.RefFfn0Ideal.nD Cert.RefFfn0Ideal.τ).loc Cert.RefFfn0Ideal.main_arg9)) (m ((c.tc : Thread Cert.RefFfn0Ideal.nD Cert.RefFfn0Ideal.τ).loc Cert.RefFfn0Ideal.main_arg10)) (m ((c.tc : Thread Cert.RefFfn0Ideal.nD Cert.RefFfn0Ideal.τ).loc Cert.RefFfn0Ideal.main_arg11)) (m ((c.tc : Thread Cert.RefFfn0Ideal.nD Cert.RefFfn0Ideal.τ).loc Cert.RefFfn0Ideal.main_arg12)) (m ((c.tc : Thread Cert.RefFfn0Ideal.nD Cert.RefFfn0Ideal.τ).loc Cert.RefFfn0Ideal.main_arg13)) (m ((c.tc : Thread Cert.RefFfn0Ideal.nD Cert.RefFfn0Ideal.τ).loc Cert.RefFfn0Ideal.main_arg14)) (m ((c.tc : Thread Cert.RefFfn0Ideal.nD Cert.RefFfn0Ideal.τ).loc Cert.RefFfn0Ideal.main_arg15))).1 = (fun _ => 1#1)
    ∧ (Cert.Pre_finite0.fn (F := Ideal) (m ((c.tc : Thread Cert.RefFfn0Ideal.nD Cert.RefFfn0Ideal.τ).loc Cert.RefFfn0Ideal.main_arg0)) (m ((c.tc : Thread Cert.RefFfn0Ideal.nD Cert.RefFfn0Ideal.τ).loc Cert.RefFfn0Ideal.main_arg1)) (m ((c.tc : Thread Cert.RefFfn0Ideal.nD Cert.RefFfn0Ideal.τ).loc Cert.RefFfn0Ideal.main_arg2)) (m ((c.tc : Thread Cert.RefFfn0Ideal.nD Cert.RefFfn0Ideal.τ).loc Cert.RefFfn0Ideal.main_arg3)) (m ((c.tc : Thread Cert.RefFfn0Ideal.nD Cert.RefFfn0Ideal.τ).loc Cert.RefFfn0Ideal.main_arg4)) (m ((c.tc : Thread Cert.RefFfn0Ideal.nD Cert.RefFfn0Ideal.τ).loc Cert.RefFfn0Ideal.main_arg5)) (m ((c.tc : Thread Cert.RefFfn0Ideal.nD Cert.RefFfn0Ideal.τ).loc Cert.RefFfn0Ideal.main_arg6)) (m ((c.tc : Thread Cert.RefFfn0Ideal.nD Cert.RefFfn0Ideal.τ).loc Cert.RefFfn0Ideal.main_arg7)) (m ((c.tc : Thread Cert.RefFfn0Ideal.nD Cert.RefFfn0Ideal.τ).loc Cert.RefFfn0Ideal.main_arg8)) (m ((c.tc : Thread Cert.RefFfn0Ideal.nD Cert.RefFfn0Ideal.τ).loc Cert.RefFfn0Ideal.main_arg9)) (m ((c.tc : Thread Cert.RefFfn0Ideal.nD Cert.RefFfn0Ideal.τ).loc Cert.RefFfn0Ideal.main_arg10)) (m ((c.tc : Thread Cert.RefFfn0Ideal.nD Cert.RefFfn0Ideal.τ).loc Cert.RefFfn0Ideal.main_arg11)) (m ((c.tc : Thread Cert.RefFfn0Ideal.nD Cert.RefFfn0Ideal.τ).loc Cert.RefFfn0Ideal.main_arg12)) (m ((c.tc : Thread Cert.RefFfn0Ideal.nD Cert.RefFfn0Ideal.τ).loc Cert.RefFfn0Ideal.main_arg13)) (m ((c.tc : Thread Cert.RefFfn0Ideal.nD Cert.RefFfn0Ideal.τ).loc Cert.RefFfn0Ideal.main_arg14)) (m ((c.tc : Thread Cert.RefFfn0Ideal.nD Cert.RefFfn0Ideal.τ).loc Cert.RefFfn0Ideal.main_arg15))).2.1 = (fun _ => 1#1)
    ∧ (Cert.Pre_finite0.fn (F := Ideal) (m ((c.tc : Thread Cert.RefFfn0Ideal.nD Cert.RefFfn0Ideal.τ).loc Cert.RefFfn0Ideal.main_arg0)) (m ((c.tc : Thread Cert.RefFfn0Ideal.nD Cert.RefFfn0Ideal.τ).loc Cert.RefFfn0Ideal.main_arg1)) (m ((c.tc : Thread Cert.RefFfn0Ideal.nD Cert.RefFfn0Ideal.τ).loc Cert.RefFfn0Ideal.main_arg2)) (m ((c.tc : Thread Cert.RefFfn0Ideal.nD Cert.RefFfn0Ideal.τ).loc Cert.RefFfn0Ideal.main_arg3)) (m ((c.tc : Thread Cert.RefFfn0Ideal.nD Cert.RefFfn0Ideal.τ).loc Cert.RefFfn0Ideal.main_arg4)) (m ((c.tc : Thread Cert.RefFfn0Ideal.nD Cert.RefFfn0Ideal.τ).loc Cert.RefFfn0Ideal.main_arg5)) (m ((c.tc : Thread Cert.RefFfn0Ideal.nD Cert.RefFfn0Ideal.τ).loc Cert.RefFfn0Ideal.main_arg6)) (m ((c.tc : Thread Cert.RefFfn0Ideal.nD Cert.RefFfn0Ideal.τ).loc Cert.RefFfn0Ideal.main_arg7)) (m ((c.tc : Thread Cert.RefFfn0Ideal.nD Cert.RefFfn0Ideal.τ).loc Cert.RefFfn0Ideal.main_arg8)) (m ((c.tc : Thread Cert.RefFfn0Ideal.nD Cert.RefFfn0Ideal.τ).loc Cert.RefFfn0Ideal.main_arg9)) (m ((c.tc : Thread Cert.RefFfn0Ideal.nD Cert.RefFfn0Ideal.τ).loc Cert.RefFfn0Ideal.main_arg10)) (m ((c.tc : Thread Cert.RefFfn0Ideal.nD Cert.RefFfn0Ideal.τ).loc Cert.RefFfn0Ideal.main_arg11)) (m ((c.tc : Thread Cert.RefFfn0Ideal.nD Cert.RefFfn0Ideal.τ).loc Cert.RefFfn0Ideal.main_arg12)) (m ((c.tc : Thread Cert.RefFfn0Ideal.nD Cert.RefFfn0Ideal.τ).loc Cert.RefFfn0Ideal.main_arg13)) (m ((c.tc : Thread Cert.RefFfn0Ideal.nD Cert.RefFfn0Ideal.τ).loc Cert.RefFfn0Ideal.main_arg14)) (m ((c.tc : Thread Cert.RefFfn0Ideal.nD Cert.RefFfn0Ideal.τ).loc Cert.RefFfn0Ideal.main_arg15))).2.2.1 = (fun _ => 1#1)
    ∧ (Cert.Pre_finite0.fn (F := Ideal) (m ((c.tc : Thread Cert.RefFfn0Ideal.nD Cert.RefFfn0Ideal.τ).loc Cert.RefFfn0Ideal.main_arg0)) (m ((c.tc : Thread Cert.RefFfn0Ideal.nD Cert.RefFfn0Ideal.τ).loc Cert.RefFfn0Ideal.main_arg1)) (m ((c.tc : Thread Cert.RefFfn0Ideal.nD Cert.RefFfn0Ideal.τ).loc Cert.RefFfn0Ideal.main_arg2)) (m ((c.tc : Thread Cert.RefFfn0Ideal.nD Cert.RefFfn0Ideal.τ).loc Cert.RefFfn0Ideal.main_arg3)) (m ((c.tc : Thread Cert.RefFfn0Ideal.nD Cert.RefFfn0Ideal.τ).loc Cert.RefFfn0Ideal.main_arg4)) (m ((c.tc : Thread Cert.RefFfn0Ideal.nD Cert.RefFfn0Ideal.τ).loc Cert.RefFfn0Ideal.main_arg5)) (m ((c.tc : Thread Cert.RefFfn0Ideal.nD Cert.RefFfn0Ideal.τ).loc Cert.RefFfn0Ideal.main_arg6)) (m ((c.tc : Thread Cert.RefFfn0Ideal.nD Cert.RefFfn0Ideal.τ).loc Cert.RefFfn0Ideal.main_arg7)) (m ((c.tc : Thread Cert.RefFfn0Ideal.nD Cert.RefFfn0Ideal.τ).loc Cert.RefFfn0Ideal.main_arg8)) (m ((c.tc : Thread Cert.RefFfn0Ideal.nD Cert.RefFfn0Ideal.τ).loc Cert.RefFfn0Ideal.main_arg9)) (m ((c.tc : Thread Cert.RefFfn0Ideal.nD Cert.RefFfn0Ideal.τ).loc Cert.RefFfn0Ideal.main_arg10)) (m ((c.tc : Thread Cert.RefFfn0Ideal.nD Cert.RefFfn0Ideal.τ).loc Cert.RefFfn0Ideal.main_arg11)) (m ((c.tc : Thread Cert.RefFfn0Ideal.nD Cert.RefFfn0Ideal.τ).loc Cert.RefFfn0Ideal.main_arg12)) (m ((c.tc : Thread Cert.RefFfn0Ideal.nD Cert.RefFfn0Ideal.τ).loc Cert.RefFfn0Ideal.main_arg13)) (m ((c.tc : Thread Cert.RefFfn0Ideal.nD Cert.RefFfn0Ideal.τ).loc Cert.RefFfn0Ideal.main_arg14)) (m ((c.tc : Thread Cert.RefFfn0Ideal.nD Cert.RefFfn0Ideal.τ).loc Cert.RefFfn0Ideal.main_arg15))).2.2.2.1 = (fun _ => 1#1)
    ∧ (Cert.Pre_finite0.fn (F := Ideal) (m ((c.tc : Thread Cert.RefFfn0Ideal.nD Cert.RefFfn0Ideal.τ).loc Cert.RefFfn0Ideal.main_arg0)) (m ((c.tc : Thread Cert.RefFfn0Ideal.nD Cert.RefFfn0Ideal.τ).loc Cert.RefFfn0Ideal.main_arg1)) (m ((c.tc : Thread Cert.RefFfn0Ideal.nD Cert.RefFfn0Ideal.τ).loc Cert.RefFfn0Ideal.main_arg2)) (m ((c.tc : Thread Cert.RefFfn0Ideal.nD Cert.RefFfn0Ideal.τ).loc Cert.RefFfn0Ideal.main_arg3)) (m ((c.tc : Thread Cert.RefFfn0Ideal.nD Cert.RefFfn0Ideal.τ).loc Cert.RefFfn0Ideal.main_arg4)) (m ((c.tc : Thread Cert.RefFfn0Ideal.nD Cert.RefFfn0Ideal.τ).loc Cert.RefFfn0Ideal.main_arg5)) (m ((c.tc : Thread Cert.RefFfn0Ideal.nD Cert.RefFfn0Ideal.τ).loc Cert.RefFfn0Ideal.main_arg6)) (m ((c.tc : Thread Cert.RefFfn0Ideal.nD Cert.RefFfn0Ideal.τ).loc Cert.RefFfn0Ideal.main_arg7)) (m ((c.tc : Thread Cert.RefFfn0Ideal.nD Cert.RefFfn0Ideal.τ).loc Cert.RefFfn0Ideal.main_arg8)) (m ((c.tc : Thread Cert.RefFfn0Ideal.nD Cert.RefFfn0Ideal.τ).loc Cert.RefFfn0Ideal.main_arg9)) (m ((c.tc : Thread Cert.RefFfn0Ideal.nD Cert.RefFfn0Ideal.τ).loc Cert.RefFfn0Ideal.main_arg10)) (m ((c.tc : Thread Cert.RefFfn0Ideal.nD Cert.RefFfn0Ideal.τ).loc Cert.RefFfn0Ideal.main_arg11)) (m ((c.tc : Thread Cert.RefFfn0Ideal.nD Cert.RefFfn0Ideal.τ).loc Cert.RefFfn0Ideal.main_arg12)) (m ((c.tc : Thread Cert.RefFfn0Ideal.nD Cert.RefFfn0Ideal.τ).loc Cert.RefFfn0Ideal.main_arg13)) (m ((c.tc : Thread Cert.RefFfn0Ideal.nD Cert.RefFfn0Ideal.τ).loc Cert.RefFfn0Ideal.main_arg14)) (m ((c.tc : Thread Cert.RefFfn0Ideal.nD Cert.RefFfn0Ideal.τ).loc Cert.RefFfn0Ideal.main_arg15))).2.2.2.2.1 = (fun _ => 1#1)
    ∧ (Cert.Pre_finite0.fn (F := Ideal) (m ((c.tc : Thread Cert.RefFfn0Ideal.nD Cert.RefFfn0Ideal.τ).loc Cert.RefFfn0Ideal.main_arg0)) (m ((c.tc : Thread Cert.RefFfn0Ideal.nD Cert.RefFfn0Ideal.τ).loc Cert.RefFfn0Ideal.main_arg1)) (m ((c.tc : Thread Cert.RefFfn0Ideal.nD Cert.RefFfn0Ideal.τ).loc Cert.RefFfn0Ideal.main_arg2)) (m ((c.tc : Thread Cert.RefFfn0Ideal.nD Cert.RefFfn0Ideal.τ).loc Cert.RefFfn0Ideal.main_arg3)) (m ((c.tc : Thread Cert.RefFfn0Ideal.nD Cert.RefFfn0Ideal.τ).loc Cert.RefFfn0Ideal.main_arg4)) (m ((c.tc : Thread Cert.RefFfn0Ideal.nD Cert.RefFfn0Ideal.τ).loc Cert.RefFfn0Ideal.main_arg5)) (m ((c.tc : Thread Cert.RefFfn0Ideal.nD Cert.RefFfn0Ideal.τ).loc Cert.RefFfn0Ideal.main_arg6)) (m ((c.tc : Thread Cert.RefFfn0Ideal.nD Cert.RefFfn0Ideal.τ).loc Cert.RefFfn0Ideal.main_arg7)) (m ((c.tc : Thread Cert.RefFfn0Ideal.nD Cert.RefFfn0Ideal.τ).loc Cert.RefFfn0Ideal.main_arg8)) (m ((c.tc : Thread Cert.RefFfn0Ideal.nD Cert.RefFfn0Ideal.τ).loc Cert.RefFfn0Ideal.main_arg9)) (m ((c.tc : Thread Cert.RefFfn0Ideal.nD Cert.RefFfn0Ideal.τ).loc Cert.RefFfn0Ideal.main_arg10)) (m ((c.tc : Thread Cert.RefFfn0Ideal.nD Cert.RefFfn0Ideal.τ).loc Cert.RefFfn0Ideal.main_arg11)) (m ((c.tc : Thread Cert.RefFfn0Ideal.nD Cert.RefFfn0Ideal.τ).loc Cert.RefFfn0Ideal.main_arg12)) (m ((c.tc : Thread Cert.RefFfn0Ideal.nD Cert.RefFfn0Ideal.τ).loc Cert.RefFfn0Ideal.main_arg13)) (m ((c.tc : Thread Cert.RefFfn0Ideal.nD Cert.RefFfn0Ideal.τ).loc Cert.RefFfn0Ideal.main_arg14)) (m ((c.tc : Thread Cert.RefFfn0Ideal.nD Cert.RefFfn0Ideal.τ).loc Cert.RefFfn0Ideal.main_arg15))).2.2.2.2.2.1 = (fun _ => 1#1)
    ∧ (Cert.Pre_finite0.fn (F := Ideal) (m ((c.tc : Thread Cert.RefFfn0Ideal.nD Cert.RefFfn0Ideal.τ).loc Cert.RefFfn0Ideal.main_arg0)) (m ((c.tc : Thread Cert.RefFfn0Ideal.nD Cert.RefFfn0Ideal.τ).loc Cert.RefFfn0Ideal.main_arg1)) (m ((c.tc : Thread Cert.RefFfn0Ideal.nD Cert.RefFfn0Ideal.τ).loc Cert.RefFfn0Ideal.main_arg2)) (m ((c.tc : Thread Cert.RefFfn0Ideal.nD Cert.RefFfn0Ideal.τ).loc Cert.RefFfn0Ideal.main_arg3)) (m ((c.tc : Thread Cert.RefFfn0Ideal.nD Cert.RefFfn0Ideal.τ).loc Cert.RefFfn0Ideal.main_arg4)) (m ((c.tc : Thread Cert.RefFfn0Ideal.nD Cert.RefFfn0Ideal.τ).loc Cert.RefFfn0Ideal.main_arg5)) (m ((c.tc : Thread Cert.RefFfn0Ideal.nD Cert.RefFfn0Ideal.τ).loc Cert.RefFfn0Ideal.main_arg6)) (m ((c.tc : Thread Cert.RefFfn0Ideal.nD Cert.RefFfn0Ideal.τ).loc Cert.RefFfn0Ideal.main_arg7)) (m ((c.tc : Thread Cert.RefFfn0Ideal.nD Cert.RefFfn0Ideal.τ).loc Cert.RefFfn0Ideal.main_arg8)) (m ((c.tc : Thread Cert.RefFfn0Ideal.nD Cert.RefFfn0Ideal.τ).loc Cert.RefFfn0Ideal.main_arg9)) (m ((c.tc : Thread Cert.RefFfn0Ideal.nD Cert.RefFfn0Ideal.τ).loc Cert.RefFfn0Ideal.main_arg10)) (m ((c.tc : Thread Cert.RefFfn0Ideal.nD Cert.RefFfn0Ideal.τ).loc Cert.RefFfn0Ideal.main_arg11)) (m ((c.tc : Thread Cert.RefFfn0Ideal.nD Cert.RefFfn0Ideal.τ).loc Cert.RefFfn0Ideal.main_arg12)) (m ((c.tc : Thread Cert.RefFfn0Ideal.nD Cert.RefFfn0Ideal.τ).loc Cert.RefFfn0Ideal.main_arg13)) (m ((c.tc : Thread Cert.RefFfn0Ideal.nD Cert.RefFfn0Ideal.τ).loc Cert.RefFfn0Ideal.main_arg14)) (m ((c.tc : Thread Cert.RefFfn0Ideal.nD Cert.RefFfn0Ideal.τ).loc Cert.RefFfn0Ideal.main_arg15))).2.2.2.2.2.2.1 = (fun _ => 1#1)
    ∧ (Cert.Pre_finite0.fn (F := Ideal) (m ((c.tc : Thread Cert.RefFfn0Ideal.nD Cert.RefFfn0Ideal.τ).loc Cert.RefFfn0Ideal.main_arg0)) (m ((c.tc : Thread Cert.RefFfn0Ideal.nD Cert.RefFfn0Ideal.τ).loc Cert.RefFfn0Ideal.main_arg1)) (m ((c.tc : Thread Cert.RefFfn0Ideal.nD Cert.RefFfn0Ideal.τ).loc Cert.RefFfn0Ideal.main_arg2)) (m ((c.tc : Thread Cert.RefFfn0Ideal.nD Cert.RefFfn0Ideal.τ).loc Cert.RefFfn0Ideal.main_arg3)) (m ((c.tc : Thread Cert.RefFfn0Ideal.nD Cert.RefFfn0Ideal.τ).loc Cert.RefFfn0Ideal.main_arg4)) (m ((c.tc : Thread Cert.RefFfn0Ideal.nD Cert.RefFfn0Ideal.τ).loc Cert.RefFfn0Ideal.main_arg5)) (m ((c.tc : Thread Cert.RefFfn0Ideal.nD Cert.RefFfn0Ideal.τ).loc Cert.RefFfn0Ideal.main_arg6)) (m ((c.tc : Thread Cert.RefFfn0Ideal.nD Cert.RefFfn0Ideal.τ).loc Cert.RefFfn0Ideal.main_arg7)) (m ((c.tc : Thread Cert.RefFfn0Ideal.nD Cert.RefFfn0Ideal.τ).loc Cert.RefFfn0Ideal.main_arg8)) (m ((c.tc : Thread Cert.RefFfn0Ideal.nD Cert.RefFfn0Ideal.τ).loc Cert.RefFfn0Ideal.main_arg9)) (m ((c.tc : Thread Cert.RefFfn0Ideal.nD Cert.RefFfn0Ideal.τ).loc Cert.RefFfn0Ideal.main_arg10)) (m ((c.tc : Thread Cert.RefFfn0Ideal.nD Cert.RefFfn0Ideal.τ).loc Cert.RefFfn0Ideal.main_arg11)) (m ((c.tc : Thread Cert.RefFfn0Ideal.nD Cert.RefFfn0Ideal.τ).loc Cert.RefFfn0Ideal.main_arg12)) (m ((c.tc : Thread Cert.RefFfn0Ideal.nD Cert.RefFfn0Ideal.τ).loc Cert.RefFfn0Ideal.main_arg13)) (m ((c.tc : Thread Cert.RefFfn0Ideal.nD Cert.RefFfn0Ideal.τ).loc Cert.RefFfn0Ideal.main_arg14)) (m ((c.tc : Thread Cert.RefFfn0Ideal.nD Cert.RefFfn0Ideal.τ).loc Cert.RefFfn0Ideal.main_arg15))).2.2.2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite2 [hPre_finite2 : Cert.Pre_finite2.Facts] (m : (ℓ : Loc Cert.InProjIdeal.nD Cert.InProjIdeal.τ Cert.InProjIdeal.sig) → Buf (Elt Ideal) ℓ) : Prop :=
  ∀ c : Dev Cert.InProjIdeal.nD,
    (Cert.Pre_finite2.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).1 = (fun _ => 1#1)
    ∧ (Cert.Pre_finite2.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.1 = (fun _ => 1#1)
    ∧ (Cert.Pre_finite2.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.1 = (fun _ => 1#1)
    ∧ (Cert.Pre_finite2.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))).2.2.2 = (fun _ => 1#1)

def Pre_RefInProjIdeal (m : (ℓ : Loc Cert.RefInProjIdeal.nD Cert.RefInProjIdeal.τ Cert.RefInProjIdeal.sig) → Buf (Elt Ideal) ℓ) : Prop :=
  True

def Pre_RefInProjIdeal_finite2 [hPre_finite2 : Cert.Pre_finite2.Facts] (m : (ℓ : Loc Cert.RefInProjIdeal.nD Cert.RefInProjIdeal.τ Cert.RefInProjIdeal.sig) → Buf (Elt Ideal) ℓ) : Prop :=
  ∀ c : Dev Cert.RefInProjIdeal.nD,
    (Cert.Pre_finite2.fn (F := Ideal) (m ((c.tc : Thread Cert.RefInProjIdeal.nD Cert.RefInProjIdeal.τ).loc Cert.RefInProjIdeal.main_arg0)) (m ((c.tc : Thread Cert.RefInProjIdeal.nD Cert.RefInProjIdeal.τ).loc Cert.RefInProjIdeal.main_arg1)) (m ((c.tc : Thread Cert.RefInProjIdeal.nD Cert.RefInProjIdeal.τ).loc Cert.RefInProjIdeal.main_arg2)) (m ((c.tc : Thread Cert.RefInProjIdeal.nD Cert.RefInProjIdeal.τ).loc Cert.RefInProjIdeal.main_arg3)) (m ((c.tc : Thread Cert.RefInProjIdeal.nD Cert.RefInProjIdeal.τ).loc Cert.RefInProjIdeal.main_arg4))).1 = (fun _ => 1#1)
    ∧ (Cert.Pre_finite2.fn (F := Ideal) (m ((c.tc : Thread Cert.RefInProjIdeal.nD Cert.RefInProjIdeal.τ).loc Cert.RefInProjIdeal.main_arg0)) (m ((c.tc : Thread Cert.RefInProjIdeal.nD Cert.RefInProjIdeal.τ).loc Cert.RefInProjIdeal.main_arg1)) (m ((c.tc : Thread Cert.RefInProjIdeal.nD Cert.RefInProjIdeal.τ).loc Cert.RefInProjIdeal.main_arg2)) (m ((c.tc : Thread Cert.RefInProjIdeal.nD Cert.RefInProjIdeal.τ).loc Cert.RefInProjIdeal.main_arg3)) (m ((c.tc : Thread Cert.RefInProjIdeal.nD Cert.RefInProjIdeal.τ).loc Cert.RefInProjIdeal.main_arg4))).2.1 = (fun _ => 1#1)
    ∧ (Cert.Pre_finite2.fn (F := Ideal) (m ((c.tc : Thread Cert.RefInProjIdeal.nD Cert.RefInProjIdeal.τ).loc Cert.RefInProjIdeal.main_arg0)) (m ((c.tc : Thread Cert.RefInProjIdeal.nD Cert.RefInProjIdeal.τ).loc Cert.RefInProjIdeal.main_arg1)) (m ((c.tc : Thread Cert.RefInProjIdeal.nD Cert.RefInProjIdeal.τ).loc Cert.RefInProjIdeal.main_arg2)) (m ((c.tc : Thread Cert.RefInProjIdeal.nD Cert.RefInProjIdeal.τ).loc Cert.RefInProjIdeal.main_arg3)) (m ((c.tc : Thread Cert.RefInProjIdeal.nD Cert.RefInProjIdeal.τ).loc Cert.RefInProjIdeal.main_arg4))).2.2.1 = (fun _ => 1#1)
    ∧ (Cert.Pre_finite2.fn (F := Ideal) (m ((c.tc : Thread Cert.RefInProjIdeal.nD Cert.RefInProjIdeal.τ).loc Cert.RefInProjIdeal.main_arg0)) (m ((c.tc : Thread Cert.RefInProjIdeal.nD Cert.RefInProjIdeal.τ).loc Cert.RefInProjIdeal.main_arg1)) (m ((c.tc : Thread Cert.RefInProjIdeal.nD Cert.RefInProjIdeal.τ).loc Cert.RefInProjIdeal.main_arg2)) (m ((c.tc : Thread Cert.RefInProjIdeal.nD Cert.RefInProjIdeal.τ).loc Cert.RefInProjIdeal.main_arg3)) (m ((c.tc : Thread Cert.RefInProjIdeal.nD Cert.RefInProjIdeal.τ).loc Cert.RefInProjIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5)
      ∧ r.2.mem ((c.tc : Thread Cert.Ffn1.nD Cert.Ffn1.τ).loc Cert.Ffn1.main_arg6) = m ((c.tc : Thread Cert.Ffn1.nD Cert.Ffn1.τ).loc Cert.Ffn1.main_arg6)
      ∧ r.2.mem ((c.tc : Thread Cert.Ffn1.nD Cert.Ffn1.τ).loc Cert.Ffn1.main_arg7) = m ((c.tc : Thread Cert.Ffn1.nD Cert.Ffn1.τ).loc Cert.Ffn1.main_arg7)
      ∧ r.2.mem ((c.tc : Thread Cert.Ffn1.nD Cert.Ffn1.τ).loc Cert.Ffn1.main_arg8) = m ((c.tc : Thread Cert.Ffn1.nD Cert.Ffn1.τ).loc Cert.Ffn1.main_arg8)
      ∧ r.2.mem ((c.tc : Thread Cert.Ffn1.nD Cert.Ffn1.τ).loc Cert.Ffn1.main_arg9) = m ((c.tc : Thread Cert.Ffn1.nD Cert.Ffn1.τ).loc Cert.Ffn1.main_arg9))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
      ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
      ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
      ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8)
      ∧ r.2.mem ((c.tc : Thread Cert.Ffn1Ideal.nD Cert.Ffn1Ideal.τ).loc Cert.Ffn1Ideal.main_arg9) = m ((c.tc : Thread Cert.Ffn1Ideal.nD Cert.Ffn1Ideal.τ).loc Cert.Ffn1Ideal.main_arg9))
      ∧ r.2.sem = fun _ => 0)

def quiescent_Ffn1Ideal_pre_finite1 [hFfn1Ideal : Cert.Ffn1Ideal.Facts] [hPre_finite1 : Cert.Pre_finite1.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal_finite1 m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
      ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
      ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
      ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8)
      ∧ r.2.mem ((c.tc : Thread Cert.Ffn1Ideal.nD Cert.Ffn1Ideal.τ).loc Cert.Ffn1Ideal.main_arg9) = m ((c.tc : Thread Cert.Ffn1Ideal.nD Cert.Ffn1Ideal.τ).loc Cert.Ffn1Ideal.main_arg9))
      ∧ r.2.sem = fun _ => 0)

def quiescent_RefFfn1Ideal [hRefFfn1Ideal : Cert.RefFfn1Ideal.Facts] : Prop :=
  ∀ (m : (ℓ : Loc Cert.RefFfn1Ideal.nD Cert.RefFfn1Ideal.τ Cert.RefFfn1Ideal.sig) → Buf (Elt Ideal) ℓ) (g : Dev Cert.RefFfn1Ideal.nD → PrngReg), Pre_RefFfn1Ideal m →
    θ_run (Cert.RefFfn1Ideal.defs (F := Ideal)) (onTc (τ := Cert.RefFfn1Ideal.τ) (Cert.RefFfn1Ideal.main (F := Ideal))) ⟨m, fun _ => 0, g⟩ (fun r => (∀ c : Dev Cert.RefFfn1Ideal.nD,
      r.2.mem ((c.tc : Thread Cert.RefFfn1Ideal.nD Cert.RefFfn1Ideal.τ).loc Cert.RefFfn1Ideal.main_arg0) = m ((c.tc : Thread Cert.RefFfn1Ideal.nD Cert.RefFfn1Ideal.τ).loc Cert.RefFfn1Ideal.main_arg0)
      ∧ r.2.mem ((c.tc : Thread Cert.RefFfn1Ideal.nD Cert.RefFfn1Ideal.τ).loc Cert.RefFfn1Ideal.main_arg1) = m ((c.tc : Thread Cert.RefFfn1Ideal.nD Cert.RefFfn1Ideal.τ).loc Cert.RefFfn1Ideal.main_arg1)
      ∧ r.2.mem ((c.tc : Thread Cert.RefFfn1Ideal.nD Cert.RefFfn1Ideal.τ).loc Cert.RefFfn1Ideal.main_arg2) = m ((c.tc : Thread Cert.RefFfn1Ideal.nD Cert.RefFfn1Ideal.τ).loc Cert.RefFfn1Ideal.main_arg2)
      ∧ r.2.mem ((c.tc : Thread Cert.RefFfn1Ideal.nD Cert.RefFfn1Ideal.τ).loc Cert.RefFfn1Ideal.main_arg3) = m ((c.tc : Thread Cert.RefFfn1Ideal.nD Cert.RefFfn1Ideal.τ).loc Cert.RefFfn1Ideal.main_arg3)
      ∧ r.2.mem ((c.tc : Thread Cert.RefFfn1Ideal.nD Cert.RefFfn1Ideal.τ).loc Cert.RefFfn1Ideal.main_arg4) = m ((c.tc : Thread Cert.RefFfn1Ideal.nD Cert.RefFfn1Ideal.τ).loc Cert.RefFfn1Ideal.main_arg4)
      ∧ r.2.mem ((c.tc : Thread Cert.RefFfn1Ideal.nD Cert.RefFfn1Ideal.τ).loc Cert.RefFfn1Ideal.main_arg5) = m ((c.tc : Thread Cert.RefFfn1Ideal.nD Cert.RefFfn1Ideal.τ).loc Cert.RefFfn1Ideal.main_arg5)
      ∧ r.2.mem ((c.tc : Thread Cert.RefFfn1Ideal.nD Cert.RefFfn1Ideal.τ).loc Cert.RefFfn1Ideal.main_arg6) = m ((c.tc : Thread Cert.RefFfn1Ideal.nD Cert.RefFfn1Ideal.τ).loc Cert.RefFfn1Ideal.main_arg6)
      ∧ r.2.mem ((c.tc : Thread Cert.RefFfn1Ideal.nD Cert.RefFfn1Ideal.τ).loc Cert.RefFfn1Ideal.main_arg7) = m ((c.tc : Thread Cert.RefFfn1Ideal.nD Cert.RefFfn1Ideal.τ).loc Cert.RefFfn1Ideal.main_arg7)
      ∧ r.2.mem ((c.tc : Thread Cert.RefFfn1Ideal.nD Cert.RefFfn1Ideal.τ).loc Cert.RefFfn1Ideal.main_arg8) = m ((c.tc : Thread Cert.RefFfn1Ideal.nD Cert.RefFfn1Ideal.τ).loc Cert.RefFfn1Ideal.main_arg8)
      ∧ r.2.mem ((c.tc : Thread Cert.RefFfn1Ideal.nD Cert.RefFfn1Ideal.τ).loc Cert.RefFfn1Ideal.main_arg9) = m ((c.tc : Thread Cert.RefFfn1Ideal.nD Cert.RefFfn1Ideal.τ).loc Cert.RefFfn1Ideal.main_arg9))
      ∧ r.2.sem = fun _ => 0)

def quiescent_RefFfn1Ideal_pre_finite1 [hRefFfn1Ideal : Cert.RefFfn1Ideal.Facts] [hPre_finite1 : Cert.Pre_finite1.Facts] : Prop :=
  ∀ (m : (ℓ : Loc Cert.RefFfn1Ideal.nD Cert.RefFfn1Ideal.τ Cert.RefFfn1Ideal.sig) → Buf (Elt Ideal) ℓ) (g : Dev Cert.RefFfn1Ideal.nD → PrngReg), Pre_RefFfn1Ideal_finite1 m →
    θ_run (Cert.RefFfn1Ideal.defs (F := Ideal)) (onTc (τ := Cert.RefFfn1Ideal.τ) (Cert.RefFfn1Ideal.main (F := Ideal))) ⟨m, fun _ => 0, g⟩ (fun r => (∀ c : Dev Cert.RefFfn1Ideal.nD,
      r.2.mem ((c.tc : Thread Cert.RefFfn1Ideal.nD Cert.RefFfn1Ideal.τ).loc Cert.RefFfn1Ideal.main_arg0) = m ((c.tc : Thread Cert.RefFfn1Ideal.nD Cert.RefFfn1Ideal.τ).loc Cert.RefFfn1Ideal.main_arg0)
      ∧ r.2.mem ((c.tc : Thread Cert.RefFfn1Ideal.nD Cert.RefFfn1Ideal.τ).loc Cert.RefFfn1Ideal.main_arg1) = m ((c.tc : Thread Cert.RefFfn1Ideal.nD Cert.RefFfn1Ideal.τ).loc Cert.RefFfn1Ideal.main_arg1)
      ∧ r.2.mem ((c.tc : Thread Cert.RefFfn1Ideal.nD Cert.RefFfn1Ideal.τ).loc Cert.RefFfn1Ideal.main_arg2) = m ((c.tc : Thread Cert.RefFfn1Ideal.nD Cert.RefFfn1Ideal.τ).loc Cert.RefFfn1Ideal.main_arg2)
      ∧ r.2.mem ((c.tc : Thread Cert.RefFfn1Ideal.nD Cert.RefFfn1Ideal.τ).loc Cert.RefFfn1Ideal.main_arg3) = m ((c.tc : Thread Cert.RefFfn1Ideal.nD Cert.RefFfn1Ideal.τ).loc Cert.RefFfn1Ideal.main_arg3)
      ∧ r.2.mem ((c.tc : Thread Cert.RefFfn1Ideal.nD Cert.RefFfn1Ideal.τ).loc Cert.RefFfn1Ideal.main_arg4) = m ((c.tc : Thread Cert.RefFfn1Ideal.nD Cert.RefFfn1Ideal.τ).loc Cert.RefFfn1Ideal.main_arg4)
      ∧ r.2.mem ((c.tc : Thread Cert.RefFfn1Ideal.nD Cert.RefFfn1Ideal.τ).loc Cert.RefFfn1Ideal.main_arg5) = m ((c.tc : Thread Cert.RefFfn1Ideal.nD Cert.RefFfn1Ideal.τ).loc Cert.RefFfn1Ideal.main_arg5)
      ∧ r.2.mem ((c.tc : Thread Cert.RefFfn1Ideal.nD Cert.RefFfn1Ideal.τ).loc Cert.RefFfn1Ideal.main_arg6) = m ((c.tc : Thread Cert.RefFfn1Ideal.nD Cert.RefFfn1Ideal.τ).loc Cert.RefFfn1Ideal.main_arg6)
      ∧ r.2.mem ((c.tc : Thread Cert.RefFfn1Ideal.nD Cert.RefFfn1Ideal.τ).loc Cert.RefFfn1Ideal.main_arg7) = m ((c.tc : Thread Cert.RefFfn1Ideal.nD Cert.RefFfn1Ideal.τ).loc Cert.RefFfn1Ideal.main_arg7)
      ∧ r.2.mem ((c.tc : Thread Cert.RefFfn1Ideal.nD Cert.RefFfn1Ideal.τ).loc Cert.RefFfn1Ideal.main_arg8) = m ((c.tc : Thread Cert.RefFfn1Ideal.nD Cert.RefFfn1Ideal.τ).loc Cert.RefFfn1Ideal.main_arg8)
      ∧ r.2.mem ((c.tc : Thread Cert.RefFfn1Ideal.nD Cert.RefFfn1Ideal.τ).loc Cert.RefFfn1Ideal.main_arg9) = m ((c.tc : Thread Cert.RefFfn1Ideal.nD Cert.RefFfn1Ideal.τ).loc Cert.RefFfn1Ideal.main_arg9))
      ∧ r.2.sem = fun _ => 0)

def quiescent_Ffn0 [hFfn0 : Cert.Ffn0.Facts] : Prop :=
  ∀ (m : (ℓ : Loc Cert.Ffn0.nD Cert.Ffn0.τ Cert.Ffn0.sig) → Buf (Elt Bits) ℓ) (g : Dev Cert.Ffn0.nD → PrngReg), Pre_Ffn0 m →
    θ_run (Cert.Ffn0.defs (F := Bits)) (onTc (τ := Cert.Ffn0.τ) (Cert.Ffn0.main (F := Bits))) ⟨m, fun _ => 0, g⟩ (fun r => (∀ c : Dev Cert.Ffn0.nD,
      r.2.mem ((c.tc : Thread Cert.Ffn0.nD Cert.Ffn0.τ).loc Cert.Ffn0.main_arg0) = m ((c.tc : Thread Cert.Ffn0.nD Cert.Ffn0.τ).loc Cert.Ffn0.main_arg0)
      ∧ r.2.mem ((c.tc : Thread Cert.Ffn0.nD Cert.Ffn0.τ).loc Cert.Ffn0.main_arg1) = m ((c.tc : Thread Cert.Ffn0.nD Cert.Ffn0.τ).loc Cert.Ffn0.main_arg1)
      ∧ r.2.mem ((c.tc : Thread Cert.Ffn0.nD Cert.Ffn0.τ).loc Cert.Ffn0.main_arg2) = m ((c.tc : Thread Cert.Ffn0.nD Cert.Ffn0.τ).loc Cert.Ffn0.main_arg2)
      ∧ r.2.mem ((c.tc : Thread Cert.Ffn0.nD Cert.Ffn0.τ).loc Cert.Ffn0.main_arg3) = m ((c.tc : Thread Cert.Ffn0.nD Cert.Ffn0.τ).loc Cert.Ffn0.main_arg3)
      ∧ r.2.mem ((c.tc : Thread Cert.Ffn0.nD Cert.Ffn0.τ).loc Cert.Ffn0.main_arg4) = m ((c.tc : Thread Cert.Ffn0.nD Cert.Ffn0.τ).loc Cert.Ffn0.main_arg4)
      ∧ r.2.mem ((c.tc : Thread Cert.Ffn0.nD Cert.Ffn0.τ).loc Cert.Ffn0.main_arg5) = m ((c.tc : Thread Cert.Ffn0.nD Cert.Ffn0.τ).loc Cert.Ffn0.main_arg5)
      ∧ r.2.mem ((c.tc : Thread Cert.Ffn0.nD Cert.Ffn0.τ).loc Cert.Ffn0.main_arg6) = m ((c.tc : Thread Cert.Ffn0.nD Cert.Ffn0.τ).loc Cert.Ffn0.main_arg6)
      ∧ r.2.mem ((c.tc : Thread Cert.Ffn0.nD Cert.Ffn0.τ).loc Cert.Ffn0.main_arg7) = m ((c.tc : Thread Cert.Ffn0.nD Cert.Ffn0.τ).loc Cert.Ffn0.main_arg7)
      ∧ r.2.mem ((c.tc : Thread Cert.Ffn0.nD Cert.Ffn0.τ).loc Cert.Ffn0.main_arg8) = m ((c.tc : Thread Cert.Ffn0.nD Cert.Ffn0.τ).loc Cert.Ffn0.main_arg8)
      ∧ r.2.mem ((c.tc : Thread Cert.Ffn0.nD Cert.Ffn0.τ).loc Cert.Ffn0.main_arg9) = m ((c.tc : Thread Cert.Ffn0.nD Cert.Ffn0.τ).loc Cert.Ffn0.main_arg9)
      ∧ r.2.mem ((c.tc : Thread Cert.Ffn0.nD Cert.Ffn0.τ).loc Cert.Ffn0.main_arg10) = m ((c.tc : Thread Cert.Ffn0.nD Cert.Ffn0.τ).loc Cert.Ffn0.main_arg10)
      ∧ r.2.mem ((c.tc : Thread Cert.Ffn0.nD Cert.Ffn0.τ).loc Cert.Ffn0.main_arg11) = m ((c.tc : Thread Cert.Ffn0.nD Cert.Ffn0.τ).loc Cert.Ffn0.main_arg11)
      ∧ r.2.mem ((c.tc : Thread Cert.Ffn0.nD Cert.Ffn0.τ).loc Cert.Ffn0.main_arg12) = m ((c.tc : Thread Cert.Ffn0.nD Cert.Ffn0.τ).loc Cert.Ffn0.main_arg12)
      ∧ r.2.mem ((c.tc : Thread Cert.Ffn0.nD Cert.Ffn0.τ).loc Cert.Ffn0.main_arg13) = m ((c.tc : Thread Cert.Ffn0.nD Cert.Ffn0.τ).loc Cert.Ffn0.main_arg13)
      ∧ r.2.mem ((c.tc : Thread Cert.Ffn0.nD Cert.Ffn0.τ).loc Cert.Ffn0.main_arg14) = m ((c.tc : Thread Cert.Ffn0.nD Cert.Ffn0.τ).loc Cert.Ffn0.main_arg14)
      ∧ r.2.mem ((c.tc : Thread Cert.Ffn0.nD Cert.Ffn0.τ).loc Cert.Ffn0.main_arg15) = m ((c.tc : Thread Cert.Ffn0.nD Cert.Ffn0.τ).loc Cert.Ffn0.main_arg15))
      ∧ r.2.sem = fun _ => 0)

def quiescent_Ffn0Ideal [hFfn0Ideal : Cert.Ffn0Ideal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg), Pre_Ffn0Ideal m →
    θ_run (Cert.Ffn0Ideal.defs (F := Ideal)) (onTc (τ := Cert.Ffn0Ideal.τ) (Cert.Ffn0Ideal.main (F := Ideal))) ⟨m, fun _ => 0, g⟩ (fun r => (∀ c : Dev Cert.Ffn0Ideal.nD,
      r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
      ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
      ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
      ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
      ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
      ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5)
      ∧ r.2.mem ((c.tc : Thread Cert.Ffn0Ideal.nD Cert.Ffn0Ideal.τ).loc Cert.Ffn0Ideal.main_arg6) = m ((c.tc : Thread Cert.Ffn0Ideal.nD Cert.Ffn0Ideal.τ).loc Cert.Ffn0Ideal.main_arg6)
      ∧ r.2.mem ((c.tc : Thread Cert.Ffn0Ideal.nD Cert.Ffn0Ideal.τ).loc Cert.Ffn0Ideal.main_arg7) = m ((c.tc : Thread Cert.Ffn0Ideal.nD Cert.Ffn0Ideal.τ).loc Cert.Ffn0Ideal.main_arg7)
      ∧ r.2.mem ((c.tc : Thread Cert.Ffn0Ideal.nD Cert.Ffn0Ideal.τ).loc Cert.Ffn0Ideal.main_arg8) = m ((c.tc : Thread Cert.Ffn0Ideal.nD Cert.Ffn0Ideal.τ).loc Cert.Ffn0Ideal.main_arg8)
      ∧ r.2.mem ((c.tc : Thread Cert.Ffn0Ideal.nD Cert.Ffn0Ideal.τ).loc Cert.Ffn0Ideal.main_arg9) = m ((c.tc : Thread Cert.Ffn0Ideal.nD Cert.Ffn0Ideal.τ).loc Cert.Ffn0Ideal.main_arg9)
      ∧ r.2.mem ((c.tc : Thread Cert.Ffn0Ideal.nD Cert.Ffn0Ideal.τ).loc Cert.Ffn0Ideal.main_arg10) = m ((c.tc : Thread Cert.Ffn0Ideal.nD Cert.Ffn0Ideal.τ).loc Cert.Ffn0Ideal.main_arg10)
      ∧ r.2.mem ((c.tc : Thread Cert.Ffn0Ideal.nD Cert.Ffn0Ideal.τ).loc Cert.Ffn0Ideal.main_arg11) = m ((c.tc : Thread Cert.Ffn0Ideal.nD Cert.Ffn0Ideal.τ).loc Cert.Ffn0Ideal.main_arg11)
      ∧ r.2.mem ((c.tc : Thread Cert.Ffn0Ideal.nD Cert.Ffn0Ideal.τ).loc Cert.Ffn0Ideal.main_arg12) = m ((c.tc : Thread Cert.Ffn0Ideal.nD Cert.Ffn0Ideal.τ).loc Cert.Ffn0Ideal.main_arg12)
      ∧ r.2.mem ((c.tc : Thread Cert.Ffn0Ideal.nD Cert.Ffn0Ideal.τ).loc Cert.Ffn0Ideal.main_arg13) = m ((c.tc : Thread Cert.Ffn0Ideal.nD Cert.Ffn0Ideal.τ).loc Cert.Ffn0Ideal.main_arg13)
      ∧ r.2.mem ((c.tc : Thread Cert.Ffn0Ideal.nD Cert.Ffn0Ideal.τ).loc Cert.Ffn0Ideal.main_arg14) = m ((c.tc : Thread Cert.Ffn0Ideal.nD Cert.Ffn0Ideal.τ).loc Cert.Ffn0Ideal.main_arg14)
      ∧ r.2.mem ((c.tc : Thread Cert.Ffn0Ideal.nD Cert.Ffn0Ideal.τ).loc Cert.Ffn0Ideal.main_arg15) = m ((c.tc : Thread Cert.Ffn0Ideal.nD Cert.Ffn0Ideal.τ).loc Cert.Ffn0Ideal.main_arg15))
      ∧ r.2.sem = fun _ => 0)

def quiescent_Ffn0Ideal_pre_finite0 [hFfn0Ideal : Cert.Ffn0Ideal.Facts] [hPre_finite0 : Cert.Pre_finite0.Facts] : Prop :=
  ∀ (m : (ℓ : Loc Cert.Ffn0Ideal.nD Cert.Ffn0Ideal.τ Cert.Ffn0Ideal.sig) → Buf (Elt Ideal) ℓ) (g : Dev Cert.Ffn0Ideal.nD → PrngReg), Pre_Ffn0Ideal_finite0 m →
    θ_run (Cert.Ffn0Ideal.defs (F := Ideal)) (onTc (τ := Cert.Ffn0Ideal.τ) (Cert.Ffn0Ideal.main (F := Ideal))) ⟨m, fun _ => 0, g⟩ (fun r => (∀ c : Dev Cert.Ffn0Ideal.nD,
      r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
      ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
      ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
      ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
      ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
      ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5)
      ∧ r.2.mem ((c.tc : Thread Cert.Ffn0Ideal.nD Cert.Ffn0Ideal.τ).loc Cert.Ffn0Ideal.main_arg6) = m ((c.tc : Thread Cert.Ffn0Ideal.nD Cert.Ffn0Ideal.τ).loc Cert.Ffn0Ideal.main_arg6)
      ∧ r.2.mem ((c.tc : Thread Cert.Ffn0Ideal.nD Cert.Ffn0Ideal.τ).loc Cert.Ffn0Ideal.main_arg7) = m ((c.tc : Thread Cert.Ffn0Ideal.nD Cert.Ffn0Ideal.τ).loc Cert.Ffn0Ideal.main_arg7)
      ∧ r.2.mem ((c.tc : Thread Cert.Ffn0Ideal.nD Cert.Ffn0Ideal.τ).loc Cert.Ffn0Ideal.main_arg8) = m ((c.tc : Thread Cert.Ffn0Ideal.nD Cert.Ffn0Ideal.τ).loc Cert.Ffn0Ideal.main_arg8)
      ∧ r.2.mem ((c.tc : Thread Cert.Ffn0Ideal.nD Cert.Ffn0Ideal.τ).loc Cert.Ffn0Ideal.main_arg9) = m ((c.tc : Thread Cert.Ffn0Ideal.nD Cert.Ffn0Ideal.τ).loc Cert.Ffn0Ideal.main_arg9)
      ∧ r.2.mem ((c.tc : Thread Cert.Ffn0Ideal.nD Cert.Ffn0Ideal.τ).loc Cert.Ffn0Ideal.main_arg10) = m ((c.tc : Thread Cert.Ffn0Ideal.nD Cert.Ffn0Ideal.τ).loc Cert.Ffn0Ideal.main_arg10)
      ∧ r.2.mem ((c.tc : Thread Cert.Ffn0Ideal.nD Cert.Ffn0Ideal.τ).loc Cert.Ffn0Ideal.main_arg11) = m ((c.tc : Thread Cert.Ffn0Ideal.nD Cert.Ffn0Ideal.τ).loc Cert.Ffn0Ideal.main_arg11)
      ∧ r.2.mem ((c.tc : Thread Cert.Ffn0Ideal.nD Cert.Ffn0Ideal.τ).loc Cert.Ffn0Ideal.main_arg12) = m ((c.tc : Thread Cert.Ffn0Ideal.nD Cert.Ffn0Ideal.τ).loc Cert.Ffn0Ideal.main_arg12)
      ∧ r.2.mem ((c.tc : Thread Cert.Ffn0Ideal.nD Cert.Ffn0Ideal.τ).loc Cert.Ffn0Ideal.main_arg13) = m ((c.tc : Thread Cert.Ffn0Ideal.nD Cert.Ffn0Ideal.τ).loc Cert.Ffn0Ideal.main_arg13)
      ∧ r.2.mem ((c.tc : Thread Cert.Ffn0Ideal.nD Cert.Ffn0Ideal.τ).loc Cert.Ffn0Ideal.main_arg14) = m ((c.tc : Thread Cert.Ffn0Ideal.nD Cert.Ffn0Ideal.τ).loc Cert.Ffn0Ideal.main_arg14)
      ∧ r.2.mem ((c.tc : Thread Cert.Ffn0Ideal.nD Cert.Ffn0Ideal.τ).loc Cert.Ffn0Ideal.main_arg15) = m ((c.tc : Thread Cert.Ffn0Ideal.nD Cert.Ffn0Ideal.τ).loc Cert.Ffn0Ideal.main_arg15))
      ∧ r.2.sem = fun _ => 0)

def quiescent_RefFfn0Ideal [hRefFfn0Ideal : Cert.RefFfn0Ideal.Facts] : Prop :=
  ∀ (m : (ℓ : Loc Cert.RefFfn0Ideal.nD Cert.RefFfn0Ideal.τ Cert.RefFfn0Ideal.sig) → Buf (Elt Ideal) ℓ) (g : Dev Cert.RefFfn0Ideal.nD → PrngReg), Pre_RefFfn0Ideal m →
    θ_run (Cert.RefFfn0Ideal.defs (F := Ideal)) (onTc (τ := Cert.RefFfn0Ideal.τ) (Cert.RefFfn0Ideal.main (F := Ideal))) ⟨m, fun _ => 0, g⟩ (fun r => (∀ c : Dev Cert.RefFfn0Ideal.nD,
      r.2.mem ((c.tc : Thread Cert.RefFfn0Ideal.nD Cert.RefFfn0Ideal.τ).loc Cert.RefFfn0Ideal.main_arg0) = m ((c.tc : Thread Cert.RefFfn0Ideal.nD Cert.RefFfn0Ideal.τ).loc Cert.RefFfn0Ideal.main_arg0)
      ∧ r.2.mem ((c.tc : Thread Cert.RefFfn0Ideal.nD Cert.RefFfn0Ideal.τ).loc Cert.RefFfn0Ideal.main_arg1) = m ((c.tc : Thread Cert.RefFfn0Ideal.nD Cert.RefFfn0Ideal.τ).loc Cert.RefFfn0Ideal.main_arg1)
      ∧ r.2.mem ((c.tc : Thread Cert.RefFfn0Ideal.nD Cert.RefFfn0Ideal.τ).loc Cert.RefFfn0Ideal.main_arg2) = m ((c.tc : Thread Cert.RefFfn0Ideal.nD Cert.RefFfn0Ideal.τ).loc Cert.RefFfn0Ideal.main_arg2)
      ∧ r.2.mem ((c.tc : Thread Cert.RefFfn0Ideal.nD Cert.RefFfn0Ideal.τ).loc Cert.RefFfn0Ideal.main_arg3) = m ((c.tc : Thread Cert.RefFfn0Ideal.nD Cert.RefFfn0Ideal.τ).loc Cert.RefFfn0Ideal.main_arg3)
      ∧ r.2.mem ((c.tc : Thread Cert.RefFfn0Ideal.nD Cert.RefFfn0Ideal.τ).loc Cert.RefFfn0Ideal.main_arg4) = m ((c.tc : Thread Cert.RefFfn0Ideal.nD Cert.RefFfn0Ideal.τ).loc Cert.RefFfn0Ideal.main_arg4)
      ∧ r.2.mem ((c.tc : Thread Cert.RefFfn0Ideal.nD Cert.RefFfn0Ideal.τ).loc Cert.RefFfn0Ideal.main_arg5) = m ((c.tc : Thread Cert.RefFfn0Ideal.nD Cert.RefFfn0Ideal.τ).loc Cert.RefFfn0Ideal.main_arg5)
      ∧ r.2.mem ((c.tc : Thread Cert.RefFfn0Ideal.nD Cert.RefFfn0Ideal.τ).loc Cert.RefFfn0Ideal.main_arg6) = m ((c.tc : Thread Cert.RefFfn0Ideal.nD Cert.RefFfn0Ideal.τ).loc Cert.RefFfn0Ideal.main_arg6)
      ∧ r.2.mem ((c.tc : Thread Cert.RefFfn0Ideal.nD Cert.RefFfn0Ideal.τ).loc Cert.RefFfn0Ideal.main_arg7) = m ((c.tc : Thread Cert.RefFfn0Ideal.nD Cert.RefFfn0Ideal.τ).loc Cert.RefFfn0Ideal.main_arg7)
      ∧ r.2.mem ((c.tc : Thread Cert.RefFfn0Ideal.nD Cert.RefFfn0Ideal.τ).loc Cert.RefFfn0Ideal.main_arg8) = m ((c.tc : Thread Cert.RefFfn0Ideal.nD Cert.RefFfn0Ideal.τ).loc Cert.RefFfn0Ideal.main_arg8)
      ∧ r.2.mem ((c.tc : Thread Cert.RefFfn0Ideal.nD Cert.RefFfn0Ideal.τ).loc Cert.RefFfn0Ideal.main_arg9) = m ((c.tc : Thread Cert.RefFfn0Ideal.nD Cert.RefFfn0Ideal.τ).loc Cert.RefFfn0Ideal.main_arg9)
      ∧ r.2.mem ((c.tc : Thread Cert.RefFfn0Ideal.nD Cert.RefFfn0Ideal.τ).loc Cert.RefFfn0Ideal.main_arg10) = m ((c.tc : Thread Cert.RefFfn0Ideal.nD Cert.RefFfn0Ideal.τ).loc Cert.RefFfn0Ideal.main_arg10)
      ∧ r.2.mem ((c.tc : Thread Cert.RefFfn0Ideal.nD Cert.RefFfn0Ideal.τ).loc Cert.RefFfn0Ideal.main_arg11) = m ((c.tc : Thread Cert.RefFfn0Ideal.nD Cert.RefFfn0Ideal.τ).loc Cert.RefFfn0Ideal.main_arg11)
      ∧ r.2.mem ((c.tc : Thread Cert.RefFfn0Ideal.nD Cert.RefFfn0Ideal.τ).loc Cert.RefFfn0Ideal.main_arg12) = m ((c.tc : Thread Cert.RefFfn0Ideal.nD Cert.RefFfn0Ideal.τ).loc Cert.RefFfn0Ideal.main_arg12)
      ∧ r.2.mem ((c.tc : Thread Cert.RefFfn0Ideal.nD Cert.RefFfn0Ideal.τ).loc Cert.RefFfn0Ideal.main_arg13) = m ((c.tc : Thread Cert.RefFfn0Ideal.nD Cert.RefFfn0Ideal.τ).loc Cert.RefFfn0Ideal.main_arg13)
      ∧ r.2.mem ((c.tc : Thread Cert.RefFfn0Ideal.nD Cert.RefFfn0Ideal.τ).loc Cert.RefFfn0Ideal.main_arg14) = m ((c.tc : Thread Cert.RefFfn0Ideal.nD Cert.RefFfn0Ideal.τ).loc Cert.RefFfn0Ideal.main_arg14)
      ∧ r.2.mem ((c.tc : Thread Cert.RefFfn0Ideal.nD Cert.RefFfn0Ideal.τ).loc Cert.RefFfn0Ideal.main_arg15) = m ((c.tc : Thread Cert.RefFfn0Ideal.nD Cert.RefFfn0Ideal.τ).loc Cert.RefFfn0Ideal.main_arg15))
      ∧ r.2.sem = fun _ => 0)

def quiescent_RefFfn0Ideal_pre_finite0 [hRefFfn0Ideal : Cert.RefFfn0Ideal.Facts] [hPre_finite0 : Cert.Pre_finite0.Facts] : Prop :=
  ∀ (m : (ℓ : Loc Cert.RefFfn0Ideal.nD Cert.RefFfn0Ideal.τ Cert.RefFfn0Ideal.sig) → Buf (Elt Ideal) ℓ) (g : Dev Cert.RefFfn0Ideal.nD → PrngReg), Pre_RefFfn0Ideal_finite0 m →
    θ_run (Cert.RefFfn0Ideal.defs (F := Ideal)) (onTc (τ := Cert.RefFfn0Ideal.τ) (Cert.RefFfn0Ideal.main (F := Ideal))) ⟨m, fun _ => 0, g⟩ (fun r => (∀ c : Dev Cert.RefFfn0Ideal.nD,
      r.2.mem ((c.tc : Thread Cert.RefFfn0Ideal.nD Cert.RefFfn0Ideal.τ).loc Cert.RefFfn0Ideal.main_arg0) = m ((c.tc : Thread Cert.RefFfn0Ideal.nD Cert.RefFfn0Ideal.τ).loc Cert.RefFfn0Ideal.main_arg0)
      ∧ r.2.mem ((c.tc : Thread Cert.RefFfn0Ideal.nD Cert.RefFfn0Ideal.τ).loc Cert.RefFfn0Ideal.main_arg1) = m ((c.tc : Thread Cert.RefFfn0Ideal.nD Cert.RefFfn0Ideal.τ).loc Cert.RefFfn0Ideal.main_arg1)
      ∧ r.2.mem ((c.tc : Thread Cert.RefFfn0Ideal.nD Cert.RefFfn0Ideal.τ).loc Cert.RefFfn0Ideal.main_arg2) = m ((c.tc : Thread Cert.RefFfn0Ideal.nD Cert.RefFfn0Ideal.τ).loc Cert.RefFfn0Ideal.main_arg2)
      ∧ r.2.mem ((c.tc : Thread Cert.RefFfn0Ideal.nD Cert.RefFfn0Ideal.τ).loc Cert.RefFfn0Ideal.main_arg3) = m ((c.tc : Thread Cert.RefFfn0Ideal.nD Cert.RefFfn0Ideal.τ).loc Cert.RefFfn0Ideal.main_arg3)
      ∧ r.2.mem ((c.tc : Thread Cert.RefFfn0Ideal.nD Cert.RefFfn0Ideal.τ).loc Cert.RefFfn0Ideal.main_arg4) = m ((c.tc : Thread Cert.RefFfn0Ideal.nD Cert.RefFfn0Ideal.τ).loc Cert.RefFfn0Ideal.main_arg4)
      ∧ r.2.mem ((c.tc : Thread Cert.RefFfn0Ideal.nD Cert.RefFfn0Ideal.τ).loc Cert.RefFfn0Ideal.main_arg5) = m ((c.tc : Thread Cert.RefFfn0Ideal.nD Cert.RefFfn0Ideal.τ).loc Cert.RefFfn0Ideal.main_arg5)
      ∧ r.2.mem ((c.tc : Thread Cert.RefFfn0Ideal.nD Cert.RefFfn0Ideal.τ).loc Cert.RefFfn0Ideal.main_arg6) = m ((c.tc : Thread Cert.RefFfn0Ideal.nD Cert.RefFfn0Ideal.τ).loc Cert.RefFfn0Ideal.main_arg6)
      ∧ r.2.mem ((c.tc : Thread Cert.RefFfn0Ideal.nD Cert.RefFfn0Ideal.τ).loc Cert.RefFfn0Ideal.main_arg7) = m ((c.tc : Thread Cert.RefFfn0Ideal.nD Cert.RefFfn0Ideal.τ).loc Cert.RefFfn0Ideal.main_arg7)
      ∧ r.2.mem ((c.tc : Thread Cert.RefFfn0Ideal.nD Cert.RefFfn0Ideal.τ).loc Cert.RefFfn0Ideal.main_arg8) = m ((c.tc : Thread Cert.RefFfn0Ideal.nD Cert.RefFfn0Ideal.τ).loc Cert.RefFfn0Ideal.main_arg8)
      ∧ r.2.mem ((c.tc : Thread Cert.RefFfn0Ideal.nD Cert.RefFfn0Ideal.τ).loc Cert.RefFfn0Ideal.main_arg9) = m ((c.tc : Thread Cert.RefFfn0Ideal.nD Cert.RefFfn0Ideal.τ).loc Cert.RefFfn0Ideal.main_arg9)
      ∧ r.2.mem ((c.tc : Thread Cert.RefFfn0Ideal.nD Cert.RefFfn0Ideal.τ).loc Cert.RefFfn0Ideal.main_arg10) = m ((c.tc : Thread Cert.RefFfn0Ideal.nD Cert.RefFfn0Ideal.τ).loc Cert.RefFfn0Ideal.main_arg10)
      ∧ r.2.mem ((c.tc : Thread Cert.RefFfn0Ideal.nD Cert.RefFfn0Ideal.τ).loc Cert.RefFfn0Ideal.main_arg11) = m ((c.tc : Thread Cert.RefFfn0Ideal.nD Cert.RefFfn0Ideal.τ).loc Cert.RefFfn0Ideal.main_arg11)
      ∧ r.2.mem ((c.tc : Thread Cert.RefFfn0Ideal.nD Cert.RefFfn0Ideal.τ).loc Cert.RefFfn0Ideal.main_arg12) = m ((c.tc : Thread Cert.RefFfn0Ideal.nD Cert.RefFfn0Ideal.τ).loc Cert.RefFfn0Ideal.main_arg12)
      ∧ r.2.mem ((c.tc : Thread Cert.RefFfn0Ideal.nD Cert.RefFfn0Ideal.τ).loc Cert.RefFfn0Ideal.main_arg13) = m ((c.tc : Thread Cert.RefFfn0Ideal.nD Cert.RefFfn0Ideal.τ).loc Cert.RefFfn0Ideal.main_arg13)
      ∧ r.2.mem ((c.tc : Thread Cert.RefFfn0Ideal.nD Cert.RefFfn0Ideal.τ).loc Cert.RefFfn0Ideal.main_arg14) = m ((c.tc : Thread Cert.RefFfn0Ideal.nD Cert.RefFfn0Ideal.τ).loc Cert.RefFfn0Ideal.main_arg14)
      ∧ r.2.mem ((c.tc : Thread Cert.RefFfn0Ideal.nD Cert.RefFfn0Ideal.τ).loc Cert.RefFfn0Ideal.main_arg15) = m ((c.tc : Thread Cert.RefFfn0Ideal.nD Cert.RefFfn0Ideal.τ).loc Cert.RefFfn0Ideal.main_arg15))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_finite2 [hInProjIdeal : Cert.InProjIdeal.Facts] [hPre_finite2 : Cert.Pre_finite2.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite2 m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_RefInProjIdeal [hRefInProjIdeal : Cert.RefInProjIdeal.Facts] : Prop :=
  ∀ (m : (ℓ : Loc Cert.RefInProjIdeal.nD Cert.RefInProjIdeal.τ Cert.RefInProjIdeal.sig) → Buf (Elt Ideal) ℓ) (g : Dev Cert.RefInProjIdeal.nD → PrngReg), Pre_RefInProjIdeal m →
    θ_run (Cert.RefInProjIdeal.defs (F := Ideal)) (onTc (τ := Cert.RefInProjIdeal.τ) (Cert.RefInProjIdeal.main (F := Ideal))) ⟨m, fun _ => 0, g⟩ (fun r => (∀ c : Dev Cert.RefInProjIdeal.nD,
      r.2.mem ((c.tc : Thread Cert.RefInProjIdeal.nD Cert.RefInProjIdeal.τ).loc Cert.RefInProjIdeal.main_arg0) = m ((c.tc : Thread Cert.RefInProjIdeal.nD Cert.RefInProjIdeal.τ).loc Cert.RefInProjIdeal.main_arg0)
      ∧ r.2.mem ((c.tc : Thread Cert.RefInProjIdeal.nD Cert.RefInProjIdeal.τ).loc Cert.RefInProjIdeal.main_arg1) = m ((c.tc : Thread Cert.RefInProjIdeal.nD Cert.RefInProjIdeal.τ).loc Cert.RefInProjIdeal.main_arg1)
      ∧ r.2.mem ((c.tc : Thread Cert.RefInProjIdeal.nD Cert.RefInProjIdeal.τ).loc Cert.RefInProjIdeal.main_arg2) = m ((c.tc : Thread Cert.RefInProjIdeal.nD Cert.RefInProjIdeal.τ).loc Cert.RefInProjIdeal.main_arg2)
      ∧ r.2.mem ((c.tc : Thread Cert.RefInProjIdeal.nD Cert.RefInProjIdeal.τ).loc Cert.RefInProjIdeal.main_arg3) = m ((c.tc : Thread Cert.RefInProjIdeal.nD Cert.RefInProjIdeal.τ).loc Cert.RefInProjIdeal.main_arg3)
      ∧ r.2.mem ((c.tc : Thread Cert.RefInProjIdeal.nD Cert.RefInProjIdeal.τ).loc Cert.RefInProjIdeal.main_arg4) = m ((c.tc : Thread Cert.RefInProjIdeal.nD Cert.RefInProjIdeal.τ).loc Cert.RefInProjIdeal.main_arg4))
      ∧ r.2.sem = fun _ => 0)

def quiescent_RefInProjIdeal_pre_finite2 [hRefInProjIdeal : Cert.RefInProjIdeal.Facts] [hPre_finite2 : Cert.Pre_finite2.Facts] : Prop :=
  ∀ (m : (ℓ : Loc Cert.RefInProjIdeal.nD Cert.RefInProjIdeal.τ Cert.RefInProjIdeal.sig) → Buf (Elt Ideal) ℓ) (g : Dev Cert.RefInProjIdeal.nD → PrngReg), Pre_RefInProjIdeal_finite2 m →
    θ_run (Cert.RefInProjIdeal.defs (F := Ideal)) (onTc (τ := Cert.RefInProjIdeal.τ) (Cert.RefInProjIdeal.main (F := Ideal))) ⟨m, fun _ => 0, g⟩ (fun r => (∀ c : Dev Cert.RefInProjIdeal.nD,
      r.2.mem ((c.tc : Thread Cert.RefInProjIdeal.nD Cert.RefInProjIdeal.τ).loc Cert.RefInProjIdeal.main_arg0) = m ((c.tc : Thread Cert.RefInProjIdeal.nD Cert.RefInProjIdeal.τ).loc Cert.RefInProjIdeal.main_arg0)
      ∧ r.2.mem ((c.tc : Thread Cert.RefInProjIdeal.nD Cert.RefInProjIdeal.τ).loc Cert.RefInProjIdeal.main_arg1) = m ((c.tc : Thread Cert.RefInProjIdeal.nD Cert.RefInProjIdeal.τ).loc Cert.RefInProjIdeal.main_arg1)
      ∧ r.2.mem ((c.tc : Thread Cert.RefInProjIdeal.nD Cert.RefInProjIdeal.τ).loc Cert.RefInProjIdeal.main_arg2) = m ((c.tc : Thread Cert.RefInProjIdeal.nD Cert.RefInProjIdeal.τ).loc Cert.RefInProjIdeal.main_arg2)
      ∧ r.2.mem ((c.tc : Thread Cert.RefInProjIdeal.nD Cert.RefInProjIdeal.τ).loc Cert.RefInProjIdeal.main_arg3) = m ((c.tc : Thread Cert.RefInProjIdeal.nD Cert.RefInProjIdeal.τ).loc Cert.RefInProjIdeal.main_arg3)
      ∧ r.2.mem ((c.tc : Thread Cert.RefInProjIdeal.nD Cert.RefInProjIdeal.τ).loc Cert.RefInProjIdeal.main_arg4) = m ((c.tc : Thread Cert.RefInProjIdeal.nD Cert.RefInProjIdeal.τ).loc Cert.RefInProjIdeal.main_arg4))
      ∧ r.2.sem = fun _ => 0)

def preserves_Kernel_KernelIdeal : Prop :=
  IdealRules.named_const.Statement Cert.KernelIdeal.κ "slope0" .f32 0x3F3504F3#32 (((Real.sqrt 2)⁻¹ : ℝ) : EReal)
  ∧ IdealRules.named_const.Statement Cert.KernelIdeal.κ "slope2" .f32 0x3EB504F3#32 (((Real.sqrt 8)⁻¹ : ℝ) : EReal)
  ∧ IdealRules.named_const.Statement Cert.KernelIdeal.κ "slope4" .f32 0x3E3504F3#32 (((Real.sqrt 32)⁻¹ : ℝ) : EReal)
  ∧ IdealRules.named_const.Statement Cert.KernelIdeal.κ "slope6" .f32 0x3DB504F3#32 (((Real.sqrt 128)⁻¹ : ℝ) : EReal)
  ∧ IdealRules.named_const.Statement Cert.KernelIdeal.κ "slope8" .f32 0x3D3504F3#32 (((Real.sqrt 512)⁻¹ : ℝ) : EReal)
  ∧ IdealRules.named_const.Statement Cert.KernelIdeal.κ "slope10" .f32 0x3CB504F3#32 (((Real.sqrt 2048)⁻¹ : ℝ) : EReal)
  ∧ IdealRules.named_const.Statement Cert.KernelIdeal.κ "slope12" .f32 0x3C3504F3#32 (((Real.sqrt 8192)⁻¹ : ℝ) : EReal)
  ∧ IdealRules.named_const.Statement Cert.KernelIdeal.κ "slope14" .f32 0x3BB504F3#32 (((Real.sqrt 32768)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn1_Ffn1Ideal : Prop :=
  True

def algebraic_Ffn1Ideal_RefFfn1Ideal_pre_finite1 [hFfn1Ideal : Cert.Ffn1Ideal.Facts] [hRefFfn1Ideal : Cert.RefFfn1Ideal.Facts] [hPre_finite1 : Cert.Pre_finite1.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.RefFfn1Ideal.nD Cert.RefFfn1Ideal.τ Cert.RefFfn1Ideal.sig) → Buf (Elt Ideal) ℓ) (g' : Dev Cert.RefFfn1Ideal.nD → PrngReg), Pre_Ffn1Ideal_finite1 m →
    (∀ c : Dev Cert.Ffn1Ideal.nD,
      m' ((c.tc : Thread Cert.RefFfn1Ideal.nD Cert.RefFfn1Ideal.τ).loc Cert.RefFfn1Ideal.main_arg0) = m ((c.tc : Thread Cert.Ffn1Ideal.nD Cert.Ffn1Ideal.τ).loc Cert.Ffn1Ideal.main_arg0)
      ∧ m' ((c.tc : Thread Cert.RefFfn1Ideal.nD Cert.RefFfn1Ideal.τ).loc Cert.RefFfn1Ideal.main_arg1) = m ((c.tc : Thread Cert.Ffn1Ideal.nD Cert.Ffn1Ideal.τ).loc Cert.Ffn1Ideal.main_arg1)
      ∧ m' ((c.tc : Thread Cert.RefFfn1Ideal.nD Cert.RefFfn1Ideal.τ).loc Cert.RefFfn1Ideal.main_arg2) = m ((c.tc : Thread Cert.Ffn1Ideal.nD Cert.Ffn1Ideal.τ).loc Cert.Ffn1Ideal.main_arg2)
      ∧ m' ((c.tc : Thread Cert.RefFfn1Ideal.nD Cert.RefFfn1Ideal.τ).loc Cert.RefFfn1Ideal.main_arg3) = m ((c.tc : Thread Cert.Ffn1Ideal.nD Cert.Ffn1Ideal.τ).loc Cert.Ffn1Ideal.main_arg3)
      ∧ m' ((c.tc : Thread Cert.RefFfn1Ideal.nD Cert.RefFfn1Ideal.τ).loc Cert.RefFfn1Ideal.main_arg4) = m ((c.tc : Thread Cert.Ffn1Ideal.nD Cert.Ffn1Ideal.τ).loc Cert.Ffn1Ideal.main_arg4)
      ∧ m' ((c.tc : Thread Cert.RefFfn1Ideal.nD Cert.RefFfn1Ideal.τ).loc Cert.RefFfn1Ideal.main_arg5) = m ((c.tc : Thread Cert.Ffn1Ideal.nD Cert.Ffn1Ideal.τ).loc Cert.Ffn1Ideal.main_arg5)
      ∧ m' ((c.tc : Thread Cert.RefFfn1Ideal.nD Cert.RefFfn1Ideal.τ).loc Cert.RefFfn1Ideal.main_arg6) = m ((c.tc : Thread Cert.Ffn1Ideal.nD Cert.Ffn1Ideal.τ).loc Cert.Ffn1Ideal.main_arg6)
      ∧ m' ((c.tc : Thread Cert.RefFfn1Ideal.nD Cert.RefFfn1Ideal.τ).loc Cert.RefFfn1Ideal.main_arg7) = m ((c.tc : Thread Cert.Ffn1Ideal.nD Cert.Ffn1Ideal.τ).loc Cert.Ffn1Ideal.main_arg7)
      ∧ m' ((c.tc : Thread Cert.RefFfn1Ideal.nD Cert.RefFfn1Ideal.τ).loc Cert.RefFfn1Ideal.main_arg8) = m ((c.tc : Thread Cert.Ffn1Ideal.nD Cert.Ffn1Ideal.τ).loc Cert.Ffn1Ideal.main_arg8)
      ∧ m' ((c.tc : Thread Cert.RefFfn1Ideal.nD Cert.RefFfn1Ideal.τ).loc Cert.RefFfn1Ideal.main_arg9) = m ((c.tc : Thread Cert.Ffn1Ideal.nD Cert.Ffn1Ideal.τ).loc Cert.Ffn1Ideal.main_arg9)) →
    ∃ (v0 : (c : Dev Cert.Ffn1Ideal.nD) → Buf (Elt Ideal) ((c.tc : Thread Cert.Ffn1Ideal.nD Cert.Ffn1Ideal.τ).loc Cert.Ffn1Ideal.main_v0)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v0) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
          ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
          ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
          ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8)
          ∧ r.2.mem ((c.tc : Thread Cert.Ffn1Ideal.nD Cert.Ffn1Ideal.τ).loc Cert.Ffn1Ideal.main_arg9) = m ((c.tc : Thread Cert.Ffn1Ideal.nD Cert.Ffn1Ideal.τ).loc Cert.Ffn1Ideal.main_arg9))
      ∧ θ_run (Cert.RefFfn1Ideal.defs (F := Ideal)) (onTc (τ := Cert.RefFfn1Ideal.τ) (Cert.RefFfn1Ideal.main (F := Ideal))) ⟨m', fun _ => 0, g'⟩ (fun r => ∀ c : Dev Cert.RefFfn1Ideal.nD,
          r.2.mem ((c.tc : Thread Cert.RefFfn1Ideal.nD Cert.RefFfn1Ideal.τ).loc Cert.RefFfn1Ideal.main_v73) = v0 c
          ∧ r.2.mem ((c.tc : Thread Cert.RefFfn1Ideal.nD Cert.RefFfn1Ideal.τ).loc Cert.RefFfn1Ideal.main_arg0) = m' ((c.tc : Thread Cert.RefFfn1Ideal.nD Cert.RefFfn1Ideal.τ).loc Cert.RefFfn1Ideal.main_arg0)
          ∧ r.2.mem ((c.tc : Thread Cert.RefFfn1Ideal.nD Cert.RefFfn1Ideal.τ).loc Cert.RefFfn1Ideal.main_arg1) = m' ((c.tc : Thread Cert.RefFfn1Ideal.nD Cert.RefFfn1Ideal.τ).loc Cert.RefFfn1Ideal.main_arg1)
          ∧ r.2.mem ((c.tc : Thread Cert.RefFfn1Ideal.nD Cert.RefFfn1Ideal.τ).loc Cert.RefFfn1Ideal.main_arg2) = m' ((c.tc : Thread Cert.RefFfn1Ideal.nD Cert.RefFfn1Ideal.τ).loc Cert.RefFfn1Ideal.main_arg2)
          ∧ r.2.mem ((c.tc : Thread Cert.RefFfn1Ideal.nD Cert.RefFfn1Ideal.τ).loc Cert.RefFfn1Ideal.main_arg3) = m' ((c.tc : Thread Cert.RefFfn1Ideal.nD Cert.RefFfn1Ideal.τ).loc Cert.RefFfn1Ideal.main_arg3)
          ∧ r.2.mem ((c.tc : Thread Cert.RefFfn1Ideal.nD Cert.RefFfn1Ideal.τ).loc Cert.RefFfn1Ideal.main_arg4) = m' ((c.tc : Thread Cert.RefFfn1Ideal.nD Cert.RefFfn1Ideal.τ).loc Cert.RefFfn1Ideal.main_arg4)
          ∧ r.2.mem ((c.tc : Thread Cert.RefFfn1Ideal.nD Cert.RefFfn1Ideal.τ).loc Cert.RefFfn1Ideal.main_arg5) = m' ((c.tc : Thread Cert.RefFfn1Ideal.nD Cert.RefFfn1Ideal.τ).loc Cert.RefFfn1Ideal.main_arg5)
          ∧ r.2.mem ((c.tc : Thread Cert.RefFfn1Ideal.nD Cert.RefFfn1Ideal.τ).loc Cert.RefFfn1Ideal.main_arg6) = m' ((c.tc : Thread Cert.RefFfn1Ideal.nD Cert.RefFfn1Ideal.τ).loc Cert.RefFfn1Ideal.main_arg6)
          ∧ r.2.mem ((c.tc : Thread Cert.RefFfn1Ideal.nD Cert.RefFfn1Ideal.τ).loc Cert.RefFfn1Ideal.main_arg7) = m' ((c.tc : Thread Cert.RefFfn1Ideal.nD Cert.RefFfn1Ideal.τ).loc Cert.RefFfn1Ideal.main_arg7)
          ∧ r.2.mem ((c.tc : Thread Cert.RefFfn1Ideal.nD Cert.RefFfn1Ideal.τ).loc Cert.RefFfn1Ideal.main_arg8) = m' ((c.tc : Thread Cert.RefFfn1Ideal.nD Cert.RefFfn1Ideal.τ).loc Cert.RefFfn1Ideal.main_arg8)
          ∧ r.2.mem ((c.tc : Thread Cert.RefFfn1Ideal.nD Cert.RefFfn1Ideal.τ).loc Cert.RefFfn1Ideal.main_arg9) = m' ((c.tc : Thread Cert.RefFfn1Ideal.nD Cert.RefFfn1Ideal.τ).loc Cert.RefFfn1Ideal.main_arg9))

def preserves_Ffn0_Ffn0Ideal : Prop :=
  True

def algebraic_Ffn0Ideal_RefFfn0Ideal_pre_finite0 [hFfn0Ideal : Cert.Ffn0Ideal.Facts] [hRefFfn0Ideal : Cert.RefFfn0Ideal.Facts] [hPre_finite0 : Cert.Pre_finite0.Facts] : Prop :=
  ∀ (m : (ℓ : Loc Cert.Ffn0Ideal.nD Cert.Ffn0Ideal.τ Cert.Ffn0Ideal.sig) → Buf (Elt Ideal) ℓ) (g : Dev Cert.Ffn0Ideal.nD → PrngReg)
    (m' : (ℓ : Loc Cert.RefFfn0Ideal.nD Cert.RefFfn0Ideal.τ Cert.RefFfn0Ideal.sig) → Buf (Elt Ideal) ℓ) (g' : Dev Cert.RefFfn0Ideal.nD → PrngReg), Pre_Ffn0Ideal_finite0 m →
    (∀ c : Dev Cert.Ffn0Ideal.nD,
      m' ((c.tc : Thread Cert.RefFfn0Ideal.nD Cert.RefFfn0Ideal.τ).loc Cert.RefFfn0Ideal.main_arg0) = m ((c.tc : Thread Cert.Ffn0Ideal.nD Cert.Ffn0Ideal.τ).loc Cert.Ffn0Ideal.main_arg0)
      ∧ m' ((c.tc : Thread Cert.RefFfn0Ideal.nD Cert.RefFfn0Ideal.τ).loc Cert.RefFfn0Ideal.main_arg1) = m ((c.tc : Thread Cert.Ffn0Ideal.nD Cert.Ffn0Ideal.τ).loc Cert.Ffn0Ideal.main_arg1)
      ∧ m' ((c.tc : Thread Cert.RefFfn0Ideal.nD Cert.RefFfn0Ideal.τ).loc Cert.RefFfn0Ideal.main_arg2) = m ((c.tc : Thread Cert.Ffn0Ideal.nD Cert.Ffn0Ideal.τ).loc Cert.Ffn0Ideal.main_arg2)
      ∧ m' ((c.tc : Thread Cert.RefFfn0Ideal.nD Cert.RefFfn0Ideal.τ).loc Cert.RefFfn0Ideal.main_arg3) = m ((c.tc : Thread Cert.Ffn0Ideal.nD Cert.Ffn0Ideal.τ).loc Cert.Ffn0Ideal.main_arg3)
      ∧ m' ((c.tc : Thread Cert.RefFfn0Ideal.nD Cert.RefFfn0Ideal.τ).loc Cert.RefFfn0Ideal.main_arg4) = m ((c.tc : Thread Cert.Ffn0Ideal.nD Cert.Ffn0Ideal.τ).loc Cert.Ffn0Ideal.main_arg4)
      ∧ m' ((c.tc : Thread Cert.RefFfn0Ideal.nD Cert.RefFfn0Ideal.τ).loc Cert.RefFfn0Ideal.main_arg5) = m ((c.tc : Thread Cert.Ffn0Ideal.nD Cert.Ffn0Ideal.τ).loc Cert.Ffn0Ideal.main_arg5)
      ∧ m' ((c.tc : Thread Cert.RefFfn0Ideal.nD Cert.RefFfn0Ideal.τ).loc Cert.RefFfn0Ideal.main_arg6) = m ((c.tc : Thread Cert.Ffn0Ideal.nD Cert.Ffn0Ideal.τ).loc Cert.Ffn0Ideal.main_arg6)
      ∧ m' ((c.tc : Thread Cert.RefFfn0Ideal.nD Cert.RefFfn0Ideal.τ).loc Cert.RefFfn0Ideal.main_arg7) = m ((c.tc : Thread Cert.Ffn0Ideal.nD Cert.Ffn0Ideal.τ).loc Cert.Ffn0Ideal.main_arg7)
      ∧ m' ((c.tc : Thread Cert.RefFfn0Ideal.nD Cert.RefFfn0Ideal.τ).loc Cert.RefFfn0Ideal.main_arg8) = m ((c.tc : Thread Cert.Ffn0Ideal.nD Cert.Ffn0Ideal.τ).loc Cert.Ffn0Ideal.main_arg8)
      ∧ m' ((c.tc : Thread Cert.RefFfn0Ideal.nD Cert.RefFfn0Ideal.τ).loc Cert.RefFfn0Ideal.main_arg9) = m ((c.tc : Thread Cert.Ffn0Ideal.nD Cert.Ffn0Ideal.τ).loc Cert.Ffn0Ideal.main_arg9)
      ∧ m' ((c.tc : Thread Cert.RefFfn0Ideal.nD Cert.RefFfn0Ideal.τ).loc Cert.RefFfn0Ideal.main_arg10) = m ((c.tc : Thread Cert.Ffn0Ideal.nD Cert.Ffn0Ideal.τ).loc Cert.Ffn0Ideal.main_arg10)
      ∧ m' ((c.tc : Thread Cert.RefFfn0Ideal.nD Cert.RefFfn0Ideal.τ).loc Cert.RefFfn0Ideal.main_arg11) = m ((c.tc : Thread Cert.Ffn0Ideal.nD Cert.Ffn0Ideal.τ).loc Cert.Ffn0Ideal.main_arg11)
      ∧ m' ((c.tc : Thread Cert.RefFfn0Ideal.nD Cert.RefFfn0Ideal.τ).loc Cert.RefFfn0Ideal.main_arg12) = m ((c.tc : Thread Cert.Ffn0Ideal.nD Cert.Ffn0Ideal.τ).loc Cert.Ffn0Ideal.main_arg12)
      ∧ m' ((c.tc : Thread Cert.RefFfn0Ideal.nD Cert.RefFfn0Ideal.τ).loc Cert.RefFfn0Ideal.main_arg13) = m ((c.tc : Thread Cert.Ffn0Ideal.nD Cert.Ffn0Ideal.τ).loc Cert.Ffn0Ideal.main_arg13)
      ∧ m' ((c.tc : Thread Cert.RefFfn0Ideal.nD Cert.RefFfn0Ideal.τ).loc Cert.RefFfn0Ideal.main_arg14) = m ((c.tc : Thread Cert.Ffn0Ideal.nD Cert.Ffn0Ideal.τ).loc Cert.Ffn0Ideal.main_arg14)
      ∧ m' ((c.tc : Thread Cert.RefFfn0Ideal.nD Cert.RefFfn0Ideal.τ).loc Cert.RefFfn0Ideal.main_arg15) = m ((c.tc : Thread Cert.Ffn0Ideal.nD Cert.Ffn0Ideal.τ).loc Cert.Ffn0Ideal.main_arg15)) →
    ∃ (v0 : (c : Dev Cert.Ffn0Ideal.nD) → Buf (Elt Ideal) ((c.tc : Thread Cert.Ffn0Ideal.nD Cert.Ffn0Ideal.τ).loc Cert.Ffn0Ideal.main_v0_0)) (v1 : (c : Dev Cert.Ffn0Ideal.nD) → Buf (Elt Ideal) ((c.tc : Thread Cert.Ffn0Ideal.nD Cert.Ffn0Ideal.τ).loc Cert.Ffn0Ideal.main_v0_1)) (v2 : (c : Dev Cert.Ffn0Ideal.nD) → Buf (Elt Ideal) ((c.tc : Thread Cert.Ffn0Ideal.nD Cert.Ffn0Ideal.τ).loc Cert.Ffn0Ideal.main_v0_2)),
      θ_run (Cert.Ffn0Ideal.defs (F := Ideal)) (onTc (τ := Cert.Ffn0Ideal.τ) (Cert.Ffn0Ideal.main (F := Ideal))) ⟨m, fun _ => 0, g⟩ (fun r => ∀ c : Dev Cert.Ffn0Ideal.nD,
          r.2.mem ((c.tc : Thread Cert.Ffn0Ideal.nD Cert.Ffn0Ideal.τ).loc Cert.Ffn0Ideal.main_v0_0) = v0 c
          ∧ r.2.mem ((c.tc : Thread Cert.Ffn0Ideal.nD Cert.Ffn0Ideal.τ).loc Cert.Ffn0Ideal.main_v0_1) = v1 c
          ∧ r.2.mem ((c.tc : Thread Cert.Ffn0Ideal.nD Cert.Ffn0Ideal.τ).loc Cert.Ffn0Ideal.main_v0_2) = v2 c
          ∧ r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
          ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
          ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
          ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
          ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
          ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5)
          ∧ r.2.mem ((c.tc : Thread Cert.Ffn0Ideal.nD Cert.Ffn0Ideal.τ).loc Cert.Ffn0Ideal.main_arg6) = m ((c.tc : Thread Cert.Ffn0Ideal.nD Cert.Ffn0Ideal.τ).loc Cert.Ffn0Ideal.main_arg6)
          ∧ r.2.mem ((c.tc : Thread Cert.Ffn0Ideal.nD Cert.Ffn0Ideal.τ).loc Cert.Ffn0Ideal.main_arg7) = m ((c.tc : Thread Cert.Ffn0Ideal.nD Cert.Ffn0Ideal.τ).loc Cert.Ffn0Ideal.main_arg7)
          ∧ r.2.mem ((c.tc : Thread Cert.Ffn0Ideal.nD Cert.Ffn0Ideal.τ).loc Cert.Ffn0Ideal.main_arg8) = m ((c.tc : Thread Cert.Ffn0Ideal.nD Cert.Ffn0Ideal.τ).loc Cert.Ffn0Ideal.main_arg8)
          ∧ r.2.mem ((c.tc : Thread Cert.Ffn0Ideal.nD Cert.Ffn0Ideal.τ).loc Cert.Ffn0Ideal.main_arg9) = m ((c.tc : Thread Cert.Ffn0Ideal.nD Cert.Ffn0Ideal.τ).loc Cert.Ffn0Ideal.main_arg9)
          ∧ r.2.mem ((c.tc : Thread Cert.Ffn0Ideal.nD Cert.Ffn0Ideal.τ).loc Cert.Ffn0Ideal.main_arg10) = m ((c.tc : Thread Cert.Ffn0Ideal.nD Cert.Ffn0Ideal.τ).loc Cert.Ffn0Ideal.main_arg10)
          ∧ r.2.mem ((c.tc : Thread Cert.Ffn0Ideal.nD Cert.Ffn0Ideal.τ).loc Cert.Ffn0Ideal.main_arg11) = m ((c.tc : Thread Cert.Ffn0Ideal.nD Cert.Ffn0Ideal.τ).loc Cert.Ffn0Ideal.main_arg11)
          ∧ r.2.mem ((c.tc : Thread Cert.Ffn0Ideal.nD Cert.Ffn0Ideal.τ).loc Cert.Ffn0Ideal.main_arg12) = m ((c.tc : Thread Cert.Ffn0Ideal.nD Cert.Ffn0Ideal.τ).loc Cert.Ffn0Ideal.main_arg12)
          ∧ r.2.mem ((c.tc : Thread Cert.Ffn0Ideal.nD Cert.Ffn0Ideal.τ).loc Cert.Ffn0Ideal.main_arg13) = m ((c.tc : Thread Cert.Ffn0Ideal.nD Cert.Ffn0Ideal.τ).loc Cert.Ffn0Ideal.main_arg13)
          ∧ r.2.mem ((c.tc : Thread Cert.Ffn0Ideal.nD Cert.Ffn0Ideal.τ).loc Cert.Ffn0Ideal.main_arg14) = m ((c.tc : Thread Cert.Ffn0Ideal.nD Cert.Ffn0Ideal.τ).loc Cert.Ffn0Ideal.main_arg14)
          ∧ r.2.mem ((c.tc : Thread Cert.Ffn0Ideal.nD Cert.Ffn0Ideal.τ).loc Cert.Ffn0Ideal.main_arg15) = m ((c.tc : Thread Cert.Ffn0Ideal.nD Cert.Ffn0Ideal.τ).loc Cert.Ffn0Ideal.main_arg15))
      ∧ θ_run (Cert.RefFfn0Ideal.defs (F := Ideal)) (onTc (τ := Cert.RefFfn0Ideal.τ) (Cert.RefFfn0Ideal.main (F := Ideal))) ⟨m', fun _ => 0, g'⟩ (fun r => ∀ c : Dev Cert.RefFfn0Ideal.nD,
          r.2.mem ((c.tc : Thread Cert.RefFfn0Ideal.nD Cert.RefFfn0Ideal.τ).loc Cert.RefFfn0Ideal.main_v100) = v0 c
          ∧ r.2.mem ((c.tc : Thread Cert.RefFfn0Ideal.nD Cert.RefFfn0Ideal.τ).loc Cert.RefFfn0Ideal.main_v101) = v1 c
          ∧ r.2.mem ((c.tc : Thread Cert.RefFfn0Ideal.nD Cert.RefFfn0Ideal.τ).loc Cert.RefFfn0Ideal.main_v102) = v2 c
          ∧ r.2.mem ((c.tc : Thread Cert.RefFfn0Ideal.nD Cert.RefFfn0Ideal.τ).loc Cert.RefFfn0Ideal.main_arg0) = m' ((c.tc : Thread Cert.RefFfn0Ideal.nD Cert.RefFfn0Ideal.τ).loc Cert.RefFfn0Ideal.main_arg0)
          ∧ r.2.mem ((c.tc : Thread Cert.RefFfn0Ideal.nD Cert.RefFfn0Ideal.τ).loc Cert.RefFfn0Ideal.main_arg1) = m' ((c.tc : Thread Cert.RefFfn0Ideal.nD Cert.RefFfn0Ideal.τ).loc Cert.RefFfn0Ideal.main_arg1)
          ∧ r.2.mem ((c.tc : Thread Cert.RefFfn0Ideal.nD Cert.RefFfn0Ideal.τ).loc Cert.RefFfn0Ideal.main_arg2) = m' ((c.tc : Thread Cert.RefFfn0Ideal.nD Cert.RefFfn0Ideal.τ).loc Cert.RefFfn0Ideal.main_arg2)
          ∧ r.2.mem ((c.tc : Thread Cert.RefFfn0Ideal.nD Cert.RefFfn0Ideal.τ).loc Cert.RefFfn0Ideal.main_arg3) = m' ((c.tc : Thread Cert.RefFfn0Ideal.nD Cert.RefFfn0Ideal.τ).loc Cert.RefFfn0Ideal.main_arg3)
          ∧ r.2.mem ((c.tc : Thread Cert.RefFfn0Ideal.nD Cert.RefFfn0Ideal.τ).loc Cert.RefFfn0Ideal.main_arg4) = m' ((c.tc : Thread Cert.RefFfn0Ideal.nD Cert.RefFfn0Ideal.τ).loc Cert.RefFfn0Ideal.main_arg4)
          ∧ r.2.mem ((c.tc : Thread Cert.RefFfn0Ideal.nD Cert.RefFfn0Ideal.τ).loc Cert.RefFfn0Ideal.main_arg5) = m' ((c.tc : Thread Cert.RefFfn0Ideal.nD Cert.RefFfn0Ideal.τ).loc Cert.RefFfn0Ideal.main_arg5)
          ∧ r.2.mem ((c.tc : Thread Cert.RefFfn0Ideal.nD Cert.RefFfn0Ideal.τ).loc Cert.RefFfn0Ideal.main_arg6) = m' ((c.tc : Thread Cert.RefFfn0Ideal.nD Cert.RefFfn0Ideal.τ).loc Cert.RefFfn0Ideal.main_arg6)
          ∧ r.2.mem ((c.tc : Thread Cert.RefFfn0Ideal.nD Cert.RefFfn0Ideal.τ).loc Cert.RefFfn0Ideal.main_arg7) = m' ((c.tc : Thread Cert.RefFfn0Ideal.nD Cert.RefFfn0Ideal.τ).loc Cert.RefFfn0Ideal.main_arg7)
          ∧ r.2.mem ((c.tc : Thread Cert.RefFfn0Ideal.nD Cert.RefFfn0Ideal.τ).loc Cert.RefFfn0Ideal.main_arg8) = m' ((c.tc : Thread Cert.RefFfn0Ideal.nD Cert.RefFfn0Ideal.τ).loc Cert.RefFfn0Ideal.main_arg8)
          ∧ r.2.mem ((c.tc : Thread Cert.RefFfn0Ideal.nD Cert.RefFfn0Ideal.τ).loc Cert.RefFfn0Ideal.main_arg9) = m' ((c.tc : Thread Cert.RefFfn0Ideal.nD Cert.RefFfn0Ideal.τ).loc Cert.RefFfn0Ideal.main_arg9)
          ∧ r.2.mem ((c.tc : Thread Cert.RefFfn0Ideal.nD Cert.RefFfn0Ideal.τ).loc Cert.RefFfn0Ideal.main_arg10) = m' ((c.tc : Thread Cert.RefFfn0Ideal.nD Cert.RefFfn0Ideal.τ).loc Cert.RefFfn0Ideal.main_arg10)
          ∧ r.2.mem ((c.tc : Thread Cert.RefFfn0Ideal.nD Cert.RefFfn0Ideal.τ).loc Cert.RefFfn0Ideal.main_arg11) = m' ((c.tc : Thread Cert.RefFfn0Ideal.nD Cert.RefFfn0Ideal.τ).loc Cert.RefFfn0Ideal.main_arg11)
          ∧ r.2.mem ((c.tc : Thread Cert.RefFfn0Ideal.nD Cert.RefFfn0Ideal.τ).loc Cert.RefFfn0Ideal.main_arg12) = m' ((c.tc : Thread Cert.RefFfn0Ideal.nD Cert.RefFfn0Ideal.τ).loc Cert.RefFfn0Ideal.main_arg12)
          ∧ r.2.mem ((c.tc : Thread Cert.RefFfn0Ideal.nD Cert.RefFfn0Ideal.τ).loc Cert.RefFfn0Ideal.main_arg13) = m' ((c.tc : Thread Cert.RefFfn0Ideal.nD Cert.RefFfn0Ideal.τ).loc Cert.RefFfn0Ideal.main_arg13)
          ∧ r.2.mem ((c.tc : Thread Cert.RefFfn0Ideal.nD Cert.RefFfn0Ideal.τ).loc Cert.RefFfn0Ideal.main_arg14) = m' ((c.tc : Thread Cert.RefFfn0Ideal.nD Cert.RefFfn0Ideal.τ).loc Cert.RefFfn0Ideal.main_arg14)
          ∧ r.2.mem ((c.tc : Thread Cert.RefFfn0Ideal.nD Cert.RefFfn0Ideal.τ).loc Cert.RefFfn0Ideal.main_arg15) = m' ((c.tc : Thread Cert.RefFfn0Ideal.nD Cert.RefFfn0Ideal.τ).loc Cert.RefFfn0Ideal.main_arg15))

def preserves_InProj_InProjIdeal : Prop :=
  True

def algebraic_InProjIdeal_RefInProjIdeal_pre_finite2 [hInProjIdeal : Cert.InProjIdeal.Facts] [hRefInProjIdeal : Cert.RefInProjIdeal.Facts] [hPre_finite2 : Cert.Pre_finite2.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInProjIdeal.nD Cert.RefInProjIdeal.τ Cert.RefInProjIdeal.sig) → Buf (Elt Ideal) ℓ) (g' : Dev Cert.RefInProjIdeal.nD → PrngReg), Pre_InProjIdeal_finite2 m →
    (∀ c : Dev Cert.InProjIdeal.nD,
      m' ((c.tc : Thread Cert.RefInProjIdeal.nD Cert.RefInProjIdeal.τ).loc Cert.RefInProjIdeal.main_arg0) = m ((c.tc : Thread Cert.InProjIdeal.nD Cert.InProjIdeal.τ).loc Cert.InProjIdeal.main_arg0)
      ∧ m' ((c.tc : Thread Cert.RefInProjIdeal.nD Cert.RefInProjIdeal.τ).loc Cert.RefInProjIdeal.main_arg1) = m ((c.tc : Thread Cert.InProjIdeal.nD Cert.InProjIdeal.τ).loc Cert.InProjIdeal.main_arg1)
      ∧ m' ((c.tc : Thread Cert.RefInProjIdeal.nD Cert.RefInProjIdeal.τ).loc Cert.RefInProjIdeal.main_arg2) = m ((c.tc : Thread Cert.InProjIdeal.nD Cert.InProjIdeal.τ).loc Cert.InProjIdeal.main_arg2)
      ∧ m' ((c.tc : Thread Cert.RefInProjIdeal.nD Cert.RefInProjIdeal.τ).loc Cert.RefInProjIdeal.main_arg3) = m ((c.tc : Thread Cert.InProjIdeal.nD Cert.InProjIdeal.τ).loc Cert.InProjIdeal.main_arg3)
      ∧ m' ((c.tc : Thread Cert.RefInProjIdeal.nD Cert.RefInProjIdeal.τ).loc Cert.RefInProjIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.RefInProjIdeal.defs (F := Ideal)) (onTc (τ := Cert.RefInProjIdeal.τ) (Cert.RefInProjIdeal.main (F := Ideal))) ⟨m', fun _ => 0, g'⟩ (fun r => ∀ c : Dev Cert.RefInProjIdeal.nD,
          r.2.mem ((c.tc : Thread Cert.RefInProjIdeal.nD Cert.RefInProjIdeal.τ).loc Cert.RefInProjIdeal.main_v77) = v0 c
          ∧ r.2.mem ((c.tc : Thread Cert.RefInProjIdeal.nD Cert.RefInProjIdeal.τ).loc Cert.RefInProjIdeal.main_v80) = v1 c
          ∧ r.2.mem ((c.tc : Thread Cert.RefInProjIdeal.nD Cert.RefInProjIdeal.τ).loc Cert.RefInProjIdeal.main_v83) = v2 c
          ∧ r.2.mem ((c.tc : Thread Cert.RefInProjIdeal.nD Cert.RefInProjIdeal.τ).loc Cert.RefInProjIdeal.main_v86) = v3 c
          ∧ r.2.mem ((c.tc : Thread Cert.RefInProjIdeal.nD Cert.RefInProjIdeal.τ).loc Cert.RefInProjIdeal.main_v89) = v4 c
          ∧ r.2.mem ((c.tc : Thread Cert.RefInProjIdeal.nD Cert.RefInProjIdeal.τ).loc Cert.RefInProjIdeal.main_arg0) = m' ((c.tc : Thread Cert.RefInProjIdeal.nD Cert.RefInProjIdeal.τ).loc Cert.RefInProjIdeal.main_arg0)
          ∧ r.2.mem ((c.tc : Thread Cert.RefInProjIdeal.nD Cert.RefInProjIdeal.τ).loc Cert.RefInProjIdeal.main_arg1) = m' ((c.tc : Thread Cert.RefInProjIdeal.nD Cert.RefInProjIdeal.τ).loc Cert.RefInProjIdeal.main_arg1)
          ∧ r.2.mem ((c.tc : Thread Cert.RefInProjIdeal.nD Cert.RefInProjIdeal.τ).loc Cert.RefInProjIdeal.main_arg2) = m' ((c.tc : Thread Cert.RefInProjIdeal.nD Cert.RefInProjIdeal.τ).loc Cert.RefInProjIdeal.main_arg2)
          ∧ r.2.mem ((c.tc : Thread Cert.RefInProjIdeal.nD Cert.RefInProjIdeal.τ).loc Cert.RefInProjIdeal.main_arg3) = m' ((c.tc : Thread Cert.RefInProjIdeal.nD Cert.RefInProjIdeal.τ).loc Cert.RefInProjIdeal.main_arg3)
          ∧ r.2.mem ((c.tc : Thread Cert.RefInProjIdeal.nD Cert.RefInProjIdeal.τ).loc Cert.RefInProjIdeal.main_arg4) = m' ((c.tc : Thread Cert.RefInProjIdeal.nD Cert.RefInProjIdeal.τ).loc Cert.RefInProjIdeal.main_arg4))

def Claim : Prop :=
  ∃ (hKernel : Cert.Kernel.Facts) (hKernelIdeal : Cert.KernelIdeal.Facts) (hReferenceIdeal : Cert.ReferenceIdeal.Facts) (hFfn1 : Cert.Ffn1.Facts) (hFfn1Ideal : Cert.Ffn1Ideal.Facts) (hRefFfn1Ideal : Cert.RefFfn1Ideal.Facts) (hFfn0 : Cert.Ffn0.Facts) (hFfn0Ideal : Cert.Ffn0Ideal.Facts) (hRefFfn0Ideal : Cert.RefFfn0Ideal.Facts) (hInProj : Cert.InProj.Facts) (hInProjIdeal : Cert.InProjIdeal.Facts) (hRefInProjIdeal : Cert.RefInProjIdeal.Facts) (hPre_finite : Cert.Pre_finite.Facts) (hPre_finite1 : Cert.Pre_finite1.Facts) (hPre_finite0 : Cert.Pre_finite0.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn1 (hFfn1 := hFfn1)
    ∧ quiescent_Ffn1Ideal (hFfn1Ideal := hFfn1Ideal)
    ∧ quiescent_Ffn1Ideal_pre_finite1 (hFfn1Ideal := hFfn1Ideal) (hPre_finite1 := hPre_finite1)
    ∧ quiescent_RefFfn1Ideal (hRefFfn1Ideal := hRefFfn1Ideal)
    ∧ quiescent_RefFfn1Ideal_pre_finite1 (hRefFfn1Ideal := hRefFfn1Ideal) (hPre_finite1 := hPre_finite1)
    ∧ quiescent_Ffn0 (hFfn0 := hFfn0)
    ∧ quiescent_Ffn0Ideal (hFfn0Ideal := hFfn0Ideal)
    ∧ quiescent_Ffn0Ideal_pre_finite0 (hFfn0Ideal := hFfn0Ideal) (hPre_finite0 := hPre_finite0)
    ∧ quiescent_RefFfn0Ideal (hRefFfn0Ideal := hRefFfn0Ideal)
    ∧ quiescent_RefFfn0Ideal_pre_finite0 (hRefFfn0Ideal := hRefFfn0Ideal) (hPre_finite0 := hPre_finite0)
    ∧ quiescent_InProj (hInProj := hInProj)
    ∧ quiescent_InProjIdeal (hInProjIdeal := hInProjIdeal)
    ∧ quiescent_InProjIdeal_pre_finite2 (hInProjIdeal := hInProjIdeal) (hPre_finite2 := hPre_finite2)
    ∧ quiescent_RefInProjIdeal (hRefInProjIdeal := hRefInProjIdeal)
    ∧ quiescent_RefInProjIdeal_pre_finite2 (hRefInProjIdeal := hRefInProjIdeal) (hPre_finite2 := hPre_finite2)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn1_Ffn1Ideal
    ∧ algebraic_Ffn1Ideal_RefFfn1Ideal_pre_finite1 (hFfn1Ideal := hFfn1Ideal) (hRefFfn1Ideal := hRefFfn1Ideal) (hPre_finite1 := hPre_finite1)
    ∧ preserves_Ffn0_Ffn0Ideal
    ∧ algebraic_Ffn0Ideal_RefFfn0Ideal_pre_finite0 (hFfn0Ideal := hFfn0Ideal) (hRefFfn0Ideal := hRefFfn0Ideal) (hPre_finite0 := hPre_finite0)
    ∧ preserves_InProj_InProjIdeal
    ∧ algebraic_InProjIdeal_RefInProjIdeal_pre_finite2 (hInProjIdeal := hInProjIdeal) (hRefInProjIdeal := hRefInProjIdeal) (hPre_finite2 := hPre_finite2)
-- ==== Pre_finite.lean ====
abbrev S32768x1024 : Shape := ⟨2, ![32768, 1024]⟩
abbrev S32768x512 : Shape := ⟨2, ![32768, 512]⟩
abbrev S16 : Shape := ⟨1, ![16]⟩
abbrev S_ : Shape := ⟨0, ![]⟩
abbrev S32768x256 : Shape := ⟨2, ![32768, 256]⟩

class Facts : Prop where
  bitsLt_bf16_f32 : FTy.bits .bf16 < FTy.bits .f32
  bcast_S_S32768x1024 : S_.BroadcastsInDim S32768x1024 (![] : Fin 0 → Fin S32768x1024.rank)
  slices_S32768x512_S32768x256_0_0 : S32768x512.Slices ![0, 0] S32768x256
  bcast_S_S32768x256 : S_.BroadcastsInDim S32768x256 (![] : Fin 0 → Fin S32768x256.rank)
  bcast_S_S16 : S_.BroadcastsInDim S16 (![] : Fin 0 → Fin S16.rank)

variable [Facts]

def fn {F : FTy → Type} [FloatOps F] (main_arg0 : FVec F S32768x1024 .bf16) (main_arg1 : FVec F S32768x512 .bf16) (main_arg2 : FVec F S16 .f32) : IVec S32768x1024 1 × IVec S32768x256 1 × IVec S16 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S32768x256 .bf16 := (extractStridedSlice S32768x256 ![0, 0] · slices_S32768x512_S32768x256_0_0) main_arg1
  let main_v5 : FVec F S32768x256 .f32 := (extf .f32 · bitsLt_bf16_f32) main_v4
  let main_v6 : FVec F S32768x256 .f32 := Host.absf main_v5
  let main_cst_0 : FVec F S_ .f32 := constant S_ .f32 0x7F800000#32
  let main_v7 : FVec F S32768x256 .f32 := broadcastInDim S32768x256 ![] bcast_S_S32768x256 main_cst_0
  let main_v8 : IVec S32768x256 1 := cmpf .olt main_v6 main_v7
  let main_v9 : FVec F S16 .f32 := Host.absf main_arg2
  let main_cst_1 : FVec F S_ .f32 := constant S_ .f32 0x7F800000#32
  let main_v10 : FVec F S16 .f32 := broadcastInDim S16 ![] bcast_S_S16 main_cst_1
  let main_v11 : IVec S16 1 := cmpf .olt main_v9 main_v10
  (main_v3, main_v8, main_v11)
-- ==== Pre_finite0.lean ====
abbrev S32768x1024 : Shape := ⟨2, ![32768, 1024]⟩
abbrev S1024x1024 : Shape := ⟨2, ![1024, 1024]⟩
abbrev S1x1024 : Shape := ⟨2, ![1, 1024]⟩
abbrev S2x1024x5632 : Shape := ⟨3, ![2, 1024, 5632]⟩
abbrev S3x5632 : Shape := ⟨2, ![3, 5632]⟩
abbrev S1x5632 : Shape := ⟨2, ![1, 5632]⟩
abbrev S2x2816x1024 : Shape := ⟨3, ![2, 2816, 1024]⟩
abbrev S1024x512 : Shape := ⟨2, ![1024, 512]⟩
abbrev S1x512 : Shape := ⟨2, ![1, 512]⟩
abbrev S1x1024x2816 : Shape := ⟨3, ![1, 1024, 2816]⟩
abbrev S1024x2816 : Shape := ⟨2, ![1024, 2816]⟩
abbrev S3x2816 : Shape := ⟨2, ![3, 2816]⟩
abbrev S1x2816 : Shape := ⟨2, ![1, 2816]⟩
abbrev S_ : Shape := ⟨0, ![]⟩

class Facts : Prop where
  slices_S2x1024x5632_S1x1024x2816_0_0_0 : S2x1024x5632.Slices ![0, 0, 0] S1x1024x2816
  shapeCasts_S1x1024x2816_S1024x2816 : S1x1024x2816.ShapeCasts S1024x2816
  slices_S3x5632_S3x2816_0_0 : S3x5632.Slices ![0, 0] S3x2816
  slices_S1x5632_S1x2816_0_0 : S1x5632.Slices ![0, 0] S1x2816
  bcast_S_S32768x1024 : S_.BroadcastsInDim S32768x1024 (![] : Fin 0 → Fin S32768x1024.rank)
  bitsLt_bf16_f32 : FTy.bits .bf16 < FTy.bits .f32
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S3x2816 : S_.BroadcastsInDim S3x2816 (![] : Fin 0 → Fin S3x2816.rank)
  bcast_S_S1x2816 : S_.BroadcastsInDim S1x2816 (![] : Fin 0 → Fin S1x2816.rank)

variable [Facts]

def fn_part1 {F : FTy → Type} [FloatOps F] (main_v1 : FVec F S1024x2816 .bf16) (main_v2 : FVec F S3x2816 .f32) (main_v3 : FVec F S1x2816 .f32) (main_v6 : IVec S32768x1024 1) (main_v10 : IVec S32768x1024 1) (main_v14 : IVec S1024x1024 1) (main_v17 : IVec S1x1024 1) (main_v18 : FVec F S1x1024 .f32) (main_cst_3 : FVec F S_ .f32) : IVec S32768x1024 1 × IVec S32768x1024 1 × IVec S1024x1024 1 × IVec S1x1024 1 × IVec S1x1024 1 × IVec S1024x2816 1 × IVec S3x2816 1 × IVec S1x2816 1 :=
  let main_v19 : FVec F S1x1024 .f32 := broadcastInDim S1x1024 ![] bcast_S_S1x1024 main_cst_3
  let main_v20 : IVec S1x1024 1 := cmpf .olt main_v18 main_v19
  let main_v21 : FVec F S1024x2816 .f32 := (extf .f32 · bitsLt_bf16_f32) main_v1
  let main_v22 : FVec F S1024x2816 .f32 := Host.absf main_v21
  let main_cst_4 : FVec F S_ .f32 := constant S_ .f32 0x7F800000#32
  let main_v23 : FVec F S1024x2816 .f32 := broadcastInDim S1024x2816 ![] bcast_S_S1024x2816 main_cst_4
  let main_v24 : IVec S1024x2816 1 := cmpf .olt main_v22 main_v23
  let main_v25 : FVec F S3x2816 .f32 := Host.absf main_v2
  let main_cst_5 : FVec F S_ .f32 := constant S_ .f32 0x7F800000#32
  let main_v26 : FVec F S3x2816 .f32 := broadcastInDim S3x2816 ![] bcast_S_S3x2816 main_cst_5
  let main_v27 : IVec S3x2816 1 := cmpf .olt main_v25 main_v26
  let main_v28 : FVec F S1x2816 .f32 := Host.absf main_v3
  let main_cst_6 : FVec F S_ .f32 := constant S_ .f32 0x7F800000#32
  let main_v29 : FVec F S1x2816 .f32 := broadcastInDim S1x2816 ![] bcast_S_S1x2816 main_cst_6
  let main_v30 : IVec S1x2816 1 := cmpf .olt main_v28 main_v29
  (main_v6, main_v10, main_v14, main_v17, main_v20, main_v24, main_v27, main_v30)

def fn {F : FTy → Type} [FloatOps F] (main_arg0 : FVec F S32768x1024 .f32) (main_arg1 : FVec F S32768x1024 .bf16) (main_arg2 : FVec F S1024x1024 .bf16) (main_arg3 : FVec F S1x1024 .f32) (main_arg4 : FVec F S1x1024 .f32) (main_arg5 : FVec F S2x1024x5632 .bf16) (main_arg6 : FVec F S3x5632 .f32) (main_arg7 : FVec F S1x5632 .f32) (main_arg8 : FVec F S2x2816x1024 .bf16) (main_arg9 : FVec F S1x1024 .f32) (main_arg10 : FVec F S1x1024 .f32) (main_arg11 : FVec F S1024x512 .bf16) (main_arg12 : FVec F S1x512 .f32) (main_arg13 : FVec F S1x1024 .f32) (main_arg14 : FVec F S1024x1024 .bf16) (main_arg15 : FVec F S1x1024 .f32) : IVec S32768x1024 1 × IVec S32768x1024 1 × IVec S1024x1024 1 × IVec S1x1024 1 × IVec S1x1024 1 × IVec S1024x2816 1 × IVec S3x2816 1 × IVec S1x2816 1 :=
  let main_v0 : FVec F S1x1024x2816 .bf16 := (extractStridedSlice S1x1024x2816 ![0, 0, 0] · slices_S2x1024x5632_S1x1024x2816_0_0_0) main_arg5
  let main_v1 : FVec F S1024x2816 .bf16 := shapeCast S1024x2816 main_v0 shapeCasts_S1x1024x2816_S1024x2816
  let main_v2 : FVec F S3x2816 .f32 := (extractStridedSlice S3x2816 ![0, 0] · slices_S3x5632_S3x2816_0_0) main_arg6
  let main_v3 : FVec F S1x2816 .f32 := (extractStridedSlice S1x2816 ![0, 0] · slices_S1x5632_S1x2816_0_0) main_arg7
  let main_v4 : FVec F S32768x1024 .f32 := Host.absf main_arg0
  let main_cst : FVec F S_ .f32 := constant S_ .f32 0x7F800000#32
  let main_v5 : FVec F S32768x1024 .f32 := broadcastInDim S32768x1024 ![] bcast_S_S32768x1024 main_cst
  let main_v6 : IVec S32768x1024 1 := cmpf .olt main_v4 main_v5
  let main_v7 : FVec F S32768x1024 .f32 := (extf .f32 · bitsLt_bf16_f32) main_arg1
  let main_v8 : FVec F S32768x1024 .f32 := Host.absf main_v7
  let main_cst_0 : FVec F S_ .f32 := constant S_ .f32 0x7F800000#32
  let main_v9 : FVec F S32768x1024 .f32 := broadcastInDim S32768x1024 ![] bcast_S_S32768x1024 main_cst_0
  let main_v10 : IVec S32768x1024 1 := cmpf .olt main_v8 main_v9
  let main_v11 : FVec F S1024x1024 .f32 := (extf .f32 · bitsLt_bf16_f32) main_arg2
  let main_v12 : FVec F S1024x1024 .f32 := Host.absf main_v11
  let main_cst_1 : FVec F S_ .f32 := constant S_ .f32 0x7F800000#32
  let main_v13 : FVec F S1024x1024 .f32 := broadcastInDim S1024x1024 ![] bcast_S_S1024x1024 main_cst_1
  let main_v14 : IVec S1024x1024 1 := cmpf .olt main_v12 main_v13
  let main_v15 : FVec F S1x1024 .f32 := Host.absf main_arg3
  let main_cst_2 : FVec F S_ .f32 := constant S_ .f32 0x7F800000#32
  let main_v16 : FVec F S1x1024 .f32 := broadcastInDim S1x1024 ![] bcast_S_S1x1024 main_cst_2
  let main_v17 : IVec S1x1024 1 := cmpf .olt main_v15 main_v16
  let main_v18 : FVec F S1x1024 .f32 := Host.absf main_arg4
  let main_cst_3 : FVec F S_ .f32 := constant S_ .f32 0x7F800000#32
  fn_part1 (F := F) main_v1 main_v2 main_v3 main_v6 main_v10 main_v14 main_v17 main_v18 main_cst_3
-- ==== Pre_finite1.lean ====
abbrev S32768x1024 : Shape := ⟨2, ![32768, 1024]⟩
abbrev S1024x1024 : Shape := ⟨2, ![1024, 1024]⟩
abbrev S1x1024 : Shape := ⟨2, ![1, 1024]⟩
abbrev S2x1024x5632 : Shape := ⟨3, ![2, 1024, 5632]⟩
abbrev S3x5632 : Shape := ⟨2, ![3, 5632]⟩
abbrev S1x5632 : Shape := ⟨2, ![1, 5632]⟩
abbrev S2x2816x1024 : Shape := ⟨3, ![2, 2816, 1024]⟩
abbrev S1x1024x2816 : Shape := ⟨3, ![1, 1024, 2816]⟩
abbrev S1024x2816 : Shape := ⟨2, ![1024, 2816]⟩
abbrev S3x2816 : Shape := ⟨2, ![3, 2816]⟩
abbrev S1x2816 : Shape := ⟨2, ![1, 2816]⟩
abbrev S_ : Shape := ⟨0, ![]⟩

class Facts : Prop where
  slices_S2x1024x5632_S1x1024x2816_1_0_0 : S2x1024x5632.Slices ![1, 0, 0] S1x1024x2816
  shapeCasts_S1x1024x2816_S1024x2816 : S1x1024x2816.ShapeCasts S1024x2816
  slices_S3x5632_S3x2816_0_0 : S3x5632.Slices ![0, 0] S3x2816
  slices_S1x5632_S1x2816_0_0 : S1x5632.Slices ![0, 0] S1x2816
  bcast_S_S32768x1024 : S_.BroadcastsInDim S32768x1024 (![] : Fin 0 → Fin S32768x1024.rank)
  bitsLt_bf16_f32 : FTy.bits .bf16 < FTy.bits .f32
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S3x2816 : S_.BroadcastsInDim S3x2816 (![] : Fin 0 → Fin S3x2816.rank)
  bcast_S_S1x2816 : S_.BroadcastsInDim S1x2816 (![] : Fin 0 → Fin S1x2816.rank)

variable [Facts]

def fn_part1 {F : FTy → Type} [FloatOps F] (main_v1 : FVec F S1024x2816 .bf16) (main_v2 : FVec F S3x2816 .f32) (main_v3 : FVec F S1x2816 .f32) (main_v6 : IVec S32768x1024 1) (main_v10 : IVec S32768x1024 1) (main_v14 : IVec S1024x1024 1) (main_v17 : IVec S1x1024 1) (main_v18 : FVec F S1x1024 .f32) (main_cst_3 : FVec F S_ .f32) : IVec S32768x1024 1 × IVec S32768x1024 1 × IVec S1024x1024 1 × IVec S1x1024 1 × IVec S1x1024 1 × IVec S1024x2816 1 × IVec S3x2816 1 × IVec S1x2816 1 :=
  let main_v19 : FVec F S1x1024 .f32 := broadcastInDim S1x1024 ![] bcast_S_S1x1024 main_cst_3
  let main_v20 : IVec S1x1024 1 := cmpf .olt main_v18 main_v19
  let main_v21 : FVec F S1024x2816 .f32 := (extf .f32 · bitsLt_bf16_f32) main_v1
  let main_v22 : FVec F S1024x2816 .f32 := Host.absf main_v21
  let main_cst_4 : FVec F S_ .f32 := constant S_ .f32 0x7F800000#32
  let main_v23 : FVec F S1024x2816 .f32 := broadcastInDim S1024x2816 ![] bcast_S_S1024x2816 main_cst_4
  let main_v24 : IVec S1024x2816 1 := cmpf .olt main_v22 main_v23
  let main_v25 : FVec F S3x2816 .f32 := Host.absf main_v2
  let main_cst_5 : FVec F S_ .f32 := constant S_ .f32 0x7F800000#32
  let main_v26 : FVec F S3x2816 .f32 := broadcastInDim S3x2816 ![] bcast_S_S3x2816 main_cst_5
  let main_v27 : IVec S3x2816 1 := cmpf .olt main_v25 main_v26
  let main_v28 : FVec F S1x2816 .f32 := Host.absf main_v3
  let main_cst_6 : FVec F S_ .f32 := constant S_ .f32 0x7F800000#32
  let main_v29 : FVec F S1x2816 .f32 := broadcastInDim S1x2816 ![] bcast_S_S1x2816 main_cst_6
  let main_v30 : IVec S1x2816 1 := cmpf .olt main_v28 main_v29
  (main_v6, main_v10, main_v14, main_v17, main_v20, main_v24, main_v27, main_v30)

def fn {F : FTy → Type} [FloatOps F] (main_arg0 : FVec F S32768x1024 .f32) (main_arg1 : FVec F S32768x1024 .bf16) (main_arg2 : FVec F S1024x1024 .bf16) (main_arg3 : FVec F S1x1024 .f32) (main_arg4 : FVec F S1x1024 .f32) (main_arg5 : FVec F S2x1024x5632 .bf16) (main_arg6 : FVec F S3x5632 .f32) (main_arg7 : FVec F S1x5632 .f32) (main_arg8 : FVec F S2x2816x1024 .bf16) (main_arg9 : FVec F S1x1024 .f32) : IVec S32768x1024 1 × IVec S32768x1024 1 × IVec S1024x1024 1 × IVec S1x1024 1 × IVec S1x1024 1 × IVec S1024x2816 1 × IVec S3x2816 1 × IVec S1x2816 1 :=
  let main_v0 : FVec F S1x1024x2816 .bf16 := (extractStridedSlice S1x1024x2816 ![1, 0, 0] · slices_S2x1024x5632_S1x1024x2816_1_0_0) main_arg5
  let main_v1 : FVec F S1024x2816 .bf16 := shapeCast S1024x2816 main_v0 shapeCasts_S1x1024x2816_S1024x2816
  let main_v2 : FVec F S3x2816 .f32 := (extractStridedSlice S3x2816 ![0, 0] · slices_S3x5632_S3x2816_0_0) main_arg6
  let main_v3 : FVec F S1x2816 .f32 := (extractStridedSlice S1x2816 ![0, 0] · slices_S1x5632_S1x2816_0_0) main_arg7
  let main_v4 : FVec F S32768x1024 .f32 := Host.absf main_arg0
  let main_cst : FVec F S_ .f32 := constant S_ .f32 0x7F800000#32
  let main_v5 : FVec F S32768x1024 .f32 := broadcastInDim S32768x1024 ![] bcast_S_S32768x1024 main_cst
  let main_v6 : IVec S32768x1024 1 := cmpf .olt main_v4 main_v5
  let main_v7 : FVec F S32768x1024 .f32 := (extf .f32 · bitsLt_bf16_f32) main_arg1
  let main_v8 : FVec F S32768x1024 .f32 := Host.absf main_v7
  let main_cst_0 : FVec F S_ .f32 := constant S_ .f32 0x7F800000#32
  let main_v9 : FVec F S32768x1024 .f32 := broadcastInDim S32768x1024 ![] bcast_S_S32768x1024 main_cst_0
  let main_v10 : IVec S32768x1024 1 := cmpf .olt main_v8 main_v9
  let main_v11 : FVec F S1024x1024 .f32 := (extf .f32 · bitsLt_bf16_f32) main_arg2
  let main_v12 : FVec F S1024x1024 .f32 := Host.absf main_v11
  let main_cst_1 : FVec F S_ .f32 := constant S_ .f32 0x7F800000#32
  let main_v13 : FVec F S1024x1024 .f32 := broadcastInDim S1024x1024 ![] bcast_S_S1024x1024 main_cst_1
  let main_v14 : IVec S1024x1024 1 := cmpf .olt main_v12 main_v13
  let main_v15 : FVec F S1x1024 .f32 := Host.absf main_arg3
  let main_cst_2 : FVec F S_ .f32 := constant S_ .f32 0x7F800000#32
  let main_v16 : FVec F S1x1024 .f32 := broadcastInDim S1x1024 ![] bcast_S_S1x1024 main_cst_2
  let main_v17 : IVec S1x1024 1 := cmpf .olt main_v15 main_v16
  let main_v18 : FVec F S1x1024 .f32 := Host.absf main_arg4
  let main_cst_3 : FVec F S_ .f32 := constant S_ .f32 0x7F800000#32
  fn_part1 (F := F) main_v1 main_v2 main_v3 main_v6 main_v10 main_v14 main_v17 main_v18 main_cst_3
-- ==== Pre_finite2.lean ====
abbrev S32768x1024 : Shape := ⟨2, ![32768, 1024]⟩
abbrev S1x1024 : Shape := ⟨2, ![1, 1024]⟩
abbrev S1x1024x4112 : Shape := ⟨3, ![1, 1024, 4112]⟩
abbrev S1024x128 : Shape := ⟨2, ![1024, 128]⟩
abbrev S3x8x4x128 : Shape := ⟨4, ![3, 8, 4, 128]⟩
abbrev S1x1024x4096 : Shape := ⟨3, ![1, 1024, 4096]⟩
abbrev S1024x4096 : Shape := ⟨2, ![1024, 4096]⟩
abbrev S_ : Shape := ⟨0, ![]⟩

class Facts : Prop where
  slices_S1x1024x4112_S1x1024x4096_0_0_0 : S1x1024x4112.Slices ![0, 0, 0] S1x1024x4096
  shapeCasts_S1x1024x4096_S1024x4096 : S1x1024x4096.ShapeCasts S1024x4096
  bcast_S_S32768x1024 : S_.BroadcastsInDim S32768x1024 (![] : Fin 0 → Fin S32768x1024.rank)
  bcast_S_S1x1024 : S_.BroadcastsInDim S1x1024 (![] : Fin 0 → Fin S1x1024.rank)
  bitsLt_bf16_f32 : FTy.bits .bf16 < FTy.bits .f32
  bcast_S_S1024x4096 : S_.BroadcastsInDim S1024x4096 (![] : Fin 0 → Fin S1024x4096.rank)
  bcast_S_S3x8x4x128 : S_.BroadcastsInDim S3x8x4x128 (![] : Fin 0 → Fin S3x8x4x128.rank)

variable [Facts]

def fn {F : FTy → Type} [FloatOps F] (main_arg0 : FVec F S32768x1024 .f32) (main_arg1 : FVec F S1x1024 .f32) (main_arg2 : FVec F S1x1024x4112 .bf16) (main_arg3 : FVec F S1024x128 .bf16) (main_arg4 : FVec F S3x8x4x128 .f32) : IVec S32768x1024 1 × IVec S1x1024 1 × IVec S1024x4096 1 × IVec S3x8x4x128 1 :=
  let main_v0 : FVec F S1x1024x4096 .bf16 := (extractStridedSlice S1x1024x4096 ![0, 0, 0] · slices_S1x1024x4112_S1x1024x4096_0_0_0) main_arg2
  let main_v1 : FVec F S1024x4096 .bf16 := shapeCast S1024x4096 main_v0 shapeCasts_S1x1024x4096_S1024x4096
  let main_v2 : FVec F S32768x1024 .f32 := Host.absf main_arg0
  let main_cst : FVec F S_ .f32 := constant S_ .f32 0x7F800000#32
  let main_v3 : FVec F S32768x1024 .f32 := broadcastInDim S32768x1024 ![] bcast_S_S32768x1024 main_cst
  let main_v4 : IVec S32768x1024 1 := cmpf .olt main_v2 main_v3
  let main_v5 : FVec F S1x1024 .f32 := Host.absf main_arg1
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_v8 : FVec F S1024x4096 .f32 := (extf .f32 · bitsLt_bf16_f32) main_v1
  let main_v9 : FVec F S1024x4096 .f32 := Host.absf main_v8
  let main_cst_1 : FVec F S_ .f32 := constant S_ .f32 0x7F800000#32
  let main_v10 : FVec F S1024x4096 .f32 := broadcastInDim S1024x4096 ![] bcast_S_S1024x4096 main_cst_1
  let main_v11 : IVec S1024x4096 1 := cmpf .olt main_v9 main_v10
  let main_v12 : FVec F S3x8x4x128 .f32 := Host.absf main_arg4
  let main_cst_2 : FVec F S_ .f32 := constant S_ .f32 0x7F800000#32
  let main_v13 : FVec F S3x8x4x128 .f32 := broadcastInDim S3x8x4x128 ![] bcast_S_S3x8x4x128 main_cst_2
  let main_v14 : IVec S3x8x4x128 1 := cmpf .olt main_v12 main_v13
  (main_v4, main_v7, main_v11, main_v14)
-- ==== Kernel.lean ====
abbrev S32768x1024 : Shape := ⟨2, ![32768, 1024]⟩
abbrev S32768x512 : Shape := ⟨2, ![32768, 512]⟩
abbrev S16 : Shape := ⟨1, ![16]⟩
abbrev S512x1024 : Shape := ⟨2, ![512, 1024]⟩
abbrev S128x512 : Shape := ⟨2, ![128, 512]⟩
abbrev S512x512 : Shape := ⟨2, ![512, 512]⟩
abbrev S128x128 : Shape := ⟨2, ![128, 128]⟩
abbrev S256x128 : Shape := ⟨2, ![256, 128]⟩
abbrev S256x64 : Shape := ⟨2, ![256, 64]⟩
abbrev S128x256 : Shape := ⟨2, ![128, 256]⟩
abbrev S1 : Shape := ⟨1, ![1]⟩
abbrev S128 : Shape := ⟨1, ![128]⟩
abbrev S128x1 : Shape := ⟨2, ![128, 1]⟩

abbrev nBuf : Space → Nat
  | .hbm => 4
  | .vmem => 8
  | .smem => 1
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S16, .f32⟩
  | .hbm, ⟨3, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S128x512, .bf16⟩
  | .local _ .vmem, ⟨3, _⟩ => ⟨S128x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .smem, ⟨0, _⟩ => ⟨S16, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "slope0" => some (((Real.sqrt 2)⁻¹ : ℝ) : EReal)
  | "slope10" => some (((Real.sqrt 2048)⁻¹ : ℝ) : EReal)
  | "slope12" => some (((Real.sqrt 8192)⁻¹ : ℝ) : EReal)
  | "slope14" => some (((Real.sqrt 32768)⁻¹ : ℝ) : EReal)
  | "slope2" => some (((Real.sqrt 8)⁻¹ : ℝ) : EReal)
  | "slope4" => some (((Real.sqrt 32)⁻¹ : ℝ) : EReal)
  | "slope6" => some (((Real.sqrt 128)⁻¹ : ℝ) : EReal)
  | "slope8" => some (((Real.sqrt 512)⁻¹ : ℝ) : EReal)
  | _ => none
-- ==== ReferenceIdeal.lean ====
abbrev S32768x1024 : Shape := ⟨2, ![32768, 1024]⟩
abbrev S32768x512 : Shape := ⟨2, ![32768, 512]⟩
abbrev S16 : Shape := ⟨1, ![16]⟩
abbrev S8x32x128x4x4x64 : Shape := ⟨6, ![8, 32, 128, 4, 4, 64]⟩
abbrev S32768x256 : Shape := ⟨2, ![32768, 256]⟩
abbrev S8x32x128x4x64 : Shape := ⟨5, ![8, 32, 128, 4, 64]⟩
abbrev S_ : Shape := ⟨0, ![]⟩
abbrev S8x33x128x4x64 : Shape := ⟨5, ![8, 33, 128, 4, 64]⟩
abbrev S8x32x256x4x64 : Shape := ⟨5, ![8, 32, 256, 4, 64]⟩
abbrev S4x4 : Shape := ⟨2, ![4, 4]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S1x1x4x4x1 : Shape := ⟨5, ![1, 1, 4, 4, 1]⟩
abbrev S32 : Shape := ⟨1, ![32]⟩
abbrev S32x1x1 : Shape := ⟨3, ![32, 1, 1]⟩
abbrev S8x32x4x256x128x4 : Shape := ⟨6, ![8, 32, 4, 256, 128, 4]⟩
abbrev S8x32x4x4x128x256 : Shape := ⟨6, ![8, 32, 4, 4, 128, 256]⟩
abbrev S1x1x4x4x128x256 : Shape := ⟨6, ![1, 1, 4, 4, 128, 256]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S8x32x4x4x128 : Shape := ⟨5, ![8, 32, 4, 4, 128]⟩
abbrev S8x32x4x4x128x1 : Shape := ⟨6, ![8, 32, 4, 4, 128, 1]⟩
abbrev S8x32x4x64x4x128 : Shape := ⟨6, ![8, 32, 4, 64, 4, 128]⟩
abbrev S8x32x128x4x4 : Shape := ⟨5, ![8, 32, 128, 4, 4]⟩
abbrev S8x32x128x4x4x1 : Shape := ⟨6, ![8, 32, 128, 4, 4, 1]⟩

abbrev nBuf : Space → Nat
  | .hbm => 110
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x512, .bf16⟩
  | .hbm, ⟨2, _⟩ => ⟨S16, .f32⟩
  | .hbm, ⟨3, _⟩ => ⟨S32768x1024, .f32⟩
  | .hbm, ⟨4, _⟩ => ⟨S8x32x128x4x4x64, .f32⟩
  | .hbm, ⟨5, _⟩ => ⟨S32768x256, .bf16⟩
  | .hbm, ⟨6, _⟩ => ⟨S32768x256, .bf16⟩
  | .hbm, ⟨7, _⟩ => ⟨S32768x256, .f32⟩
  | .hbm, ⟨8, _⟩ => ⟨S8x32x128x4x64, .f32⟩
  | .hbm, ⟨9, _⟩ => ⟨S_, .i32⟩
  | .hbm, ⟨10, _⟩ => ⟨S_, .f32⟩
  | .hbm, ⟨11, _⟩ => ⟨S8x33x128x4x64, .f32⟩
  | .hbm, ⟨12, _⟩ => ⟨S8x32x128x4x64, .f32⟩
  | .hbm, ⟨13, _⟩ => ⟨S8x32x256x4x64, .f32⟩
  | .hbm, ⟨14, _⟩ => ⟨S32768x256, .f32⟩
  | .hbm, ⟨15, _⟩ => ⟨S8x32x128x4x64, .f32⟩
  | .hbm, ⟨16, _⟩ => ⟨S_, .i32⟩
  | .hbm, ⟨17, _⟩ => ⟨S_, .f32⟩
  | .hbm, ⟨18, _⟩ => ⟨S8x33x128x4x64, .f32⟩
  | .hbm, ⟨19, _⟩ => ⟨S8x32x128x4x64, .f32⟩
  | .hbm, ⟨20, _⟩ => ⟨S8x32x256x4x64, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S4x4, .f32⟩
  | .hbm, ⟨35, _⟩ => ⟨S128, .i32⟩
  | .hbm, ⟨36, _⟩ => ⟨S128x1, .i32⟩
  | .hbm, ⟨37, _⟩ => ⟨S256, .i32⟩
  | .hbm, ⟨38, _⟩ => ⟨S1x256, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S128x256, .i32⟩
  | .hbm, ⟨43, _⟩ => ⟨S128x256, .i32⟩
  | .hbm, ⟨44, _⟩ => ⟨S128x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S_, .i32⟩
  | .hbm, ⟨49, _⟩ => ⟨S128x256, .i32⟩
  | .hbm, ⟨50, _⟩ => ⟨S128x256, .i1⟩
  | .hbm, ⟨51, _⟩ => ⟨S128x256, .i1⟩
  | .hbm, ⟨52, _⟩ => ⟨S4x4x1x1, .f32⟩
  | .hbm, ⟨53, _⟩ => ⟨S4x4x1x1, .f32⟩
  | .hbm, ⟨54, _⟩ => ⟨S128x256, .f32⟩
  | .hbm, ⟨55, _⟩ => ⟨S1x1x128x256, .f32⟩
  | .hbm, ⟨56, _⟩ => ⟨S4x4x128x256, .f32⟩
  | .hbm, ⟨57, _⟩ => ⟨S4x4x128x256, .f32⟩
  | .hbm, ⟨58, _⟩ => ⟨S4x4x128x256, .f32⟩
  | .hbm, ⟨59, _⟩ => ⟨S4x4, .f32⟩
  | .hbm, ⟨60, _⟩ => ⟨S1x1x4x4x1, .f32⟩
  | .hbm, ⟨61, _⟩ => ⟨S32, .i32⟩
  | .hbm, ⟨62, _⟩ => ⟨S32x1x1, .i32⟩
  | .hbm, ⟨63, _⟩ => ⟨S8x32x4x256x128x4, .f32⟩
  | .hbm, ⟨64, _⟩ => ⟨S8x32x4x4x128x256, .f32⟩
  | .hbm, ⟨65, _⟩ => ⟨S1x1x4x4x128x256, .f32⟩
  | .hbm, ⟨66, _⟩ => ⟨S8x32x4x4x128x256, .f32⟩
  | .hbm, ⟨67, _⟩ => ⟨S8x32x4x4x128x256, .f32⟩
  | .hbm, ⟨68, _⟩ => ⟨S_, .i32⟩
  | .hbm, ⟨69, _⟩ => ⟨S32x1x1, .i32⟩
  | .hbm, ⟨70, _⟩ => ⟨S32x1x1, .i1⟩
  | .hbm, ⟨71, _⟩ => ⟨S_, .i32⟩
  | .hbm, ⟨72, _⟩ => ⟨S1x256, .i32⟩
  | .hbm, ⟨73, _⟩ => ⟨S1x256, .i1⟩
  | .hbm, ⟨74, _⟩ => ⟨S1x1x256, .i1⟩
  | .hbm, ⟨75, _⟩ => ⟨S32x1x256, .i1⟩
  | .hbm, ⟨76, _⟩ => ⟨S32x1x256, .i1⟩
  | .hbm, ⟨77, _⟩ => ⟨S32x1x256, .i1⟩
  | .hbm, ⟨78, _⟩ => ⟨S1x128x256, .i1⟩
  | .hbm, ⟨79, _⟩ => ⟨S32x128x256, .i1⟩
  | .hbm, ⟨80, _⟩ => ⟨S32x128x256, .i1⟩
  | .hbm, ⟨81, _⟩ => ⟨S32x128x256, .i1⟩
  | .hbm, ⟨82, _⟩ => ⟨S1x32x1x1x128x256, .i1⟩
  | .hbm, ⟨83, _⟩ => ⟨S_, .f32⟩
  | .hbm, ⟨84, _⟩ => ⟨S_, .f32⟩
  | .hbm, ⟨85, _⟩ => ⟨S8x32x4x4x128x256, .i1⟩
  | .hbm, ⟨86, _⟩ => ⟨S8x32x4x4x128x256, .f32⟩
  | .hbm, ⟨87, _⟩ => ⟨S8x32x4x4x128x256, .f32⟩
  | .hbm, ⟨88, _⟩ => ⟨S_, .f32⟩
  | .hbm, ⟨89, _⟩ => ⟨S8x32x4x4x128, .f32⟩
  | .hbm, ⟨90, _⟩ => ⟨S8x32x4x4x128, .f32⟩
  | .hbm, ⟨91, _⟩ => ⟨S8x32x4x4x128, .f32⟩
  | .hbm, ⟨92, _⟩ => ⟨S8x32x4x4x128x1, .f32⟩
  | .hbm, ⟨93, _⟩ => ⟨S8x32x4x4x128x256, .f32⟩
  | .hbm, ⟨94, _⟩ => ⟨S8x32x4x4x128x256, .f32⟩
  | .hbm, ⟨95, _⟩ => ⟨S8x32x4x4x128x256, .f32⟩
  | .hbm, ⟨96, _⟩ => ⟨S_, .f32⟩
  | .hbm, ⟨97, _⟩ => ⟨S8x32x4x4x128, .f32⟩
  | .hbm, ⟨98, _⟩ => ⟨S8x32x4x4x128, .f32⟩
  | .hbm, ⟨99, _⟩ => ⟨S8x32x4x4x128, .f32⟩
  | .hbm, ⟨100, _⟩ => ⟨S8x32x4x4x128, .f32⟩
  | .hbm, ⟨101, _⟩ => ⟨S8x32x4x4x128, .f32⟩
  | .hbm, ⟨102, _⟩ => ⟨S8x32x4x64x4x128, .f32⟩
  | .hbm, ⟨103, _⟩ => ⟨S8x32x128x4x4x64, .f32⟩
  | .hbm, ⟨104, _⟩ => ⟨S8x32x128x4x4, .f32⟩
  | .hbm, ⟨105, _⟩ => ⟨S8x32x128x4x4x1, .f32⟩
  | .hbm, ⟨106, _⟩ => ⟨S8x32x128x4x4x64, .f32⟩
  | .hbm, ⟨107, _⟩ => ⟨S8x32x128x4x4x64, .f32⟩
  | .hbm, ⟨108, _⟩ => ⟨S32768x1024, .f32⟩
  | .hbm, ⟨109, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_call1_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_5 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_7 : Ref sig .tc := ⟨.hbm, 68, rfl⟩
abbrev main_v54 : Ref sig .tc := ⟨.hbm, 69, rfl⟩
abbrev main_v55 : Ref sig .tc := ⟨.hbm, 70, rfl⟩
abbrev main_c_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_9 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩

abbrev nD : Nat := 1
abbrev τ : Topo := Topo.v7x

variable {F : FTy → Type} [FloatOps F]
-- ==== Ffn1.lean ====
abbrev S32768x1024 : Shape := ⟨2, ![32768, 1024]⟩
abbrev S1024x1024 : Shape := ⟨2, ![1024, 1024]⟩
abbrev S1x1024 : Shape := ⟨2, ![1, 1024]⟩
abbrev S2x1024x5632 : Shape := ⟨3, ![2, 1024, 5632]⟩
abbrev S3x5632 : Shape := ⟨2, ![3, 5632]⟩
abbrev S1x5632 : Shape := ⟨2, ![1, 5632]⟩
abbrev S2x2816x1024 : Shape := ⟨3, ![2, 2816, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S8x5632 : Shape := ⟨2, ![8, 5632]⟩
abbrev S520x256 : Shape := ⟨2, ![520, 256]⟩
abbrev S512x2816 : Shape := ⟨2, ![512, 2816]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S8x256 : Shape := ⟨2, ![8, 256]⟩
abbrev S3x256 : Shape := ⟨2, ![3, 256]⟩
abbrev S1x256 : Shape := ⟨2, ![1, 256]⟩
abbrev S2816x1024 : Shape := ⟨2, ![2816, 1024]⟩

abbrev nBuf : Space → Nat
  | .hbm => 11
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S2x1024x5632, .bf16⟩
  | .hbm, ⟨6, _⟩ => ⟨S3x5632, .f32⟩
  | .hbm, ⟨7, _⟩ => ⟨S1x5632, .f32⟩
  | .hbm, ⟨8, _⟩ => ⟨S2x2816x1024, .bf16⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x5632, .bf16⟩
  | .local _ .vmem, ⟨8, _⟩ => ⟨S3x5632, .f32⟩
  | .local _ .vmem, ⟨9, _⟩ => ⟨S1x5632, .f32⟩
  | .local _ .vmem, ⟨10, _⟩ => ⟨S1x2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S8x5632, .f32⟩
  | .local _ .vmem, ⟨15, _⟩ => ⟨S520x256, .f32⟩
  | .local _ .vmem, ⟨16, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RefFfn1Ideal.lean ====
abbrev S32768x1024 : Shape := ⟨2, ![32768, 1024]⟩
abbrev S1024x1024 : Shape := ⟨2, ![1024, 1024]⟩
abbrev S1x1024 : Shape := ⟨2, ![1, 1024]⟩
abbrev S2x1024x5632 : Shape := ⟨3, ![2, 1024, 5632]⟩
abbrev S3x5632 : Shape := ⟨2, ![3, 5632]⟩
abbrev S1x5632 : Shape := ⟨2, ![1, 5632]⟩
abbrev S2x2816x1024 : Shape := ⟨3, ![2, 2816, 1024]⟩
abbrev S8x4096x1024 : Shape := ⟨3, ![8, 4096, 1024]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S1x1024x5632 : Shape := ⟨3, ![1, 1024, 5632]⟩
abbrev S1024x5632 : Shape := ⟨2, ![1024, 5632]⟩
abbrev S5632 : Shape := ⟨1, ![5632]⟩
abbrev S1x2816x1024 : Shape := ⟨3, ![1, 2816, 1024]⟩
abbrev S2816x1024 : Shape := ⟨2, ![2816, 1024]⟩
abbrev S8x4096x5632 : Shape := ⟨3, ![8, 4096, 5632]⟩
abbrev S8x4098x5632 : Shape := ⟨3, ![8, 4098, 5632]⟩
abbrev S1x1x5632 : Shape := ⟨3, ![1, 1, 5632]⟩
abbrev S8x4096x2816 : Shape := ⟨3, ![8, 4096, 2816]⟩

abbrev nBuf : Space → Nat
  | .hbm => 100
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S2x1024x5632, .bf16⟩
  | .hbm, ⟨6, _⟩ => ⟨S3x5632, .f32⟩
  | .hbm, ⟨7, _⟩ => ⟨S1x5632, .f32⟩
  | .hbm, ⟨8, _⟩ => ⟨S2x2816x1024, .bf16⟩
  | .hbm, ⟨9, _⟩ => ⟨S1x1024, .f32⟩
  | .hbm, ⟨10, _⟩ => ⟨S8x4096x1024, .f32⟩
  | .hbm, ⟨11, _⟩ => ⟨S8x4096x1024, .bf16⟩
  | .hbm, ⟨12, _⟩ => ⟨S8x4096x1024, .f32⟩
  | .hbm, ⟨13, _⟩ => ⟨S1024x1024, .f32⟩
  | .hbm, ⟨14, _⟩ => ⟨S8x4096x1024, .f32⟩
  | .hbm, ⟨15, _⟩ => ⟨S1x1x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | .hbm, ⟨35, _⟩ => ⟨S1x1024x5632, .bf16⟩
  | .hbm, ⟨36, _⟩ => ⟨S1024x5632, .bf16⟩
  | .hbm, ⟨37, _⟩ => ⟨S1024x5632, .f32⟩
  | .hbm, ⟨38, _⟩ => ⟨S5632, .f32⟩
  | .hbm, ⟨39, _⟩ => ⟨S1x2816x1024, .bf16⟩
  | .hbm, ⟨40, _⟩ => ⟨S2816x1024, .bf16⟩
  | .hbm, ⟨41, _⟩ => ⟨S2816x1024, .f32⟩
  | .hbm, ⟨42, _⟩ => ⟨S8x4096x5632, .f32⟩
  | .hbm, ⟨43, _⟩ => ⟨S_, .i32⟩
  | .hbm, ⟨44, _⟩ => ⟨S_, .f32⟩
  | .hbm, ⟨45, _⟩ => ⟨S8x4098x5632, .f32⟩
  | .hbm, ⟨46, _⟩ => ⟨S8x4096x5632, .f32⟩
  | .hbm, ⟨47, _⟩ => ⟨S1x5632, .f32⟩
  | .hbm, ⟨48, _⟩ => ⟨S5632, .f32⟩
  | .hbm, ⟨49, _⟩ => ⟨S1x1x5632, .f32⟩
  | .hbm, ⟨50, _⟩ => ⟨S8x4096x5632, .f32⟩
  | .hbm, ⟨51, _⟩ => ⟨S8x4096x5632, .f32⟩
  | .hbm, ⟨52, _⟩ => ⟨S8x4096x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S8x4096x5632, .f32⟩
  | .hbm, ⟨57, _⟩ => ⟨S8x4096x5632, .f32⟩
  | .hbm, ⟨58, _⟩ => ⟨S8x4096x5632, .f32⟩
  | .hbm, ⟨59, _⟩ => ⟨S8x4096x5632, .f32⟩
  | .hbm, ⟨60, _⟩ => ⟨S1x5632, .f32⟩
  | .hbm, ⟨61, _⟩ => ⟨S5632, .f32⟩
  | .hbm, ⟨62, _⟩ => ⟨S1x1x5632, .f32⟩
  | .hbm, ⟨63, _⟩ => ⟨S8x4096x5632, .f32⟩
  | .hbm, ⟨64, _⟩ => ⟨S8x4096x5632, .f32⟩
  | .hbm, ⟨65, _⟩ => ⟨S8x4096x5632, .f32⟩
  | .hbm, ⟨66, _⟩ => ⟨S1x1x5632, .f32⟩
  | .hbm, ⟨67, _⟩ => ⟨S8x4096x5632, .f32⟩
  | .hbm, ⟨68, _⟩ => ⟨S8x4096x5632, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S_, .f32⟩
  | .hbm, ⟨74, _⟩ => ⟨S8x4096x2816, .f32⟩
  | .hbm, ⟨75, _⟩ => ⟨S8x4096x2816, .f32⟩
  | .hbm, ⟨76, _⟩ => ⟨S_, .f32⟩
  | .hbm, ⟨77, _⟩ => ⟨S8x4096x2816, .f32⟩
  | .hbm, ⟨78, _⟩ => ⟨S8x4096x2816, .f32⟩
  | .hbm, ⟨79, _⟩ => ⟨S8x4096x2816, .f32⟩
  | .hbm, ⟨80, _⟩ => ⟨S8x4096x2816, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S_, .f32⟩
  | .hbm, ⟨85, _⟩ => ⟨S8x4096, .f32⟩
  | .hbm, ⟨86, _⟩ => ⟨S8x4096x1, .f32⟩
  | .hbm, ⟨87, _⟩ => ⟨S_, .f32⟩
  | .hbm, ⟨88, _⟩ => ⟨S8x4096x1, .f32⟩
  | .hbm, ⟨89, _⟩ => ⟨S8x4096x1, .f32⟩
  | .hbm, ⟨90, _⟩ => ⟨S_, .f32⟩
  | .hbm, ⟨91, _⟩ => ⟨S8x4096x1, .f32⟩
  | .hbm, ⟨92, _⟩ => ⟨S8x4096x1, .f32⟩
  | .hbm, ⟨93, _⟩ => ⟨S8x4096x1, .f32⟩
  | .hbm, ⟨94, _⟩ => ⟨S8x4096x1024, .f32⟩
  | .hbm, ⟨95, _⟩ => ⟨S8x4096x1024, .f32⟩
  | .hbm, ⟨96, _⟩ => ⟨S1x1x1024, .f32⟩
  | .hbm, ⟨97, _⟩ => ⟨S8x4096x1024, .f32⟩
  | .hbm, ⟨98, _⟩ => ⟨S8x4096x1024, .f32⟩
  | .hbm, ⟨99, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_call0_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_2 : Ref sig .tc := ⟨.hbm, 84, rfl⟩
abbrev main_v61 : Ref sig .tc := ⟨.hbm, 85, rfl⟩
abbrev main_v62 : Ref sig .tc := ⟨.hbm, 86, rfl⟩
abbrev main_cst_3 : Ref sig .tc := ⟨.hbm, 87, rfl⟩
abbrev main_v63 : Ref sig .tc := ⟨.hbm, 88, rfl⟩
abbrev main_v64 : Ref sig .tc := ⟨.hbm, 89, rfl⟩
abbrev main_cst_4 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]
-- ==== Ffn0.lean ====
abbrev S32768x1024 : Shape := ⟨2, ![32768, 1024]⟩
abbrev S1024x1024 : Shape := ⟨2, ![1024, 1024]⟩
abbrev S1x1024 : Shape := ⟨2, ![1, 1024]⟩
abbrev S2x1024x5632 : Shape := ⟨3, ![2, 1024, 5632]⟩
abbrev S3x5632 : Shape := ⟨2, ![3, 5632]⟩
abbrev S1x5632 : Shape := ⟨2, ![1, 5632]⟩
abbrev S2x2816x1024 : Shape := ⟨3, ![2, 2816, 1024]⟩
abbrev S1024x512 : Shape := ⟨2, ![1024, 512]⟩
abbrev S1x512 : Shape := ⟨2, ![1, 512]⟩
abbrev S32768x512 : Shape := ⟨2, ![32768, 512]⟩
abbrev S512x1024 : Shape := ⟨2, ![512, 1024]⟩
abbrev S1x1024x5632 : Shape := ⟨3, ![1, 1024, 5632]⟩
abbrev S1x2816x1024 : Shape := ⟨3, ![1, 2816, 1024]⟩
abbrev S512x512 : Shape := ⟨2, ![512, 512]⟩
abbrev S8x5632 : Shape := ⟨2, ![8, 5632]⟩
abbrev S520x256 : Shape := ⟨2, ![520, 256]⟩
abbrev S512x2816 : Shape := ⟨2, ![512, 2816]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S8x256 : Shape := ⟨2, ![8, 256]⟩
abbrev S3x256 : Shape := ⟨2, ![3, 256]⟩
abbrev S1x256 : Shape := ⟨2, ![1, 256]⟩
abbrev S2816x1024 : Shape := ⟨2, ![2816, 1024]⟩

abbrev nBuf : Space → Nat
  | .hbm => 19
  | .vmem => 27
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S2x1024x5632, .bf16⟩
  | .hbm, ⟨6, _⟩ => ⟨S3x5632, .f32⟩
  | .hbm, ⟨7, _⟩ => ⟨S1x5632, .f32⟩
  | .hbm, ⟨8, _⟩ => ⟨S2x2816x1024, .bf16⟩
  | .hbm, ⟨9, _⟩ => ⟨S1x1024, .f32⟩
  | .hbm, ⟨10, _⟩ => ⟨S1x1024, .f32⟩
  | .hbm, ⟨11, _⟩ => ⟨S1024x512, .bf16⟩
  | .hbm, ⟨12, _⟩ => ⟨S1x512, .f32⟩
  | .hbm, ⟨13, _⟩ => ⟨S1x1024, .f32⟩
  | .hbm, ⟨14, _⟩ => ⟨S1024x1024, .bf16⟩
  | .hbm, ⟨15, _⟩ => ⟨S1x1024, .f32⟩
  | .hbm, ⟨16, _⟩ => ⟨S32768x1024, .f32⟩
  | .hbm, ⟨17, _⟩ => ⟨S32768x512, .bf16⟩
  | .hbm, ⟨18, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x5632, .bf16⟩
  | .local _ .vmem, ⟨8, _⟩ => ⟨S3x5632, .f32⟩
  | .local _ .vmem, ⟨9, _⟩ => ⟨S1x5632, .f32⟩
  | .local _ .vmem, ⟨10, _⟩ => ⟨S1x2816x1024, .bf16⟩
  | .local _ .vmem, ⟨11, _⟩ => ⟨S1x1024, .f32⟩
  | .local _ .vmem, ⟨12, _⟩ => ⟨S1x1024, .f32⟩
  | .local _ .vmem, ⟨13, _⟩ => ⟨S1024x512, .bf16⟩
  | .local _ .vmem, ⟨14, _⟩ => ⟨S1x512, .f32⟩
  | .local _ .vmem, ⟨15, _⟩ => ⟨S1x1024, .f32⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x512, .bf16⟩
  | .local _ .vmem, ⟨21, _⟩ => ⟨S512x512, .bf16⟩
  | .local _ .vmem, ⟨22, _⟩ => ⟨S512x1024, .bf16⟩
  | .local _ .vmem, ⟨23, _⟩ => ⟨S512x1024, .bf16⟩
  | .local _ .vmem, ⟨24, _⟩ => ⟨S8x5632, .f32⟩
  | .local _ .vmem, ⟨25, _⟩ => ⟨S520x256, .f32⟩
  | .local _ .vmem, ⟨26, _⟩ => ⟨S512x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== RefFfn0Ideal.lean ====
abbrev S32768x1024 : Shape := ⟨2, ![32768, 1024]⟩
abbrev S1024x1024 : Shape := ⟨2, ![1024, 1024]⟩
abbrev S1x1024 : Shape := ⟨2, ![1, 1024]⟩
abbrev S2x1024x5632 : Shape := ⟨3, ![2, 1024, 5632]⟩
abbrev S3x5632 : Shape := ⟨2, ![3, 5632]⟩
abbrev S1x5632 : Shape := ⟨2, ![1, 5632]⟩
abbrev S2x2816x1024 : Shape := ⟨3, ![2, 2816, 1024]⟩
abbrev S1024x512 : Shape := ⟨2, ![1024, 512]⟩
abbrev S1x512 : Shape := ⟨2, ![1, 512]⟩
abbrev S8x4096x1024 : Shape := ⟨3, ![8, 4096, 1024]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S1x1024x5632 : Shape := ⟨3, ![1, 1024, 5632]⟩
abbrev S1024x5632 : Shape := ⟨2, ![1024, 5632]⟩
abbrev S5632 : Shape := ⟨1, ![5632]⟩
abbrev S1x2816x1024 : Shape := ⟨3, ![1, 2816, 1024]⟩
abbrev S2816x1024 : Shape := ⟨2, ![2816, 1024]⟩
abbrev S8x4096x5632 : Shape := ⟨3, ![8, 4096, 5632]⟩
abbrev S8x4098x5632 : Shape := ⟨3, ![8, 4098, 5632]⟩
abbrev S1x1x5632 : Shape := ⟨3, ![1, 1, 5632]⟩
abbrev S8x4096x2816 : Shape := ⟨3, ![8, 4096, 2816]⟩
abbrev S8x4096x512 : Shape := ⟨3, ![8, 4096, 512]⟩
abbrev S1x1x512 : Shape := ⟨3, ![1, 1, 512]⟩
abbrev S32768x512 : Shape := ⟨2, ![32768, 512]⟩

abbrev nBuf : Space → Nat
  | .hbm => 139
  | .vmem => 0
  | .smem => 0
  | _ => 0

abbrev hbmTy0_0 (i : Nat) : BufTy := match i % 128 with
  | 0 => ⟨S32768x1024, .f32⟩
  | 1 => ⟨S32768x1024, .bf16⟩
  | 2 => ⟨S1024x1024, .bf16⟩
  | 3 => ⟨S1x1024, .f32⟩
  | 4 => ⟨S1x1024, .f32⟩
  | 5 => ⟨S2x1024x5632, .bf16⟩
  | 6 => ⟨S3x5632, .f32⟩
  | 7 => ⟨S1x5632, .f32⟩
  | 8 => ⟨S2x2816x1024, .bf16⟩
  | 9 => ⟨S1x1024, .f32⟩
  | 10 => ⟨S1x1024, .f32⟩
  | 11 => ⟨S1024x512, .bf16⟩
  | 12 => ⟨S1x512, .f32⟩
  | 13 => ⟨S1x1024, .f32⟩
  | 14 => ⟨S1024x1024, .bf16⟩
  | 15 => ⟨S1x1024, .f32⟩
  | 16 => ⟨S8x4096x1024, .f32⟩
  | 17 => ⟨S8x4096x1024, .bf16⟩
  | 18 => ⟨S8x4096x1024, .f32⟩
  | 19 => ⟨S1024x1024, .f32⟩
  | 20 => ⟨S8x4096x1024, .f32⟩
  | 21 => ⟨S1x1x1024, .f32⟩
  | 22 => ⟨S8x4096x1024, .f32⟩
  | 23 => ⟨S8x4096x1024, .f32⟩
  | 24 => ⟨S8x4096x1024, .f32⟩
  | 25 => ⟨S8x4096x1024, .f32⟩
  | 26 => ⟨S_, .f32⟩
  | 27 => ⟨S8x4096, .f32⟩
  | 28 => ⟨S8x4096x1, .f32⟩
  | 29 => ⟨S_, .f32⟩
  | 30 => ⟨S8x4096x1, .f32⟩
  | 31 => ⟨S8x4096x1, .f32⟩
  | 32 => ⟨S_, .f32⟩
  | 33 => ⟨S8x4096x1, .f32⟩
  | 34 => ⟨S8x4096x1, .f32⟩
  | 35 => ⟨S8x4096x1, .f32⟩
  | 36 => ⟨S8x4096x1024, .f32⟩
  | 37 => ⟨S8x4096x1024, .f32⟩
  | 38 => ⟨S1x1x1024, .f32⟩
  | 39 => ⟨S8x4096x1024, .f32⟩
  | 40 => ⟨S8x4096x1024, .f32⟩
  | 41 => ⟨S1x1024x5632, .bf16⟩
  | 42 => ⟨S1024x5632, .bf16⟩
  | 43 => ⟨S1024x5632, .f32⟩
  | 44 => ⟨S5632, .f32⟩
  | 45 => ⟨S1x2816x1024, .bf16⟩
  | 46 => ⟨S2816x1024, .bf16⟩
  | 47 => ⟨S2816x1024, .f32⟩
  | 48 => ⟨S8x4096x5632, .f32⟩
  | 49 => ⟨S_, .i32⟩
  | 50 => ⟨S_, .f32⟩
  | 51 => ⟨S8x4098x5632, .f32⟩
  | 52 => ⟨S8x4096x5632, .f32⟩
  | 53 => ⟨S1x5632, .f32⟩
  | 54 => ⟨S5632, .f32⟩
  | 55 => ⟨S1x1x5632, .f32⟩
  | 56 => ⟨S8x4096x5632, .f32⟩
  | 57 => ⟨S8x4096x5632, .f32⟩
  | 58 => ⟨S8x4096x5632, .f32⟩
  | 59 => ⟨S1x5632, .f32⟩
  | 60 => ⟨S5632, .f32⟩
  | 61 => ⟨S1x1x5632, .f32⟩
  | 62 => ⟨S8x4096x5632, .f32⟩
  | 63 => ⟨S8x4096x5632, .f32⟩
  | 64 => ⟨S8x4096x5632, .f32⟩
  | 65 => ⟨S8x4096x5632, .f32⟩
  | 66 => ⟨S1x5632, .f32⟩
  | 67 => ⟨S5632, .f32⟩
  | 68 => ⟨S1x1x5632, .f32⟩
  | 69 => ⟨S8x4096x5632, .f32⟩
  | 70 => ⟨S8x4096x5632, .f32⟩
  | 71 => ⟨S8x4096x5632, .f32⟩
  | 72 => ⟨S1x1x5632, .f32⟩
  | 73 => ⟨S8x4096x5632, .f32⟩
  | 74 => ⟨S8x4096x5632, .f32⟩
  | 75 => ⟨S8x4096x2816, .f32⟩
  | 76 => ⟨S8x4096x2816, .f32⟩
  | 77 => ⟨S8x4096x2816, .f32⟩
  | 78 => ⟨S8x4096x2816, .f32⟩
  | 79 => ⟨S_, .f32⟩
  | 80 => ⟨S8x4096x2816, .f32⟩
  | 81 => ⟨S8x4096x2816, .f32⟩
  | 82 => ⟨S_, .f32⟩
  | 83 => ⟨S8x4096x2816, .f32⟩
  | 84 => ⟨S8x4096x2816, .f32⟩
  | 85 => ⟨S8x4096x2816, .f32⟩
  | 86 => ⟨S8x4096x2816, .f32⟩
  | 87 => ⟨S8x4096x1024, .f32⟩
  | 88 => ⟨S8x4096x1024, .f32⟩
  | 89 => ⟨S8x4096x1024, .f32⟩
  | 90 => ⟨S_, .f32⟩
  | 91 => ⟨S8x4096, .f32⟩
  | 92 => ⟨S8x4096x1, .f32⟩
  | 93 => ⟨S_, .f32⟩
  | 94 => ⟨S8x4096x1, .f32⟩
  | 95 => ⟨S8x4096x1, .f32⟩
  | 96 => ⟨S_, .f32⟩
  | 97 => ⟨S8x4096x1, .f32⟩
  | 98 => ⟨S8x4096x1, .f32⟩
  | 99 => ⟨S8x4096x1, .f32⟩
  | 100 => ⟨S8x4096x1024, .f32⟩
  | 101 => ⟨S8x4096x1024, .f32⟩
  | 102 => ⟨S1x1x1024, .f32⟩
  | 103 => ⟨S8x4096x1024, .f32⟩
  | 104 => ⟨S8x4096x1024, .f32⟩
  | 105 => ⟨S1024x512, .f32⟩
  | 106 => ⟨S8x4096x512, .f32⟩
  | 107 => ⟨S1x1x512, .f32⟩
  | 108 => ⟨S8x4096x512, .f32⟩
  | 109 => ⟨S8x4096x512, .f32⟩
  | 110 => ⟨S8x4096x512, .bf16⟩
  | 111 => ⟨S8x4096x1024, .f32⟩
  | 112 => ⟨S_, .f32⟩
  | 113 => ⟨S8x4096, .f32⟩
  | 114 => ⟨S8x4096x1, .f32⟩
  | 115 => ⟨S_, .f32⟩
  | 116 => ⟨S8x4096x1, .f32⟩
  | 117 => ⟨S8x4096x1, .f32⟩
  | 118 => ⟨S_, .f32⟩
  | 119 => ⟨S8x4096x1, .f32⟩
  | 120 => ⟨S8x4096x1, .f32⟩
  | 121 => ⟨S8x4096x1, .f32⟩
  | 122 => ⟨S8x4096x1024, .f32⟩
  | 123 => ⟨S8x4096x1024, .f32⟩
  | 124 => ⟨S1x1x1024, .f32⟩
  | 125 => ⟨S8x4096x1024, .f32⟩
  | 126 => ⟨S8x4096x1024, .f32⟩
  | 127 => ⟨S1024x1024, .f32⟩
  | _ => ⟨S32768x1024, .f32⟩

abbrev hbmTy0_1 (i : Nat) : BufTy := match i % 128 with
  | 0 => ⟨S8x4096x1024, .f32⟩
  | 1 => ⟨S1x1x1024, .f32⟩
  | 2 => ⟨S8x4096x1024, .f32⟩
  | 3 => ⟨S8x4096x1024, .f32⟩
  | 4 => ⟨S_, .f32⟩
  | 5 => ⟨S8x4096x1024, .f32⟩
  | 6 => ⟨S8x4096x1024, .f32⟩
  | 7 => ⟨S8x4096x1024, .bf16⟩
  | 8 => ⟨S32768x1024, .f32⟩
  | 9 => ⟨S32768x512, .bf16⟩
  | 10 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c : Ref sig .tc := ⟨.hbm, 49, rfl⟩
abbrev main_call0_v0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_2 : Ref sig .tc := ⟨.hbm, 90, rfl⟩
abbrev main_v61 : Ref sig .tc := ⟨.hbm, 91, rfl⟩
abbrev main_v62 : Ref sig .tc := ⟨.hbm, 92, rfl⟩
abbrev main_cst_3 : Ref sig .tc := ⟨.hbm, 93, rfl⟩
abbrev main_v63 : Ref sig .tc := ⟨.hbm, 94, rfl⟩
abbrev main_v64 : Ref sig .tc := ⟨.hbm, 95, rfl⟩
abbrev main_cst_4 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_5 : Ref sig .tc := ⟨.hbm, 112, rfl⟩
abbrev main_v80 : Ref sig .tc := ⟨.hbm, 113, rfl⟩
abbrev main_v81 : Ref sig .tc := ⟨.hbm, 114, rfl⟩
abbrev main_cst_6 : Ref sig .tc := ⟨.hbm, 115, rfl⟩
abbrev main_v82 : Ref sig .tc := ⟨.hbm, 116, rfl⟩
abbrev main_v83 : Ref sig .tc := ⟨.hbm, 117, rfl⟩
abbrev main_cst_7 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_8 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩

abbrev nD : Nat := 1
abbrev τ : Topo := Topo.v7x

variable {F : FTy → Type} [FloatOps F]
-- ==== InProj.lean ====
abbrev S32768x1024 : Shape := ⟨2, ![32768, 1024]⟩
abbrev S1x1024 : Shape := ⟨2, ![1, 1024]⟩
abbrev S1x1024x4112 : Shape := ⟨3, ![1, 1024, 4112]⟩
abbrev S1024x128 : Shape := ⟨2, ![1024, 128]⟩
abbrev S3x8x4x128 : Shape := ⟨4, ![3, 8, 4, 128]⟩
abbrev S8x32768x128 : Shape := ⟨3, ![8, 32768, 128]⟩
abbrev S32768x128 : Shape := ⟨2, ![32768, 128]⟩
abbrev S256x1024 : Shape := ⟨2, ![256, 1024]⟩
abbrev S8x256x128 : Shape := ⟨3, ![8, 256, 128]⟩
abbrev S256x128 : Shape := ⟨2, ![256, 128]⟩
abbrev S24x264x128 : Shape := ⟨3, ![24, 264, 128]⟩
abbrev S24x8x128 : Shape := ⟨3, ![24, 8, 128]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x256x128 : Shape := ⟨3, ![1, 256, 128]⟩
abbrev S1x1x4x128 : Shape := ⟨4, ![1, 1, 4, 128]⟩
abbrev S4x128 : Shape := ⟨2, ![4, 128]⟩
abbrev S1x128 : Shape := ⟨2, ![1, 128]⟩
abbrev S8x128 : Shape := ⟨2, ![8, 128]⟩
abbrev S1x8x128 : Shape := ⟨3, ![1, 8, 128]⟩

abbrev nBuf : Space → Nat
  | .hbm => 10
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x4112, .bf16⟩
  | .hbm, ⟨3, _⟩ => ⟨S1024x128, .bf16⟩
  | .hbm, ⟨4, _⟩ => ⟨S3x8x4x128, .f32⟩
  | .hbm, ⟨5, _⟩ => ⟨S8x32768x128, .bf16⟩
  | .hbm, ⟨6, _⟩ => ⟨S8x32768x128, .bf16⟩
  | .hbm, ⟨7, _⟩ => ⟨S8x32768x128, .bf16⟩
  | .hbm, ⟨8, _⟩ => ⟨S8x32768x128, .bf16⟩
  | .hbm, ⟨9, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x4112, .bf16⟩
  | .local _ .vmem, ⟨4, _⟩ => ⟨S1024x128, .bf16⟩
  | .local _ .vmem, ⟨5, _⟩ => ⟨S3x8x4x128, .f32⟩
  | .local _ .vmem, ⟨6, _⟩ => ⟨S8x256x128, .bf16⟩
  | .local _ .vmem, ⟨7, _⟩ => ⟨S8x256x128, .bf16⟩
  | .local _ .vmem, ⟨8, _⟩ => ⟨S8x256x128, .bf16⟩
  | .local _ .vmem, ⟨9, _⟩ => ⟨S8x256x128, .bf16⟩
  | .local _ .vmem, ⟨10, _⟩ => ⟨S8x256x128, .bf16⟩
  | .local _ .vmem, ⟨11, _⟩ => ⟨S8x256x128, .bf16⟩
  | .local _ .vmem, ⟨12, _⟩ => ⟨S8x256x128, .bf16⟩
  | .local _ .vmem, ⟨13, _⟩ => ⟨S8x256x128, .bf16⟩
  | .local _ .vmem, ⟨14, _⟩ => ⟨S256x128, .f32⟩
  | .local _ .vmem, ⟨15, _⟩ => ⟨S256x128, .f32⟩
  | .local _ .vmem, ⟨16, _⟩ => ⟨S24x264x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4112 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x8x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefInProjIdeal.lean ====
abbrev S32768x1024 : Shape := ⟨2, ![32768, 1024]⟩
abbrev S1x1024 : Shape := ⟨2, ![1, 1024]⟩
abbrev S1x1024x4112 : Shape := ⟨3, ![1, 1024, 4112]⟩
abbrev S1024x128 : Shape := ⟨2, ![1024, 128]⟩
abbrev S3x8x4x128 : Shape := ⟨4, ![3, 8, 4, 128]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S8x4096x3072 : Shape := ⟨3, ![8, 4096, 3072]⟩
abbrev S4x3x8x128 : Shape := ⟨4, ![4, 3, 8, 128]⟩
abbrev S4x3072 : Shape := ⟨2, ![4, 3072]⟩
abbrev S8x4099x3072 : Shape := ⟨3, ![8, 4099, 3072]⟩
abbrev S1x3072 : Shape := ⟨2, ![1, 3072]⟩
abbrev S3072 : Shape := ⟨1, ![3072]⟩
abbrev S1x1x3072 : Shape := ⟨3, ![1, 1, 3072]⟩
abbrev S8x4096x8x128 : Shape := ⟨4, ![8, 4096, 8, 128]⟩
abbrev S8x4096x8 : Shape := ⟨3, ![8, 4096, 8]⟩
abbrev S8x4096x8x1 : Shape := ⟨4, ![8, 4096, 8, 1]⟩
abbrev S32768x8x128 : Shape := ⟨3, ![32768, 8, 128]⟩
abbrev S8x32768x128 : Shape := ⟨3, ![8, 32768, 128]⟩
abbrev S8x4096x128 : Shape := ⟨3, ![8, 4096, 128]⟩
abbrev S32768x128 : Shape := ⟨2, ![32768, 128]⟩

abbrev nBuf : Space → Nat
  | .hbm => 121
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1x1024x4112, .bf16⟩
  | .hbm, ⟨3, _⟩ => ⟨S1024x128, .bf16⟩
  | .hbm, ⟨4, _⟩ => ⟨S3x8x4x128, .f32⟩
  | .hbm, ⟨5, _⟩ => ⟨S8x4096x1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S1x1024x4096, .bf16⟩
  | .hbm, ⟨23, _⟩ => ⟨S1024x4096, .bf16⟩
  | .hbm, ⟨24, _⟩ => ⟨S1024x4096, .f32⟩
  | .hbm, ⟨25, _⟩ => ⟨S8x4096x4096, .f32⟩
  | .hbm, ⟨26, _⟩ => ⟨S8x4096x3072, .f32⟩
  | .hbm, ⟨27, _⟩ => ⟨S8x4096x1024, .f32⟩
  | .hbm, ⟨28, _⟩ => ⟨S4x3x8x128, .f32⟩
  | .hbm, ⟨29, _⟩ => ⟨S4x3072, .f32⟩
  | .hbm, ⟨30, _⟩ => ⟨S_, .i32⟩
  | .hbm, ⟨31, _⟩ => ⟨S_, .f32⟩
  | .hbm, ⟨32, _⟩ => ⟨S8x4099x3072, .f32⟩
  | .hbm, ⟨33, _⟩ => ⟨S8x4096x3072, .f32⟩
  | .hbm, ⟨34, _⟩ => ⟨S1x3072, .f32⟩
  | .hbm, ⟨35, _⟩ => ⟨S3072, .f32⟩
  | .hbm, ⟨36, _⟩ => ⟨S1x1x3072, .f32⟩
  | .hbm, ⟨37, _⟩ => ⟨S8x4096x3072, .f32⟩
  | .hbm, ⟨38, _⟩ => ⟨S8x4096x3072, .f32⟩
  | .hbm, ⟨39, _⟩ => ⟨S8x4096x3072, .f32⟩
  | .hbm, ⟨40, _⟩ => ⟨S1x3072, .f32⟩
  | .hbm, ⟨41, _⟩ => ⟨S3072, .f32⟩
  | .hbm, ⟨42, _⟩ => ⟨S1x1x3072, .f32⟩
  | .hbm, ⟨43, _⟩ => ⟨S8x4096x3072, .f32⟩
  | .hbm, ⟨44, _⟩ => ⟨S8x4096x3072, .f32⟩
  | .hbm, ⟨45, _⟩ => ⟨S8x4096x3072, .f32⟩
  | .hbm, ⟨46, _⟩ => ⟨S8x4096x3072, .f32⟩
  | .hbm, ⟨47, _⟩ => ⟨S1x3072, .f32⟩
  | .hbm, ⟨48, _⟩ => ⟨S3072, .f32⟩
  | .hbm, ⟨49, _⟩ => ⟨S1x1x3072, .f32⟩
  | .hbm, ⟨50, _⟩ => ⟨S8x4096x3072, .f32⟩
  | .hbm, ⟨51, _⟩ => ⟨S8x4096x3072, .f32⟩
  | .hbm, ⟨52, _⟩ => ⟨S8x4096x3072, .f32⟩
  | .hbm, ⟨53, _⟩ => ⟨S8x4096x3072, .f32⟩
  | .hbm, ⟨54, _⟩ => ⟨S1x3072, .f32⟩
  | .hbm, ⟨55, _⟩ => ⟨S3072, .f32⟩
  | .hbm, ⟨56, _⟩ => ⟨S1x1x3072, .f32⟩
  | .hbm, ⟨57, _⟩ => ⟨S8x4096x3072, .f32⟩
  | .hbm, ⟨58, _⟩ => ⟨S8x4096x3072, .f32⟩
  | .hbm, ⟨59, _⟩ => ⟨S8x4096x3072, .f32⟩
  | .hbm, ⟨60, _⟩ => ⟨S8x4096x3072, .f32⟩
  | .hbm, ⟨61, _⟩ => ⟨S8x4096x3072, .f32⟩
  | .hbm, ⟨62, _⟩ => ⟨S_, .f32⟩
  | .hbm, ⟨63, _⟩ => ⟨S8x4096x3072, .f32⟩
  | .hbm, ⟨64, _⟩ => ⟨S8x4096x3072, .f32⟩
  | .hbm, ⟨65, _⟩ => ⟨S_, .f32⟩
  | .hbm, ⟨66, _⟩ => ⟨S8x4096x3072, .f32⟩
  | .hbm, ⟨67, _⟩ => ⟨S8x4096x3072, .f32⟩
  | .hbm, ⟨68, _⟩ => ⟨S8x4096x3072, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S8x4096x8x128, .f32⟩
  | .hbm, ⟨73, _⟩ => ⟨S8x4096x8x128, .f32⟩
  | .hbm, ⟨74, _⟩ => ⟨S_, .f32⟩
  | .hbm, ⟨75, _⟩ => ⟨S8x4096x8, .f32⟩
  | .hbm, ⟨76, _⟩ => ⟨S8x4096x8x1, .f32⟩
  | .hbm, ⟨77, _⟩ => ⟨S_, .f32⟩
  | .hbm, ⟨78, _⟩ => ⟨S8x4096x8x1, .f32⟩
  | .hbm, ⟨79, _⟩ => ⟨S8x4096x8x1, .f32⟩
  | .hbm, ⟨80, _⟩ => ⟨S8x4096x8x1, .f32⟩
  | .hbm, ⟨81, _⟩ => ⟨S8x4096x8x128, .f32⟩
  | .hbm, ⟨82, _⟩ => ⟨S8x4096x8x128, .f32⟩
  | .hbm, ⟨83, _⟩ => ⟨S_, .f32⟩
  | .hbm, ⟨84, _⟩ => ⟨S8x4096x8x128, .f32⟩
  | .hbm, ⟨85, _⟩ => ⟨S8x4096x8x128, .f32⟩
  | .hbm, ⟨86, _⟩ => ⟨S8x4096x8x128, .f32⟩
  | .hbm, ⟨87, _⟩ => ⟨S8x4096x8x128, .f32⟩
  | .hbm, ⟨88, _⟩ => ⟨S_, .f32⟩
  | .hbm, ⟨89, _⟩ => ⟨S8x4096x8, .f32⟩
  | .hbm, ⟨90, _⟩ => ⟨S8x4096x8x1, .f32⟩
  | .hbm, ⟨91, _⟩ => ⟨S_, .f32⟩
  | .hbm, ⟨92, _⟩ => ⟨S8x4096x8x1, .f32⟩
  | .hbm, ⟨93, _⟩ => ⟨S8x4096x8x1, .f32⟩
  | .hbm, ⟨94, _⟩ => ⟨S8x4096x8x1, .f32⟩
  | .hbm, ⟨95, _⟩ => ⟨S8x4096x8x128, .f32⟩
  | .hbm, ⟨96, _⟩ => ⟨S8x4096x8x128, .f32⟩
  | .hbm, ⟨97, _⟩ => ⟨S8x4096x1024, .f32⟩
  | .hbm, ⟨98, _⟩ => ⟨S8x4096x1024, .f32⟩
  | .hbm, ⟨99, _⟩ => ⟨S_, .f32⟩
  | .hbm, ⟨100, _⟩ => ⟨S8x4096x1024, .f32⟩
  | .hbm, ⟨101, _⟩ => ⟨S8x4096x1024, .f32⟩
  | .hbm, ⟨102, _⟩ => ⟨S_, .f32⟩
  | .hbm, ⟨103, _⟩ => ⟨S8x4096x1024, .f32⟩
  | .hbm, ⟨104, _⟩ => ⟨S8x4096x1024, .f32⟩
  | .hbm, ⟨105, _⟩ => ⟨S8x4096x1024, .f32⟩
  | .hbm, ⟨106, _⟩ => ⟨S32768x8x128, .f32⟩
  | .hbm, ⟨107, _⟩ => ⟨S8x32768x128, .f32⟩
  | .hbm, ⟨108, _⟩ => ⟨S8x32768x128, .bf16⟩
  | .hbm, ⟨109, _⟩ => ⟨S32768x8x128, .f32⟩
  | .hbm, ⟨110, _⟩ => ⟨S8x32768x128, .f32⟩
  | .hbm, ⟨111, _⟩ => ⟨S8x32768x128, .bf16⟩
  | .hbm, ⟨112, _⟩ => ⟨S32768x8x128, .f32⟩
  | .hbm, ⟨113, _⟩ => ⟨S8x32768x128, .f32⟩
  | .hbm, ⟨114, _⟩ => ⟨S8x32768x128, .bf16⟩
  | .hbm, ⟨115, _⟩ => ⟨S32768x8x128, .f32⟩
  | .hbm, ⟨116, _⟩ => ⟨S8x32768x128, .f32⟩
  | .hbm, ⟨117, _⟩ => ⟨S8x32768x128, .bf16⟩
  | .hbm, ⟨118, _⟩ => ⟨S1024x128, .f32⟩
  | .hbm, ⟨119, _⟩ => ⟨S8x4096x128, .f32⟩
  | .hbm, ⟨120, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_call0_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_2 : Ref sig .tc := ⟨.hbm, 74, rfl⟩
abbrev main_v56 : Ref sig .tc := ⟨.hbm, 75, rfl⟩
abbrev main_v57 : Ref sig .tc := ⟨.hbm, 76, rfl⟩
abbrev main_cst_3 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_4 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_5 : Ref sig .tc := ⟨.hbm, 88, rfl⟩
abbrev main_v67 : Ref sig .tc := ⟨.hbm, 89, rfl⟩
abbrev main_v68 : Ref sig .tc := ⟨.hbm, 90, rfl⟩
abbrev main_cst_6 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call2_v0 : Ref sig .tc := ⟨.hbm, 97, rfl⟩
abbrev main_call2_v1 : Ref sig .tc := ⟨.hbm, 98, rfl⟩
abbrev main_call2_cst : Ref sig .tc := ⟨.hbm, 99, rfl⟩
abbrev main_call2_v2 : Ref sig .tc := ⟨.hbm, 100, rfl⟩
abbrev main_call2_v3 : Ref sig .tc := ⟨.hbm, 101, rfl⟩
abbrev main_call2_cst_0 : Ref sig .tc := ⟨.hbm, 102, rfl⟩
abbrev main_call2_v4 : Ref sig .tc := ⟨.hbm, 103, rfl⟩
abbrev main_call2_v5 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]
-- ==== Proof.SwaBlock.lean ====
/-
  The sliding-window attention kernel's block of one grid point, in one function: the body's 32 stores (4 sub-blocks of
  128 rows × 8 tiles of two heads) are the same computation at 32 choices of the sub-block, the tile and the heads' constants.
-/
module

public import proofs.«01_k».proof.Proof.Gen.KernelIdeal.Value

@[expose] public section

set_option maxRecDepth 16384

noncomputable section

namespace Swa

open Cert.KernelIdeal Cert.KernelIdeal.Gen Idealize.ShloMosaic Idealize.ShloMosaic.TcCoe Idealize.SL.Sem

/-- Column after row: the columns that hold a key of the block before. -/
def upper : IVec S128x128 1 :=
  cmpi .sgt (iota .tc S128x128 32 [1] iota_S128x128_d1_w32) (iota .tc S128x128 32 [0] iota_S128x128_d0_w32)

/-- The distance from a row's query to the key its column holds. -/
def dist : FVec Ideal S128x128 .f32 :=
  sitofp .f32 (select upper
    (addi (subi (iota .tc S128x128 32 [0] iota_S128x128_d0_w32) (iota .tc S128x128 32 [1] iota_S128x128_d1_w32)) (broadcast S128x128 128#32))
    (subi (iota .tc S128x128 32 [0] iota_S128x128_d0_w32) (iota .tc S128x128 32 [1] iota_S128x128_d1_w32)))

/-- The columns of the block before, at a sequence's first grid point. -/
def noPrev (i : grid0.Coords) : IVec S128x128 1 :=
  andi upper (broadcast S128x128 (Scalar.cmpi .eq (BitVec.ofNat 32 (i 1).val) 0#32))

/-- The lower 64 lanes of a window's rows. -/
def lowKv : IVec S256x128 1 := cmpi .slt (iota .tc S256x128 32 [1] iota_S256x128_d1_w32) (broadcast S256x128 64#32)

/-- The lower 64 lanes of a query tile's rows. -/
def lowQ : IVec S128x128 1 := cmpi .slt (iota .tc S128x128 32 [1] iota_S128x128_d1_w32) (broadcast S128x128 64#32)

/-- A window: the block before above the block itself. -/
def window (prev cur : FVec Ideal S128x128 .bf16) : FVec Ideal S256x128 .bf16 :=
  concatenate S256x128 0 [⟨S128x128, prev⟩, ⟨S128x128, cur⟩] concatenates_S128x128_S128x128_S256x128_d0

/-- A window with its two halves of 64 lanes exchanged. -/
def swapped (x : FVec Ideal S256x128 .bf16) : FVec Ideal S256x128 .bf16 :=
  concatenate S256x128 1 [⟨S256x64, extractStridedSlice S256x64 ![0, 64] x slices_S256x128_o0_64_S256x64⟩,
    ⟨S256x64, extractStridedSlice S256x64 ![0, 0] x slices_S256x128_o0_0_S256x64⟩] concatenates_S256x64_S256x64_S256x128_d1

/-- One half of a window's lanes, in both halves. -/
def bothHalves (half : Bool) (x : FVec Ideal S256x128 .bf16) : FVec Ideal S256x128 .bf16 :=
  match half with
  | false => select lowKv x (swapped x)
  | true => select lowKv (swapped x) x

/-- The two heads of a query tile apart: the other head's lanes zero. -/
def keepQ (e : Bool) (x : FVec Ideal S128x128 .bf16) : FVec Ideal S128x128 .bf16 :=
  match e with
  | false => select lowQ x (broadcast S128x128 (Scalar.ofBits .bf16 0x0000#16))
  | true => select lowQ (broadcast S128x128 (Scalar.ofBits .bf16 0x0000#16)) x

/-- The same for a window of values. -/
def keepV (e : Bool) (x : FVec Ideal S256x128 .bf16) : FVec Ideal S256x128 .bf16 :=
  match e with
  | false => select lowKv x (broadcast S256x128 (Scalar.ofBits .bf16 0x0000#16))
  | true => select lowKv (broadcast S256x128 (Scalar.ofBits .bf16 0x0000#16)) x

/-- The raw scores of one head's queries against the window's keys. -/
def raw (e half : Bool) (q : FVec Ideal S128x128 .bf16) (kw : FVec Ideal S256x128 .bf16) : FVec Ideal S128x256 .f32 :=
  matmul dot_S128x128_S256x128_S128x256_1_1_0_0_n_n none (keepQ e q) (bothHalves half kw) (constant S128x256 .f32 0x00000000#32)

/-- The raw scores folded into 128 columns, less slope times distance. -/
def folded (sl : Ideal .f32) (z : FVec Ideal S128x256 .f32) : FVec Ideal S128x128 .f32 :=
  subf (select upper (extractStridedSlice S128x128 ![0, 0] z slices_S128x256_o0_0_S128x128)
    (extractStridedSlice S128x128 ![0, 128] z slices_S128x256_o0_128_S128x128)) (mulf (broadcast S128x128 sl) dist)

/-- At the first sub-block of a sequence's first grid point there is no block before: its columns masked. -/
def masked (i : grid0.Coords) (first : Bool) (s : FVec Ideal S128x128 .f32) : FVec Ideal S128x128 .f32 :=
  match first with
  | true => select (noPrev i) (broadcast S128x128 (Scalar.ofBits .f32 0xFF800000#32)) s
  | false => s

/-- The greatest score of a row and the sink. -/
def peakV (s : FVec Ideal S128x128 .f32) (sk : Ideal .f32) : FVec Ideal S128x1 .f32 :=
  maximumf (shapeCast S128x1 (multiReduction .maximumf [1] S128 s 0xFF800000#32 reduces_S128x128_S128 (.inl rfl) rfl) shapeCasts_S128_S128x1)
    (broadcast S128x1 sk)

/-- The exponentials of the scores less the peak. -/
def expV (s : FVec Ideal S128x128 .f32) (sk : Ideal .f32) : FVec Ideal S128x128 .f32 :=
  exp (subf s (broadcastTo S128x128 (peakV s sk) broadcasts_S128x1_S128x128))

/-- The softmax denominator, the sink's term included. -/
def denomV (s : FVec Ideal S128x128 .f32) (sk : Ideal .f32) : FVec Ideal S128x1 .f32 :=
  addf (shapeCast S128x1 (multiReduction .add [1] S128 (expV s sk) 0x00000000#32 reduces_S128x128_S128 (.inl rfl) rfl) shapeCasts_S128_S128x1)
    (exp (subf (broadcast S128x1 sk) (peakV s sk)))

/-- The folded softmax weights: the exponentials times the denominator's reciprocal. -/
def probs (s : FVec Ideal S128x128 .f32) (sk : Ideal .f32) : FVec Ideal S128x128 .f32 :=
  mulf (expV s sk) (broadcastTo S128x128 (divf (broadcast S128x1 (Scalar.ofBits .f32 0x3F800000#32)) (denomV s sk)) broadcasts_S128x1_S128x128)

/-- The weights laid out over the window: the upper columns on the block before, the others on the block itself. -/
def spreadV (p : FVec Ideal S128x128 .f32) : FVec Ideal S128x256 .bf16 :=
  truncf .bf16 (concatenate S128x256 1 [⟨S128x128, select upper p (broadcast S128x128 (Scalar.ofBits .f32 0x00000000#32))⟩,
    ⟨S128x128, select upper (broadcast S128x128 (Scalar.ofBits .f32 0x00000000#32)) p⟩] concatenates_S128x128_S128x128_S128x256_d1) bitsLt_bf16_f32

/-- One head's weights over the window. -/
def headV (i : grid0.Coords) (first e half : Bool) (sl sk : Ideal .f32) (q : FVec Ideal S128x128 .bf16) (kw : FVec Ideal S256x128 .bf16) :
    FVec Ideal S128x256 .bf16 :=
  spreadV (probs (masked i first (folded sl (raw e half q kw))) sk)

/-- What one store writes: two heads' weighted values side by side. -/
def tileV (i : grid0.Coords) (first half : Bool) (sl sk : Bool → Ideal .f32) (q : FVec Ideal S128x128 .bf16) (kw vw : FVec Ideal S256x128 .bf16) :
    FVec Ideal S128x128 .bf16 :=
  truncf .bf16 (addf
    (matmul dot_S128x256_S256x128_S128x128_1_0_0_1_n_n none (headV i first false half (sl false) (sk false) q kw) (keepV false (bothHalves half vw)) (constant S128x128 .f32 0x00000000#32))
    (matmul dot_S128x256_S256x128_S128x128_1_0_0_1_n_n none (headV i first true half (sl true) (sk true) q kw) (keepV true (bothHalves half vw)) (constant S128x128 .f32 0x00000000#32)))
    bitsLt_bf16_f32

/-- The heads' slopes, as the program writes them: the powers of two in their bits, the others by their names. -/
def slope (h : Fin 8) (e : Bool) : Ideal .f32 :=
  match e with
  | false => (![Named.named κ "slope0" 0x3F3504F3#32, Named.named κ "slope2" 0x3EB504F3#32, Named.named κ "slope4" 0x3E3504F3#32,
      Named.named κ "slope6" 0x3DB504F3#32, Named.named κ "slope8" 0x3D3504F3#32, Named.named κ "slope10" 0x3CB504F3#32,
      Named.named κ "slope12" 0x3C3504F3#32, Named.named κ "slope14" 0x3BB504F3#32] : Fin 8 → Ideal .f32) h
  | true => (![FloatOps.ofBits .f32 0x3F000000#32, FloatOps.ofBits .f32 0x3E800000#32, FloatOps.ofBits .f32 0x3E000000#32,
      FloatOps.ofBits .f32 0x3D800000#32, FloatOps.ofBits .f32 0x3D000000#32, FloatOps.ofBits .f32 0x3C800000#32,
      FloatOps.ofBits .f32 0x3C000000#32, FloatOps.ofBits .f32 0x3B800000#32] : Fin 8 → Ideal .f32) h

section Loads

variable (i : grid0.Coords) (arg2 : Memref sig .tc .smem S16 .f32) (harg2 : arg2.IsWhole) (arg3 : Memref sig .tc .vmem S512x1024 .bf16) (harg3 : arg3.IsWhole)
  (arg4 : Memref sig .tc .vmem S128x512 .bf16) (harg4 : arg4.IsWhole) (arg5 : Memref sig .tc .vmem S512x512 .bf16) (harg5 : arg5.IsWhole)
  (x0 : Vec Ideal S16 .f32) (x1 : Vec Ideal S512x1024 .bf16) (x2 : Vec Ideal S128x512 .bf16) (x3 : Vec Ideal S512x512 .bf16)

theorem inb_q (a : Fin 4) (b : Fin 8) : ∀ d, (![128 * a.val, 128 * b.val] : Fin 2 → Nat) d + S128x128.size d ≤ S512x1024.size d := by
  intro d
  match d with
  | ⟨0, _⟩ => show 128 * a.val + 128 ≤ 512; omega
  | ⟨1, _⟩ => show 128 * b.val + 128 ≤ 1024; omega

theorem inb_kv (a b : Fin 4) : ∀ d, (![128 * a.val, 128 * b.val] : Fin 2 → Nat) d + S128x128.size d ≤ S512x512.size d := by
  intro d
  match d with
  | ⟨0, _⟩ => show 128 * a.val + 128 ≤ 512; omega
  | ⟨1, _⟩ => show 128 * b.val + 128 ≤ 512; omega

theorem inb_prev (b : Fin 4) : ∀ d, (![0, 128 * b.val] : Fin 2 → Nat) d + S128x128.size d ≤ S128x512.size d := by
  intro d
  match d with
  | ⟨0, _⟩ => show 0 + 128 ≤ 128; omega
  | ⟨1, _⟩ => show 128 * b.val + 128 ≤ 512; omega

theorem inb_sink (h : Fin 16) : ∀ d, (![h.val] : Fin 1 → Nat) d + S1.size d ≤ S16.size d := by
  intro d
  match d with
  | ⟨0, _⟩ => show h.val + 1 ≤ 16; omega

/-- The query tile of sub-block `a` and heads `2 b`, `2 b + 1`. -/
def qTile (a : Fin 4) (b : Fin 8) : FVec Ideal S128x128 .bf16 :=
  View.readAt (Elt Ideal) arg3.view (Rect.unit (s := S512x1024) ![128 * a.val, 128 * b.val] S128x128.size (inb_q a b)).toLoadRect (harg3.unread x1)

/-- Rows of sub-block `a` of the key-value block, lanes of tile `b`. -/
def curTile (a b : Fin 4) : FVec Ideal S128x128 .bf16 :=
  View.readAt (Elt Ideal) arg5.view (Rect.unit (s := S512x512) ![128 * a.val, 128 * b.val] S128x128.size (inb_kv a b)).toLoadRect (harg5.unread x3)

/-- The 128 rows before sub-block `a`: the previous block's for the first, the sub-block before otherwise. -/
def prevTile (a b : Fin 4) : FVec Ideal S128x128 .bf16 :=
  match a with
  | ⟨0, _⟩ => View.readAt (Elt Ideal) arg4.view (Rect.unit (s := S128x512) ![0, 128 * b.val] S128x128.size (inb_prev b)).toLoadRect (harg4.unread x2)
  | ⟨a' + 1, h⟩ => curTile arg5 harg5 x3 ⟨a', by omega⟩ b

/-- One head's sink. -/
def sinkAt (h : Fin 16) : Ideal .f32 :=
  View.readAt (Elt Ideal) arg2.view (Rect.unit (s := S16) ![h.val] S1.size (inb_sink h)).toLoadRect (harg2.unread x0) (Shape.Idx.first numel1_S1.symm.le)

/-- The half of a key-value tile's lanes that the heads of tile `b` share. -/
def halfOf (b : Fin 8) : Bool := (![false, false, true, true, false, false, true, true] : Fin 8 → Bool) b

/-- Whether a sub-block is a grid point's first. -/
def isFirst (a : Fin 4) : Bool := (![true, false, false, false] : Fin 4 → Bool) a

/-- The tile of a head pair's keys. -/
def kTile (b : Fin 8) : Fin 4 := (![0, 0, 0, 0, 1, 1, 1, 1] : Fin 8 → Fin 4) b

/-- The tile of a head pair's values. -/
def vTile (b : Fin 8) : Fin 4 := (![2, 2, 2, 2, 3, 3, 3, 3] : Fin 8 → Fin 4) b

/-- The head of tile `b`'s half `e`. -/
def headOf (b : Fin 8) (e : Bool) : Fin 16 := match e with | false => ⟨2 * b.val, by omega⟩ | true => ⟨2 * b.val + 1, by omega⟩

/-- What the body stores at sub-block `a`, tile `b`. -/
def pieceV (a : Fin 4) (b : Fin 8) : FVec Ideal S128x128 .bf16 :=
  tileV i (isFirst a) (halfOf b) (slope b) (fun e => sinkAt arg2 harg2 x0 (headOf b e)) (qTile arg3 harg3 x1 a b)
    (window (prevTile arg4 harg4 arg5 harg5 x2 x3 a (kTile b)) (curTile arg5 harg5 x3 a (kTile b)))
    (window (prevTile arg4 harg4 arg5 harg5 x2 x3 a (vTile b)) (curTile arg5 harg5 x3 a (vTile b)))

/-- The stores' rectangles and what they write, last first. -/
def piecesV : List (View.Piece (Elt Ideal) S512x1024 .bf16) :=
  List.ofFn fun n : Fin 32 => ⟨Rect.unit (s := S512x1024) ![128 * (3 - n.val / 8), 128 * (7 - n.val % 8)] S128x128.size (inb_q ⟨3 - n.val / 8, by omega⟩ ⟨7 - n.val % 8, by omega⟩),
    pieceV i arg2 harg2 arg3 harg3 arg4 harg4 arg5 harg5 x0 x1 x2 x3 ⟨3 - n.val / 8, by omega⟩ ⟨7 - n.val % 8, by omega⟩⟩

end Loads

set_option maxHeartbeats 4000000 in
/-- The body's run writes those pieces. -/
theorem run_pieces (c : Dev nD) (i : grid0.Coords) (arg2 : Memref sig .tc .smem S16 .f32) (harg2 : arg2.IsWhole) (arg3 : Memref sig .tc .vmem S512x1024 .bf16) (harg3 : arg3.IsWhole)
    (arg4 : Memref sig .tc .vmem S128x512 .bf16) (harg4 : arg4.IsWhole) (arg5 : Memref sig .tc .vmem S512x512 .bf16) (harg5 : arg5.IsWhole)
    (arg6 : Memref sig .tc .vmem S512x1024 .bf16) (harg6 : arg6.IsWhole)
    (x0 : Vec Ideal S16 .f32) (x1 : Vec Ideal S512x1024 .bf16) (x2 : Vec Ideal S128x512 .bf16) (x3 : Vec Ideal S512x512 .bf16) :
    (kernelRun0_A c i arg2 harg2 arg3 harg3 arg4 harg4 arg5 harg5 arg6 harg6 x0 x1 x2 x3).1
      = piecesV i arg2 harg2 arg3 harg3 arg4 harg4 arg5 harg5 x0 x1 x2 x3 := by
  rfl

end Swa

end
-- ==== Proof.SwaMath.lean ====
/-
  One query row of one head of the sliding-window attention, as a statement about extended reals alone.

  The window of a query row `r` of a 128-row block is 256 keys: the block before and the block itself. The layer masks
  the keys outside `r < s ≤ r + 128`, takes a softmax with a sink in the denominator and weighs the values. The kernel
  folds the 256 scores into 128 columns (column `j` holds key `j` of the block before where `j > r`, key `128 + j`
  otherwise), which are exactly the keys of the band, and multiplies by the reciprocal of the denominator first.
-/
module

public import Idealize.ShloMosaic.Lib.Pointwise
public import Idealize.ShloMosaic.Lib.ValueIdx

@[expose] public section

noncomputable section

namespace Attn

open Idealize.ShloMosaic

/-- A finite extended real. -/
def Fin' (x : EReal) : Prop := x ≠ ⊥ ∧ x ≠ ⊤

theorem Fin'.coe (x : ℝ) : Fin' (x : EReal) := ⟨EReal.coe_ne_bot x, EReal.coe_ne_top x⟩

/-- A finite extended real is a real. -/
theorem Fin'.exists {x : EReal} (h : Fin' x) : ∃ r : ℝ, x = r := ⟨x.toReal, (EReal.coe_toReal h.2 h.1).symm⟩

theorem Fin'.add {x y : EReal} (hx : Fin' x) (hy : Fin' y) : Fin' (x + y) := by
  obtain ⟨a, rfl⟩ := hx.exists; obtain ⟨b, rfl⟩ := hy.exists
  exact (EReal.coe_add a b) ▸ Fin'.coe _

theorem Fin'.mul {x y : EReal} (hx : Fin' x) (hy : Fin' y) : Fin' (x * y) := by
  obtain ⟨a, rfl⟩ := hx.exists; obtain ⟨b, rfl⟩ := hy.exists
  exact (EReal.coe_mul a b) ▸ Fin'.coe _

theorem Fin'.sum {ι : Type*} (s : Finset ι) (f : ι → EReal) (h : ∀ i ∈ s, Fin' (f i)) : Fin' (∑ i ∈ s, f i) :=
  Finset.sum_induction f Fin' (fun _ _ => Fin'.add) (Fin'.coe 0) h

/-- A nonnegative real factor distributes over a finite sum of extended reals, infinite ones included. -/
theorem mul_sum_of_nonneg {ι : Type*} (s : Finset ι) (f : ι → EReal) {c : ℝ} (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hc) (EReal.coe_ne_top c) _ _

/-- The key of the window that the kernel's folded column `j` of row `r` holds. -/
def key (r j : Fin 128) : Fin 256 := if r < j then ⟨j, by omega⟩ else ⟨128 + j, by omega⟩

/-- The position of a window's key `s` in the band of row `r`. -/
def inBand (r : Fin 128) (s : Fin 256) : Prop := (r : ℕ) < s ∧ (s : ℕ) ≤ r + 128

instance (r : Fin 128) (s : Fin 256) : Decidable (inBand r s) := inferInstanceAs (Decidable (_ ∧ _))

theorem key_inBand (r j : Fin 128) : inBand r (key r j) := by
  unfold key inBand
  split <;> simp only [] <;> omega

theorem key_injective (r : Fin 128) : Function.Injective (key r) := by
  intro a b h
  unfold key at h
  split at h <;> split at h <;> simp only [Fin.mk.injEq] at h <;> omega

/-- Every key of the band is held by a column. -/
theorem exists_key {r : Fin 128} {s : Fin 256} (h : inBand r s) : ∃ j, key r j = s := by
  unfold inBand at h
  by_cases hs : (s : ℕ) < 128
  · refine ⟨⟨s, hs⟩, ?_⟩
    unfold key
    rw [if_pos (Fin.lt_def.2 h.1)]
  · refine ⟨⟨s - 128, by omega⟩, ?_⟩
    unfold key
    rw [if_neg (by rw [Fin.lt_def]; simp only []; omega)]
    apply Fin.ext
    simp only []
    omega

variable (r : Fin 128) (valid : Fin 256 → Prop) [DecidablePred valid] (S : Fin 256 → EReal) (sink : EReal)

/-- The weight the kernel's folded columns `p` give to key `s`: the upper columns are the block before, the others the
    block itself. -/
def spread (p : Fin 128 → EReal) (s : Fin 256) : EReal :=
  if h : (s : ℕ) < 128 then (if (r : ℕ) < s then p ⟨s, h⟩ else 0)
  else (if (r : ℕ) < (s : ℕ) - 128 then 0 else p ⟨(s : ℕ) - 128, by omega⟩)

theorem spread_key (p : Fin 128 → EReal) (j : Fin 128) : spread r p (key r j) = p j := by
  unfold spread key
  by_cases h : r < j
  · have h' : (r : ℕ) < j := h
    simp only [if_pos h, h', ↓reduceIte, j.isLt, ↓reduceDIte, Fin.eta]
  · have h' : ¬ (r : ℕ) < j := h
    have h2 : ¬ (128 + (j : ℕ) < 128) := by omega
    simp only [if_neg h, h2, ↓reduceDIte, Nat.add_sub_cancel_left, h', ↓reduceIte, Fin.eta]

theorem spread_of_not_inBand (p : Fin 128 → EReal) (s : Fin 256) (h : ¬ inBand r s) : spread r p s = 0 := by
  unfold inBand at h
  unfold spread
  by_cases hs : (s : ℕ) < 128
  · rw [dif_pos hs, if_neg (by omega)]
  · rw [dif_neg hs, if_pos (by omega)]

/-- The greatest score and the sink, of a row of scores. -/
def peak {n : ℕ} (T : Fin n → EReal) (sink : EReal) : EReal := max (Finset.univ.fold max ⊥ T) sink

/-- The softmax denominator of a row of scores, the sink's term included. -/
def denom {n : ℕ} (T : Fin n → EReal) (sink : EReal) : EReal :=
  ∑ j, Ideal.exp (T j - peak T sink) + Ideal.exp (sink - peak T sink)

/-- A row's softmax weights as the kernel computes them: the exponential times the denominator's reciprocal. -/
def weight {n : ℕ} (T : Fin n → EReal) (sink : EReal) (j : Fin n) : EReal :=
  Ideal.exp (T j - peak T sink) * Ideal.div 1 (denom T sink)

variable {r S}

theorem fold_max_eq_sup {n : ℕ} (T : Fin n → EReal) : Finset.univ.fold max ⊥ T = Finset.univ.sup T := rfl

/-- The folded columns reach the same peak as the whole window: what they leave out is masked. -/
theorem peak_fold (hS : ∀ s, ¬ inBand r s → S s = ⊥) : peak (fun j => S (key r j)) sink = peak S sink := by
  unfold peak
  rw [fold_max_eq_sup, fold_max_eq_sup]
  congr 1
  apply le_antisymm
  · exact Finset.sup_le fun j _ => Finset.le_sup (f := S) (Finset.mem_univ (key r j))
  · refine Finset.sup_le fun s _ => ?_
    by_cases h : inBand r s
    · obtain ⟨j, rfl⟩ := exists_key h
      exact Finset.le_sup (f := fun j => S (key r j)) (Finset.mem_univ j)
    · rw [hS s h]; exact bot_le

/-- With no score `⊤` and a finite sink, the peak is a real. -/
theorem peak_real {n : ℕ} (T : Fin n → EReal) (hT : ∀ j, T j ≠ ⊤) {sink : EReal} (hs : Fin' sink) :
    ∃ μ : ℝ, peak T sink = μ := by
  refine Fin'.exists ⟨?_, ?_⟩
  · exact ne_bot_of_le_ne_bot hs.1 (le_max_right _ _)
  · unfold peak
    rw [fold_max_eq_sup]
    exact ne_of_lt (max_lt ((Finset.sup_lt_iff bot_lt_top).2 fun j _ => lt_top_iff_ne_top.2 (hT j)) (lt_top_iff_ne_top.2 hs.2))

/-- A score that is not `⊤`, less a real peak, has a nonnegative real exponential — zero where the score is masked. -/
theorem exp_real {x : EReal} (hx : x ≠ ⊤) (μ : ℝ) :
    ∃ p : ℝ, 0 ≤ p ∧ Ideal.exp (x - (μ : EReal)) = p ∧ (x = ⊥ → p = 0) := by
  induction x with
  | bot => exact ⟨0, le_refl _, by rw [EReal.bot_sub]; rfl, fun _ => rfl⟩
  | coe x =>
    refine ⟨Real.exp (x - μ), (Real.exp_pos _).le, ?_, fun h => absurd h (EReal.coe_ne_bot x)⟩
    rw [← EReal.coe_sub, Ideal.exp_coe]
  | top => exact absurd rfl hx

/-- A sum over the window of what is zero outside the band is the sum over the folded columns. -/
theorem sum_key {f : Fin 256 → EReal} (hf : ∀ s, ¬ inBand r s → f s = 0) : ∑ j, f (key r j) = ∑ s, f s := by
  classical
  rw [← Finset.sum_image (s := Finset.univ) (g := key r) (f := f) (fun a _ b _ h => key_injective r h)]
  refine Finset.sum_subset (Finset.subset_univ _) fun s _ hs => hf s fun h => hs ?_
  obtain ⟨j, rfl⟩ := exists_key h
  exact Finset.mem_image_of_mem _ (Finset.mem_univ j)

/-- THE ROW. With scores `S` of the window masked (`⊥`) outside the band and nowhere `⊤`, and a finite sink: the kernel's
    weighted sum — folded columns, reciprocal first — is the layer's quotient. The two sides' values may differ at keys
    whose score is masked. -/
theorem row_eq (hS : ∀ s, ¬ inBand r s → S s = ⊥) (hT : ∀ s, S s ≠ ⊤) {sink : EReal} (hs : Fin' sink)
    (VK VR : Fin 256 → EReal) (hV : ∀ s, S s ≠ ⊥ → VK s = VR s) :
    ∑ s, spread r (weight (fun j => S (key r j)) sink) s * VK s
      = Ideal.div (∑ s, Ideal.exp (S s - peak S sink) * VR s) (denom S sink) := by
  obtain ⟨μ, hμ⟩ := peak_real S hT hs
  obtain ⟨σ, rfl⟩ := hs.exists
  choose p hp0 hp hpb using fun s => exp_real (hT s) μ
  have hden : denom (fun j => S (key r j)) (σ : EReal) = denom S (σ : EReal) := by
    unfold denom
    rw [peak_fold (σ : EReal) hS, sum_key (f := fun s => Ideal.exp (S s - peak S (σ : EReal)))]
    intro s h
    simp only [hS s h, hμ, EReal.bot_sub]; rfl
  have hD : ∃ D : ℝ, 0 < D ∧ denom S (σ : EReal) = D := by
    refine ⟨∑ s, p s + Real.exp (σ - μ), add_pos_of_nonneg_of_pos (Finset.sum_nonneg fun s _ => hp0 s) (Real.exp_pos _), ?_⟩
    unfold denom
    rw [hμ, ← EReal.coe_sub, Ideal.exp_coe, EReal.coe_add]
    congr 1
    simp only [hp]
    exact (map_sum (⟨⟨((↑) : ℝ → EReal), rfl⟩, EReal.coe_add⟩ : ℝ →+ EReal) p Finset.univ).symm
  obtain ⟨D, hD0, hD⟩ := hD
  have hw : ∀ s, spread r (weight (fun j => S (key r j)) (σ : EReal)) s = (p s : EReal) * ((1 / D : ℝ) : EReal) := by
    intro s
    by_cases h : inBand r s
    · obtain ⟨j, rfl⟩ := exists_key h
      rw [spread_key]
      unfold weight
      rw [hden, hD, peak_fold (σ : EReal) hS, hμ, hp, Ideal.div_coe hD0.ne', one_mul]
    · rw [spread_of_not_inBand r _ s h, hpb s (hS s h), EReal.coe_zero, zero_mul]
  rw [hD, Ideal.div_coe hD0.ne', mul_comm (Finset.sum _ _), mul_sum_of_nonneg _ _ (one_div_nonneg.2 hD0.le)]
  refine Finset.sum_congr rfl fun s _ => ?_
  rw [hw, hμ, hp]
  by_cases h : S s = ⊥
  · rw [hpb s h]; simp
  · rw [hV s h, mul_comm (p s : EReal), mul_assoc]

end Attn

end
-- ==== Proof.SwaValue.lean ====
/-
  What the sliding-window attention kernel's store of one tile is, entry by entry: the row of Proof/SwaMath.lean.
-/
module

public import proofs.«01_k».proof.Proof.SwaBlock
public import proofs.«01_k».proof.Proof.SwaMath
public import Idealize.ShloMosaic.Lib.WordCmp

@[expose] public section

set_option maxRecDepth 16384

noncomputable section

namespace Swa

open Cert.KernelIdeal Cert.KernelIdeal.Gen Idealize.ShloMosaic Idealize.ShloMosaic.TcCoe Idealize.SL.Sem

/-- A choice by one index word above another is a choice by the naturals' order. -/
theorem select_sgt {α : Type} {m n : ℕ} (hm : m < 256) (hn : n < 256) (a b : α) :
    Scalar.select (IntOp.cmpi .sgt (BitVec.ofNat 32 m) (BitVec.ofNat 32 n)) a b = if n < m then a else b := by
  rw [WordCmp.cmpi_sgt_ofNat (by norm_num; omega) (by norm_num; omega), WordCmp.select_ofBool]
  simp only [decide_eq_true_eq]

/-- The same, one index word below another. -/
theorem select_slt {α : Type} {m n : ℕ} (hm : m < 256) (hn : n < 256) (a b : α) :
    Scalar.select (IntOp.cmpi .slt (BitVec.ofNat 32 m) (BitVec.ofNat 32 n)) a b = if m < n then a else b := by
  rw [WordCmp.cmpi_slt_ofNat (by norm_num; omega) (by norm_num; omega), WordCmp.select_ofBool]
  simp only [decide_eq_true_eq]

/-- The distance from row `r`'s query to its key in column `j`, as an integer. -/
def gap (r j : Fin 128) : ℤ := if (r : ℕ) < j then (r : ℤ) - j + 128 else (r : ℤ) - j

theorem dist_apply (r j : Fin 128) : dist (ix2 r j) = ((gap r j : ℝ) : EReal) := by
  pointwise [dist, upper]
  rw [select_sgt (by omega) (by omega)]
  refine congrArg (fun z : ℤ => ((z : ℝ) : EReal)) ?_
  revert r j
  decide +kernel

theorem window_apply (prev cur : FVec Ideal S128x128 .bf16) (s : Fin 256) (l : Fin 128) :
    window prev cur (ix2 s l) = if h : (s : ℕ) < 128 then prev (ix2 ⟨s, h⟩ l) else cur (ix2 ⟨(s : ℕ) - 128, by omega⟩ l) := by
  pointwise [window]

/-- The lane of a half of a tile. -/
def lane (half : Bool) (d : Fin 64) : Fin 128 := ⟨(if half then 64 else 0) + d, by split <;> omega⟩

/-- A lane within its half. -/
def inHalf (l : Fin 128) : Fin 64 := ⟨l % 64, by omega⟩

theorem bothHalves_apply (half : Bool) (x : FVec Ideal S256x128 .bf16) (s : Fin 256) (l : Fin 128) :
    bothHalves half x (ix2 s l) = x (ix2 s (lane half (inHalf l))) := by
  cases half <;>
  · pointwise [bothHalves, lowKv, swapped]
    rw [select_slt (by omega) (by omega)]
    by_cases h : (l : ℕ) < 64
    · simp only [if_pos h, dif_pos h]
      refine congrArg (fun k => x (ix2 s k)) (Fin.ext ?_)
      simp only [lane, inHalf, Bool.false_eq_true, ↓reduceIte]
      omega
    · simp only [if_neg h, dif_neg h]
      refine congrArg (fun k => x (ix2 s k)) (Fin.ext ?_)
      simp only [lane, inHalf, Bool.false_eq_true, ↓reduceIte]
      omega

/-- Whether a lane is in the half `e` of its tile. -/
def ofHalf (e : Bool) (l : Fin 128) : Bool := (decide (64 ≤ (l : ℕ))) == e

theorem keepQ_apply (e : Bool) (x : FVec Ideal S128x128 .bf16) (r l : Fin 128) :
    keepQ e x (ix2 r l) = if ofHalf e l then x (ix2 r l) else 0 := by
  cases e <;>
  · pointwise [keepQ, lowQ]
    rw [select_slt (by omega) (by omega)]
    by_cases h : (l : ℕ) < 64
    · simp [ofHalf, h]
    · simp [ofHalf, h, Nat.le_of_not_lt h]

theorem keepV_apply (e : Bool) (x : FVec Ideal S256x128 .bf16) (s : Fin 256) (l : Fin 128) :
    keepV e x (ix2 s l) = if ofHalf e l then x (ix2 s l) else 0 := by
  cases e <;>
  · pointwise [keepV, lowKv]
    rw [select_slt (by omega) (by omega)]
    by_cases h : (l : ℕ) < 64
    · simp [ofHalf, h]
    · simp [ofHalf, h, Nat.le_of_not_lt h]

theorem inHalf_lane (e : Bool) (d : Fin 64) : inHalf (lane e d) = d := by
  apply Fin.ext
  cases e <;> simp [inHalf, lane] <;> omega

theorem ofHalf_lane_self (e : Bool) (d : Fin 64) : ofHalf e (lane e d) = true := by
  cases e <;> simp [ofHalf, lane]

theorem ofHalf_lane_true (d : Fin 64) : ofHalf true (lane false d) = false := by simp [ofHalf, lane]

theorem ofHalf_lane_false (d : Fin 64) : ofHalf false (lane true d) = false := by simp [ofHalf, lane]

/-- A sum over a tile's lanes of what is zero outside one half is the sum over that half. -/
theorem sum_half (e : Bool) (f : Fin 128 → EReal) (g : Fin 128 → EReal) :
    ∑ l, (if ofHalf e l then f l else 0) * g l = ∑ d, f (lane e d) * g (lane e d) := by
  rw [Fin.sum_univ_two_halves 64 64 rfl]
  cases e
  · rw [Finset.sum_eq_zero (s := Finset.univ) (f := fun k : Fin 64 => _ * g ⟨64 + k, _⟩), add_zero]
    · refine Finset.sum_congr rfl fun d _ => ?_
      have : ofHalf false ⟨(d : ℕ), by omega⟩ = true := by simp [ofHalf]
      rw [this, if_pos rfl]
      simp [lane]
    · intro k _
      have : ofHalf false ⟨64 + (k : ℕ), by omega⟩ = false := by simp [ofHalf]
      rw [this]; simp
  · rw [Finset.sum_eq_zero (s := Finset.univ) (f := fun k : Fin 64 => _ * g ⟨k, _⟩), zero_add]
    · refine Finset.sum_congr rfl fun d _ => ?_
      have : ofHalf true ⟨64 + (d : ℕ), by omega⟩ = true := by simp [ofHalf]
      rw [this, if_pos rfl]
      simp [lane]
    · intro k _
      have : ofHalf true ⟨(k : ℕ), by omega⟩ = false := by simp [ofHalf]
      rw [this]; simp

/-- A head's raw score: the dot product of the query's and the key's 64 lanes. -/
theorem raw_apply (e half : Bool) (q : FVec Ideal S128x128 .bf16) (kw : FVec Ideal S256x128 .bf16) (r : Fin 128) (s : Fin 256) :
    raw e half q kw (ix2 r s) = ∑ d : Fin 64, (q (ix2 r (lane e d)) * kw (ix2 s (lane half d)) : EReal) := by
  pointwise [raw, keepQ_apply, bothHalves_apply]
  refine (sum_half e (fun k => q (ix2 r k)) (fun k => kw (ix2 s (lane half (inHalf k))))).trans ?_
  refine Finset.sum_congr rfl fun d _ => ?_
  rw [inHalf_lane]

theorem folded_apply (sl : Ideal .f32) (z : FVec Ideal S128x256 .f32) (r j : Fin 128) :
    folded sl z (ix2 r j) = (z (ix2 r (Attn.key r j)) - sl * ((gap r j : ℝ) : EReal) : EReal) := by
  pointwise [folded, upper, dist_apply]
  rw [select_sgt (by omega) (by omega)]
  unfold Attn.key
  by_cases h : r < j
  · rw [if_pos h, if_pos (Fin.lt_def.1 h)]
  · rw [if_neg h, if_neg (fun h' => h (Fin.lt_def.2 h'))]

/-- The pattern of minus infinity. -/
theorem ofBits_minus_inf : Ideal.ofBits .f32 0xFF800000#32 = (⊥ : EReal) := by
  simp [Ideal.ofBits, Ideal.ieee]

theorem masked_apply (i : grid0.Coords) (first : Bool) (s : FVec Ideal S128x128 .f32) (r j : Fin 128) :
    masked i first s (ix2 r j) = if first = true ∧ (i 1).val = 0 ∧ r < j then (⊥ : EReal) else s (ix2 r j) := by
  cases first
  · simp [masked]
  · pointwise [masked, noPrev, upper, ofBits_minus_inf]
    have hi : (i 1).val < 8 := (i 1).isLt
    rw [WordCmp.cmpi_sgt_ofNat (by norm_num; omega) (by norm_num; omega),
      show Scalar.cmpi .eq (BitVec.ofNat 32 (i 1).val) 0#32 = BitVec.ofBool (decide ((i 1).val = 0)) from
        WordCmp.cmpi_eq_ofNat (by norm_num; omega) (by norm_num),
      WordCmp.andi_ofBool, WordCmp.select_ofBool]
    simp only [Bool.and_eq_true, decide_eq_true_eq, Fin.lt_def]
    exact if_congr and_comm rfl rfl

theorem peakV_apply (s : FVec Ideal S128x128 .f32) (sk : Ideal .f32) (r : Fin 128) :
    peakV s sk (ix2 r 0) = Attn.peak (fun j => s (ix2 r j)) sk := by
  pointwise [peakV]
  unfold Attn.peak
  exact congrArg (fun b => max (Finset.fold max b _ _) _) ofBits_minus_inf

theorem spreadV_apply (p : FVec Ideal S128x128 .f32) (r : Fin 128) (s : Fin 256) :
    spreadV p (ix2 r s) = Attn.spread r (fun j => p (ix2 r j)) s := by
  pointwise [spreadV, upper]
  unfold Attn.spread
  by_cases h : (s : ℕ) < 128
  · rw [dif_pos h, dif_pos h, select_sgt (by omega) (by omega)]
  · rw [dif_neg h, dif_neg h, select_sgt (by omega) (by omega)]

theorem probs_apply (s : FVec Ideal S128x128 .f32) (sk : Ideal .f32) (r j : Fin 128) :
    probs s sk (ix2 r j) = Attn.weight (fun j => s (ix2 r j)) sk j := by
  pointwise [probs, expV, denomV, peakV_apply]
  rfl

/-- The scores of one head's row, folded: what the softmax is taken of. -/
def rowScore (i : grid0.Coords) (first e half : Bool) (sl : EReal) (q : FVec Ideal S128x128 .bf16) (kw : FVec Ideal S256x128 .bf16) (r j : Fin 128) : EReal :=
  if first = true ∧ (i 1).val = 0 ∧ r < j then ⊥
  else (∑ d : Fin 64, (q (ix2 r (lane e d)) * kw (ix2 (Attn.key r j) (lane half d)) : EReal)) - sl * ((gap r j : ℝ) : EReal)

theorem headV_apply (i : grid0.Coords) (first e half : Bool) (sl sk : Ideal .f32) (q : FVec Ideal S128x128 .bf16) (kw : FVec Ideal S256x128 .bf16)
    (r : Fin 128) (s : Fin 256) :
    headV i first e half sl sk q kw (ix2 r s) = Attn.spread r (Attn.weight (rowScore i first e half sl q kw r) sk) s := by
  unfold headV
  rw [spreadV_apply]
  refine congrArg (fun p => Attn.spread r p s) (funext fun j => ?_)
  rw [probs_apply]
  refine congrArg (fun T => Attn.weight T sk j) (funext fun j => ?_)
  rw [masked_apply, folded_apply, raw_apply]
  rfl

/-- ONE ENTRY of a store: the weighted sum of the head's values over the window. -/
theorem tileV_apply (i : grid0.Coords) (first half : Bool) (sl sk : Bool → Ideal .f32) (q : FVec Ideal S128x128 .bf16) (kw vw : FVec Ideal S256x128 .bf16)
    (r : Fin 128) (e : Bool) (d : Fin 64) :
    tileV i first half sl sk q kw vw (ix2 r (lane e d))
      = ∑ s, (Attn.spread r (Attn.weight (rowScore i first e half (sl e) q kw r) (sk e)) s * vw (ix2 s (lane half d)) : EReal) := by
  pointwise [tileV, headV_apply, keepV_apply, bothHalves_apply]
  rw [inHalf_lane]
  cases e
  · rw [ofHalf_lane_self, ofHalf_lane_true]
    simp
  · rw [ofHalf_lane_self, ofHalf_lane_false]
    simp

end Swa

end
-- ==== Proof.SwaArray.lean ====
/-
  The sliding-window attention kernel's result array, entry by entry, of the launched arrays: every row of every block of
  128 queries is the folded softmax of Proof/SwaMath.lean over the block's window of 256 keys.
-/
module

public import proofs.«01_k».proof.Proof.SwaValue
public import Idealize.ShloMosaic.Lib.Pipeline.Value

@[expose] public section

set_option maxRecDepth 16384

noncomputable section

namespace Swa

open Cert.KernelIdeal Cert.KernelIdeal.Gen Idealize.ShloMosaic Idealize.ShloMosaic.TcCoe Idealize.SL.Sem

/-! ## The specification -/

/-- The row of the keys and values that window entry `s` of query block `n` holds (at the first block the upper half, masked
    there, names rows of the block itself). -/
def rowOf (n : Fin 256) (s : Fin 256) : Fin 32768 :=
  ⟨if (s : ℕ) < 128 then (n - 1) * 128 + s else n * 128 + (s - 128), by split <;> omega⟩

/-- Row `r` of query block `n`. -/
def queryRow (n : Fin 256) (r : Fin 128) : Fin 32768 := ⟨n * 128 + r, by omega⟩

/-- Lane `d` of head `h` of the queries. -/
def queryLane (h : Fin 16) (d : Fin 64) : Fin 1024 := ⟨h * 64 + d, by omega⟩

/-- Lane `d` of the key head that query head `h` shares. -/
def keyLane (h : Fin 16) (d : Fin 64) : Fin 512 := ⟨h / 4 * 64 + d, by omega⟩

/-- Lane `d` of the value head that query head `h` shares. -/
def valueLane (h : Fin 16) (d : Fin 64) : Fin 512 := ⟨256 + h / 4 * 64 + d, by omega⟩

/-- A head's slope. -/
def slopeOf (h : Fin 16) : EReal := slope ⟨h / 2, by omega⟩ (decide ((h : ℕ) % 2 = 1))

/-- Whether window entry `s` of query block `n` is inside the sequence. -/
def inSeq (n : Fin 256) (s : Fin 256) : Prop := (n : ℕ) % 32 ≠ 0 ∨ 128 ≤ (s : ℕ)

instance (n : Fin 256) (s : Fin 256) : Decidable (inSeq n s) := inferInstanceAs (Decidable (_ ∨ _))

/-- The score of head `h`'s query `r` of block `n` against window entry `s`: the dot product less slope times distance; masked
    outside the band and outside the sequence. -/
def score (q : Fin 32768 → Fin 1024 → EReal) (kv : Fin 32768 → Fin 512 → EReal) (n : Fin 256) (h : Fin 16) (r : Fin 128) (s : Fin 256) : EReal :=
  if Attn.inBand r s ∧ inSeq n s then
    (∑ d : Fin 64, q (queryRow n r) (queryLane h d) * kv (rowOf n s) (keyLane h d)) - slopeOf h * ((((r : ℤ) + 128 - s : ℤ) : ℝ) : EReal)
  else ⊥

/-- The kernel's result, entry by entry. -/
def result (q : Fin 32768 → Fin 1024 → EReal) (kv : Fin 32768 → Fin 512 → EReal) (sink : Fin 16 → EReal)
    (n : Fin 256) (r : Fin 128) (h : Fin 16) (d : Fin 64) : EReal :=
  ∑ s, Attn.spread r (Attn.weight (fun j => score q kv n h r (Attn.key r j)) (sink h)) s * kv (rowOf n s) (valueLane h d)

/-! ## One grid point's block -/

section Block

variable (i : grid0.Coords) (arg2 : Memref sig .tc .smem S16 .f32) (harg2 : arg2.IsWhole) (arg3 : Memref sig .tc .vmem S512x1024 .bf16) (harg3 : arg3.IsWhole)
  (arg4 : Memref sig .tc .vmem S128x512 .bf16) (harg4 : arg4.IsWhole) (arg5 : Memref sig .tc .vmem S512x512 .bf16) (harg5 : arg5.IsWhole)
  (arg6 : Memref sig .tc .vmem S512x1024 .bf16) (harg6 : arg6.IsWhole)
  (x0 : Vec Ideal S16 .f32) (x1 : Vec Ideal S512x1024 .bf16) (x2 : Vec Ideal S128x512 .bf16) (x3 : Vec Ideal S512x512 .bf16)

/-- The block as one function of its index. -/
def blockV (y : S512x1024.Idx) : Ideal .bf16 :=
  pieceV i arg2 harg2 arg3 harg3 arg4 harg4 arg5 harg5 x0 x1 x2 x3 ⟨(y 0).val / 128, Nat.div_lt_of_lt_mul (y 0).isLt⟩ ⟨(y 1).val / 128, Nat.div_lt_of_lt_mul (y 1).isLt⟩
    (ix2 ⟨(y 0).val % 128, Nat.mod_lt _ (by decide)⟩ ⟨(y 1).val % 128, Nat.mod_lt _ (by decide)⟩)

theorem blockV_emb (a : Fin 4) (b : Fin 8) (x : S128x128.Idx) :
    pieceV i arg2 harg2 arg3 harg3 arg4 harg4 arg5 harg5 x0 x1 x2 x3 a b x
      = blockV i arg2 harg2 arg3 harg3 arg4 harg4 arg5 harg5 x0 x1 x2 x3 ((Rect.unit (s := S512x1024) ![128 * a.val, 128 * b.val] S128x128.size (inb_q a b)).emb x) := by
  have h0 : (x 0).val < 128 := (x 0).isLt
  have h1 : (x 1).val < 128 := (x 1).isLt
  have e0 : ((Rect.unit (s := S512x1024) ![128 * a.val, 128 * b.val] S128x128.size (inb_q a b)).emb x 0).val = 128 * a.val + 1 * (x 0).val := rfl
  have e1 : ((Rect.unit (s := S512x1024) ![128 * a.val, 128 * b.val] S128x128.size (inb_q a b)).emb x 1).val = 128 * b.val + 1 * (x 1).val := rfl
  unfold blockV
  congr 1
  · apply Fin.ext; simp only [e0]; omega
  · apply Fin.ext; simp only [e1]; omega
  · funext d
    apply Fin.ext
    match d with
    | ⟨0, _⟩ => show (x 0).val = _ % 128; rw [e0]; omega
    | ⟨1, _⟩ => show (x 1).val = _ % 128; rw [e1]; omega

/-- What the body leaves in the output's buffer. -/
theorem out_eq (c : Dev nD) :
    out0_A_4 c i arg2 harg2 arg3 harg3 arg4 harg4 arg5 harg5 arg6 harg6 x0 x1 x2 x3
      = blockV i arg2 harg2 arg3 harg3 arg4 harg4 arg5 harg5 x0 x1 x2 x3 := by
  unfold out0_A_4
  rw [View.read_writes_eq_canon _ _ _ (cover0_A_4 c i arg2 harg2 arg3 harg3 arg4 harg4 arg5 harg5 arg6 harg6 x0 x1 x2 x3)]
  funext y
  refine View.canon_apply_of_pieces _ _ ?_ y (cover0_A_4 c i arg2 harg2 arg3 harg3 arg4 harg4 arg5 harg5 arg6 harg6 x0 x1 x2 x3 y)
  rw [run_pieces]
  intro p hp x
  obtain ⟨n, rfl⟩ := List.mem_ofFn.1 hp
  exact blockV_emb i arg2 harg2 arg3 harg3 arg4 harg4 arg5 harg5 x0 x1 x2 x3 _ _ x

/-! ### The loads -/

theorem qTile_apply (a : Fin 4) (b : Fin 8) (r l : Fin 128) :
    qTile arg3 harg3 x1 a b (ix2 r l) = x1 (ix2 ⟨128 * a + r, by omega⟩ ⟨128 * b + l, by omega⟩) := by
  unfold qTile
  rw [View.readAt_eq_ld, harg3.read_unread]
  pointwise []

theorem curTile_apply (a b : Fin 4) (r l : Fin 128) :
    curTile arg5 harg5 x3 a b (ix2 r l) = x3 (ix2 ⟨128 * a + r, by omega⟩ ⟨128 * b + l, by omega⟩) := by
  unfold curTile
  rw [View.readAt_eq_ld, harg5.read_unread]
  pointwise []

theorem prevTile_apply (a b : Fin 4) (r l : Fin 128) :
    prevTile arg4 harg4 arg5 harg5 x2 x3 a b (ix2 r l)
      = if h : (a : ℕ) = 0 then x2 (ix2 r ⟨128 * b + l, by omega⟩) else x3 (ix2 ⟨128 * (a - 1) + r, by omega⟩ ⟨128 * b + l, by omega⟩) := by
  match a with
  | ⟨0, _⟩ =>
    rw [dif_pos rfl]
    unfold prevTile
    simp only
    rw [View.readAt_eq_ld, harg4.read_unread]
    pointwise []
  | ⟨a' + 1, h⟩ =>
    rw [dif_neg (by simp)]
    exact curTile_apply arg5 harg5 x3 ⟨a', by omega⟩ b r l

theorem sinkAt_apply (h : Fin 16) : sinkAt arg2 harg2 x0 h = x0 (ix1 h) := by
  unfold sinkAt
  rw [View.readAt_eq_ld, harg2.read_unread]
  refine congrArg x0 (funext fun d => Fin.ext ?_)
  match d with
  | ⟨0, _⟩ =>
    have key : ∀ z : S1.Idx, h.val + 1 * (z 0).val = h.val := fun z => by have : (z 0).val < 1 := (z 0).isLt; omega
    exact key _

end Block

/-! ## The blocks, of the launched arrays -/

variable (m : (ℓ : Loc nD τ sig) → Buf (Elt Ideal) ℓ) (c : Dev nD)

/-- The queries, of the launched memory. -/
def queries (R : Fin 32768) (C : Fin 1024) : EReal := (m ((c.tc : Thread nD τ).loc main_arg0) : Vec Ideal S32768x1024 .bf16) (ix2 R C)

/-- The keys and values. -/
def keysValues (R : Fin 32768) (C : Fin 512) : EReal := (m ((c.tc : Thread nD τ).loc main_arg1) : Vec Ideal S32768x512 .bf16) (ix2 R C)

/-- The sinks. -/
def sinkIn (h : Fin 16) : EReal := (m ((c.tc : Thread nD τ).loc main_arg2) : Vec Ideal S16 .f32) (ix1 h)

/-- The windows' block indices, decided over the grid. -/
theorem index_facts : ∀ t : Fin grid0.N, win0_1.index t 0 = t.val ∧ win0_1.index t 1 = 0 ∧ win0_2.index t 0 = 4 * t.val - 1 ∧ win0_2.index t 1 = 0
    ∧ win0_3.index t 0 = t.val ∧ win0_3.index t 1 = 0 ∧ win0_4.index t 0 = t.val ∧ win0_4.index t 1 = 0 ∧ (grid0.coords t 1).val = t.val % 8 ∧ t.val < 64 := by
  decide +kernel

theorem iblk_q (t : Fin cfg0.N) (p : Fin 512) (l : Fin 1024) :
    (iblk m c 1 t : Vec Ideal S512x1024 .bf16) (ix2 p l) = queries m c ⟨t.val * 512 + p, by have := (index_facts t).2.2.2.2.2.2.2.2.2; omega⟩ l := by
  have hi := index_facts t
  unfold iblk queries
  rw [View.read_apply]
  show V m c main_arg0 _ = m (c.tc.loc main_arg0) _
  unfold V
  congr 1
  funext a
  apply Fin.ext
  match a with
  | ⟨0, _⟩ => show win0_1.index t 0 * 512 + 1 * p.val = t.val * 512 + p.val; rw [hi.1]; omega
  | ⟨1, _⟩ => show win0_1.index t 1 * 1024 + 1 * l.val = l.val; rw [hi.2.1]; omega

theorem iblk_prev (t : Fin cfg0.N) (p : Fin 128) (l : Fin 512) :
    (iblk m c 2 t : Vec Ideal S128x512 .bf16) (ix2 p l) = keysValues m c ⟨(4 * t.val - 1) * 128 + p, by have := (index_facts t).2.2.2.2.2.2.2.2.2; omega⟩ l := by
  have hi := index_facts t
  unfold iblk keysValues
  rw [View.read_apply]
  show V m c main_arg1 _ = m (c.tc.loc main_arg1) _
  unfold V
  congr 1
  funext a
  apply Fin.ext
  match a with
  | ⟨0, _⟩ => show win0_2.index t 0 * 128 + 1 * p.val = (4 * t.val - 1) * 128 + p.val; rw [hi.2.2.1]; omega
  | ⟨1, _⟩ => show win0_2.index t 1 * 512 + 1 * l.val = l.val; rw [hi.2.2.2.1]; omega

theorem iblk_cur (t : Fin cfg0.N) (p : Fin 512) (l : Fin 512) :
    (iblk m c 3 t : Vec Ideal S512x512 .bf16) (ix2 p l) = keysValues m c ⟨t.val * 512 + p, by have := (index_facts t).2.2.2.2.2.2.2.2.2; omega⟩ l := by
  have hi := index_facts t
  unfold iblk keysValues
  rw [View.read_apply]
  show V m c main_arg1 _ = m (c.tc.loc main_arg1) _
  unfold V
  congr 1
  funext a
  apply Fin.ext
  match a with
  | ⟨0, _⟩ => show win0_3.index t 0 * 512 + 1 * p.val = t.val * 512 + p.val; rw [hi.2.2.2.2.1]; omega
  | ⟨1, _⟩ => show win0_3.index t 1 * 512 + 1 * l.val = l.val; rw [hi.2.2.2.2.2.1]; omega

theorem iblk_sink (t : Fin cfg0.N) (h : Fin 16) : (iblk m c 0 t : Vec Ideal S16 .f32) (ix1 h) = sinkIn m c h := by
  unfold iblk sinkIn
  rw [View.read_apply]
  show V m c main_arg2 _ = m (c.tc.loc main_arg2) _
  unfold V
  congr 1
  funext a
  apply Fin.ext
  match a with
  | ⟨0, _⟩ => show 0 + 1 * h.val = h.val; omega

/-- The query block of sub-block `a` of grid point `t`. -/
def blockOf (t : Fin cfg0.N) (a : Fin 4) : Fin 256 := ⟨4 * t.val + a, by have := (index_facts t).2.2.2.2.2.2.2.2.2; omega⟩

/-- A window's entry is the row of the keys and values it names. -/
theorem window_eq (t : Fin cfg0.N) (arg4 : Memref sig .tc .vmem S128x512 .bf16) (harg4 : arg4.IsWhole) (arg5 : Memref sig .tc .vmem S512x512 .bf16) (harg5 : arg5.IsWhole)
    (a b : Fin 4) (s : Fin 256) (l : Fin 128) :
    window (prevTile arg4 harg4 arg5 harg5 (iblk m c 2 t) (iblk m c 3 t) a b) (curTile arg5 harg5 (iblk m c 3 t) a b) (ix2 s l)
      = keysValues m c (rowOf (blockOf t a) s) ⟨128 * b + l, by omega⟩ := by
  rw [window_apply]
  by_cases hs : (s : ℕ) < 128
  · rw [dif_pos hs, prevTile_apply]
    by_cases ha : (a : ℕ) = 0
    · rw [dif_pos ha, iblk_prev]
      congr 1
      apply Fin.ext
      simp only [rowOf, blockOf, if_pos hs, ha, Nat.add_zero]
    · rw [dif_neg ha, iblk_cur]
      congr 1
      apply Fin.ext
      simp only [rowOf, blockOf, if_pos hs]
      omega
  · rw [dif_neg hs, curTile_apply, iblk_cur]
    congr 1
    apply Fin.ext
    simp only [rowOf, blockOf, if_neg hs]
    omega

/-- The distance to a column's key. -/
theorem gap_eq (r j : Fin 128) : gap r j = (r : ℤ) + 128 - (Attn.key r j : ℕ) := by
  unfold gap Attn.key
  by_cases h : r < j
  · rw [if_pos h, if_pos (Fin.lt_def.1 h)]; simp only []; omega
  · rw [if_neg h, if_neg (fun h' => h (Fin.lt_def.2 h'))]; simp only []; push_cast; omega

theorem lanes (h : Fin 16) (b : Fin 8) (e : Bool) (hb : h = headOf b e) (d : Fin 64) :
    128 * (b : ℕ) + lane e d = queryLane h d ∧ 128 * (kTile b : ℕ) + lane (halfOf b) d = keyLane h d
      ∧ 128 * (vTile b : ℕ) + lane (halfOf b) d = valueLane h d ∧ slopeOf h = slope b e := by
  subst hb
  have hk : ∀ (b : Fin 8) (e : Bool), 128 * (kTile b : ℕ) + (if halfOf b then 64 else 0) = (headOf b e : ℕ) / 4 * 64
      ∧ 128 * (vTile b : ℕ) + (if halfOf b then 64 else 0) = 256 + (headOf b e : ℕ) / 4 * 64
      ∧ 128 * (b : ℕ) + (if e then 64 else 0) = (headOf b e : ℕ) * 64 ∧ (headOf b e : ℕ) / 2 = b ∧ decide ((headOf b e : ℕ) % 2 = 1) = e := by decide
  obtain ⟨h1, h2, h3, h4, h5⟩ := hk b e
  refine ⟨?_, ?_, ?_, ?_⟩
  · simp only [lane, queryLane]; omega
  · simp only [lane, keyLane]; omega
  · simp only [lane, valueLane]; omega
  · unfold slopeOf; congr 1; exact Fin.ext h4

/-- ONE ENTRY of what a grid point stores. -/
theorem piece_eq (t : Fin cfg0.N) (arg2 : Memref sig .tc .smem S16 .f32) (harg2 : arg2.IsWhole) (arg3 : Memref sig .tc .vmem S512x1024 .bf16) (harg3 : arg3.IsWhole)
    (arg4 : Memref sig .tc .vmem S128x512 .bf16) (harg4 : arg4.IsWhole) (arg5 : Memref sig .tc .vmem S512x512 .bf16) (harg5 : arg5.IsWhole)
    (a : Fin 4) (b : Fin 8) (e : Bool) (r : Fin 128) (d : Fin 64) :
    pieceV (grid0.coords t) arg2 harg2 arg3 harg3 arg4 harg4 arg5 harg5 (iblk m c 0 t) (iblk m c 1 t) (iblk m c 2 t) (iblk m c 3 t) a b (ix2 r (lane e d))
      = result (queries m c) (keysValues m c) (sinkIn m c) (blockOf t a) r (headOf b e) d := by
  have hl := lanes (headOf b e) b e rfl
  have hi := index_facts t
  unfold pieceV result
  rw [tileV_apply]
  have hT : rowScore (grid0.coords t) (isFirst a) e (halfOf b) (slope b e) (qTile arg3 harg3 (iblk m c 1 t) a b)
      (window (prevTile arg4 harg4 arg5 harg5 (iblk m c 2 t) (iblk m c 3 t) a (kTile b)) (curTile arg5 harg5 (iblk m c 3 t) a (kTile b))) r
      = fun j => score (queries m c) (keysValues m c) (blockOf t a) (headOf b e) r (Attn.key r j) := by
    funext j
    unfold rowScore score
    have hf : ∀ a : Fin 4, isFirst a = true ↔ (a : ℕ) = 0 := by decide
    have hc : (isFirst a = true ∧ (grid0.coords t 1).val = 0 ∧ r < j) ↔ ¬ (Attn.inBand r (Attn.key r j) ∧ inSeq (blockOf t a) (Attn.key r j)) := by
      rw [hf, hi.2.2.2.2.2.2.2.2.1]
      simp only [Attn.key_inBand, true_and, inSeq, blockOf]
      unfold Attn.key
      by_cases h : r < j
      · rw [if_pos h]; simp only [h, and_true]; omega
      · rw [if_neg h]; simp only [h, and_false, false_iff, not_not]; omega
    by_cases h : Attn.inBand r (Attn.key r j) ∧ inSeq (blockOf t a) (Attn.key r j)
    · rw [if_neg (fun h' => hc.1 h' h), if_pos h, gap_eq, (hl ⟨0, by decide⟩).2.2.2]
      congr 1
      refine Finset.sum_congr rfl fun d _ => ?_
      rw [qTile_apply, iblk_q, window_eq]
      congr 2
      · apply Fin.ext; simp only [queryRow, blockOf]; omega
      · exact Fin.ext (hl d).1
      · exact Fin.ext (hl d).2.1
    · rw [if_pos (hc.2 h), if_neg h]
  rw [hT, sinkAt_apply, iblk_sink]
  refine Finset.sum_congr rfl fun s _ => ?_
  rw [window_eq]
  congr 2
  exact Fin.ext (hl d).2.2.1

/-! ## The array after the run -/

/-- The result array. -/
def resultArr : Vec Ideal S32768x1024 .bf16 := fun y =>
  result (queries m c) (keysValues m c) (sinkIn m c) ⟨(y 0).val / 128, Nat.div_lt_of_lt_mul (y 0).isLt⟩ ⟨(y 0).val % 128, Nat.mod_lt _ (by decide)⟩
    ⟨(y 1).val / 64, Nat.div_lt_of_lt_mul (y 1).isLt⟩ ⟨(y 1).val % 64, Nat.mod_lt _ (by decide)⟩

theorem flushed_eq (t : Fin cfg0.N) :
    (dats m 0 c).flushed 4 t = ((cfg0.win 4).blk t).view.read (Elt Ideal) (resultArr m c) := by
  have hi := index_facts t
  rw [Value.flushed4_A, out_eq]
  funext y
  rw [View.read_apply]
  show blockV _ _ _ _ _ _ _ _ _ _ _ _ _ y = resultArr m c (((cfg0.win 4).blk t).view.emb y)
  have h0 : (y 0).val < 512 := (y 0).isLt
  have h1 : (y 1).val < 1024 := (y 1).isLt
  have e0 : (((cfg0.win 4).blk t).view.emb y 0).val = t.val * 512 + (y 0).val := by
    show win0_4.index t 0 * 512 + 1 * (y 0).val = _; rw [hi.2.2.2.2.2.2.1]; omega
  have e1 : (((cfg0.win 4).blk t).view.emb y 1).val = (y 1).val := by
    show win0_4.index t 1 * 1024 + 1 * (y 1).val = _; rw [hi.2.2.2.2.2.2.2.1]; omega
  unfold blockV resultArr
  have hl : (⟨(y 1).val % 128, Nat.mod_lt _ (by decide)⟩ : Fin 128) = lane (decide (64 ≤ (y 1).val % 128)) ⟨(y 1).val % 64, Nat.mod_lt _ (by decide)⟩ := by
    apply Fin.ext
    simp only [lane, decide_eq_true_eq]
    split <;> omega
  rw [hl, piece_eq]
  congr 1
  · apply Fin.ext; simp only [blockOf, e0]; omega
  · apply Fin.ext; simp only [e0]; omega
  · apply Fin.ext
    simp only [e1]
    by_cases h : 64 ≤ (y 1).val % 128
    · simp only [h, decide_true, headOf]; omega
    · simp only [h, decide_false, headOf]; omega
  · apply Fin.ext; simp only [e1]

theorem mem_blk (t : Fin cfg0.N) (i : S32768x1024.Idx) :
    i ∈ ((cfg0.win 4).blk t).view.set ↔ t.val * 512 ≤ (i 0 : ℕ) ∧ (i 0 : ℕ) < t.val * 512 + 512 := by
  have hi := index_facts t
  show i ∈ ((View.whole main_v0).slice (win0_4.rect t)).set ↔ _
  rw [View.set_slice_whole, Rect.mem_set_unit]
  have h1 : (i 1 : ℕ) < 1024 := (i 1).isLt
  refine ⟨fun h => ?_, fun h a => ?_⟩
  · have : win0_4.index t 0 * 512 ≤ (i 0 : ℕ) ∧ (i 0 : ℕ) < win0_4.index t 0 * 512 + 512 := h 0
    rw [hi.2.2.2.2.2.2.1] at this; exact this
  · match a with
    | ⟨0, _⟩ => show win0_4.index t 0 * 512 ≤ (i 0 : ℕ) ∧ (i 0 : ℕ) < win0_4.index t 0 * 512 + 512; rewrite [hi.2.2.2.2.2.2.1]; exact h
    | ⟨1, _⟩ => show win0_4.index t 1 * 1024 ≤ (i 1 : ℕ) ∧ (i 1 : ℕ) < win0_4.index t 1 * 1024 + 1024; rewrite [hi.2.2.2.2.2.2.2.1, Nat.zero_mul, Nat.zero_add]; exact ⟨Nat.zero_le _, h1⟩

/-- Every index is in some grid point's block. -/
theorem cover (i : S32768x1024.Idx) : ∃ t : Fin cfg0.N, (cfg0.win 4).flush t = true ∧ i ∈ ((cfg0.win 4).blk t).view.set := by
  have h0 : (i 0 : ℕ) < 32768 := (i 0).isLt
  have hN : cfg0.N = 64 := N_0
  have ht : (i 0 : ℕ) / 512 < cfg0.N := by omega
  refine ⟨⟨(i 0 : ℕ) / 512, ht⟩, flush0_4 _, ?_⟩
  rw [mem_blk]
  dsimp only
  omega

/-- The result array after the run. -/
theorem final_eq : (dats m 0 c).arrAt 4 cfg0.N = resultArr m c :=
  (dats m 0 c).arrAt_eq_of_cover 4 (resultArr m c) (fun t _ => flushed_eq m c t) cover

end Swa

end
-- ==== Proof.SwaRef.lean ====
/-
  The sliding-window attention reference, read entry by entry: its composed term in stages (a window of keys or values, the
  slopes, the distances, the band, the masked scores, their peak and their exponentials, the weighted values over the denominator).
-/
module

public import proofs.«01_k».proof.Proof.SwaMath
public import proofs.«01_k».proof.Proof.Gen.ReferenceIdeal.Run
public import Idealize.ShloMosaic.Lib.Pointwise
public import Idealize.ShloMosaic.Lib.WordCmp

@[expose] public section

set_option maxRecDepth 16384

noncomputable section

namespace SwaRef

open Cert.ReferenceIdeal Cert.ReferenceIdeal.Gen Idealize.ShloMosaic Idealize.ShloMosaic.TcCoe Idealize.SL.Sem

/-- The queries by sequence, block, row, key head and head of its group. -/
def qArr (q : FVec Ideal S32768x1024 .bf16) : FVec Ideal S8x32x128x4x4x64 .f32 :=
  shapeCast _ (extf .f32 q bitsLt_bf16_f32) shapeCasts_S32768x1024_S8x32x128x4x4x64

/-- The keys by sequence, block, row and head. -/
def kArr (kv : FVec Ideal S32768x512 .bf16) : FVec Ideal S8x32x128x4x64 .f32 :=
  shapeCast _ (extf .f32 (extractStridedSlice S32768x256 ![0, 0] kv slices_S32768x512_S32768x256_0_0) bitsLt_bf16_f32) shapeCasts_S32768x256_S8x32x128x4x64

/-- The values the same. -/
def vArr (kv : FVec Ideal S32768x512 .bf16) : FVec Ideal S8x32x128x4x64 .f32 :=
  shapeCast _ (extf .f32 (extractStridedSlice S32768x256 ![0, 256] kv slices_S32768x512_S32768x256_0_256) bitsLt_bf16_f32) shapeCasts_S32768x256_S8x32x128x4x64

/-- Each block's window: the block before (zeros before the first) above the block itself. -/
def withPrev (t : FVec Ideal S8x32x128x4x64 .f32) : FVec Ideal S8x32x256x4x64 .f32 :=
  concatenate S8x32x256x4x64 2 [⟨S8x32x128x4x64, extractStridedSlice S8x32x128x4x64 ![0, 0, 0, 0, 0]
      (pad S8x33x128x4x64 ![0, 1, 0, 0, 0] ![0, 0, 0, 0, 0] ![0, 0, 0, 0, 0] t (sitofp .f32 (constantI S_ 32 0#32)) pads_S8x32x128x4x64_S8x33x128x4x64_000_100_000_000_000 h_S_)
      slices_S8x33x128x4x64_S8x32x128x4x64_0_0_0_0_0⟩,
    ⟨S8x32x128x4x64, t⟩] concatenates_S8x32x128x4x64_S8x32x128x4x64_S8x32x256x4x64_d2

/-- The heads' slopes. -/
def slopes : FVec Ideal S16 .f32 :=
  Host.powf (broadcastInDim S16 ![] bcast_S_S16 (constant S_ .f32 0x40000000#32))
    (Host.divf (mulf (broadcastInDim S16 ![] bcast_S_S16 (constant S_ .f32 0xC1000000#32))
      (addf (broadcastInDim S16 ![] bcast_S_S16 (constant S_ .f32 0x3F800000#32)) (sitofp .f32 (iotaInDim S16 32 0))))
      (broadcastInDim S16 ![] bcast_S_S16 (constant S_ .f32 0x41800000#32)))

/-- The window entries' numbers. -/
def kj : IVec S1x256 32 := broadcastInDim S1x256 ![1] bcast_S256_S1x256_1 (iotaInDim S256 32 0)

/-- The distance from a row's query to a window's key. -/
def dist : IVec S128x256 32 :=
  subi (broadcastInDim S128x256 ![0, 1] bcast_S128x1_S128x256_0_1
      (addi (broadcastInDim S128x1 ![0] bcast_S128_S128x1_0 (iotaInDim S128 32 0)) (broadcastInDim S128x1 ![] bcast_S_S128x1 (constantI S_ 32 128#32))))
    (broadcastInDim S128x256 ![0, 1] bcast_S1x256_S128x256_0_1 kj)

/-- The keys inside the band. -/
def band : IVec S128x256 1 :=
  andi (cmpi .sge dist (broadcastInDim S128x256 ![] bcast_S_S128x256 (constantI S_ 32 0#32)))
    (cmpi .slt dist (broadcastInDim S128x256 ![] bcast_S_S128x256 (constantI S_ 32 128#32)))

/-- The keys inside the sequence. -/
def present : IVec S32x1x256 1 :=
  ori (broadcastInDim S32x1x256 ![0, 1, 2] bcast_S32x1x1_S32x1x256_0_1_2
      (cmpi .sgt (broadcastInDim S32x1x1 ![0] bcast_S32_S32x1x1_0 (iotaInDim S32 32 0)) (broadcastInDim S32x1x1 ![] bcast_S_S32x1x1 (constantI S_ 32 0#32))))
    (broadcastInDim S32x1x256 ![0, 1, 2] bcast_S1x1x256_S32x1x256_0_1_2 (broadcastInDim S1x1x256 ![1, 2] bcast_S1x256_S1x1x256_1_2
      (cmpi .sge kj (broadcastInDim S1x256 ![] bcast_S_S1x256 (constantI S_ 32 128#32)))))

/-- The keys that count. -/
def valid : IVec S32x128x256 1 :=
  andi (broadcastInDim S32x128x256 ![0, 1, 2] bcast_S1x128x256_S32x128x256_0_1_2 (broadcastInDim S1x128x256 ![1, 2] bcast_S128x256_S1x128x256_1_2 band))
    (broadcastInDim S32x128x256 ![0, 1, 2] bcast_S32x1x256_S32x128x256_0_1_2 present)

/-- The distances' penalties. -/
def bias : FVec Ideal S4x4x128x256 .f32 :=
  mulf (broadcastInDim S4x4x128x256 ![0, 1, 2, 3] bcast_S4x4x1x1_S4x4x128x256_0_1_2_3
      (Host.negf (broadcastInDim S4x4x1x1 ![0, 1] bcast_S4x4_S4x4x1x1_0_1 (shapeCast S4x4 slopes shapeCasts_S16_S4x4))))
    (broadcastInDim S4x4x128x256 ![0, 1, 2, 3] bcast_S1x1x128x256_S4x4x128x256_0_1_2_3 (broadcastInDim S1x1x128x256 ![2, 3] bcast_S128x256_S1x1x128x256_2_3 (sitofp .f32 dist)))

/-- The raw scores. -/
def rawS (q : FVec Ideal S32768x1024 .bf16) (kv : FVec Ideal S32768x512 .bf16) : FVec Ideal S8x32x4x4x128x256 .f32 :=
  transpose S8x32x4x4x128x256 [0, 1, 2, 5, 4, 3] (Host.dotGeneral dot_S8x32x256x4x64_S8x32x128x4x4x64_S8x32x4x256x128x4_4_5_2_24_013_013 none (withPrev (kArr kv)) (qArr q))
    transposes_S8x32x4x256x128x4_S8x32x4x4x128x256_0_1_2_5_4_3

/-- The scores, masked. -/
def maskedS (q : FVec Ideal S32768x1024 .bf16) (kv : FVec Ideal S32768x512 .bf16) : FVec Ideal S8x32x4x4x128x256 .f32 :=
  select (broadcastInDim S8x32x4x4x128x256 ![0, 1, 2, 3, 4, 5] bcast_S1x32x1x1x128x256_S8x32x4x4x128x256_0_1_2_3_4_5 (broadcastInDim S1x32x1x1x128x256 ![1, 4, 5] bcast_S32x128x256_S1x32x1x1x128x256_1_4_5 valid))
    (addf (rawS q kv) (broadcastInDim S8x32x4x4x128x256 ![0, 1, 2, 3, 4, 5] bcast_S1x1x4x4x128x256_S8x32x4x4x128x256_0_1_2_3_4_5
      (broadcastInDim S1x1x4x4x128x256 ![2, 3, 4, 5] bcast_S4x4x128x256_S1x1x4x4x128x256_2_3_4_5 bias)))
    (broadcastInDim S8x32x4x4x128x256 ![] bcast_S_S8x32x4x4x128x256 (id (constant S_ .f32 0xFF800000#32)))

/-- The sinks over every row. -/
def sinkS (sinks : FVec Ideal S16 .f32) : FVec Ideal S8x32x4x4x128 .f32 :=
  broadcastInDim S8x32x4x4x128 ![0, 1, 2, 3, 4] bcast_S1x1x4x4x1_S8x32x4x4x128_0_1_2_3_4
    (broadcastInDim S1x1x4x4x1 ![2, 3] bcast_S4x4_S1x1x4x4x1_2_3 (shapeCast S4x4 sinks shapeCasts_S16_S4x4))

/-- The largest score of each row. -/
def rowMax (s : FVec Ideal S8x32x4x4x128x256 .f32) : FVec Ideal S8x32x4x4x128 .f32 :=
  Host.reduce FloatOps.maximumf s (constant S_ .f32 0xFF800000#32) reducesTo_S8x32x4x4x128x256_S8x32x4x4x128_d5 h_S_

/-- The greatest of a row's scores and its sink. -/
def peakS (s : FVec Ideal S8x32x4x4x128x256 .f32) (k : FVec Ideal S8x32x4x4x128 .f32) : FVec Ideal S8x32x4x4x128 .f32 :=
  maximumf (rowMax s) k

/-- The exponentials. -/
def expS (s : FVec Ideal S8x32x4x4x128x256 .f32) (k : FVec Ideal S8x32x4x4x128 .f32) : FVec Ideal S8x32x4x4x128x256 .f32 :=
  Host.exp (subf s (broadcastInDim S8x32x4x4x128x256 ![0, 1, 2, 3, 4, 5] bcast_S8x32x4x4x128x1_S8x32x4x4x128x256_0_1_2_3_4_5
    (broadcastInDim S8x32x4x4x128x1 ![0, 1, 2, 3, 4] bcast_S8x32x4x4x128_S8x32x4x4x128x1_0_1_2_3_4 (peakS s k))))

/-- The denominators. -/
def denomS (s : FVec Ideal S8x32x4x4x128x256 .f32) (k : FVec Ideal S8x32x4x4x128 .f32) : FVec Ideal S8x32x4x4x128 .f32 :=
  addf (Host.reduceAdd (expS s k) (constant S_ .f32 0x00000000#32) reducesTo_S8x32x4x4x128x256_S8x32x4x4x128_d5 h_S_) (Host.exp (subf k (peakS s k)))

/-- The weighted values. -/
def sumS (s : FVec Ideal S8x32x4x4x128x256 .f32) (k : FVec Ideal S8x32x4x4x128 .f32) (v : FVec Ideal S8x32x256x4x64 .f32) : FVec Ideal S8x32x128x4x4x64 .f32 :=
  transpose S8x32x128x4x4x64 [0, 1, 5, 2, 4, 3] (Host.dotGeneral dot_S8x32x256x4x64_S8x32x4x4x128x256_S8x32x4x64x4x128_2_5_4_34_013_012 none v (expS s k))
    transposes_S8x32x4x64x4x128_S8x32x128x4x4x64_0_1_5_2_4_3

/-- The weighted values over the denominators. -/
def outS (s : FVec Ideal S8x32x4x4x128x256 .f32) (k : FVec Ideal S8x32x4x4x128 .f32) (v : FVec Ideal S8x32x256x4x64 .f32) : FVec Ideal S8x32x128x4x4x64 .f32 :=
  Host.divf (sumS s k v) (broadcastInDim S8x32x128x4x4x64 ![0, 1, 2, 3, 4, 5] bcast_S8x32x128x4x4x1_S8x32x128x4x4x64_0_1_2_3_4_5
    (broadcastInDim S8x32x128x4x4x1 ![0, 1, 2, 3, 4] bcast_S8x32x128x4x4_S8x32x128x4x4x1_0_1_2_3_4
      (transpose S8x32x128x4x4 [0, 1, 4, 2, 3] (denomS s k) transposes_S8x32x4x4x128_S8x32x128x4x4_0_1_4_2_3)))

/-- The reference's result. -/
def ref (q : FVec Ideal S32768x1024 .bf16) (kv : FVec Ideal S32768x512 .bf16) (sinks : FVec Ideal S16 .f32) : FVec Ideal S32768x1024 .bf16 :=
  truncf .bf16 (shapeCast _ (outS (maskedS q kv) (sinkS sinks) (withPrev (vArr kv))) shapeCasts_S8x32x128x4x4x64_S32768x1024) bitsLt_bf16_f32

/-- The run's term is that. -/
theorem run_eq (m : (ℓ : Loc nD τ sig) → Buf (Elt Ideal) ℓ) (c : Dev nD) :
    Value.res_out0 m c = ref (m ((c.tc : Thread nD τ).loc main_arg0)) (m ((c.tc : Thread nD τ).loc main_arg1)) (m ((c.tc : Thread nD τ).loc main_arg2)) := by
  rfl

end SwaRef

end
-- ==== Proof.SwaRefRead.lean ====
/-
  The sliding-window attention reference's stages, read entry by entry.
-/
module

public import proofs.«01_k».proof.Proof.SwaRef
public import Idealize.ShloMosaic.Lib.Pointwise
public import Idealize.ShloMosaic.Lib.WordCmp

@[expose] public section

set_option maxRecDepth 16384

noncomputable section

namespace SwaRef

open Cert.ReferenceIdeal Cert.ReferenceIdeal.Gen Idealize.ShloMosaic Idealize.ShloMosaic.TcCoe Idealize.SL.Sem

/-! ## The stages, entry by entry -/

/-- The integer zero as a float. -/
theorem sitofp_zero : (FloatOps.sitofp .f32 (0#32) : Ideal .f32) = (0 : EReal) := by
  show (((0#32 : BitVec 32).toInt : ℝ) : EReal) = 0
  simp

theorem withPrev_apply (t : FVec Ideal S8x32x128x4x64 .f32) (b : Fin 8) (n : Fin 32) (s : Fin 256) (k : Fin 4) (d : Fin 64) :
    withPrev t (ix5 b n s k d) = if h : (s : ℕ) < 128 then (if h' : (n : ℕ) = 0 then 0 else t (ix5 b ⟨n - 1, by omega⟩ ⟨s, h⟩ k d)) else t (ix5 b n ⟨s - 128, by omega⟩ k d) := by
  pointwise [withPrev]
  by_cases h : (s : ℕ) < 128
  · rw [dif_pos h, dif_pos h]
    by_cases h' : (n : ℕ) = 0
    · rw [dif_neg (by omega), dif_pos h', sitofp_zero]
    · rw [dif_pos ⟨⟨by omega, by omega⟩, h⟩, dif_neg h']
  · rw [dif_neg h, dif_neg h]

theorem qArr_apply (q : FVec Ideal S32768x1024 .bf16) (b : Fin 8) (n : Fin 32) (r : Fin 128) (k g : Fin 4) (d : Fin 64) :
    qArr q (ix6 b n r k g d) = q (ix2 ⟨b * 4096 + n * 128 + r, by omega⟩ ⟨k * 256 + g * 64 + d, by omega⟩) := by
  pointwise [qArr]

theorem kArr_apply (kv : FVec Ideal S32768x512 .bf16) (b : Fin 8) (n : Fin 32) (r : Fin 128) (k : Fin 4) (d : Fin 64) :
    kArr kv (ix5 b n r k d) = kv (ix2 ⟨b * 4096 + n * 128 + r, by omega⟩ ⟨k * 64 + d, by omega⟩) := by
  pointwise [kArr]

theorem vArr_apply (kv : FVec Ideal S32768x512 .bf16) (b : Fin 8) (n : Fin 32) (r : Fin 128) (k : Fin 4) (d : Fin 64) :
    vArr kv (ix5 b n r k d) = kv (ix2 ⟨b * 4096 + n * 128 + r, by omega⟩ ⟨256 + (k * 64 + d), by omega⟩) := by
  pointwise [vArr]

theorem dist_toInt (r : Fin 128) (s : Fin 256) : (dist (ix2 r s)).toInt = (r : ℤ) + 128 - s := by
  pointwise [dist, kj]
  show (BitVec.ofNat 32 ↑r + 128#32 - BitVec.ofNat 32 ↑s).toInt = _
  rw [BitVec.toInt_sub, BitVec.toInt_add]
  rw [show (128#32 : BitVec 32) = BitVec.ofNat 32 128 from rfl, WordCmp.toInt_ofNat_of_lt (by omega), WordCmp.toInt_ofNat_of_lt (by norm_num), WordCmp.toInt_ofNat_of_lt (by omega)]
  simp only [Int.bmod]
  omega

theorem valid_apply (n : Fin 32) (r : Fin 128) (s : Fin 256) :
    valid (ix3 n r s) = BitVec.ofBool (decide (Attn.inBand r s ∧ (0 < (n : ℕ) ∨ 128 ≤ (s : ℕ)))) := by
  pointwise [valid, band, present, kj]
  rw [WordCmp.cmpi_sge_eq, WordCmp.cmpi_slt_eq, dist_toInt, show (0#32 : BitVec 32) = BitVec.ofNat 32 0 from rfl, show (128#32 : BitVec 32) = BitVec.ofNat 32 128 from rfl,
    WordCmp.cmpi_sgt_ofNat (by norm_num; omega) (by norm_num), WordCmp.cmpi_sge_ofNat (by norm_num; omega) (by norm_num),
    WordCmp.ori_ofBool, WordCmp.andi_ofBool, WordCmp.andi_ofBool, WordCmp.toInt_ofNat_of_lt (by norm_num), WordCmp.toInt_ofNat_of_lt (by norm_num)]
  congr 1
  refine Bool.eq_iff_iff.mpr ?_
  simp only [Bool.and_eq_true, Bool.or_eq_true, decide_eq_true_eq]
  unfold Attn.inBand
  constructor
  · rintro ⟨⟨h2, h3⟩, h4⟩
    exact ⟨⟨by omega, by omega⟩, h4⟩
  · rintro ⟨⟨h2, h3⟩, h4⟩
    exact ⟨⟨by omega, by omega⟩, h4⟩

theorem bias_apply (k g : Fin 4) (r : Fin 128) (s : Fin 256) :
    bias (ix4 k g r s) = -slopes (ix1 ⟨k * 4 + g, by omega⟩) * ((((r : ℤ) + 128 - s : ℤ) : ℝ) : EReal) := by
  pointwise [bias]
  refine congrArg (fun z : ℤ => -slopes (ix1 ⟨k * 4 + g, by omega⟩) * ((z : ℝ) : EReal)) (dist_toInt r s)

theorem rawS_apply (q : FVec Ideal S32768x1024 .bf16) (kv : FVec Ideal S32768x512 .bf16) (b : Fin 8) (n : Fin 32) (k g : Fin 4) (r : Fin 128) (s : Fin 256) :
    rawS q kv (ix6 b n k g r s) = ∑ d : Fin 64, (withPrev (kArr kv) (ix5 b n s k d) * qArr q (ix6 b n r k g d) : EReal) := by
  pointwise [rawS]

/-- The pattern of minus infinity. -/
theorem ofBits_minus_inf : Ideal.ofBits .f32 0xFF800000#32 = (⊥ : EReal) := by
  simp [Ideal.ofBits, Ideal.ieee]

theorem maskedS_apply (q : FVec Ideal S32768x1024 .bf16) (kv : FVec Ideal S32768x512 .bf16) (b : Fin 8) (n : Fin 32) (k g : Fin 4) (r : Fin 128) (s : Fin 256) :
    maskedS q kv (ix6 b n k g r s) = if Attn.inBand r s ∧ (0 < (n : ℕ) ∨ 128 ≤ (s : ℕ)) then (rawS q kv (ix6 b n k g r s) + bias (ix4 k g r s) : EReal) else ⊥ := by
  pointwise [maskedS, valid_apply]
  exact if_congr Iff.rfl rfl ofBits_minus_inf

theorem sinkS_apply (sinks : FVec Ideal S16 .f32) (b : Fin 8) (n : Fin 32) (k g : Fin 4) (r : Fin 128) :
    sinkS sinks (ix5 b n k g r) = sinks (ix1 ⟨k * 4 + g, by omega⟩) := by
  pointwise [sinkS]

theorem lift_eq (h : S8x32x4x4x128x256.Reduces [5] S8x32x4x4x128) (b : Fin 8) (n : Fin 32) (k g : Fin 4) (r : Fin 128) (s : Fin 256) :
    h.lift (ix5 b n k g r) s = ix6 b n k g r s :=
  funext fun a => Fin.ext (by match a with | ⟨0, _⟩ => rfl | ⟨1, _⟩ => rfl | ⟨2, _⟩ => rfl | ⟨3, _⟩ => rfl | ⟨4, _⟩ => rfl | ⟨5, _⟩ => rfl)

/-- A row's fold by the float maximum is its fold by the order's. -/
theorem fold_maximumf {n : ℕ} (x y : EReal) (f g : Fin n → EReal) (h : x = y) (hf : ∀ k, f k = g k) :
    Finset.univ.fold (FloatOps.maximumf (F := Ideal) (φ := .f32)) x f = Finset.univ.fold max y g := by
  rw [h, show f = g from funext hf]
  rfl

theorem rowMax_apply (S : FVec Ideal S8x32x4x4x128x256 .f32) (b : Fin 8) (n : Fin 32) (k g : Fin 4) (r : Fin 128) :
    rowMax S (ix5 b n k g r) = Finset.univ.fold max (⊥ : EReal) fun s : Fin 256 => S (ix6 b n k g r s) :=
  (Host.reduce_eq_fold_single FloatOps.maximumf S _ reducesTo_S8x32x4x4x128x256_S8x32x4x4x128_d5 (by decide) h_S_ (ix5 b n k g r)).trans
    (fold_maximumf (n := 256) _ _ _ _ ofBits_minus_inf fun s => congrArg S (lift_eq _ b n k g r s))

theorem peakS_apply (S : FVec Ideal S8x32x4x4x128x256 .f32) (t : FVec Ideal S8x32x4x4x128 .f32) (b : Fin 8) (n : Fin 32) (k g : Fin 4) (r : Fin 128) :
    peakS S t (ix5 b n k g r) = Attn.peak (fun s => S (ix6 b n k g r s)) (t (ix5 b n k g r)) := by
  unfold peakS Attn.peak
  rw [maximumf_apply, rowMax_apply]
  generalize Finset.univ.fold max (⊥ : EReal) (fun s : Fin 256 => S (ix6 b n k g r s)) = z
  exact congrFun (congrFun (Ideal.maximumf_eq_max (φ := .f32)) z) _

theorem expS_apply (S : FVec Ideal S8x32x4x4x128x256 .f32) (t : FVec Ideal S8x32x4x4x128 .f32) (b : Fin 8) (n : Fin 32) (k g : Fin 4) (r : Fin 128) (s : Fin 256) :
    expS S t (ix6 b n k g r s) = Ideal.exp (S (ix6 b n k g r s) - Attn.peak (fun s => S (ix6 b n k g r s)) (t (ix5 b n k g r))) := by
  pointwise [expS, peakS_apply]

theorem denomS_apply (S : FVec Ideal S8x32x4x4x128x256 .f32) (t : FVec Ideal S8x32x4x4x128 .f32) (b : Fin 8) (n : Fin 32) (k g : Fin 4) (r : Fin 128) :
    denomS S t (ix5 b n k g r) = Attn.denom (fun s => S (ix6 b n k g r s)) (t (ix5 b n k g r)) := by
  have e : Host.reduceAdd (expS S t) (constant S_ .f32 0x00000000#32) reducesTo_S8x32x4x4x128x256_S8x32x4x4x128_d5 h_S_ (ix5 b n k g r)
      = ∑ s : Fin 256, (expS S t (ix6 b n k g r s) : EReal) := by
    generalize expS S t = E
    simp only [Host.reduceAdd, Ideal.hostReduceAdd_def]
    rw [Ideal.hostReduceAdd_single reducesTo_S8x32x4x4x128x256_S8x32x4x4x128_d5 (by decide)]
    refine (congrArg (fun z : EReal => z + _) (show Ideal.ofBits .f32 0x00000000#32 = (0 : EReal) by simp [Ideal.ofBits, Ideal.ieee])).trans ?_
    rw [zero_add]
    exact Finset.sum_congr rfl fun s _ => congrArg E (lift_eq _ b n k g r s)
  unfold Attn.denom
  refine (congrArg (fun z : EReal => z + Ideal.exp (t (ix5 b n k g r) - peakS S t (ix5 b n k g r))) e).trans ?_
  rw [peakS_apply]
  refine congrArg (fun z : EReal => z + _) (Finset.sum_congr rfl fun s _ => ?_)
  exact expS_apply S t b n k g r s

theorem sumS_apply (S : FVec Ideal S8x32x4x4x128x256 .f32) (t : FVec Ideal S8x32x4x4x128 .f32) (v : FVec Ideal S8x32x256x4x64 .f32) (b : Fin 8) (n : Fin 32) (k g : Fin 4) (r : Fin 128) (d : Fin 64) :
    sumS S t v (ix6 b n r k g d) = ∑ s : Fin 256, (v (ix5 b n s k d) * expS S t (ix6 b n k g r s) : EReal) := by
  pointwise [sumS]

theorem outS_apply (S : FVec Ideal S8x32x4x4x128x256 .f32) (t : FVec Ideal S8x32x4x4x128 .f32) (v : FVec Ideal S8x32x256x4x64 .f32) (b : Fin 8) (n : Fin 32) (k g : Fin 4) (r : Fin 128) (d : Fin 64) :
    outS S t v (ix6 b n r k g d) = Ideal.div (sumS S t v (ix6 b n r k g d)) (denomS S t (ix5 b n k g r)) := by
  pointwise [outS]

theorem ref_apply (q : FVec Ideal S32768x1024 .bf16) (kv : FVec Ideal S32768x512 .bf16) (sinks : FVec Ideal S16 .f32) (R : Fin 32768) (C : Fin 1024) :
    ref q kv sinks (ix2 R C) = outS (maskedS q kv) (sinkS sinks) (withPrev (vArr kv))
      (ix6 ⟨R / 4096, by omega⟩ ⟨R / 128 % 32, by omega⟩ ⟨R % 128, by omega⟩ ⟨C / 256, by omega⟩ ⟨C / 64 % 4, by omega⟩ ⟨C % 64, by omega⟩) := by
  pointwise [ref]

/-- A head's slope: a power of two. -/
theorem slopes_apply (h : Fin 16) : slopes (ix1 h) = (((2 : ℝ) ^ (-(8 * (1 + (h : ℝ))) / 16) : ℝ) : EReal) := by
  pointwise [slopes]
  have e2 : Ideal.ofBits .f32 0x40000000#32 = ((2 : ℝ) : EReal) := by
    simp [Ideal.ofBits, Ideal.ieee]
    rw [← EReal.coe_mul]
    norm_num
  have e8 : Ideal.ofBits .f32 0xC1000000#32 = ((-8 : ℝ) : EReal) := by
    simp [Ideal.ofBits, Ideal.ieee]
    rw [← EReal.coe_mul]
    norm_num
  have e16 : Ideal.ofBits .f32 0x41800000#32 = ((16 : ℝ) : EReal) := by
    simp [Ideal.ofBits, Ideal.ieee]
    rw [← EReal.coe_mul]
    norm_num
  have eh : (FloatOps.sitofp .f32 (BitVec.ofNat 32 ↑h) : Ideal .f32) = (((h : ℕ) : ℝ) : EReal) := by
    show (((BitVec.ofNat 32 ↑h).toInt : ℝ) : EReal) = _
    rw [WordCmp.toInt_ofNat_of_lt (by norm_num; omega)]
    simp
  rw [e2, e8, e16, eh, Ideal.div_coe (by norm_num)]
  rw [← EReal.coe_one, ← EReal.coe_add, ← EReal.coe_mul, ← EReal.coe_mul]
  show ((Real.rpow _ _ : ℝ) : EReal) = _
  congr 2
  ring

end SwaRef

end
-- ==== Proof.SwaEq.lean ====
/-
  The equation: the sliding-window attention kernel's result is the reference's, entry by entry, where the queries, the keys and
  the sinks are finite.
-/
module

public import proofs.«01_k».proof.Proof.SwaArray
public import proofs.«01_k».proof.Proof.SwaRefRead

@[expose] public section

set_option maxRecDepth 16384

noncomputable section

namespace SwaEq

open Idealize.ShloMosaic Idealize.ShloMosaic.TcCoe

/-! ## The slopes -/

/-- The square root of a power of two, upside down, is a power of two. -/
theorem inv_sqrt_two_pow (n : ℕ) (x : ℝ) (hx : x = 2 ^ n) : (Real.sqrt x)⁻¹ = (2 : ℝ) ^ (-((n : ℝ) / 2)) := by
  rw [hx, Real.sqrt_eq_rpow, ← Real.rpow_natCast, ← Real.rpow_mul (by norm_num), ← Real.rpow_neg (by norm_num)]
  congr 1
  ring

/-- The even heads' slopes, by name. -/
theorem slope_even (j : Fin 8) : Swa.slope j false = (((2 : ℝ) ^ (-(((2 * j + 1 : ℕ) : ℝ) / 2)) : ℝ) : EReal) := by
  have key : ∀ (name : String) (b : BitVec 32) (x : ℝ) (n : ℕ), Cert.KernelIdeal.κ name = some ((((Real.sqrt x)⁻¹ : ℝ)) : EReal) → x = 2 ^ n →
      Named.named (F := Ideal) (φ := .f32) Cert.KernelIdeal.κ name b = (((2 : ℝ) ^ (-((n : ℝ) / 2)) : ℝ) : EReal) := fun name b x n h hx =>
    (IdealRules.named_const.ideal_named_scalar (φ := .f32) Cert.KernelIdeal.κ name b _ h).trans (congrArg _ (inv_sqrt_two_pow n x hx))
  match j with
  | ⟨0, _⟩ => exact key "slope0" _ 2 1 rfl (by norm_num)
  | ⟨1, _⟩ => exact key "slope2" _ 8 3 rfl (by norm_num)
  | ⟨2, _⟩ => exact key "slope4" _ 32 5 rfl (by norm_num)
  | ⟨3, _⟩ => exact key "slope6" _ 128 7 rfl (by norm_num)
  | ⟨4, _⟩ => exact key "slope8" _ 512 9 rfl (by norm_num)
  | ⟨5, _⟩ => exact key "slope10" _ 2048 11 rfl (by norm_num)
  | ⟨6, _⟩ => exact key "slope12" _ 8192 13 rfl (by norm_num)
  | ⟨7, _⟩ => exact key "slope14" _ 32768 15 rfl (by norm_num)

/-- The odd heads' slopes, exact in their bits. -/
theorem slope_odd (j : Fin 8) : Swa.slope j true = (((2 : ℝ) ^ (-((j : ℝ) + 1)) : ℝ) : EReal) := by
  have key : ∀ (b : BitVec 32) (n : ℕ), Ideal.ofBits .f32 b = ((((2 : ℝ) ^ (n + 1))⁻¹ : ℝ) : EReal) →
      Ideal.ofBits .f32 b = (((2 : ℝ) ^ (-((n : ℝ) + 1)) : ℝ) : EReal) := fun b n h => h.trans (by
    rw [Real.rpow_neg (by norm_num), ← Nat.cast_add_one, Real.rpow_natCast])
  match j with
  | ⟨0, _⟩ => exact key 0x3F000000#32 0 (by simp [Ideal.ofBits, Ideal.ieee]; rw [← EReal.coe_mul]; norm_num)
  | ⟨1, _⟩ => exact key 0x3E800000#32 1 (by simp [Ideal.ofBits, Ideal.ieee]; rw [← EReal.coe_mul]; norm_num)
  | ⟨2, _⟩ => exact key 0x3E000000#32 2 (by simp [Ideal.ofBits, Ideal.ieee]; rw [← EReal.coe_mul]; norm_num)
  | ⟨3, _⟩ => exact key 0x3D800000#32 3 (by simp [Ideal.ofBits, Ideal.ieee]; rw [← EReal.coe_mul]; norm_num)
  | ⟨4, _⟩ => exact key 0x3D000000#32 4 (by simp [Ideal.ofBits, Ideal.ieee]; rw [← EReal.coe_mul]; norm_num)
  | ⟨5, _⟩ => exact key 0x3C800000#32 5 (by simp [Ideal.ofBits, Ideal.ieee]; rw [← EReal.coe_mul]; norm_num)
  | ⟨6, _⟩ => exact key 0x3C000000#32 6 (by simp [Ideal.ofBits, Ideal.ieee]; rw [← EReal.coe_mul]; norm_num)
  | ⟨7, _⟩ => exact key 0x3B800000#32 7 (by simp [Ideal.ofBits, Ideal.ieee]; rw [← EReal.coe_mul]; norm_num)

/-- A head's slope is the same power of two on both sides. -/
theorem slope_eq (h : Fin 16) : Swa.slopeOf h = SwaRef.slopes (ix1 h) := by
  rw [SwaRef.slopes_apply]
  unfold Swa.slopeOf
  by_cases hh : (h : ℕ) % 2 = 1
  · rw [decide_eq_true hh, slope_odd]
    have e : (h : ℕ) = 2 * (h / 2) + 1 := by omega
    have e' : ((h : ℕ) : ℝ) = 2 * ((h / 2 : ℕ) : ℝ) + 1 := by exact_mod_cast congrArg (Nat.cast (R := ℝ)) e
    congr 2
    rw [e']
    ring
  · rw [decide_eq_false hh, slope_even]
    have e : (h : ℕ) = 2 * (h / 2) := by omega
    have e' : ((h : ℕ) : ℝ) = 2 * ((h / 2 : ℕ) : ℝ) := by exact_mod_cast congrArg (Nat.cast (R := ℝ)) e
    congr 2
    rw [e']
    push_cast
    ring

/-- A slope is finite. -/
theorem slope_fin (h : Fin 16) : Attn.Fin' (Swa.slopeOf h) := by
  rw [slope_eq, SwaRef.slopes_apply]
  exact Attn.Fin'.coe _

/-! ## The window and the scores -/

section Entry

variable (q : FVec Ideal Cert.ReferenceIdeal.S32768x1024 .bf16) (kv : FVec Ideal Cert.ReferenceIdeal.S32768x512 .bf16) (sinks : FVec Ideal Cert.ReferenceIdeal.S16 .f32)
  (b : Fin 8) (n : Fin 32) (k g : Fin 4) (r : Fin 128)

/-- The query block of sequence `b`'s block `n`. -/
def blk : Fin 256 := ⟨b * 32 + n, by omega⟩

/-- The query head of key head `k`'s group member `g`. -/
def hd : Fin 16 := ⟨k * 4 + g, by omega⟩

/-- The queries, keys and values, and sinks as functions. -/
abbrev qf : Fin 32768 → Fin 1024 → EReal := fun R C => q (ix2 R C)
abbrev kvf : Fin 32768 → Fin 512 → EReal := fun R C => kv (ix2 R C)

theorem inSeq_iff (s : Fin 256) : Swa.inSeq (blk b n) s ↔ (0 < (n : ℕ) ∨ 128 ≤ (s : ℕ)) := by
  unfold Swa.inSeq blk
  show ((b : ℕ) * 32 + n) % 32 ≠ 0 ∨ _ ↔ _
  omega

/-- Inside the sequence the window of the keys is the keys' rows. -/
theorem keys_eq (s : Fin 256) (d : Fin 64) (hs : 0 < (n : ℕ) ∨ 128 ≤ (s : ℕ)) :
    SwaRef.withPrev (SwaRef.kArr kv) (ix5 b n s k d) = kvf kv (Swa.rowOf (blk b n) s) (Swa.keyLane (hd k g) d) := by
  rw [SwaRef.withPrev_apply]
  by_cases h : (s : ℕ) < 128
  · rw [dif_pos h, dif_neg (by omega), SwaRef.kArr_apply]
    refine congrArg kv (congrArg₂ ix2 (Fin.ext ?_) (Fin.ext ?_))
    · simp only [Swa.rowOf, blk, if_pos h]; omega
    · simp only [Swa.keyLane, hd]; omega
  · rw [dif_neg h, SwaRef.kArr_apply]
    refine congrArg kv (congrArg₂ ix2 (Fin.ext ?_) (Fin.ext ?_))
    · simp only [Swa.rowOf, blk, if_neg h]; omega
    · simp only [Swa.keyLane, hd]; omega

/-- Inside the sequence the window of the values is the values' rows. -/
theorem values_eq (s : Fin 256) (d : Fin 64) (hs : 0 < (n : ℕ) ∨ 128 ≤ (s : ℕ)) :
    SwaRef.withPrev (SwaRef.vArr kv) (ix5 b n s k d) = kvf kv (Swa.rowOf (blk b n) s) (Swa.valueLane (hd k g) d) := by
  rw [SwaRef.withPrev_apply]
  by_cases h : (s : ℕ) < 128
  · rw [dif_pos h, dif_neg (by omega), SwaRef.vArr_apply]
    refine congrArg kv (congrArg₂ ix2 (Fin.ext ?_) (Fin.ext ?_))
    · simp only [Swa.rowOf, blk, if_pos h]; omega
    · simp only [Swa.valueLane, hd]; omega
  · rw [dif_neg h, SwaRef.vArr_apply]
    refine congrArg kv (congrArg₂ ix2 (Fin.ext ?_) (Fin.ext ?_))
    · simp only [Swa.rowOf, blk, if_neg h]; omega
    · simp only [Swa.valueLane, hd]; omega

/-- The masked scores are the same. -/
theorem score_eq (s : Fin 256) :
    SwaRef.maskedS q kv (ix6 b n k g r s) = Swa.score (qf q) (kvf kv) (blk b n) (hd k g) r s := by
  rw [SwaRef.maskedS_apply]
  unfold Swa.score
  refine (if_ctx_congr (and_congr Iff.rfl (inSeq_iff b n s).symm) (fun hc => ?_) fun _ => rfl)
  rw [SwaRef.rawS_apply, SwaRef.bias_apply, ← slope_eq ⟨k * 4 + g, by omega⟩, EReal.neg_mul, ← sub_eq_add_neg]
  refine congrArg (fun z : EReal => z - Swa.slopeOf (hd k g) * ((((r : ℤ) + 128 - s : ℤ) : ℝ) : EReal)) (Finset.sum_congr rfl fun d _ => ?_)
  rw [mul_comm, SwaRef.qArr_apply, keys_eq kv b n k g s d ((inSeq_iff b n s).1 hc.2)]
  refine congrArg (fun z : EReal => z * _) (congrArg q (congrArg₂ ix2 (Fin.ext ?_) (Fin.ext ?_)))
  · simp only [Swa.queryRow, blk]; omega
  · simp only [Swa.queryLane, hd]; omega

/-- With finite queries and keys no score is `⊤`. -/
theorem score_ne_top (hq : ∀ R C, Attn.Fin' (q (ix2 R C))) (hk : ∀ (R : Fin 32768) (C : Fin 512), (C : ℕ) < 256 → Attn.Fin' (kv (ix2 R C))) (N : Fin 256) (h : Fin 16) (s : Fin 256) :
    Swa.score (qf q) (kvf kv) N h r s ≠ ⊤ := by
  unfold Swa.score
  split
  · rw [sub_eq_add_neg, ← EReal.neg_mul]
    refine (Attn.Fin'.add (Attn.Fin'.sum _ _ fun d _ => Attn.Fin'.mul (hq _ _) (hk _ _ ?_)) (Attn.Fin'.mul ?_ (Attn.Fin'.coe _))).2
    · show (h : ℕ) / 4 * 64 + d < 256
      omega
    · obtain ⟨x, hx⟩ := (slope_fin h).exists
      rw [hx, ← EReal.coe_neg]
      exact Attn.Fin'.coe _
  · exact bot_ne_top

/-- One entry of the results: the kernel's is the reference's. -/
theorem entry_eq (hq : ∀ R C, Attn.Fin' (q (ix2 R C))) (hk : ∀ (R : Fin 32768) (C : Fin 512), (C : ℕ) < 256 → Attn.Fin' (kv (ix2 R C))) (hs : ∀ h, Attn.Fin' (sinks (ix1 h))) (d : Fin 64) :
    Swa.result (qf q) (kvf kv) (fun h => sinks (ix1 h)) (blk b n) r (hd k g) d
      = SwaRef.outS (SwaRef.maskedS q kv) (SwaRef.sinkS sinks) (SwaRef.withPrev (SwaRef.vArr kv)) (ix6 b n r k g d) := by
  rw [SwaRef.outS_apply, SwaRef.sumS_apply, SwaRef.denomS_apply, SwaRef.sinkS_apply]
  have e : (fun s => SwaRef.maskedS q kv (ix6 b n k g r s)) = Swa.score (qf q) (kvf kv) (blk b n) (hd k g) r := funext fun s => score_eq q kv b n k g r s
  rw [e]
  refine (Attn.row_eq (S := Swa.score (qf q) (kvf kv) (blk b n) (hd k g) r) (fun s h => ?_) (score_ne_top q kv r hq hk _ _) (hs (hd k g)) _
    (fun s => SwaRef.withPrev (SwaRef.vArr kv) (ix5 b n s k d)) fun s h => ?_).trans ?_
  · unfold Swa.score
    exact if_neg fun hc => h hc.1
  · have hc : Swa.inSeq (blk b n) s := by
      by_contra hc
      exact h (if_neg fun h' => hc h'.2)
    exact (values_eq kv b n k g s d ((inSeq_iff b n s).1 hc)).symm
  · refine congrArg (fun z : EReal => Ideal.div z _) (Finset.sum_congr rfl fun s _ => ?_)
    rw [SwaRef.expS_apply, e, score_eq, SwaRef.sinkS_apply, mul_comm]
    rfl

end Entry

/-- The whole result. -/
theorem result_eq (q : FVec Ideal Cert.ReferenceIdeal.S32768x1024 .bf16) (kv : FVec Ideal Cert.ReferenceIdeal.S32768x512 .bf16) (sinks : FVec Ideal Cert.ReferenceIdeal.S16 .f32)
    (hq : ∀ R C, Attn.Fin' (q (ix2 R C))) (hk : ∀ (R : Fin 32768) (C : Fin 512), (C : ℕ) < 256 → Attn.Fin' (kv (ix2 R C))) (hs : ∀ h, Attn.Fin' (sinks (ix1 h)))
    (R : Fin 32768) (C : Fin 1024) :
    Swa.result (qf q) (kvf kv) (fun h => sinks (ix1 h)) ⟨R / 128, by omega⟩ ⟨R % 128, by omega⟩ ⟨C / 64, by omega⟩ ⟨C % 64, by omega⟩
      = SwaRef.ref q kv sinks (ix2 R C) := by
  rw [SwaRef.ref_apply, ← entry_eq q kv sinks _ _ _ _ _ hq hk hs]
  have e1 : blk ⟨R / 4096, by omega⟩ ⟨R / 128 % 32, by omega⟩ = ⟨R / 128, by omega⟩ := Fin.ext (by simp only [blk]; omega)
  have e2 : hd ⟨C / 256, by omega⟩ ⟨C / 64 % 4, by omega⟩ = ⟨C / 64, by omega⟩ := Fin.ext (by simp only [hd]; omega)
  rw [e1, e2]

end SwaEq

end
-- ==== Proof.SwaClaims.lean ====
/-
  The sliding-window attention's claims: the idealization's named constants, and the equality of the kernel's and the reference's
  result arrays under the precondition that the queries, the keys and the sinks are finite.
-/
module

public import proofs.«01_k».proof.Defs
public import proofs.«01_k».proof.Proof.SwaEq
public import proofs.«01_k».proof.Proof.Gen.KernelIdeal.Value
public import proofs.«01_k».proof.Proof.Gen.Pre_finite

@[expose] public section

set_option maxRecDepth 16384

noncomputable section

namespace SwaClaims

open Idealize.ShloMosaic Idealize.ShloMosaic.TcCoe Idealize.SL.Sem

/-! ## The precondition -/

/-- The pattern of plus infinity. -/
theorem ofBits_inf : Ideal.ofBits .f32 0x7F800000#32 = (⊤ : EReal) := by
  simp [Ideal.ofBits, Ideal.ieee]

/-- An extended real whose absolute value lies below plus infinity is finite. -/
theorem fin_of_cmp (x : EReal) (h : (FloatOps.cmpf (F := Ideal) (φ := .f32) .olt (FloatOps.absf (F := Ideal) (φ := .f32) x) (Ideal.ofBits .f32 0x7F800000#32) : BitVec 1) = 1#1) : Attn.Fin' x := by
  rw [ofBits_inf] at h
  have h' : max x (-x) < ⊤ := by
    by_contra hc
    have e : FloatOps.cmpf (F := Ideal) (φ := .f32) .olt (FloatOps.absf (F := Ideal) (φ := .f32) x) (⊤ : EReal) = BitVec.ofBool (decide (max x (-x) < ⊤)) := rfl
    rw [e, decide_eq_false hc] at h
    exact absurd h (by decide)
  rw [max_lt_iff] at h'
  exact ⟨fun hx => by rw [hx] at h'; exact absurd h'.2 (by simp), h'.1.ne⟩

section Pre

variable (q : FVec Ideal Cert.Pre_finite.S32768x1024 .bf16) (kv : FVec Ideal Cert.Pre_finite.S32768x512 .bf16) (sinks : FVec Ideal Cert.Pre_finite.S16 .f32)

/-- The precondition's first part: finite queries. -/
theorem fin_q (h : (Cert.Pre_finite.fn (F := Ideal) q kv sinks).1 = fun _ => 1#1) (R : Fin 32768) (C : Fin 1024) : Attn.Fin' (q (ix2 R C)) :=
  fin_of_cmp _ (congrFun h (ix2 R C))

/-- Its second part: finite keys. -/
theorem fin_k (h : (Cert.Pre_finite.fn (F := Ideal) q kv sinks).2.1 = fun _ => 1#1) (R : Fin 32768) (C : Fin 512) (hC : (C : ℕ) < 256) : Attn.Fin' (kv (ix2 R C)) := by
  have e := congrFun h (ix2 R ⟨C, hC⟩)
  have e2 : (extractStridedSlice Cert.Pre_finite.S32768x256 ![0, 0] kv Cert.Pre_finite.Gen.slices_S32768x512_S32768x256_0_0) (ix2 R ⟨C, hC⟩) = kv (ix2 R C) := by
    pointwise []
  rw [← e2]
  exact fin_of_cmp _ e

/-- Its third part: finite sinks. -/
theorem fin_s (h : (Cert.Pre_finite.fn (F := Ideal) q kv sinks).2.2 = fun _ => 1#1) (H : Fin 16) : Attn.Fin' (sinks (ix1 H)) :=
  fin_of_cmp _ (congrFun h (ix1 H))

end Pre

/-! ## The claims -/

/-- Each named slope is the value that the idealization gives its name. -/
theorem preserves : Cert.preserves_Kernel_KernelIdeal := by
  unfold Cert.preserves_Kernel_KernelIdeal
  refine ⟨?_, ?_, ?_, ?_, ?_, ?_, ?_, ?_⟩ <;> exact IdealRules.named_const.statement _ _ _ _ _ rfl

/-- The reference leaves its arguments unchanged and has no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The two programs' results are equal. -/
theorem algebraic : Cert.algebraic_KernelIdeal_ReferenceIdeal_pre_finite := by
  intro m ρ m' ρ' hpre hagree
  refine ⟨fun c => Swa.resultArr m c, ?_, ?_⟩
  · exact (θ_run Cert.KernelIdeal.defs _ _).mono (fun _ h c => ⟨(h c).1.trans (Swa.final_eq m c), (h c).2⟩) (Cert.KernelIdeal.Value.run_blocks m ρ)
  · refine (θ_run Cert.ReferenceIdeal.defs _ _).mono (fun _ h c => ⟨(h c).1.trans ?_, (h c).2⟩) (Cert.ReferenceIdeal.Value.run m' ρ')
    refine (SwaRef.run_eq m' c).trans ?_
    obtain ⟨h0, h1, h2⟩ := hagree c
    obtain ⟨p0, p1, p2⟩ := hpre c
    funext y
    rw [eq_ix2 y]
    refine ((SwaEq.result_eq _ _ _ (fin_q _ _ _ p0) (fin_k _ _ _ p1) (fin_s _ _ _ p2) (y 0) (y 1)).trans ?_).symm
    rw [← h0, ← h1, ← h2]

end SwaClaims

end
-- ==== Proof.FfnBlock.lean ====
/-
  The feed-forward kernel's block of one grid point, in one function of what it loads: the body's 22 convolved column blocks
  (11 pairs of a gate's and its up-projection's) are the same computation at 22 columns. A column block goes through a scratch
  that holds the eight rows before the tile and then the tile's own rows; the scratch is written over at each column block.
-/
module

public import proofs.«01_k».proof.Proof.Gen.Ffn1Ideal.Value
public import Idealize.ShloMosaic.PureOps.Ideal

@[expose] public section

set_option maxRecDepth 16384

noncomputable section

namespace Ffn

open Cert.Ffn1Ideal Cert.Ffn1Ideal.Gen Idealize.ShloMosaic Idealize.ShloMosaic.TcCoe Idealize.SL.Sem

/-- The first column of column block `n`: even ones are gates', odd ones up-projections'. -/
def colOf (n : ℕ) : ℕ := 256 * (n / 2) + 2816 * (n % 2)

theorem inb_w {n : ℕ} (h : n < 22) : ∀ a, (![0, 0, colOf n] : Fin 3 → ℕ) a + S1x1024x256.size a ≤ S1x1024x5632.size a := by
  unfold colOf
  intro a
  match a with
  | ⟨0, _⟩ => exact le_of_eq (Nat.zero_add _)
  | ⟨1, _⟩ => exact le_of_eq (Nat.zero_add _)
  | ⟨2, _⟩ => show 256 * (n / 2) + 2816 * (n % 2) + 256 ≤ 5632; omega

theorem inb_taps {n : ℕ} (h : n < 22) : ∀ a, (![0, colOf n] : Fin 2 → ℕ) a + S3x256.size a ≤ S3x5632.size a := by
  unfold colOf
  intro a
  match a with
  | ⟨0, _⟩ => exact le_of_eq (Nat.zero_add _)
  | ⟨1, _⟩ => show 256 * (n / 2) + 2816 * (n % 2) + 256 ≤ 5632; omega

theorem inb_bias {n : ℕ} (h : n < 22) : ∀ a, (![0, colOf n] : Fin 2 → ℕ) a + S1x256.size a ≤ S1x5632.size a := by
  unfold colOf
  intro a
  match a with
  | ⟨0, _⟩ => exact le_of_eq (Nat.zero_add _)
  | ⟨1, _⟩ => show 256 * (n / 2) + 2816 * (n % 2) + 256 ≤ 5632; omega

theorem inb_halo {n : ℕ} (h : n < 22) : ∀ a, (![0, colOf n] : Fin 2 → ℕ) a + S8x256.size a ≤ S8x5632.size a := by
  unfold colOf
  intro a
  match a with
  | ⟨0, _⟩ => exact le_of_eq (Nat.zero_add _)
  | ⟨1, _⟩ => show 256 * (n / 2) + 2816 * (n % 2) + 256 ≤ 5632; omega

theorem inb_act {n : ℕ} (h : n < 11) : ∀ a, (![0, 256 * n] : Fin 2 → ℕ) a + S512x256.size a ≤ S512x2816.size a := by
  intro a
  match a with
  | ⟨0, _⟩ => exact le_of_eq (Nat.zero_add _)
  | ⟨1, _⟩ => show 256 * n + 256 ≤ 2816; omega

/-! ## The loads -/

section Loads

variable {sig : RefSig}

/-- Column block `n` of the up-projection's matrix. -/
def wBlk (a : Memref sig .tc .vmem S1x1024x5632 .bf16) (h : a.IsWhole) (x : Vec Ideal S1x1024x5632 .bf16) (n : Fin 22) : Vec Ideal S1x1024x256 .bf16 :=
  View.readAt (Elt Ideal) a.view (Rect.unit (s := S1x1024x5632) ![0, 0, colOf n] S1x1024x256.size (inb_w n.isLt)).toLoadRect (h.unread x)

/-- Column block `n` of the convolution's three taps. -/
def tapBlk (a : Memref sig .tc .vmem S3x5632 .f32) (h : a.IsWhole) (x : Vec Ideal S3x5632 .f32) (n : Fin 22) : Vec Ideal S3x256 .f32 :=
  View.readAt (Elt Ideal) a.view (Rect.unit (s := S3x5632) ![0, colOf n] S3x256.size (inb_taps n.isLt)).toLoadRect (h.unread x)

/-- Column block `n` of the convolution's bias. -/
def biasBlk (a : Memref sig .tc .vmem S1x5632 .f32) (h : a.IsWhole) (x : Vec Ideal S1x5632 .f32) (n : Fin 22) : Vec Ideal S1x256 .f32 :=
  View.readAt (Elt Ideal) a.view (Rect.unit (s := S1x5632) ![0, colOf n] S1x256.size (inb_bias n.isLt)).toLoadRect (h.unread x)

/-- Column block `n` of the rows the tile before left. -/
def haloBlk (a : Memref sig .tc .vmem S8x5632 .f32) (h : a.IsWhole) (x : Vec Ideal S8x5632 .f32) (n : Fin 22) : Vec Ideal S8x256 .f32 :=
  View.readAt (Elt Ideal) a.view (Rect.unit (s := S8x5632) ![0, colOf n] S8x256.size (inb_halo n.isLt)).toLoadRect (h.unread x)

/-- A whole buffer's load. -/
def whole2 {s : Shape} {e : EltTy} (a : Memref sig .tc .vmem s e) (h : a.IsWhole) (x : Vec Ideal s e) (off : Fin s.rank → ℕ) (hin : ∀ d, off d + s.size d ≤ s.size d) : Vec Ideal s e :=
  View.readAt (Elt Ideal) a.view (Rect.unit (s := s) off s.size hin).toLoadRect (h.unread x)

end Loads

/-! ## The rows the tile leaves for the next one -/

/-- The stores of the tile's last eight rows, of the first `n` column blocks, over the contents `z`. -/
def haloPieces (hn : FVec Ideal S512x1024 .bf16) (w : Fin 22 → Vec Ideal S1x1024x256 .bf16) (z : List (View.Piece (Elt Ideal) S8x5632 .f32)) :
    (n : ℕ) → n ≤ 22 → List (View.Piece (Elt Ideal) S8x5632 .f32)
  | 0, _ => z
  | n + 1, h => ⟨Rect.unit (s := S8x5632) ![0, colOf n] S8x256.size (inb_halo (by omega)), k0_pay8 hn (w ⟨n, by omega⟩)⟩ :: haloPieces hn w z n (by omega)

/-- The store that clears those rows at a sequence's start. -/
def cleared : List (View.Piece (Elt Ideal) S8x5632 .f32) := [⟨Rect.unit (s := S8x5632) ![0, 0] S8x5632.size inb_S8x5632_S8x5632_0_0, (k0_pay2 : FVec Ideal S8x5632 .f32)⟩]

/-- At a sequence's start, column block `n` of the rows before the tile. -/
def clearedBlk {sig : RefSig} (v : View sig .tc .vmem S8x5632 .f32) (hn : FVec Ideal S512x1024 .bf16) (w : Fin 22 → Vec Ideal S1x1024x256 .bf16) (n : Fin 22) :
    Vec Ideal S8x256 .f32 :=
  v.readCov (haloPieces hn w cleared n.val n.isLt.le) (Rect.unit (s := S8x5632) ![0, colOf n] S8x256.size (inb_halo n.isLt)).toLoadRect

/-! ## One column block -/

/-- The stores in the scratch of a column block's rows, after `n` column blocks. -/
def upPieces (hn : FVec Ideal S512x1024 .bf16) (w : Fin 22 → Vec Ideal S1x1024x256 .bf16) (hal : Fin 22 → Vec Ideal S8x256 .f32) :
    (n : ℕ) → n ≤ 22 → List (View.Piece (Elt Ideal) S520x256 .f32)
  | 0, _ => []
  | n + 1, h => ⟨Rect.unit (s := S520x256) ![8, 0] S512x256.size inb_S520x256_S512x256_8_0, k0_pay7 hn (w ⟨n, by omega⟩)⟩
      :: ⟨Rect.unit (s := S520x256) ![0, 0] S8x256.size inb_S520x256_S8x256_0_0, k0_pay6 (hal ⟨n, by omega⟩)⟩ :: upPieces hn w hal n (by omega)

/-- A column block's convolved rows. -/
def convV {sig : RefSig} (v : View sig .tc .vmem S520x256 .f32) (hn : FVec Ideal S512x1024 .bf16) (w : Fin 22 → Vec Ideal S1x1024x256 .bf16)
    (hal : Fin 22 → Vec Ideal S8x256 .f32) (tap : Fin 22 → Vec Ideal S3x256 .f32) (bias : Fin 22 → Vec Ideal S1x256 .f32) (n : Fin 22) : FVec Ideal S512x256 .f32 :=
  k0_pay9 hn (w n) (tap n) (bias n)
    (v.readCov (upPieces hn w hal (n + 1) n.isLt) (Rect.unit (s := S520x256) ![6, 0] S512x256.size inb_S520x256_S512x256_6_0).toLoadRect)
    (v.readCov (upPieces hn w hal (n + 1) n.isLt) (Rect.unit (s := S520x256) ![7, 0] S512x256.size inb_S520x256_S512x256_7_0).toLoadRect)

/-- The gated activation of a pair of column blocks. -/
def actV (gate up : FVec Ideal S512x256 .f32) : FVec Ideal S512x256 .bf16 :=
  let h := mulf (broadcast S512x256 (Scalar.ofBits .f32 0x3F000000#32)) gate
  truncf .bf16 (mulf (addf (mulf h (tanh h)) h) up) bitsLt_bf16_f32

section Tile

variable {sig : RefSig} (v13 : View sig .tc .vmem S520x256 .f32) (v14 : View sig .tc .vmem S512x2816 .bf16)
  (x : FVec Ideal S512x1024 .f32) (hn : FVec Ideal S512x1024 .bf16) (w : Fin 22 → Vec Ideal S1x1024x256 .bf16)
  (hal : Fin 22 → Vec Ideal S8x256 .f32) (tap : Fin 22 → Vec Ideal S3x256 .f32) (bias : Fin 22 → Vec Ideal S1x256 .f32)

/-- The activations' stores, last first. -/
def actPieces : List (View.Piece (Elt Ideal) S512x2816 .bf16) :=
  List.ofFn fun n : Fin 11 => ⟨Rect.unit (s := S512x2816) ![0, 256 * (10 - n.val)] S512x256.size (inb_act (by omega)),
    shapeCast S512x256 (actV (convV v13 hn w hal tap bias ⟨2 * (10 - n.val), by omega⟩) (convV v13 hn w hal tap bias ⟨2 * (10 - n.val) + 1, by omega⟩))
      shapeCasts_S512x256_S512x256⟩

/-- The activations read back. -/
def actsV : Vec Ideal S512x2816 .bf16 :=
  v14.readCov (actPieces v13 hn w hal tap bias) (Rect.unit (s := S512x2816) ![0, 0] S512x2816.size inb_S512x2816_S512x2816_0_0).toLoadRect

/-- The tile with the feed-forward's output added. -/
def outV (wd : Vec Ideal S1x2816x1024 .bf16) : FVec Ideal S512x1024 .f32 := k0_pay139 x (actsV v13 v14 hn w hal tap bias) wd

/-- That, normalized. -/
def finalV (wd : Vec Ideal S1x2816x1024 .bf16) (fg : Vec Ideal S1x1024 .f32) : FVec Ideal S512x1024 .f32 :=
  k0_pay1 (outV v13 v14 x hn w hal tap bias wd) (k0_pay140 x (actsV v13 v14 hn w hal tap bias) wd) (Scalar.ofBits .f32 0x44800000#32) fg

end Tile

end Ffn

end
-- ==== Proof.Ffn1Run.lean ====
/-
  What the feed-forward kernel's run of one grid point leaves in the output's block and in the scratch it carries to the next
  point, in the terms of Proof/FfnBlock.lean: for a point at a sequence's start and for any other.
-/
module

public import proofs.«01_k».proof.Proof.FfnBlock

@[expose] public section

set_option maxRecDepth 16384

noncomputable section

namespace Ffn1

open Ffn Cert.Ffn1Ideal Cert.Ffn1Ideal.Gen Idealize.ShloMosaic Idealize.ShloMosaic.TcCoe Idealize.SL.Sem

section Point

variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S1024x1024 .bf16) (harg3 : arg3.IsWhole)
  (arg4 : Memref sig .tc .vmem S1x1024 .f32) (harg4 : arg4.IsWhole)
  (arg5 : Memref sig .tc .vmem S1x1024 .f32) (harg5 : arg5.IsWhole)
  (arg6 : Memref sig .tc .vmem S1x1024x5632 .bf16) (harg6 : arg6.IsWhole)
  (arg7 : Memref sig .tc .vmem S3x5632 .f32) (harg7 : arg7.IsWhole)
  (arg8 : Memref sig .tc .vmem S1x5632 .f32) (harg8 : arg8.IsWhole)
  (arg9 : Memref sig .tc .vmem S1x2816x1024 .bf16) (harg9 : arg9.IsWhole)
  (arg10 : Memref sig .tc .vmem S1x1024 .f32) (harg10 : arg10.IsWhole)
  (arg11 : Memref sig .tc .vmem S512x1024 .f32) (harg11 : arg11.IsWhole)
  (arg12 : Memref sig .tc .vmem S8x5632 .f32) (harg12 : arg12.IsWhole)
  (arg13 : Memref sig .tc .vmem S520x256 .f32) (harg13 : arg13.IsWhole)
  (arg14 : Memref sig .tc .vmem S512x2816 .bf16) (harg14 : arg14.IsWhole)
  (x0 : Vec Ideal S512x1024 .f32) (x1 : Vec Ideal S512x1024 .bf16) (x2 : Vec Ideal S1024x1024 .bf16) (x3 : Vec Ideal S1x1024 .f32) (x4 : Vec Ideal S1x1024 .f32) (x5 : Vec Ideal S1x1024x5632 .bf16) (x6 : Vec Ideal S3x5632 .f32) (x7 : Vec Ideal S1x5632 .f32) (x8 : Vec Ideal S1x2816x1024 .bf16) (x9 : Vec Ideal S1x1024 .f32) (xs0 : Vec Ideal S8x5632 .f32)

/-- The residual tile. -/
def xTile : FVec Ideal S512x1024 .f32 :=
  k0_pay3 (whole2 arg1 harg1 x0 ![0, 0] inb_S512x1024_S512x1024_0_0) (whole2 arg4 harg4 x3 ![0, 0] inb_S1x1024_S1x1024_0_0)
    (whole2 arg2 harg2 x1 ![0, 0] inb_S512x1024_S512x1024_0_0) (whole2 arg3 harg3 x2 ![0, 0] inb_S1024x1024_S1024x1024_0_0)

/-- The residual tile, normalized. -/
def hnTile : FVec Ideal S512x1024 .bf16 :=
  k0_pay4 (whole2 arg1 harg1 x0 ![0, 0] inb_S512x1024_S512x1024_0_0) (whole2 arg4 harg4 x3 ![0, 0] inb_S1x1024_S1x1024_0_0)
    (whole2 arg2 harg2 x1 ![0, 0] inb_S512x1024_S512x1024_0_0) (whole2 arg3 harg3 x2 ![0, 0] inb_S1024x1024_S1024x1024_0_0)
    (whole2 arg5 harg5 x4 ![0, 0] inb_S1x1024_S1x1024_0_0)

/-- The output's block, with the rows before the tile given. -/
def outTile (hal : Fin 22 → Vec Ideal S8x256 .f32) : FVec Ideal S512x1024 .f32 :=
  finalV arg13.view arg14.view (xTile arg1 harg1 arg2 harg2 arg3 harg3 arg4 harg4 x0 x1 x2 x3) (hnTile arg1 harg1 arg2 harg2 arg3 harg3 arg4 harg4 arg5 harg5 x0 x1 x2 x3 x4)
    (wBlk arg6 harg6 x5) hal (tapBlk arg7 harg7 x6) (biasBlk arg8 harg8 x7)
    (whole2 arg9 harg9 x8 ![0, 0, 0] inb_S1x2816x1024_S1x2816x1024_0_0_0) (whole2 arg10 harg10 x9 ![0, 0] inb_S1x1024_S1x1024_0_0)

end Point

section Runs

set_option maxHeartbeats 1000000

/-- At a sequence's start, the run's one store of the output. -/
theorem runA_out (c : Dev nD) (i : grid0.Coords)
    (arg1 : Memref sig .tc .vmem S512x1024 .f32) (harg1 : arg1.IsWhole)
    (arg2 : Memref sig .tc .vmem S512x1024 .bf16) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1x1024x5632 .bf16) (harg6 : arg6.IsWhole)
    (arg7 : Memref sig .tc .vmem S3x5632 .f32) (harg7 : arg7.IsWhole)
    (arg8 : Memref sig .tc .vmem S1x5632 .f32) (harg8 : arg8.IsWhole)
    (arg9 : Memref sig .tc .vmem S1x2816x1024 .bf16) (harg9 : arg9.IsWhole)
    (arg10 : Memref sig .tc .vmem S1x1024 .f32) (harg10 : arg10.IsWhole)
    (arg11 : Memref sig .tc .vmem S512x1024 .f32) (harg11 : arg11.IsWhole)
    (arg12 : Memref sig .tc .vmem S8x5632 .f32) (harg12 : arg12.IsWhole)
    (arg13 : Memref sig .tc .vmem S520x256 .f32) (harg13 : arg13.IsWhole)
    (arg14 : Memref sig .tc .vmem S512x2816 .bf16) (harg14 : arg14.IsWhole) (hc0 : cond0_0 i)
    (x0 : Vec Ideal S512x1024 .f32) (x1 : Vec Ideal S512x1024 .bf16) (x2 : Vec Ideal S1024x1024 .bf16) (x3 : Vec Ideal S1x1024 .f32) (x4 : Vec Ideal S1x1024 .f32) (x5 : Vec Ideal S1x1024x5632 .bf16) (x6 : Vec Ideal S3x5632 .f32) (x7 : Vec Ideal S1x5632 .f32) (x8 : Vec Ideal S1x2816x1024 .bf16) (x9 : Vec Ideal S1x1024 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).1
      = [⟨Rect.unit (s := S512x1024) ![0, 0] S512x1024.size inb_S512x1024_S512x1024_0_0, outTile arg1 harg1 arg2 harg2 arg3 harg3 arg4 harg4 arg5 harg5 arg6 harg6 arg7 harg7 arg8 harg8 arg9 harg9 arg10 harg10 arg13 arg14 x0 x1 x2 x3 x4 x5 x6 x7 x8 x9 (clearedBlk arg12.view (hnTile arg1 harg1 arg2 harg2 arg3 harg3 arg4 harg4 arg5 harg5 x0 x1 x2 x3 x4) (wBlk arg6 harg6 x5))⟩] := by
  rfl

/-- At a sequence's start, the run's stores of the rows left for the next tile. -/
theorem runA_halo (c : Dev nD) (i : grid0.Coords)
    (arg1 : Memref sig .tc .vmem S512x1024 .f32) (harg1 : arg1.IsWhole)
    (arg2 : Memref sig .tc .vmem S512x1024 .bf16) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1x1024x5632 .bf16) (harg6 : arg6.IsWhole)
    (arg7 : Memref sig .tc .vmem S3x5632 .f32) (harg7 : arg7.IsWhole)
    (arg8 : Memref sig .tc .vmem S1x5632 .f32) (harg8 : arg8.IsWhole)
    (arg9 : Memref sig .tc .vmem S1x2816x1024 .bf16) (harg9 : arg9.IsWhole)
    (arg10 : Memref sig .tc .vmem S1x1024 .f32) (harg10 : arg10.IsWhole)
    (arg11 : Memref sig .tc .vmem S512x1024 .f32) (harg11 : arg11.IsWhole)
    (arg12 : Memref sig .tc .vmem S8x5632 .f32) (harg12 : arg12.IsWhole)
    (arg13 : Memref sig .tc .vmem S520x256 .f32) (harg13 : arg13.IsWhole)
    (arg14 : Memref sig .tc .vmem S512x2816 .bf16) (harg14 : arg14.IsWhole) (hc0 : cond0_0 i)
    (x0 : Vec Ideal S512x1024 .f32) (x1 : Vec Ideal S512x1024 .bf16) (x2 : Vec Ideal S1024x1024 .bf16) (x3 : Vec Ideal S1x1024 .f32) (x4 : Vec Ideal S1x1024 .f32) (x5 : Vec Ideal S1x1024x5632 .bf16) (x6 : Vec Ideal S3x5632 .f32) (x7 : Vec Ideal S1x5632 .f32) (x8 : Vec Ideal S1x2816x1024 .bf16) (x9 : Vec Ideal S1x1024 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9).2.1
      = haloPieces (hnTile arg1 harg1 arg2 harg2 arg3 harg3 arg4 harg4 arg5 harg5 x0 x1 x2 x3 x4) (wBlk arg6 harg6 x5) cleared 22 (le_refl 22) := by
  rfl

/-- At any other point, the run's one store of the output. -/
theorem runB_out (c : Dev nD) (i : grid0.Coords)
    (arg1 : Memref sig .tc .vmem S512x1024 .f32) (harg1 : arg1.IsWhole)
    (arg2 : Memref sig .tc .vmem S512x1024 .bf16) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1x1024x5632 .bf16) (harg6 : arg6.IsWhole)
    (arg7 : Memref sig .tc .vmem S3x5632 .f32) (harg7 : arg7.IsWhole)
    (arg8 : Memref sig .tc .vmem S1x5632 .f32) (harg8 : arg8.IsWhole)
    (arg9 : Memref sig .tc .vmem S1x2816x1024 .bf16) (harg9 : arg9.IsWhole)
    (arg10 : Memref sig .tc .vmem S1x1024 .f32) (harg10 : arg10.IsWhole)
    (arg11 : Memref sig .tc .vmem S512x1024 .f32) (harg11 : arg11.IsWhole)
    (arg12 : Memref sig .tc .vmem S8x5632 .f32) (harg12 : arg12.IsWhole)
    (arg13 : Memref sig .tc .vmem S520x256 .f32) (harg13 : arg13.IsWhole)
    (arg14 : Memref sig .tc .vmem S512x2816 .bf16) (harg14 : arg14.IsWhole) (hc0 : ¬cond0_0 i)
    (x0 : Vec Ideal S512x1024 .f32) (x1 : Vec Ideal S512x1024 .bf16) (x2 : Vec Ideal S1024x1024 .bf16) (x3 : Vec Ideal S1x1024 .f32) (x4 : Vec Ideal S1x1024 .f32) (x5 : Vec Ideal S1x1024x5632 .bf16) (x6 : Vec Ideal S3x5632 .f32) (x7 : Vec Ideal S1x5632 .f32) (x8 : Vec Ideal S1x2816x1024 .bf16) (x9 : Vec Ideal S1x1024 .f32) (xs0 : Vec Ideal S8x5632 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0).1
      = [⟨Rect.unit (s := S512x1024) ![0, 0] S512x1024.size inb_S512x1024_S512x1024_0_0, outTile arg1 harg1 arg2 harg2 arg3 harg3 arg4 harg4 arg5 harg5 arg6 harg6 arg7 harg7 arg8 harg8 arg9 harg9 arg10 harg10 arg13 arg14 x0 x1 x2 x3 x4 x5 x6 x7 x8 x9 (haloBlk arg12 harg12 xs0)⟩] := by
  rfl

/-- At any other point, the run's stores of the rows left for the next tile. -/
theorem runB_halo (c : Dev nD) (i : grid0.Coords)
    (arg1 : Memref sig .tc .vmem S512x1024 .f32) (harg1 : arg1.IsWhole)
    (arg2 : Memref sig .tc .vmem S512x1024 .bf16) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S1x1024x5632 .bf16) (harg6 : arg6.IsWhole)
    (arg7 : Memref sig .tc .vmem S3x5632 .f32) (harg7 : arg7.IsWhole)
    (arg8 : Memref sig .tc .vmem S1x5632 .f32) (harg8 : arg8.IsWhole)
    (arg9 : Memref sig .tc .vmem S1x2816x1024 .bf16) (harg9 : arg9.IsWhole)
    (arg10 : Memref sig .tc .vmem S1x1024 .f32) (harg10 : arg10.IsWhole)
    (arg11 : Memref sig .tc .vmem S512x1024 .f32) (harg11 : arg11.IsWhole)
    (arg12 : Memref sig .tc .vmem S8x5632 .f32) (harg12 : arg12.IsWhole)
    (arg13 : Memref sig .tc .vmem S520x256 .f32) (harg13 : arg13.IsWhole)
    (arg14 : Memref sig .tc .vmem S512x2816 .bf16) (harg14 : arg14.IsWhole) (hc0 : ¬cond0_0 i)
    (x0 : Vec Ideal S512x1024 .f32) (x1 : Vec Ideal S512x1024 .bf16) (x2 : Vec Ideal S1024x1024 .bf16) (x3 : Vec Ideal S1x1024 .f32) (x4 : Vec Ideal S1x1024 .f32) (x5 : Vec Ideal S1x1024x5632 .bf16) (x6 : Vec Ideal S3x5632 .f32) (x7 : Vec Ideal S1x5632 .f32) (x8 : Vec Ideal S1x2816x1024 .bf16) (x9 : Vec Ideal S1x1024 .f32) (xs0 : Vec Ideal S8x5632 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0).2.1
      = haloPieces (hnTile arg1 harg1 arg2 harg2 arg3 harg3 arg4 harg4 arg5 harg5 x0 x1 x2 x3 x4) (wBlk arg6 harg6 x5) [] 22 (le_refl 22) := by
  rfl

end Runs

end Ffn1

end
-- ==== Proof.FfnRow.lean ====
/-
  The feed-forward call's mathematics, of rows of extended reals: what one row of the residual stream becomes.
-/
module

public import Idealize.ShloMosaic.PureOps.Ideal

@[expose] public section

noncomputable section

namespace Ffn

open Idealize.ShloMosaic

/-- The pattern of the rows' length. -/
def len : EReal := Ideal.ofBits .f32 0x44800000#32

/-- The pattern of the normalization's epsilon. -/
def eps : EReal := Ideal.ofBits .f32 0x358637BD#32

/-- A half. -/
def half : EReal := Ideal.ofBits .f32 0x3F000000#32

/-- A row's scale: one over the root of its mean square and epsilon. -/
def scale (x : Fin 1024 → EReal) : EReal := Ideal.rsqrt (Ideal.div (∑ k, x k * x k) len + eps)

/-- A row, normalized. -/
def norm (x g : Fin 1024 → EReal) (c : Fin 1024) : EReal := x c * scale x * g c

/-- A row of the residual stream with the mixer's output projected and added, as the kernel adds it. -/
def resid (h o : Fin 1024 → EReal) (wo : Fin 1024 → Fin 1024 → EReal) (bo : Fin 1024 → EReal) (c : Fin 1024) : EReal :=
  (h c + bo c) + ∑ k, o k * wo k c

/-- The gate's activation, as the kernel computes it. -/
def silu (x : EReal) : EReal := (half * x) * Ideal.tanh (half * x) + half * x

/-- Three rows convolved, the latest row first, as the kernel adds them. -/
def conv (u2 u0 u1 : EReal) (w : Fin 3 → EReal) (b : EReal) : EReal := ((u2 * w 2 + b) + u0 * w 0) + u1 * w 1

/-! ## The call's result -/

/-- A feed-forward call's arguments. -/
structure Inputs where
  h : Fin 32768 → Fin 1024 → EReal
  o : Fin 32768 → Fin 1024 → EReal
  wo : Fin 1024 → Fin 1024 → EReal
  bo : Fin 1024 → EReal
  g : Fin 1024 → EReal
  wu : Fin 1024 → Fin 5632 → EReal
  cw : Fin 3 → Fin 5632 → EReal
  cb : Fin 5632 → EReal
  wd : Fin 2816 → Fin 1024 → EReal

namespace Inputs

variable (I : Inputs)

/-- A row of the residual stream. -/
def x (R : Fin 32768) : Fin 1024 → EReal := resid (I.h R) (I.o R) I.wo I.bo

/-- A row, normalized and projected. -/
def u (R : Fin 32768) (C : Fin 5632) : EReal := ∑ k, norm (I.x R) I.g k * I.wu k C

/-- The projected row `d` before row `R`, zero off the sequence. -/
def before (R : Fin 32768) (d : ℕ) (C : Fin 5632) : EReal := if (R : ℕ) % 4096 < d then 0 else I.u ⟨R - d, by omega⟩ C

/-- A convolved row. -/
def conv (R : Fin 32768) (C : Fin 5632) : EReal := Ffn.conv (I.u R C) (I.before R 2 C) (I.before R 1 C) (fun j => I.cw j C) (I.cb C)

/-- A row's activation. -/
def act (R : Fin 32768) (f : Fin 2816) : EReal := silu (I.conv R ⟨f, by omega⟩) * I.conv R ⟨2816 + f, by omega⟩

/-- A row with the feed-forward's output added. -/
def out (R : Fin 32768) (c : Fin 1024) : EReal := I.x R c + ∑ f, I.act R f * I.wd f c

end Inputs

theorem conv_congr {u2 u2' u0 u0' u1 u1' b b' : EReal} {w w' : Fin 3 → EReal} (h2 : u2 = u2') (h0 : u0 = u0') (h1 : u1 = u1') (hw : w = w') (hb : b = b') :
    conv u2 u0 u1 w b = conv u2' u0' u1' w' b' := by subst h2 h0 h1 hw hb; rfl

end Ffn

end
-- ==== Proof.FfnValue.lean ====
/-
  The feed-forward kernel's block of one grid point, entry by entry, in the terms of Proof/FfnRow.lean.
-/
module

public import proofs.«01_k».proof.Proof.FfnBlock
public import proofs.«01_k».proof.Proof.FfnRow
public import Idealize.ShloMosaic.Lib.Pointwise
public import Idealize.ShloMosaic.Lib.ValueIdx

@[expose] public section

set_option maxRecDepth 16384

noncomputable section

namespace Ffn

open Cert.Ffn1Ideal Cert.Ffn1Ideal.Gen Idealize.ShloMosaic Idealize.ShloMosaic.TcCoe Idealize.SL.Sem

theorem pay3_apply (h : Vec Ideal S512x1024 .f32) (b : Vec Ideal S1x1024 .f32) (o : Vec Ideal S512x1024 .bf16) (w : Vec Ideal S1024x1024 .bf16) (p : Fin 512) (c : Fin 1024) :
    k0_pay3 h b o w (ix2 p c) = resid (fun k => h (ix2 p k)) (fun k => o (ix2 p k)) (fun k j => w (ix2 k j)) (fun k => b (ix2 0 k)) c := by
  pointwise [k0_pay3]
  rfl

theorem pay4_apply (h : Vec Ideal S512x1024 .f32) (b : Vec Ideal S1x1024 .f32) (o : Vec Ideal S512x1024 .bf16) (w : Vec Ideal S1024x1024 .bf16)
    (g : Vec Ideal S1x1024 .f32) (p : Fin 512) (c : Fin 1024) :
    k0_pay4 h b o w g (ix2 p c) = norm (fun k => k0_pay3 h b o w (ix2 p k)) (fun k => g (ix2 0 k)) c := by
  generalize hx : k0_pay3 h b o w = x
  unfold k0_pay4
  rw [hx]
  pointwise []
  rfl

theorem pay5_apply (hn : FVec Ideal S512x1024 .bf16) (w : Vec Ideal S1x1024x256 .bf16) (p : Fin 512) (l : Fin 256) :
    k0_pay5 hn w (ix2 p l) = ∑ k : Fin 1024, (hn (ix2 p k) * w (ix3 0 k l) : EReal) := by
  pointwise [k0_pay5]

theorem pay7_apply (hn : FVec Ideal S512x1024 .bf16) (w : Vec Ideal S1x1024x256 .bf16) (p : Fin 512) (l : Fin 256) :
    k0_pay7 hn w (ix2 p l) = k0_pay5 hn w (ix2 p l) := by
  pointwise [k0_pay7]

theorem pay6_apply (h : Vec Ideal S8x256 .f32) (p : Fin 8) (l : Fin 256) : k0_pay6 h (ix2 p l) = h (ix2 p l) := by
  pointwise [k0_pay6]

theorem pay8_apply (hn : FVec Ideal S512x1024 .bf16) (w : Vec Ideal S1x1024x256 .bf16) (p : Fin 8) (l : Fin 256) :
    k0_pay8 hn w (ix2 p l) = k0_pay5 hn w (ix2 ⟨504 + p, by omega⟩ l) := by
  pointwise [k0_pay8]

theorem pay9_apply (hn : FVec Ideal S512x1024 .bf16) (w : Vec Ideal S1x1024x256 .bf16) (tap : Vec Ideal S3x256 .f32) (b : Vec Ideal S1x256 .f32)
    (u0 u1 : Vec Ideal S512x256 .f32) (p : Fin 512) (l : Fin 256) :
    k0_pay9 hn w tap b u0 u1 (ix2 p l) = conv (k0_pay5 hn w (ix2 p l)) (u0 (ix2 p l)) (u1 (ix2 p l)) (fun j => tap (ix2 j l)) (b (ix2 0 l)) := by
  generalize hx : k0_pay5 hn w = x
  unfold k0_pay9
  rw [hx]
  pointwise []
  rfl

theorem actV_apply (a b : FVec Ideal S512x256 .f32) (p : Fin 512) (l : Fin 256) :
    actV a b (ix2 p l) = (silu (a (ix2 p l)) * b (ix2 p l) : EReal) := by
  pointwise [actV]
  rfl

theorem pay139_apply (x : FVec Ideal S512x1024 .f32) (a : Vec Ideal S512x2816 .bf16) (wd : Vec Ideal S1x2816x1024 .bf16) (p : Fin 512) (c : Fin 1024) :
    k0_pay139 x a wd (ix2 p c) = (x (ix2 p c) + ∑ f : Fin 2816, a (ix2 p f) * wd (ix3 0 f c) : EReal) := by
  pointwise [k0_pay139]

theorem pay1_apply (x : FVec Ideal S512x1024 .f32) (a : Vec Ideal S512x2816 .bf16) (wd : Vec Ideal S1x2816x1024 .bf16) (fg : Vec Ideal S1x1024 .f32) (p : Fin 512) (c : Fin 1024) :
    k0_pay1 (k0_pay139 x a wd) (k0_pay140 x a wd) (Scalar.ofBits .f32 0x44800000#32) fg (ix2 p c)
      = norm (fun k => k0_pay139 x a wd (ix2 p k)) (fun k => fg (ix2 0 k)) c := by
  unfold k0_pay140
  generalize k0_pay139 x a wd = y
  pointwise [k0_pay1]
  rfl

/-! ## The scratches -/

section Tile

variable {sig : RefSig} (hn : FVec Ideal S512x1024 .bf16) (w : Fin 22 → Vec Ideal S1x1024x256 .bf16) (hal : Fin 22 → Vec Ideal S8x256 .f32)

/-- What the scratch of a column block holds, after the block's stores. -/
theorem upCanon (n : ℕ) (hlt : n < 22) (q : Fin 520) (l : Fin 256) :
    View.canon (upPieces hn w hal (n + 1) hlt) (ix2 q l)
      = if h : (q : ℕ) < 8 then hal ⟨n, hlt⟩ (ix2 ⟨q, h⟩ l) else k0_pay5 hn (w ⟨n, hlt⟩) (ix2 ⟨q - 8, by omega⟩ l) := by
  unfold upPieces
  by_cases h : (q : ℕ) < 8
  · rw [dif_pos h, View.canon_cons_of_not_mem]
    · have e : ix2 q l = (Rect.unit (s := S520x256) ![0, 0] S8x256.size inb_S520x256_S8x256_0_0).emb (ix2 ⟨q, h⟩ l) := by
        funext d
        apply Fin.ext
        match d with
        | ⟨0, _⟩ => show (q : ℕ) = 0 + 1 * q; omega
        | ⟨1, _⟩ => show (l : ℕ) = 0 + 1 * l; omega
      rw [e, View.canon_cons_emb]
      exact pay6_apply _ _ _
    · show ix2 q l ∉ (Rect.unit (s := S520x256) ![8, 0] S512x256.size inb_S520x256_S512x256_8_0).set
      rw [Rect.mem_set_unit]
      intro hm
      have h0 : 8 ≤ (q : ℕ) := (hm 0).1
      omega
  · rw [dif_neg h]
    have e : ix2 q l = (Rect.unit (s := S520x256) ![8, 0] S512x256.size inb_S520x256_S512x256_8_0).emb (ix2 ⟨q - 8, by omega⟩ l) := by
      funext d
      apply Fin.ext
      match d with
      | ⟨0, _⟩ => show (q : ℕ) = 8 + 1 * (q - 8); omega
      | ⟨1, _⟩ => show (l : ℕ) = 0 + 1 * l; omega
    rw [e, View.canon_cons_emb]
    exact pay7_apply _ _ _ _

/-- The row `8 - d` rows up the scratch: `d` rows before the tile's row `p`. -/
theorem readBack (v : View sig .tc .vmem S520x256 .f32) (n : Fin 22) (d : ℕ) (hd : d ≤ 8) (hin : ∀ a, (![8 - d, 0] : Fin 2 → ℕ) a + S512x256.size a ≤ S520x256.size a)
    (p : Fin 512) (l : Fin 256) :
    v.readCov (upPieces hn w hal (n + 1) n.isLt) (Rect.unit (s := S520x256) ![8 - d, 0] S512x256.size hin).toLoadRect (ix2 p l)
      = if h : (p : ℕ) < d then hal n (ix2 ⟨8 - d + p, by omega⟩ l) else k0_pay5 hn (w n) (ix2 ⟨p - d, by omega⟩ l) := by
  rw [View.readCov_eq_canon']
  have e : (Rect.unit (s := S520x256) ![8 - d, 0] S512x256.size hin).toLoadRect.idx (ix2 p l) = ix2 ⟨8 - d + p, by omega⟩ l := by
    funext a
    apply Fin.ext
    match a with
    | ⟨0, _⟩ => show 8 - d + 1 * (p : ℕ) = 8 - d + p; omega
    | ⟨1, _⟩ => show 0 + 1 * (l : ℕ) = l; omega
  show View.canon _ _ = _
  rw [e, upCanon hn w hal n n.isLt]
  by_cases h : (p : ℕ) < d
  · rw [dif_pos h, dif_pos (show 8 - d + (p : ℕ) < 8 by omega)]
  · rw [dif_neg h, dif_neg (show ¬ 8 - d + (p : ℕ) < 8 by omega)]
    refine congrArg (fun r => k0_pay5 hn (w n) (ix2 r l)) (Fin.ext ?_)
    show 8 - d + (p : ℕ) - 8 = p - d
    omega

variable (tap : Fin 22 → Vec Ideal S3x256 .f32) (bias : Fin 22 → Vec Ideal S1x256 .f32)

/-- The projected row `d` rows before the tile's row `p`. -/
def before (n : Fin 22) (d : ℕ) (hd : d ≤ 8) (p : Fin 512) (l : Fin 256) : EReal :=
  if h : (p : ℕ) < d then hal n (ix2 ⟨8 - d + p, by omega⟩ l) else k0_pay5 hn (w n) (ix2 ⟨p - d, by omega⟩ l)

theorem convV_apply (v : View sig .tc .vmem S520x256 .f32) (n : Fin 22) (p : Fin 512) (l : Fin 256) :
    convV v hn w hal tap bias n (ix2 p l)
      = conv (k0_pay5 hn (w n) (ix2 p l)) (before hn w hal n 2 (by decide) p l) (before hn w hal n 1 (by decide) p l) (fun j => tap n (ix2 j l)) (bias n (ix2 0 l)) := by
  unfold convV
  rw [pay9_apply]
  exact conv_congr rfl (readBack hn w hal v n 2 (by decide) _ p l) (readBack hn w hal v n 1 (by decide) _ p l) rfl rfl

variable (v13 : View sig .tc .vmem S520x256 .f32) (v14 : View sig .tc .vmem S512x2816 .bf16)

/-- The activations as one function of their index. -/
def actAt (y : S512x2816.Idx) : EReal :=
  actV (convV v13 hn w hal tap bias ⟨2 * ((y 1).val / 256), by have : (y 1).val < 2816 := (y 1).isLt; omega⟩)
    (convV v13 hn w hal tap bias ⟨2 * ((y 1).val / 256) + 1, by have : (y 1).val < 2816 := (y 1).isLt; omega⟩)
    (ix2 ⟨(y 0).val, (y 0).isLt⟩ ⟨(y 1).val % 256, Nat.mod_lt _ (by decide)⟩)

theorem actCast (z : FVec Ideal S512x256 .bf16) (p : Fin 512) (l : Fin 256) :
    shapeCast S512x256 z shapeCasts_S512x256_S512x256 (ix2 p l) = z (ix2 p l) := by
  pointwise []

theorem actAt_emb (a : Fin 11) (x : S512x256.Idx) :
    shapeCast S512x256 (actV (convV v13 hn w hal tap bias ⟨2 * a.val, by omega⟩) (convV v13 hn w hal tap bias ⟨2 * a.val + 1, by omega⟩))
        shapeCasts_S512x256_S512x256 x
      = actAt hn w hal tap bias v13 ((Rect.unit (s := S512x2816) ![0, 256 * a.val] S512x256.size (inb_act a.isLt)).emb x) := by
  have h1 : (x 1).val < 256 := (x 1).isLt
  have e0 : ((Rect.unit (s := S512x2816) ![0, 256 * a.val] S512x256.size (inb_act a.isLt)).emb x 0).val = 0 + 1 * (x 0).val := rfl
  have e1 : ((Rect.unit (s := S512x2816) ![0, 256 * a.val] S512x256.size (inb_act a.isLt)).emb x 1).val = 256 * a.val + 1 * (x 1).val := rfl
  have hx : x = ix2 ⟨(x 0).val, (x 0).isLt⟩ ⟨(x 1).val, (x 1).isLt⟩ := by
    funext d
    match d with
    | ⟨0, _⟩ => rfl
    | ⟨1, _⟩ => rfl
  refine (congrArg _ hx).trans ((actCast _ _ _).trans ?_)
  unfold actAt
  have hc : ((Rect.unit (s := S512x2816) ![0, 256 * a.val] S512x256.size (inb_act a.isLt)).emb x 1).val / 256 = a.val := by rw [e1]; omega
  congr 1
  · congr 2
    rw [hc]
  · congr 2
    rw [hc]
  · congr 1
    · apply Fin.ext; show (x 0).val = _; rw [e0]; omega
    · apply Fin.ext; show (x 1).val = _ % 256; rw [e1]; omega

theorem actsV_apply (p : Fin 512) (f : Fin 2816) :
    actsV v13 v14 hn w hal tap bias (ix2 p f)
      = (silu (convV v13 hn w hal tap bias ⟨2 * (f.val / 256), by omega⟩ (ix2 p ⟨f.val % 256, by omega⟩))
          * convV v13 hn w hal tap bias ⟨2 * (f.val / 256) + 1, by omega⟩ (ix2 p ⟨f.val % 256, by omega⟩) : EReal) := by
  unfold actsV
  rw [View.readCov_eq_canon']
  have e : (Rect.unit (s := S512x2816) ![0, 0] S512x2816.size inb_S512x2816_S512x2816_0_0).toLoadRect.idx (ix2 p f) = ix2 p f := by
    funext a
    apply Fin.ext
    match a with
    | ⟨0, _⟩ => show 0 + 1 * (p : ℕ) = p; omega
    | ⟨1, _⟩ => show 0 + 1 * (f : ℕ) = f; omega
  show View.canon _ _ = _
  rw [e]
  refine (View.canon_apply_of_pieces (actAt hn w hal tap bias v13) _ ?_ (ix2 p f) ?_).trans (actV_apply _ _ _ _)
  · intro q hq x
    obtain ⟨n, rfl⟩ := List.mem_ofFn.1 hq
    exact actAt_emb hn w hal tap bias v13 ⟨10 - n.val, by omega⟩ x
  · refine ⟨_, List.mem_ofFn.2 ⟨⟨10 - f.val / 256, by omega⟩, rfl⟩, ?_⟩
    rw [Rect.mem_set_unit]
    intro a
    match a with
    | ⟨0, _⟩ => exact ⟨Nat.zero_le _, by show (p : ℕ) < 0 + 512; omega⟩
    | ⟨1, _⟩ =>
      show 256 * (10 - (10 - f.val / 256)) ≤ (f : ℕ) ∧ (f : ℕ) < 256 * (10 - (10 - f.val / 256)) + 256
      omega

end Tile

end Ffn

end
-- ==== Proof.FfnTile.lean ====
/-
  The feed-forward kernel's block of one grid point, of the call's arguments: every row of it is `Inputs.out` of Proof/FfnRow.lean.
-/
module

public import proofs.«01_k».proof.Proof.FfnValue
public import Idealize.ShloMosaic.Lib.Pipeline.Value

@[expose] public section

set_option maxRecDepth 16384
set_option backward.proofsInPublic true

noncomputable section

namespace Ffn

open Cert.Ffn1Ideal Cert.Ffn1Ideal.Gen Idealize.ShloMosaic Idealize.ShloMosaic.TcCoe Idealize.SL.Sem

/-- Column `l` of column block `n`. -/
def col (n : Fin 22) (l : Fin 256) : Fin 5632 := ⟨colOf n + l, by unfold colOf; omega⟩

/-- Every column is in one of the column blocks. -/
theorem exists_col (C : Fin 5632) : ∃ n l, C = col n l := by
  refine ⟨⟨if C.val < 2816 then 2 * (C.val / 256) else 2 * ((C.val - 2816) / 256) + 1, by split <;> omega⟩, ⟨C.val % 256, by omega⟩, Fin.ext ?_⟩
  show C.val = colOf (if C.val < 2816 then 2 * (C.val / 256) else 2 * ((C.val - 2816) / 256) + 1) + C.val % 256
  unfold colOf
  split <;> omega

/-! ## Block offsets -/

theorem at_block {i j n r : ℕ} (h : i = j) : i * n + 1 * r = j * n + r := by rw [h, Nat.one_mul]

theorem at_zero {i n r : ℕ} (h : i = 0) : i * n + 1 * r = r := by rw [h, Nat.one_mul, Nat.zero_mul, Nat.zero_add]

/-! ## The loads -/

section Loads

variable {sig : RefSig}

theorem wBlk_apply (a : Memref sig .tc .vmem S1x1024x5632 .bf16) (h : a.IsWhole) (x : Vec Ideal S1x1024x5632 .bf16) (n : Fin 22) (k : Fin 1024) (l : Fin 256) :
    wBlk a h x n (ix3 0 k l) = x (ix3 0 k (col n l)) := by
  unfold wBlk
  rw [View.readAt_eq_ld, h.read_unread]
  refine congrArg x (funext fun d => Fin.ext ?_)
  match d with
  | ⟨0, _⟩ => show 0 + 1 * 0 = 0; rfl
  | ⟨1, _⟩ => show 0 + 1 * (k : ℕ) = k; omega
  | ⟨2, _⟩ => show colOf n + 1 * (l : ℕ) = colOf n + l; omega

theorem tapBlk_apply (a : Memref sig .tc .vmem S3x5632 .f32) (h : a.IsWhole) (x : Vec Ideal S3x5632 .f32) (n : Fin 22) (j : Fin 3) (l : Fin 256) :
    tapBlk a h x n (ix2 j l) = x (ix2 j (col n l)) := by
  unfold tapBlk
  rw [View.readAt_eq_ld, h.read_unread]
  refine congrArg x (funext fun d => Fin.ext ?_)
  match d with
  | ⟨0, _⟩ => show 0 + 1 * (j : ℕ) = j; omega
  | ⟨1, _⟩ => show colOf n + 1 * (l : ℕ) = colOf n + l; omega

theorem biasBlk_apply (a : Memref sig .tc .vmem S1x5632 .f32) (h : a.IsWhole) (x : Vec Ideal S1x5632 .f32) (n : Fin 22) (l : Fin 256) :
    biasBlk a h x n (ix2 0 l) = x (ix2 0 (col n l)) := by
  unfold biasBlk
  rw [View.readAt_eq_ld, h.read_unread]
  refine congrArg x (funext fun d => Fin.ext ?_)
  match d with
  | ⟨0, _⟩ => show 0 + 1 * 0 = 0; rfl
  | ⟨1, _⟩ => show colOf n + 1 * (l : ℕ) = colOf n + l; omega

theorem haloBlk_apply (a : Memref sig .tc .vmem S8x5632 .f32) (h : a.IsWhole) (x : Vec Ideal S8x5632 .f32) (n : Fin 22) (s : Fin 8) (l : Fin 256) :
    haloBlk a h x n (ix2 s l) = x (ix2 s (col n l)) := by
  unfold haloBlk
  rw [View.readAt_eq_ld, h.read_unread]
  refine congrArg x (funext fun d => Fin.ext ?_)
  match d with
  | ⟨0, _⟩ => show 0 + 1 * (s : ℕ) = s; omega
  | ⟨1, _⟩ => show colOf n + 1 * (l : ℕ) = colOf n + l; omega

theorem whole2_eq {s : Shape} {e : EltTy} (a : Memref sig .tc .vmem s e) (h : a.IsWhole) (x : Vec Ideal s e) (off : Fin s.rank → ℕ)
    (hin : ∀ d, off d + s.size d ≤ s.size d) : whole2 a h x off hin = x := by
  unfold whole2
  rw [View.readAt_eq_ld, h.read_unread]
  exact View.ld_unit_zero (funext fun d => by have := hin d; omega) hin x

end Loads

/-! ## The rows left for the next tile -/

section Halo

variable (hn : FVec Ideal S512x1024 .bf16) (w : Fin 22 → Vec Ideal S1x1024x256 .bf16) (z : List (View.Piece (Elt Ideal) S8x5632 .f32))

theorem halo_emb (n : ℕ) (hlt : n < 22) (s : Fin 8) (l : Fin 256) :
    ix2 s (col ⟨n, hlt⟩ l) = (Rect.unit (s := S8x5632) ![0, colOf n] S8x256.size (inb_halo hlt)).emb (ix2 s l) := by
  funext d
  apply Fin.ext
  match d with
  | ⟨0, _⟩ => show (s : ℕ) = 0 + 1 * s; omega
  | ⟨1, _⟩ => show colOf n + (l : ℕ) = colOf n + 1 * l; omega

theorem halo_not_mem (n : ℕ) (hlt : n < 22) (q : Fin 22) (hne : q.val ≠ n) (s : Fin 8) (l : Fin 256) :
    ix2 s (col q l) ∉ (Rect.unit (s := S8x5632) ![0, colOf n] S8x256.size (inb_halo hlt)).set := by
  rw [Rect.mem_set_unit]
  intro hm
  have h1 : colOf n ≤ colOf q + (l : ℕ) ∧ colOf q + (l : ℕ) < colOf n + 256 := hm 1
  unfold colOf at h1
  omega

/-- Where the tile's stores have got to: column block `q`'s last eight rows. -/
theorem halo_stored (n : ℕ) (hle : n ≤ 22) (q : Fin 22) (hq : q.val < n) (s : Fin 8) (l : Fin 256) :
    View.canon (haloPieces hn w z n hle) (ix2 s (col q l)) = k0_pay5 hn (w q) (ix2 ⟨504 + s, by omega⟩ l) := by
  induction n with
  | zero => omega
  | succ n ih =>
    unfold haloPieces
    by_cases h : q.val = n
    · obtain ⟨q, hq22⟩ := q
      dsimp only at h
      subst h
      rw [halo_emb, View.canon_cons_emb]
      exact pay8_apply _ _ _ _
    · exact (View.canon_cons_of_not_mem ⟨Rect.unit (s := S8x5632) ![0, colOf n] S8x256.size (inb_halo (by omega)), k0_pay8 hn (w ⟨n, by omega⟩)⟩
        (haloPieces hn w z n (by omega)) (halo_not_mem n (by omega) q h s l)).trans (ih (by omega) (by omega))

/-- Where they have not: what was there. -/
theorem halo_kept (n : ℕ) (hle : n ≤ 22) (q : Fin 22) (hq : n ≤ q.val) (s : Fin 8) (l : Fin 256) :
    View.canon (haloPieces hn w z n hle) (ix2 s (col q l)) = View.canon z (ix2 s (col q l)) := by
  induction n with
  | zero => rfl
  | succ n ih =>
    unfold haloPieces
    exact (View.canon_cons_of_not_mem ⟨Rect.unit (s := S8x5632) ![0, colOf n] S8x256.size (inb_halo (by omega)), k0_pay8 hn (w ⟨n, by omega⟩)⟩
      (haloPieces hn w z n (by omega)) (halo_not_mem n (by omega) q (by omega) s l)).trans (ih (by omega) (by omega))

theorem pay2_apply (y : S8x5632.Idx) : (k0_pay2 : FVec Ideal S8x5632 .f32) y = (0 : EReal) := by
  show Ideal.ofBits .f32 0x00000000#32 = 0
  simp [Ideal.ofBits, Ideal.ieee]

theorem cleared_apply (y : S8x5632.Idx) : View.canon cleared y = (0 : EReal) := by
  unfold cleared
  rw [View.canon_cons_unit_zero (funext fun a => by match a with | ⟨0, _⟩ => rfl | ⟨1, _⟩ => rfl) inb_S8x5632_S8x5632_0_0]
  exact pay2_apply y

theorem clearedBlk_apply {sig : RefSig} (v : View sig .tc .vmem S8x5632 .f32) (n : Fin 22) (s : Fin 8) (l : Fin 256) :
    clearedBlk v hn w n (ix2 s l) = (0 : EReal) := by
  unfold clearedBlk
  rw [View.readCov_eq_canon']
  show View.canon _ _ = _
  have e : (Rect.unit (s := S8x5632) ![0, colOf n] S8x256.size (inb_halo n.isLt)).toLoadRect.idx (ix2 s l) = ix2 s (col n l) := (halo_emb n n.isLt s l).symm
  rw [e, halo_kept hn w cleared n n.isLt.le n (le_refl _)]
  exact cleared_apply _

end Halo

/-! ## The tile -/

section Tile

variable (I : Inputs) (T : ℕ) (hT : T < 64)

/-- Row `p` of tile `T`. -/
def rowAt (p : Fin 512) : Fin 32768 := ⟨T * 512 + p, by omega⟩

variable {sig : RefSig} (v13 : View sig .tc .vmem S520x256 .f32) (v14 : View sig .tc .vmem S512x2816 .bf16)
  (x : FVec Ideal S512x1024 .f32) (hn : FVec Ideal S512x1024 .bf16) (w : Fin 22 → Vec Ideal S1x1024x256 .bf16)
  (hal : Fin 22 → Vec Ideal S8x256 .f32) (tap : Fin 22 → Vec Ideal S3x256 .f32) (bias : Fin 22 → Vec Ideal S1x256 .f32) (wd : Vec Ideal S1x2816x1024 .bf16)
  (hx : ∀ p c, x (ix2 p c) = I.x (rowAt T hT p) c)
  (hhn : ∀ p c, hn (ix2 p c) = norm (I.x (rowAt T hT p)) I.g c)
  (hw : ∀ n k l, w n (ix3 0 k l) = I.wu k (col n l))
  (htap : ∀ n j l, tap n (ix2 j l) = I.cw j (col n l))
  (hbias : ∀ n l, bias n (ix2 0 l) = I.cb (col n l))
  (hwd : ∀ f c, wd (ix3 0 f c) = I.wd f c)
  (hhal : ∀ n (s : Fin 8) l, hal n (ix2 s l) = if T % 8 = 0 then 0 else I.u ⟨T * 512 - 8 + s, by omega⟩ (col n l))

include hhn hw in
theorem pay5_tile (n : Fin 22) (p : Fin 512) (l : Fin 256) : k0_pay5 hn (w n) (ix2 p l) = I.u (rowAt T hT p) (col n l) := by
  rw [pay5_apply]
  unfold Inputs.u
  exact Finset.sum_congr rfl fun k _ => by rw [hhn, hw]

include hhn hw hhal in
theorem before_tile (n : Fin 22) (d : ℕ) (hd : d ≤ 8) (p : Fin 512) (l : Fin 256) :
    before hn w hal n d hd p l = I.before (rowAt T hT p) d (col n l) := by
  unfold before Inputs.before
  have hr : (rowAt T hT p : ℕ) = T * 512 + p := rfl
  by_cases h : (p : ℕ) < d
  · rw [dif_pos h, hhal]
    by_cases h8 : T % 8 = 0
    · rw [if_pos h8, if_pos (by rw [hr]; omega)]
    · rw [if_neg h8, if_neg (by rw [hr]; omega)]
      refine congrArg (fun r => I.u r (col n l)) (Fin.ext ?_)
      show T * 512 - 8 + (8 - d + (p : ℕ)) = T * 512 + p - d
      omega
  · rw [dif_neg h, if_neg (by rw [hr]; omega), pay5_tile I T hT hn w hhn hw]
    refine congrArg (fun r => I.u r (col n l)) (Fin.ext ?_)
    show T * 512 + ((p : ℕ) - d) = T * 512 + p - d
    omega

include hhn hw htap hbias hhal in
theorem conv_tile (n : Fin 22) (p : Fin 512) (l : Fin 256) :
    convV v13 hn w hal tap bias n (ix2 p l) = I.conv (rowAt T hT p) (col n l) := by
  rw [convV_apply]
  unfold Inputs.conv
  exact conv_congr (pay5_tile I T hT hn w hhn hw n p l) (before_tile I T hT hn w hal hhn hw hhal n 2 _ p l) (before_tile I T hT hn w hal hhn hw hhal n 1 _ p l)
    (funext fun j => htap n j l) (hbias n l)

include hx hhn hw htap hbias hhal hwd in
/-- Every entry of the tile. -/
theorem out_tile (p : Fin 512) (c : Fin 1024) :
    outV v13 v14 x hn w hal tap bias wd (ix2 p c) = I.out (rowAt T hT p) c := by
  unfold outV Inputs.out
  rw [pay139_apply, hx]
  refine congrArg (fun s : EReal => I.x (rowAt T hT p) c + s) (Finset.sum_congr rfl fun f _ => ?_)
  rw [actsV_apply, hwd, conv_tile I T hT v13 hn w hal tap bias hhn hw htap hbias hhal, conv_tile I T hT v13 hn w hal tap bias hhn hw htap hbias hhal]
  unfold Inputs.act
  have c0 : col ⟨2 * (f.val / 256), by omega⟩ ⟨f.val % 256, by omega⟩ = ⟨f, by omega⟩ := by
    apply Fin.ext
    show 256 * (2 * (f.val / 256) / 2) + 2816 * (2 * (f.val / 256) % 2) + f.val % 256 = f.val
    omega
  have c1 : col ⟨2 * (f.val / 256) + 1, by omega⟩ ⟨f.val % 256, by omega⟩ = ⟨2816 + f, by omega⟩ := by
    apply Fin.ext
    show 256 * ((2 * (f.val / 256) + 1) / 2) + 2816 * ((2 * (f.val / 256) + 1) % 2) + f.val % 256 = 2816 + f.val
    omega
  rw [c0, c1]

include hx hhn hw htap hbias hhal hwd in
/-- Every entry of the tile, normalized. -/
theorem final_tile (fg : Vec Ideal S1x1024 .f32) (p : Fin 512) (c : Fin 1024) :
    finalV v13 v14 x hn w hal tap bias wd fg (ix2 p c) = norm (I.out (rowAt T hT p)) (fun k => fg (ix2 0 k)) c := by
  unfold finalV outV
  rw [pay1_apply]
  exact congrArg (fun r => norm r _ c) (funext fun k => out_tile I T hT v13 v14 x hn w hal tap bias wd hx hhn hw htap hbias hwd hhal p k)

include hhn hw in
/-- What the tile's stores leave for the next one: its own last eight rows, projected. -/
theorem halo_tile (z : List (View.Piece (Elt Ideal) S8x5632 .f32)) (s : Fin 8) (C : Fin 5632) :
    View.canon (haloPieces hn w z 22 (le_refl 22)) (ix2 s C) = I.u ⟨T * 512 + 504 + s, by omega⟩ C := by
  obtain ⟨n, l, rfl⟩ := exists_col C
  rw [halo_stored hn w z 22 (le_refl 22) n n.isLt, pay5_tile I T hT hn w hhn hw]
  exact congrArg (fun r => I.u r (col n l)) (Fin.ext (Nat.add_assoc _ _ _).symm)

end Tile

end Ffn

end
-- ==== Proof.Ffn1Array.lean ====
/-
  The result array of the feed-forward kernel (the last layer's call), entry by entry, of the launched arrays: row by row it is
  `Inputs.out` of Proof/FfnRow.lean, normalized. The scratch a grid point leaves holds the projected rows of its own tile, whatever
  it found there.
-/
module

public import proofs.«01_k».proof.Proof.Ffn1Run
public import proofs.«01_k».proof.Proof.FfnTile

@[expose] public section

set_option maxRecDepth 16384
set_option backward.proofsInPublic true

noncomputable section

namespace Ffn1

open Ffn Cert.Ffn1Ideal Cert.Ffn1Ideal.Gen Idealize.ShloMosaic Idealize.ShloMosaic.TcCoe Idealize.SL.Sem

variable (m : (ℓ : Loc nD τ sig) → Buf (Elt Ideal) ℓ) (c : Dev nD)

/-- The call's arguments, of the launched memory. -/
def inputs : Inputs where
  h R C := (m ((c.tc : Thread nD τ).loc main_arg0) : Vec Ideal S32768x1024 .f32) (ix2 R C)
  o R C := (m ((c.tc : Thread nD τ).loc main_arg1) : Vec Ideal S32768x1024 .bf16) (ix2 R C)
  wo k j := (m ((c.tc : Thread nD τ).loc main_arg2) : Vec Ideal S1024x1024 .bf16) (ix2 k j)
  bo k := (m ((c.tc : Thread nD τ).loc main_arg3) : Vec Ideal S1x1024 .f32) (ix2 0 k)
  g k := (m ((c.tc : Thread nD τ).loc main_arg4) : Vec Ideal S1x1024 .f32) (ix2 0 k)
  wu k C := (m ((c.tc : Thread nD τ).loc main_arg5) : Vec Ideal S2x1024x5632 .bf16) (ix3 1 k C)
  cw j C := (m ((c.tc : Thread nD τ).loc main_arg6) : Vec Ideal S3x5632 .f32) (ix2 j C)
  cb C := (m ((c.tc : Thread nD τ).loc main_arg7) : Vec Ideal S1x5632 .f32) (ix2 0 C)
  wd f j := (m ((c.tc : Thread nD τ).loc main_arg8) : Vec Ideal S2x2816x1024 .bf16) (ix3 1 f j)

/-- The last normalization's gain. -/
def gain (k : Fin 1024) : EReal := (m ((c.tc : Thread nD τ).loc main_arg9) : Vec Ideal S1x1024 .f32) (ix2 0 k)

/-! ## The blocks, of the launched arrays -/

/-- The tiled windows' block indices, decided over the grid. -/
theorem tiled : ∀ t : Fin grid0.N, win0_0.index t 0 = t.val ∧ win0_0.index t 1 = 0 ∧ win0_1.index t 0 = t.val ∧ win0_1.index t 1 = 0
    ∧ win0_10.index t 0 = t.val ∧ win0_10.index t 1 = 0 ∧ t.val < 64 := by
  decide +kernel

/-- The untiled windows' block indices, decided over the grid. -/
theorem untiled : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 1 ∧ win0_5.index t 1 = 0 ∧ win0_5.index t 2 = 0)
    ∧ (win0_6.index t 0 = 0 ∧ win0_6.index t 1 = 0) ∧ (win0_7.index t 0 = 0 ∧ win0_7.index t 1 = 0)
    ∧ (win0_8.index t 0 = 1 ∧ win0_8.index t 1 = 0 ∧ win0_8.index t 2 = 0) ∧ (win0_9.index t 0 = 0 ∧ win0_9.index t 1 = 0) := by
  decide +kernel

theorem lt64 (t : Fin cfg0.N) : t.val < 64 := (tiled t).2.2.2.2.2.2

theorem iblk_h (t : Fin cfg0.N) (p : Fin 512) (k : Fin 1024) : (iblk m c 0 t : Vec Ideal S512x1024 .f32) (ix2 p k) = (inputs m c).h (rowAt t.val (lt64 t) p) k :=
  congrArg (m (c.tc.loc main_arg0)) (funext fun a => Fin.ext (match a with
    | ⟨0, _⟩ => at_block (tiled t).1
    | ⟨1, _⟩ => at_zero (tiled t).2.1))

theorem iblk_o (t : Fin cfg0.N) (p : Fin 512) (k : Fin 1024) : (iblk m c 1 t : Vec Ideal S512x1024 .bf16) (ix2 p k) = (inputs m c).o (rowAt t.val (lt64 t) p) k :=
  congrArg (m (c.tc.loc main_arg1)) (funext fun a => Fin.ext (match a with
    | ⟨0, _⟩ => at_block (tiled t).2.2.1
    | ⟨1, _⟩ => at_zero (tiled t).2.2.2.1))

theorem iblk_wo (t : Fin cfg0.N) (j : Fin 1024) (k : Fin 1024) : (iblk m c 2 t : Vec Ideal S1024x1024 .bf16) (ix2 j k) = (inputs m c).wo j k :=
  congrArg (m (c.tc.loc main_arg2)) (funext fun a => Fin.ext (match a with
    | ⟨0, _⟩ => at_zero (untiled t).1.1
    | ⟨1, _⟩ => at_zero (untiled t).1.2))

theorem iblk_bo (t : Fin cfg0.N) (k : Fin 1024) : (iblk m c 3 t : Vec Ideal S1x1024 .f32) (ix2 0 k) = (inputs m c).bo k :=
  congrArg (m (c.tc.loc main_arg3)) (funext fun a => Fin.ext (match a with
    | ⟨0, _⟩ => at_zero (untiled t).2.1.1
    | ⟨1, _⟩ => at_zero (untiled t).2.1.2))

theorem iblk_g (t : Fin cfg0.N) (k : Fin 1024) : (iblk m c 4 t : Vec Ideal S1x1024 .f32) (ix2 0 k) = (inputs m c).g k :=
  congrArg (m (c.tc.loc main_arg4)) (funext fun a => Fin.ext (match a with
    | ⟨0, _⟩ => at_zero (untiled t).2.2.1.1
    | ⟨1, _⟩ => at_zero (untiled t).2.2.1.2))

theorem iblk_wu (t : Fin cfg0.N) (j : Fin 1024) (k : Fin 5632) : (iblk m c 5 t : Vec Ideal S1x1024x5632 .bf16) (ix3 0 j k) = (inputs m c).wu j k :=
  congrArg (m (c.tc.loc main_arg5)) (funext fun a => Fin.ext (match a with
    | ⟨0, _⟩ => at_block (untiled t).2.2.2.1.1
    | ⟨1, _⟩ => at_zero (untiled t).2.2.2.1.2.1
    | ⟨2, _⟩ => at_zero (untiled t).2.2.2.1.2.2))

theorem iblk_cw (t : Fin cfg0.N) (j : Fin 3) (k : Fin 5632) : (iblk m c 6 t : Vec Ideal S3x5632 .f32) (ix2 j k) = (inputs m c).cw j k :=
  congrArg (m (c.tc.loc main_arg6)) (funext fun a => Fin.ext (match a with
    | ⟨0, _⟩ => at_zero (untiled t).2.2.2.2.1.1
    | ⟨1, _⟩ => at_zero (untiled t).2.2.2.2.1.2))

theorem iblk_cb (t : Fin cfg0.N) (k : Fin 5632) : (iblk m c 7 t : Vec Ideal S1x5632 .f32) (ix2 0 k) = (inputs m c).cb k :=
  congrArg (m (c.tc.loc main_arg7)) (funext fun a => Fin.ext (match a with
    | ⟨0, _⟩ => at_zero (untiled t).2.2.2.2.2.1.1
    | ⟨1, _⟩ => at_zero (untiled t).2.2.2.2.2.1.2))

theorem iblk_wd (t : Fin cfg0.N) (j : Fin 2816) (k : Fin 1024) : (iblk m c 8 t : Vec Ideal S1x2816x1024 .bf16) (ix3 0 j k) = (inputs m c).wd j k :=
  congrArg (m (c.tc.loc main_arg8)) (funext fun a => Fin.ext (match a with
    | ⟨0, _⟩ => at_block (untiled t).2.2.2.2.2.2.1.1
    | ⟨1, _⟩ => at_zero (untiled t).2.2.2.2.2.2.1.2.1
    | ⟨2, _⟩ => at_zero (untiled t).2.2.2.2.2.2.1.2.2))

theorem iblk_fg (t : Fin cfg0.N) (k : Fin 1024) : (iblk m c 9 t : Vec Ideal S1x1024 .f32) (ix2 0 k) = gain m c k :=
  congrArg (m (c.tc.loc main_arg9)) (funext fun a => Fin.ext (match a with
    | ⟨0, _⟩ => at_zero (untiled t).2.2.2.2.2.2.2.1
    | ⟨1, _⟩ => at_zero (untiled t).2.2.2.2.2.2.2.2))

/-! ## The tile of a grid point -/

section Point

variable (t : Fin cfg0.N)
  (arg1 : Memref sig .tc .vmem S512x1024 .f32) (harg1 : arg1.IsWhole) (arg2 : Memref sig .tc .vmem S512x1024 .bf16) (harg2 : arg2.IsWhole)
  (arg3 : Memref sig .tc .vmem S1024x1024 .bf16) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1x1024x5632 .bf16) (harg6 : arg6.IsWhole)
  (arg7 : Memref sig .tc .vmem S3x5632 .f32) (harg7 : arg7.IsWhole) (arg8 : Memref sig .tc .vmem S1x5632 .f32) (harg8 : arg8.IsWhole)
  (arg9 : Memref sig .tc .vmem S1x2816x1024 .bf16) (harg9 : arg9.IsWhole) (arg10 : Memref sig .tc .vmem S1x1024 .f32) (harg10 : arg10.IsWhole)
  (arg13 : Memref sig .tc .vmem S520x256 .f32) (arg14 : Memref sig .tc .vmem S512x2816 .bf16)

theorem xTile_apply (p : Fin 512) (k : Fin 1024) :
    xTile arg1 harg1 arg2 harg2 arg3 harg3 arg4 harg4 (iblk m c 0 t) (iblk m c 1 t) (iblk m c 2 t) (iblk m c 3 t) (ix2 p k) = (inputs m c).x (rowAt t.val (lt64 t) p) k := by
  unfold xTile
  rw [pay3_apply, whole2_eq, whole2_eq, whole2_eq, whole2_eq]
  unfold Inputs.x
  simp only [iblk_h, iblk_o, iblk_wo, iblk_bo]

theorem hnTile_apply (p : Fin 512) (k : Fin 1024) :
    hnTile arg1 harg1 arg2 harg2 arg3 harg3 arg4 harg4 arg5 harg5 (iblk m c 0 t) (iblk m c 1 t) (iblk m c 2 t) (iblk m c 3 t) (iblk m c 4 t) (ix2 p k)
      = norm ((inputs m c).x (rowAt t.val (lt64 t) p)) (inputs m c).g k := by
  unfold hnTile
  rw [pay4_apply]
  have e := xTile_apply m c t arg1 harg1 arg2 harg2 arg3 harg3 arg4 harg4 p
  unfold xTile at e
  simp only [e]
  refine congrArg (fun g => norm _ g k) (funext fun k => ?_)
  rw [whole2_eq]
  exact iblk_g m c t k

theorem wBlk_at (n : Fin 22) (k : Fin 1024) (l : Fin 256) : wBlk arg6 harg6 (iblk m c 5 t) n (ix3 0 k l) = (inputs m c).wu k (col n l) :=
  (wBlk_apply arg6 harg6 _ n k l).trans (iblk_wu m c t k (col n l))

theorem outTile_apply (hal : Fin 22 → Vec Ideal S8x256 .f32)
    (hhal : ∀ n (s : Fin 8) l, hal n (ix2 s l) = if t.val % 8 = 0 then 0 else (inputs m c).u ⟨t.val * 512 - 8 + s, by have := lt64 t; omega⟩ (col n l))
    (p : Fin 512) (k : Fin 1024) :
    outTile arg1 harg1 arg2 harg2 arg3 harg3 arg4 harg4 arg5 harg5 arg6 harg6 arg7 harg7 arg8 harg8 arg9 harg9 arg10 harg10 arg13 arg14
      (iblk m c 0 t) (iblk m c 1 t) (iblk m c 2 t) (iblk m c 3 t) (iblk m c 4 t) (iblk m c 5 t) (iblk m c 6 t) (iblk m c 7 t) (iblk m c 8 t) (iblk m c 9 t) hal (ix2 p k)
      = norm ((inputs m c).out (rowAt t.val (lt64 t) p)) (gain m c) k := by
  unfold outTile
  rw [final_tile (inputs m c) t.val (lt64 t) arg13.view arg14.view _ _ _ hal _ _ _
    (xTile_apply m c t arg1 harg1 arg2 harg2 arg3 harg3 arg4 harg4)
    (hnTile_apply m c t arg1 harg1 arg2 harg2 arg3 harg3 arg4 harg4 arg5 harg5)
    (wBlk_at m c t arg6 harg6)
    (fun n j l => (tapBlk_apply arg7 harg7 _ n j l).trans (iblk_cw m c t j (col n l)))
    (fun n l => (biasBlk_apply arg8 harg8 _ n l).trans (iblk_cb m c t (col n l)))
    (fun f k => (congrFun (whole2_eq arg9 harg9 _ _ _) _).trans (iblk_wd m c t f k)) hhal]
  exact congrArg (fun g => norm _ g k) (funext fun k => (congrFun (whole2_eq arg10 harg10 _ _ _) _).trans (iblk_fg m c t k))

end Point

/-! ## The scratch between grid points -/

/-- After any grid point the carried scratch holds the point's own last eight rows, projected. -/
theorem halo_eq (t : Fin cfg0.N) (s : Fin 8) (C : Fin 5632) :
    (outsAt0 m c t.val t.isLt).2 (ix2 s C) = (inputs m c).u ⟨t.val * 512 + 504 + s, by have := lt64 t; omega⟩ C := by
  by_cases h0 : t.val % 8 = 0
  · rw [outsAt0_A m c t h0]
    dsimp only
    unfold sout0_A_0
    rw [View.read_writes_junk_eq_canon, runA_halo]
    exact halo_tile (inputs m c) t.val (lt64 t) _ _ (hnTile_apply m c t _ _ _ _ _ _ _ _ _ _) (wBlk_at m c t _ _) _ s C
  · rw [outsAt0_B m c t h0]
    dsimp only
    unfold sout0_B_0
    rw [View.read_writes_junk_eq_canon, runB_halo]
    exact halo_tile (inputs m c) t.val (lt64 t) _ _ (hnTile_apply m c t _ _ _ _ _ _ _ _ _ _) (wBlk_at m c t _ _) _ s C

/-! ## The result array -/

theorem canon_whole {v : Vec Ideal S512x1024 .f32} : View.canon [(⟨Rect.unit (s := S512x1024) ![0, 0] S512x1024.size inb_S512x1024_S512x1024_0_0, v⟩ : View.Piece (Elt Ideal) S512x1024 .f32)] = v :=
  View.canon_cons_unit_zero (funext fun a => by match a with | ⟨0, _⟩ => rfl | ⟨1, _⟩ => rfl) inb_S512x1024_S512x1024_0_0 v []

/-- What a grid point leaves in the output's block. -/
theorem out_eq (t : Fin cfg0.N) (p : Fin 512) (k : Fin 1024) :
    (outsAt0 m c t.val t.isLt).1 (ix2 p k) = norm ((inputs m c).out (rowAt t.val (lt64 t) p)) (gain m c) k := by
  by_cases h0 : t.val % 8 = 0
  · rw [outsAt0_A m c t h0]
    dsimp only
    unfold out0_A_10
    rw [View.read_writes_junk_eq_canon, runA_out, canon_whole]
    exact outTile_apply m c t _ _ _ _ _ _ _ _ _ _ _ _ _ _ _ _ _ _ _ _ _ _ _ (fun n s l => by rw [if_pos h0]; exact clearedBlk_apply _ _ _ n s l) p k
  · rw [outsAt0_B m c t h0]
    dsimp only
    unfold out0_B_10
    rw [View.read_writes_junk_eq_canon, runB_out, canon_whole]
    refine outTile_apply m c t _ _ _ _ _ _ _ _ _ _ _ _ _ _ _ _ _ _ _ _ _ _ _ (fun n s l => ?_) p k
    rw [if_neg h0, haloBlk_apply]
    have hp : t.val - 1 < cfg0.N := by omega
    refine (halo_eq m c ⟨t.val - 1, hp⟩ s (col n l)).trans (congrArg (fun r => (inputs m c).u r (col n l)) (Fin.ext ?_))
    show (t.val - 1) * 512 + 504 + (s : ℕ) = t.val * 512 - 8 + s
    omega

/-- The result array. -/
def resultArr : Vec Ideal S32768x1024 .f32 := fun y => norm ((inputs m c).out (y 0)) (gain m c) (y 1)

theorem flushed_eq (t : Fin cfg0.N) :
    (dats m 0 c).flushed 10 t = ((cfg0.win 10).blk t).view.read (Elt Ideal) (resultArr m c) := by
  rw [Value.flushed10]
  funext y
  rw [View.read_apply]
  show (outsAt0 m c t.val t.isLt).1 y = resultArr m c (((cfg0.win 10).blk t).view.emb y)
  have ey : (y : S512x1024.Idx) = ix2 (show Fin 512 from y 0) (show Fin 1024 from y 1) := eq_ix2 y
  refine (congrArg (outsAt0 m c t.val t.isLt).1 ey).trans ((out_eq m c t _ _).trans ?_)
  have e0 : ((cfg0.win 10).blk t).view.emb y 0 = rowAt t.val (lt64 t) (y 0) := Fin.ext (at_block (tiled t).2.2.2.2.1)
  have e1 : ((cfg0.win 10).blk t).view.emb y 1 = (show Fin 1024 from y 1) := Fin.ext (at_zero (tiled t).2.2.2.2.2.1)
  unfold resultArr
  rw [e0, e1]

/-- The result array after the run. -/
theorem final_eq : (dats m 0 c).arrAt 10 cfg0.N = resultArr m c :=
  (dats m 0 c).arrAt_eq_of_cover 10 (resultArr m c) (fun t _ => flushed_eq m c t) fun i =>
    (Value.covered_iff10 i).mpr ⟨Nat.zero_le _, (i 0).isLt, Nat.zero_le _, (i 1).isLt⟩

end Ffn1

end
-- ==== Proof.FfnMath.lean ====
/-
  The feed-forward call's laws over the extended reals: the gate's activation as the kernel computes it, through a hyperbolic
  tangent, is a finite gate times its logistic; and the gates are finite where what they are computed from is.
-/
module

public import proofs.«01_k».proof.Proof.FfnRow
public import proofs.«01_k».proof.Proof.SwaMath

@[expose] public section

noncomputable section

namespace Ffn

open Idealize.ShloMosaic

theorem half_eq : half = (((1 / 2 : ℝ) : ℝ) : EReal) := by
  unfold half
  simp [Ideal.ofBits, Ideal.ieee]
  rw [← EReal.coe_mul]
  norm_num

theorem len_eq : len = ((1024 : ℝ) : EReal) := by
  unfold len
  simp [Ideal.ofBits, Ideal.ieee]
  rw [← EReal.coe_mul]
  norm_num

theorem eps_pos : ∃ e : ℝ, 0 < e ∧ eps = (e : EReal) := by
  refine ⟨_, ?_, by unfold eps; simp [Ideal.ofBits, Ideal.ieee]; rw [← EReal.coe_mul]⟩
  norm_num

theorem ofBits_one : Ideal.ofBits .f32 0x3F800000#32 = (1 : EReal) := by
  simp [Ideal.ofBits, Ideal.ieee]
  rw [← EReal.coe_mul]
  norm_num

/-- A finite gate's activation is the gate times its logistic. -/
theorem silu_eq {x : EReal} (hx : Attn.Fin' x) : silu x = x * Ideal.div 1 (1 + Ideal.exp (-x)) := by
  obtain ⟨r, rfl⟩ := hx.exists
  have e1 : (1 : EReal) + Ideal.exp (-(r : EReal)) = ((1 + Real.exp (-r) : ℝ) : EReal) := by
    rw [← EReal.coe_neg, Ideal.exp_coe, EReal.coe_add, EReal.coe_one]
  have hpos : (0 : ℝ) < 1 + Real.exp (-r) := by positivity
  rw [e1, Ideal.div_coe hpos.ne', one_mul, ← EReal.coe_mul]
  unfold silu
  rw [half_eq, ← EReal.coe_mul, Ideal.tanh_coe, ← EReal.coe_mul, ← EReal.coe_add]
  congr 1
  rw [Real.tanh_eq_sinh_div_cosh, Real.sinh_eq, Real.cosh_eq]
  have h1 : Real.exp (1 / 2 * r) = (Real.exp (-(1 / 2 * r)))⁻¹ := by rw [Real.exp_neg, inv_inv]
  have h2 : Real.exp (-r) = Real.exp (-(1 / 2 * r)) * Real.exp (-(1 / 2 * r)) := by rw [← Real.exp_add]; congr 1; ring
  rw [h1, h2]
  have hp : (0 : ℝ) < Real.exp (-(1 / 2 * r)) := Real.exp_pos _
  generalize Real.exp (-(1 / 2 * r)) = e at hp
  field_simp
  ring

/-- A finite row's scale is finite. -/
theorem scale_fin {x : Fin 1024 → EReal} (hx : ∀ k, Attn.Fin' (x k)) : Attn.Fin' (scale x) := by
  obtain ⟨e, he, hE⟩ := eps_pos
  have hs : ∃ s : ℝ, 0 ≤ s ∧ ∑ k, x k * x k = (s : EReal) := by
    refine Finset.sum_induction (fun k => x k * x k) (fun y : EReal => ∃ s : ℝ, 0 ≤ s ∧ y = (s : EReal)) ?_ ⟨0, le_refl 0, rfl⟩ fun k _ => ?_
    · rintro _ _ ⟨a, ha, rfl⟩ ⟨b, hb, rfl⟩
      exact ⟨a + b, add_nonneg ha hb, (EReal.coe_add a b).symm⟩
    · obtain ⟨r, hr⟩ := (hx k).exists
      rw [hr]
      exact ⟨r * r, mul_self_nonneg r, (EReal.coe_mul r r).symm⟩
  obtain ⟨s, hs0, hs⟩ := hs
  unfold scale
  rw [hs, len_eq, hE, Ideal.div_coe (by norm_num), ← EReal.coe_mul, ← EReal.coe_add, Ideal.rsqrt_coe]
  have hp : 0 < s * (1 / 1024 : ℝ) + e := by positivity
  rw [if_neg (not_lt.mpr hp.le), if_neg hp.ne']
  exact Attn.Fin'.coe _

namespace Inputs

variable (I : Inputs)

/-- What the gates are computed from is finite. -/
structure GateFin : Prop where
  h : ∀ R c, Attn.Fin' (I.h R c)
  o : ∀ R c, Attn.Fin' (I.o R c)
  wo : ∀ k j, Attn.Fin' (I.wo k j)
  bo : ∀ k, Attn.Fin' (I.bo k)
  g : ∀ k, Attn.Fin' (I.g k)
  wu : ∀ k (C : Fin 2816), Attn.Fin' (I.wu k ⟨C, by omega⟩)
  cw : ∀ j (C : Fin 2816), Attn.Fin' (I.cw j ⟨C, by omega⟩)
  cb : ∀ C : Fin 2816, Attn.Fin' (I.cb ⟨C, by omega⟩)

variable {I}

theorem x_fin (hI : I.GateFin) (R : Fin 32768) (c : Fin 1024) : Attn.Fin' (I.x R c) :=
  ((hI.h R c).add (hI.bo c)).add (Attn.Fin'.sum _ _ fun k _ => (hI.o R k).mul (hI.wo k c))

theorem u_fin (hI : I.GateFin) (R : Fin 32768) (C : Fin 2816) : Attn.Fin' (I.u R ⟨C, by omega⟩) :=
  Attn.Fin'.sum _ _ fun k _ => (((I.x_fin hI R k).mul (scale_fin (I.x_fin hI R))).mul (hI.g k)).mul (hI.wu k C)

theorem before_fin (hI : I.GateFin) (R : Fin 32768) (d : ℕ) (C : Fin 2816) : Attn.Fin' (I.before R d ⟨C, by omega⟩) := by
  unfold before
  split
  · exact Attn.Fin'.coe 0
  · exact I.u_fin hI _ C

/-- The gates are finite. -/
theorem conv_fin (hI : I.GateFin) (R : Fin 32768) (C : Fin 2816) : Attn.Fin' (I.conv R ⟨C, by omega⟩) :=
  ((((I.u_fin hI R C).mul (hI.cw 2 C)).add (hI.cb C)).add ((I.before_fin hI R 2 C).mul (hI.cw 0 C))).add ((I.before_fin hI R 1 C).mul (hI.cw 1 C))

end Inputs

end Ffn

end
-- ==== Proof.FfnRef.lean ====
/-
  The feed-forward reference in stages (the residual stream, its normalization, the up-projection, the convolution, the gated
  activations, the output), read entry by entry in the terms of Proof/FfnRow.lean.
-/
module

public import proofs.«01_k».proof.Proof.FfnMath
public import proofs.«01_k».proof.Proof.Gen.RefFfn1Ideal.Run
public import Idealize.ShloMosaic.Lib.Pointwise
public import Idealize.ShloMosaic.Lib.ValueIdx

@[expose] public section

set_option maxRecDepth 16384
set_option backward.proofsInPublic true

noncomputable section

namespace FfnRef

open Ffn Cert.RefFfn1Ideal Cert.RefFfn1Ideal.Gen Idealize.ShloMosaic Idealize.ShloMosaic.TcCoe Idealize.SL.Sem

/-! ## The stages -/

/-- A vector over every row. -/
def rowS (r : FVec Ideal S1x1024 .f32) : FVec Ideal S8x4096x1024 .f32 :=
  broadcastInDim S8x4096x1024 ![0, 1, 2] bcast_S1x1x1024_S8x4096x1024_0_1_2 (broadcastInDim S1x1x1024 ![1, 2] bcast_S1x1024_S1x1x1024_1_2 r)

/-- A row's product with a square matrix. -/
def dotS (o : FVec Ideal S8x4096x1024 .f32) (w : FVec Ideal S1024x1024 .bf16) : FVec Ideal S8x4096x1024 .f32 :=
  Host.dotGeneral dot_S8x4096x1024_S1024x1024_S8x4096x1024_2_0_01_1_n_n none o (extf .f32 w bitsLt_bf16_f32)

/-- The residual stream. -/
def xS (h : FVec Ideal S32768x1024 .f32) (o : FVec Ideal S32768x1024 .bf16) (wo : FVec Ideal S1024x1024 .bf16) (bo : FVec Ideal S1x1024 .f32) : FVec Ideal S8x4096x1024 .f32 :=
  addf (shapeCast _ h shapeCasts_S32768x1024_S8x4096x1024)
    (addf (dotS (extf .f32 (shapeCast _ o shapeCasts_S32768x1024_S8x4096x1024) bitsLt_bf16_f32) wo) (rowS bo))

/-- The rows' sums of squares. -/
def squares (x : FVec Ideal S8x4096x1024 .f32) : FVec Ideal S8x4096 .f32 :=
  Host.reduceAdd (mulf x x) (constant S_ .f32 0x00000000#32) reducesTo_S8x4096x1024_S8x4096_d2 h_S_

/-- The rows' scales, of their sums of squares. -/
def scales (s : FVec Ideal S8x4096 .f32) : FVec Ideal S8x4096x1 .f32 :=
  Host.rsqrt (addf (Host.divf (broadcastInDim S8x4096x1 ![0, 1] bcast_S8x4096_S8x4096x1_0_1 s) (broadcastInDim S8x4096x1 ![] bcast_S_S8x4096x1 (constant S_ .f32 0x44800000#32)))
    (broadcastInDim S8x4096x1 ![] bcast_S_S8x4096x1 (constant S_ .f32 0x358637BD#32)))

/-- The rows, normalized. -/
def normS (x : FVec Ideal S8x4096x1024 .f32) (g : FVec Ideal S1x1024 .f32) : FVec Ideal S8x4096x1024 .f32 :=
  mulf (mulf x (broadcastInDim S8x4096x1024 ![0, 1, 2] bcast_S8x4096x1_S8x4096x1024_0_1_2 (scales (squares x)))) (rowS g)

/-- The rows, projected. -/
def upS (n : FVec Ideal S8x4096x1024 .f32) (w : FVec Ideal S1024x5632 .f32) : FVec Ideal S8x4096x5632 .f32 :=
  Host.dotGeneral dot_S8x4096x1024_S1024x5632_S8x4096x5632_2_0_01_1_n_n none n w

/-- Two rows of zeros before each sequence. -/
def padS (u : FVec Ideal S8x4096x5632 .f32) : FVec Ideal S8x4098x5632 .f32 :=
  pad S8x4098x5632 ![0, 2, 0] ![0, 0, 0] ![0, 0, 0] u (sitofp .f32 (constantI S_ 32 0#32)) pads_S8x4096x5632_S8x4098x5632_000_200_000 h_S_

/-- A row of taps over every row. -/
def tapS (r : FVec Ideal S1x5632 .f32) : FVec Ideal S8x4096x5632 .f32 :=
  broadcastInDim S8x4096x5632 ![0, 1, 2] bcast_S1x1x5632_S8x4096x5632_0_1_2 (broadcastInDim S1x1x5632 ![2] bcast_S5632_S1x1x5632_2 (shapeCast _ r shapeCasts_S1x5632_S5632))

/-- The convolved rows, of the padded ones. -/
def convS (u : FVec Ideal S8x4098x5632 .f32) (cw : FVec Ideal S3x5632 .f32) (cb : FVec Ideal S1x5632 .f32) : FVec Ideal S8x4096x5632 .f32 :=
  addf (addf (addf
      (mulf (extractStridedSlice S8x4096x5632 ![0, 2, 0] u slices_S8x4098x5632_S8x4096x5632_0_2_0) (tapS (extractStridedSlice S1x5632 ![2, 0] cw slices_S3x5632_S1x5632_2_0)))
      (mulf (extractStridedSlice S8x4096x5632 ![0, 0, 0] u slices_S8x4098x5632_S8x4096x5632_0_0_0) (tapS (extractStridedSlice S1x5632 ![0, 0] cw slices_S3x5632_S1x5632_0_0))))
      (mulf (extractStridedSlice S8x4096x5632 ![0, 1, 0] u slices_S8x4098x5632_S8x4096x5632_0_1_0) (tapS (extractStridedSlice S1x5632 ![1, 0] cw slices_S3x5632_S1x5632_1_0))))
    (tapS cb)

/-- A gate times its logistic. -/
def siluS (x : FVec Ideal S8x4096x2816 .f32) : FVec Ideal S8x4096x2816 .f32 :=
  mulf x (Host.divf (broadcastInDim S8x4096x2816 ![] bcast_S_S8x4096x2816 (constant S_ .f32 0x3F800000#32))
    (addf (broadcastInDim S8x4096x2816 ![] bcast_S_S8x4096x2816 (constant S_ .f32 0x3F800000#32)) (Host.exp (Host.negf x))))

/-- The gated activations. -/
def actS (v : FVec Ideal S8x4096x5632 .f32) : FVec Ideal S8x4096x2816 .f32 :=
  mulf (siluS (extractStridedSlice S8x4096x2816 ![0, 0, 0] v slices_S8x4096x5632_S8x4096x2816_0_0_0))
    (extractStridedSlice S8x4096x2816 ![0, 0, 2816] v slices_S8x4096x5632_S8x4096x2816_0_0_2816)

/-- The residual stream with the feed-forward's output added. -/
def outS (x : FVec Ideal S8x4096x1024 .f32) (a : FVec Ideal S8x4096x2816 .f32) (w : FVec Ideal S2816x1024 .f32) : FVec Ideal S8x4096x1024 .f32 :=
  addf x (Host.dotGeneral dot_S8x4096x2816_S2816x1024_S8x4096x1024_2_0_01_1_n_n none a w)

/-- The feed-forward layer, of its arguments and its layer's two matrices. -/
def layer (h : FVec Ideal S32768x1024 .f32) (o : FVec Ideal S32768x1024 .bf16) (wo : FVec Ideal S1024x1024 .bf16) (bo g : FVec Ideal S1x1024 .f32)
    (wu : FVec Ideal S1024x5632 .f32) (cw : FVec Ideal S3x5632 .f32) (cb : FVec Ideal S1x5632 .f32) (wd : FVec Ideal S2816x1024 .f32) : FVec Ideal S8x4096x1024 .f32 :=
  outS (xS h o wo bo) (actS (convS (padS (upS (normS (xS h o wo bo) g) wu)) cw cb)) wd

/-- The rows in one axis again. -/
def flat (x : FVec Ideal S8x4096x1024 .f32) : FVec Ideal S32768x1024 .f32 := shapeCast _ x shapeCasts_S8x4096x1024_S32768x1024

/-! ## The stages, entry by entry -/

theorem rowS_apply (r : FVec Ideal S1x1024 .f32) (b : Fin 8) (s : Fin 4096) (c : Fin 1024) : rowS r (ix3 b s c) = r (ix2 0 c) := by
  pointwise [rowS]

theorem dotS_apply (o : FVec Ideal S8x4096x1024 .f32) (w : FVec Ideal S1024x1024 .bf16) (b : Fin 8) (s : Fin 4096) (c : Fin 1024) :
    dotS o w (ix3 b s c) = ∑ k : Fin 1024, (o (ix3 b s k) * w (ix2 k c) : EReal) := by
  pointwise [dotS]

/-- Row `s` of sequence `b`. -/
def row (b : Fin 8) (s : Fin 4096) : Fin 32768 := ⟨b * 4096 + s, by omega⟩

theorem xS_apply (h : FVec Ideal S32768x1024 .f32) (o : FVec Ideal S32768x1024 .bf16) (wo : FVec Ideal S1024x1024 .bf16) (bo : FVec Ideal S1x1024 .f32)
    (b : Fin 8) (s : Fin 4096) (c : Fin 1024) :
    xS h o wo bo (ix3 b s c) = resid (fun k => h (ix2 (row b s) k)) (fun k => o (ix2 (row b s) k)) (fun k j => wo (ix2 k j)) (fun k => bo (ix2 0 k)) c := by
  pointwise [xS, dotS_apply, rowS_apply]
  unfold resid row
  rw [add_assoc, add_comm (bo (ix2 0 c) : EReal)]

theorem lift_eq (h : S8x4096x1024.Reduces [2] S8x4096) (b : Fin 8) (s : Fin 4096) (k : Fin 1024) : h.lift (ix2 b s) k = ix3 b s k :=
  funext fun a => Fin.ext (by match a with | ⟨0, _⟩ => rfl | ⟨1, _⟩ => rfl | ⟨2, _⟩ => rfl)

theorem squares_apply (x : FVec Ideal S8x4096x1024 .f32) (b : Fin 8) (s : Fin 4096) :
    squares x (ix2 b s) = ∑ k : Fin 1024, (x (ix3 b s k) * x (ix3 b s k) : EReal) := by
  have e : ∀ y : FVec Ideal S8x4096x1024 .f32, Host.reduceAdd y (constant S_ .f32 0x00000000#32) reducesTo_S8x4096x1024_S8x4096_d2 h_S_ (ix2 b s)
      = ∑ k : Fin 1024, (y (ix3 b s k) : EReal) := by
    intro y
    simp only [Host.reduceAdd, Ideal.hostReduceAdd_def]
    rw [Ideal.hostReduceAdd_single reducesTo_S8x4096x1024_S8x4096_d2 (by decide)]
    refine (congrArg (fun z : EReal => z + _) (show Ideal.ofBits .f32 0x00000000#32 = (0 : EReal) by simp [Ideal.ofBits, Ideal.ieee])).trans ?_
    rw [zero_add]
    exact Finset.sum_congr rfl fun k _ => congrArg y (lift_eq _ b s k)
  exact e (mulf x x)

theorem scales_apply (q : FVec Ideal S8x4096 .f32) (b : Fin 8) (s : Fin 4096) :
    scales q (ix3 b s 0) = Ideal.rsqrt (Ideal.div (q (ix2 b s)) len + eps) := by
  pointwise [scales]
  rfl

theorem normS_apply (x : FVec Ideal S8x4096x1024 .f32) (g : FVec Ideal S1x1024 .f32) (b : Fin 8) (s : Fin 4096) (c : Fin 1024) :
    normS x g (ix3 b s c) = norm (fun k => x (ix3 b s k)) (fun k => g (ix2 0 k)) c := by
  pointwise [normS, rowS_apply, scales_apply, squares_apply]
  rfl

theorem upS_apply (n : FVec Ideal S8x4096x1024 .f32) (w : FVec Ideal S1024x5632 .f32) (b : Fin 8) (s : Fin 4096) (C : Fin 5632) :
    upS n w (ix3 b s C) = ∑ k : Fin 1024, (n (ix3 b s k) * w (ix2 k C) : EReal) := by
  pointwise [upS]

/-- The integer zero as a float. -/
theorem sitofp_zero : (FloatOps.sitofp .f32 (0#32) : Ideal .f32) = (0 : EReal) := by
  show (((0#32 : BitVec 32).toInt : ℝ) : EReal) = 0
  simp

theorem padS_apply (u : FVec Ideal S8x4096x5632 .f32) (b : Fin 8) (s : Fin 4098) (C : Fin 5632) :
    padS u (ix3 b s C) = if h : (s : ℕ) < 2 then (0 : EReal) else u (ix3 b ⟨s - 2, by omega⟩ C) := by
  pointwise [padS]
  by_cases h : (s : ℕ) < 2
  · rw [dif_pos h, dif_neg (by omega), sitofp_zero]
  · rw [dif_neg h, dif_pos (by omega)]

theorem tapS_apply (r : FVec Ideal S1x5632 .f32) (b : Fin 8) (s : Fin 4096) (C : Fin 5632) : tapS r (ix3 b s C) = r (ix2 0 C) := by
  pointwise [tapS]

theorem convS_apply (u : FVec Ideal S8x4098x5632 .f32) (cw : FVec Ideal S3x5632 .f32) (cb : FVec Ideal S1x5632 .f32) (b : Fin 8) (s : Fin 4096) (C : Fin 5632) :
    convS u cw cb (ix3 b s C) = conv (u (ix3 b ⟨2 + s, by omega⟩ C)) (u (ix3 b ⟨s, by omega⟩ C)) (u (ix3 b ⟨1 + s, by omega⟩ C)) (fun j => cw (ix2 j C)) (cb (ix2 0 C)) := by
  pointwise [convS, tapS_apply]
  unfold conv
  rw [add_right_comm, add_right_comm (_ * _ : EReal)]

theorem siluS_apply (x : FVec Ideal S8x4096x2816 .f32) (b : Fin 8) (s : Fin 4096) (f : Fin 2816) (h : Attn.Fin' (x (ix3 b s f))) :
    siluS x (ix3 b s f) = silu (x (ix3 b s f)) := by
  rw [silu_eq h, ← ofBits_one]
  pointwise [siluS]

theorem actS_apply (v : FVec Ideal S8x4096x5632 .f32) (b : Fin 8) (s : Fin 4096) (f : Fin 2816) (h : Attn.Fin' (v (ix3 b s ⟨f, by omega⟩))) :
    actS v (ix3 b s f) = silu (v (ix3 b s ⟨f, by omega⟩)) * v (ix3 b s ⟨2816 + f, by omega⟩) := by
  have e : extractStridedSlice S8x4096x2816 ![0, 0, 0] v slices_S8x4096x5632_S8x4096x2816_0_0_0 (ix3 b s f) = v (ix3 b s ⟨f, by omega⟩) := by pointwise []
  have e' : extractStridedSlice S8x4096x2816 ![0, 0, 2816] v slices_S8x4096x5632_S8x4096x2816_0_0_2816 (ix3 b s f) = v (ix3 b s ⟨2816 + f, by omega⟩) := by pointwise []
  unfold actS
  rw [mulf_apply, siluS_apply _ b s f (by rw [e]; exact h), e, e']
  rfl

theorem outS_apply (x : FVec Ideal S8x4096x1024 .f32) (a : FVec Ideal S8x4096x2816 .f32) (w : FVec Ideal S2816x1024 .f32) (b : Fin 8) (s : Fin 4096) (c : Fin 1024) :
    outS x a w (ix3 b s c) = x (ix3 b s c) + ∑ f : Fin 2816, (a (ix3 b s f) * w (ix2 f c) : EReal) := by
  pointwise [outS]

theorem flat_apply (x : FVec Ideal S8x4096x1024 .f32) (R : Fin 32768) (c : Fin 1024) :
    flat x (ix2 R c) = x (ix3 ⟨R / 4096, by omega⟩ ⟨R % 4096, by omega⟩ c) := by
  pointwise [flat]

/-! ## The layer -/

/-- The call's arguments, of the reference's. -/
def inputs (h : FVec Ideal S32768x1024 .f32) (o : FVec Ideal S32768x1024 .bf16) (wo : FVec Ideal S1024x1024 .bf16) (bo g : FVec Ideal S1x1024 .f32)
    (wu : FVec Ideal S1024x5632 .f32) (cw : FVec Ideal S3x5632 .f32) (cb : FVec Ideal S1x5632 .f32) (wd : FVec Ideal S2816x1024 .f32) : Inputs where
  h R C := h (ix2 R C)
  o R C := o (ix2 R C)
  wo k j := wo (ix2 k j)
  bo k := bo (ix2 0 k)
  g k := g (ix2 0 k)
  wu k C := wu (ix2 k C)
  cw j C := cw (ix2 j C)
  cb C := cb (ix2 0 C)
  wd f j := wd (ix2 f j)

section Layer

variable (h : FVec Ideal S32768x1024 .f32) (o : FVec Ideal S32768x1024 .bf16) (wo : FVec Ideal S1024x1024 .bf16) (bo g : FVec Ideal S1x1024 .f32)
  (wu : FVec Ideal S1024x5632 .f32) (cw : FVec Ideal S3x5632 .f32) (cb : FVec Ideal S1x5632 .f32) (wd : FVec Ideal S2816x1024 .f32)

theorem up_eq (b : Fin 8) (s : Fin 4096) (C : Fin 5632) :
    upS (normS (xS h o wo bo) g) wu (ix3 b s C) = (inputs h o wo bo g wu cw cb wd).u (row b s) C := by
  rw [upS_apply]
  refine Finset.sum_congr rfl fun k _ => ?_
  rw [normS_apply, show (fun k => xS h o wo bo (ix3 b s k)) = (inputs h o wo bo g wu cw cb wd).x (row b s) from funext fun k => xS_apply h o wo bo b s k]
  rfl

theorem pad_eq (b : Fin 8) (s : Fin 4096) (d : ℕ) (hd : d ≤ 2) (C : Fin 5632) :
    padS (upS (normS (xS h o wo bo) g) wu) (ix3 b ⟨2 - d + s, by omega⟩ C) = (inputs h o wo bo g wu cw cb wd).before (row b s) d C := by
  rw [padS_apply]
  unfold Inputs.before
  have hr : (row b s : ℕ) = b * 4096 + s := rfl
  by_cases hs : (s : ℕ) < d
  · rw [dif_pos (show 2 - d + (s : ℕ) < 2 by omega), if_pos (by rw [hr]; omega)]
  · rw [dif_neg (show ¬ 2 - d + (s : ℕ) < 2 by omega), if_neg (by rw [hr]; omega), up_eq h o wo bo g wu cw cb wd]
    refine congrArg (fun r => (inputs h o wo bo g wu cw cb wd).u r C) (Fin.ext ?_)
    show (b : ℕ) * 4096 + (2 - d + s - 2) = b * 4096 + s - d
    omega

theorem conv_eq (b : Fin 8) (s : Fin 4096) (C : Fin 5632) :
    convS (padS (upS (normS (xS h o wo bo) g) wu)) cw cb (ix3 b s C) = (inputs h o wo bo g wu cw cb wd).conv (row b s) C := by
  rw [convS_apply]
  refine conv_congr ?_ ((congrArg _ (congrArg (fun r => ix3 b r C) (Fin.ext (Nat.zero_add _).symm))).trans (pad_eq h o wo bo g wu cw cb wd b s 2 (le_refl 2) C))
    (pad_eq h o wo bo g wu cw cb wd b s 1 (by omega) C) rfl rfl
  refine (pad_eq h o wo bo g wu cw cb wd b s 0 (by omega) C).trans ?_
  unfold Inputs.before
  rw [if_neg (Nat.not_lt_zero _)]
  rfl

/-- The layer's entries, where the gates are finite. -/
theorem layer_eq (hI : (inputs h o wo bo g wu cw cb wd).GateFin) (b : Fin 8) (s : Fin 4096) (c : Fin 1024) :
    layer h o wo bo g wu cw cb wd (ix3 b s c) = (inputs h o wo bo g wu cw cb wd).out (row b s) c := by
  unfold layer Inputs.out
  rw [outS_apply, xS_apply]
  refine congrArg (fun t : EReal => resid _ _ _ _ c + t) (Finset.sum_congr rfl fun f _ => ?_)
  have e := conv_eq h o wo bo g wu cw cb wd b s
  rw [actS_apply _ b s f (by rw [e]; exact Inputs.conv_fin hI _ f), e, e]
  rfl

end Layer

end FfnRef

end
-- ==== Proof.Ffn1Claims.lean ====
/-
  The last layer's feed-forward call: its reference's result, entry by entry, and the equality of the kernel's and the reference's
  result arrays under the precondition that what the gates are computed from is finite.
-/
module

public import proofs.«01_k».proof.Defs
public import proofs.«01_k».proof.Proof.Ffn1Array
public import proofs.«01_k».proof.Proof.FfnRef
public import proofs.«01_k».proof.Proof.SwaClaims
public import proofs.«01_k».proof.Proof.Gen.Pre_finite1

@[expose] public section

set_option maxRecDepth 16384

noncomputable section

namespace Ffn1Claims

open Idealize.ShloMosaic Idealize.ShloMosaic.TcCoe Idealize.SL.Sem

section Reference

open Cert.RefFfn1Ideal Cert.RefFfn1Ideal.Gen

/-- The layer's up-projection. -/
def up (w : FVec Ideal S2x1024x5632 .bf16) : FVec Ideal S1024x5632 .f32 :=
  extf .f32 (shapeCast _ (extractStridedSlice S1x1024x5632 ![1, 0, 0] w slices_S2x1024x5632_S1x1024x5632_1_0_0) shapeCasts_S1x1024x5632_S1024x5632) bitsLt_bf16_f32

/-- The layer's down-projection. -/
def down (w : FVec Ideal S2x2816x1024 .bf16) : FVec Ideal S2816x1024 .f32 :=
  extf .f32 (shapeCast _ (extractStridedSlice S1x2816x1024 ![1, 0, 0] w slices_S2x2816x1024_S1x2816x1024_1_0_0) shapeCasts_S1x2816x1024_S2816x1024) bitsLt_bf16_f32

theorem up_apply (w : FVec Ideal S2x1024x5632 .bf16) (k : Fin 1024) (C : Fin 5632) : up w (ix2 k C) = w (ix3 1 k C) := by
  pointwise [up]

theorem down_apply (w : FVec Ideal S2x2816x1024 .bf16) (f : Fin 2816) (c : Fin 1024) : down w (ix2 f c) = w (ix3 1 f c) := by
  pointwise [down]

/-- The run's term is the layer, normalized. -/
theorem run_eq (m : (ℓ : Loc nD τ sig) → Buf (Elt Ideal) ℓ) (c : Dev nD) :
    Value.res_out0 m c = FfnRef.flat (FfnRef.normS (FfnRef.layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (up (m ((c.tc : Thread nD τ).loc main_arg5))) (m ((c.tc : Thread nD τ).loc main_arg6)) (m ((c.tc : Thread nD τ).loc main_arg7))
      (down (m ((c.tc : Thread nD τ).loc main_arg8)))) (m ((c.tc : Thread nD τ).loc main_arg9))) := by
  rfl

end Reference

section Pre

open Cert.Pre_finite1 Cert.Pre_finite1.Gen

variable (h : FVec Ideal S32768x1024 .f32) (o : FVec Ideal S32768x1024 .bf16) (wo : FVec Ideal S1024x1024 .bf16) (bo g : FVec Ideal S1x1024 .f32)
  (wu : FVec Ideal S2x1024x5632 .bf16) (cw : FVec Ideal S3x5632 .f32) (cb : FVec Ideal S1x5632 .f32) (wd : FVec Ideal S2x2816x1024 .bf16) (fg : FVec Ideal S1x1024 .f32)

/-- The precondition says that what the gates are computed from is finite. -/
theorem gate_fin (p0 : (fn (F := Ideal) h o wo bo g wu cw cb wd fg).1 = fun _ => 1#1) (p1 : (fn (F := Ideal) h o wo bo g wu cw cb wd fg).2.1 = fun _ => 1#1)
    (p2 : (fn (F := Ideal) h o wo bo g wu cw cb wd fg).2.2.1 = fun _ => 1#1) (p3 : (fn (F := Ideal) h o wo bo g wu cw cb wd fg).2.2.2.1 = fun _ => 1#1)
    (p4 : (fn (F := Ideal) h o wo bo g wu cw cb wd fg).2.2.2.2.1 = fun _ => 1#1) (p5 : (fn (F := Ideal) h o wo bo g wu cw cb wd fg).2.2.2.2.2.1 = fun _ => 1#1)
    (p6 : (fn (F := Ideal) h o wo bo g wu cw cb wd fg).2.2.2.2.2.2.1 = fun _ => 1#1) (p7 : (fn (F := Ideal) h o wo bo g wu cw cb wd fg).2.2.2.2.2.2.2 = fun _ => 1#1) :
    (FfnRef.inputs h o wo bo g (up wu) cw cb (down wd)).GateFin where
  h R c := SwaClaims.fin_of_cmp _ (congrFun p0 (ix2 R c))
  o R c := SwaClaims.fin_of_cmp _ (congrFun p1 (ix2 R c))
  wo k j := SwaClaims.fin_of_cmp _ (congrFun p2 (ix2 k j))
  bo k := SwaClaims.fin_of_cmp _ (congrFun p3 (ix2 0 k))
  g k := SwaClaims.fin_of_cmp _ (congrFun p4 (ix2 0 k))
  wu k C := by
    have e : shapeCast S1024x2816 (extractStridedSlice S1x1024x2816 ![1, 0, 0] wu slices_S2x1024x5632_S1x1024x2816_1_0_0) shapeCasts_S1x1024x2816_S1024x2816 (ix2 k C)
        = wu (ix3 1 k ⟨C, by omega⟩) := by pointwise []
    show Attn.Fin' (up wu (ix2 k ⟨C, by omega⟩))
    rw [up_apply, ← e]
    exact SwaClaims.fin_of_cmp _ (congrFun p5 (ix2 k C))
  cw j C := by
    have e : extractStridedSlice S3x2816 ![0, 0] cw slices_S3x5632_S3x2816_0_0 (ix2 j C) = cw (ix2 j ⟨C, by omega⟩) := by pointwise []
    show Attn.Fin' (cw (ix2 j ⟨C, by omega⟩))
    rw [← e]
    exact SwaClaims.fin_of_cmp _ (congrFun p6 (ix2 j C))
  cb C := by
    have e : extractStridedSlice S1x2816 ![0, 0] cb slices_S1x5632_S1x2816_0_0 (ix2 0 C) = cb (ix2 0 ⟨C, by omega⟩) := by pointwise []
    show Attn.Fin' (cb (ix2 0 ⟨C, by omega⟩))
    rw [← e]
    exact SwaClaims.fin_of_cmp _ (congrFun p7 (ix2 0 C))

end Pre

section Equality

open Cert.RefFfn1Ideal Cert.RefFfn1Ideal.Gen

variable (h : FVec Ideal S32768x1024 .f32) (o : FVec Ideal S32768x1024 .bf16) (wo : FVec Ideal S1024x1024 .bf16) (bo g : FVec Ideal S1x1024 .f32)
  (wu : FVec Ideal S2x1024x5632 .bf16) (cw : FVec Ideal S3x5632 .f32) (cb : FVec Ideal S1x5632 .f32) (wd : FVec Ideal S2x2816x1024 .bf16) (fg : FVec Ideal S1x1024 .f32)

/-- The reference's result, entry by entry. -/
theorem result_apply (hI : (FfnRef.inputs h o wo bo g (up wu) cw cb (down wd)).GateFin) (R : Fin 32768) (c : Fin 1024) :
    FfnRef.flat (FfnRef.normS (FfnRef.layer h o wo bo g (up wu) cw cb (down wd)) fg) (ix2 R c)
      = Ffn.norm ((FfnRef.inputs h o wo bo g (up wu) cw cb (down wd)).out R) (fun k => fg (ix2 0 k)) c := by
  rw [FfnRef.flat_apply, FfnRef.normS_apply]
  have hr : FfnRef.row ⟨R / 4096, by omega⟩ ⟨R % 4096, by omega⟩ = R := Fin.ext (Nat.div_add_mod' R.val 4096)
  refine congrArg (fun x => Ffn.norm x _ c) (funext fun k => ?_)
  rw [FfnRef.layer_eq h o wo bo g (up wu) cw cb (down wd) hI, hr]

end Equality

/-- The kernel's arguments are the reference's. -/
theorem inputs_eq (m : (ℓ : Loc Cert.Ffn1Ideal.nD Cert.Ffn1Ideal.τ Cert.Ffn1Ideal.sig) → Buf (Elt Ideal) ℓ) (c : Dev Cert.Ffn1Ideal.nD) :
    Ffn1.inputs m c = FfnRef.inputs (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1))
      (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3))
      (m ((c.tc : Thread Cert.Ffn1Ideal.nD Cert.Ffn1Ideal.τ).loc Cert.Ffn1Ideal.main_arg4)) (up (m ((c.tc : Thread Cert.Ffn1Ideal.nD Cert.Ffn1Ideal.τ).loc Cert.Ffn1Ideal.main_arg5)))
      (m ((c.tc : Thread Cert.Ffn1Ideal.nD Cert.Ffn1Ideal.τ).loc Cert.Ffn1Ideal.main_arg6)) (m ((c.tc : Thread Cert.Ffn1Ideal.nD Cert.Ffn1Ideal.τ).loc Cert.Ffn1Ideal.main_arg7))
      (down (m ((c.tc : Thread Cert.Ffn1Ideal.nD Cert.Ffn1Ideal.τ).loc Cert.Ffn1Ideal.main_arg8))) := by
  unfold Ffn1.inputs FfnRef.inputs
  simp only [up_apply, down_apply]

/-! ## The claims -/

/-- The reference leaves its arguments unchanged and has no semaphore. -/
theorem reference_frame : Cert.quiescent_RefFfn1Ideal := fun m ρ _ =>
  (θ_run Cert.RefFfn1Ideal.defs _ _).mono (fun r h => ⟨fun c => (h c).2, sem_eq_zero_of_no_sems (by decide) r.2⟩)
    (Cert.RefFfn1Ideal.Value.run m ρ)

/-- The two programs' results are equal. -/
theorem algebraic : Cert.algebraic_Ffn1Ideal_RefFfn1Ideal_pre_finite1 := by
  intro m ρ m' ρ' hpre hagree
  refine ⟨fun c => Ffn1.resultArr m c, ?_, ?_⟩
  · exact (θ_run Cert.Ffn1Ideal.defs _ _).mono (fun _ h c => ⟨(h c).1.trans (Ffn1.final_eq m c), (h c).2⟩) (Cert.Ffn1Ideal.Value.run_blocks m ρ)
  · refine (θ_run Cert.RefFfn1Ideal.defs _ _).mono (fun _ h c => ⟨(h c).1.trans ?_, (h c).2⟩) (Cert.RefFfn1Ideal.Value.run m' ρ')
    refine (run_eq m' c).trans ?_
    obtain ⟨h0, h1, h2, h3, h4, h5, h6, h7, h8, h9⟩ := hagree c
    obtain ⟨p0, p1, p2, p3, p4, p5, p6, p7⟩ := hpre c
    rw [h0, h1, h2, h3, h4, h5, h6, h7, h8, h9]
    funext y
    rw [eq_ix2 y]
    refine (result_apply _ _ _ _ _ _ _ _ _ _ (gate_fin _ _ _ _ _ _ _ _ _ _ p0 p1 p2 p3 p4 p5 p6 p7) (y 0) (y 1)).trans ?_
    rw [← inputs_eq]
    rfl

end Ffn1Claims

end
-- ==== Proof.Ffn0Run.lean ====
/-
  What the first layer's feed-forward call's run of one grid point leaves in the blocks of its three outputs and in the scratch it
  carries to the next point, in the terms of Proof/FfnBlock.lean: for a point at a sequence's start and for any other.
-/
module

public import proofs.«01_k».proof.Proof.FfnBlock
public import proofs.«01_k».proof.Proof.Gen.Ffn0Ideal.Value

@[expose] public section

set_option maxRecDepth 16384

noncomputable section

namespace Ffn0

open Ffn Cert.Ffn0Ideal Cert.Ffn0Ideal.Gen Idealize.ShloMosaic Idealize.ShloMosaic.TcCoe Idealize.SL.Sem

variable (c : Dev nD) (i : grid0.Coords)
  (arg1 : Memref sig .tc .vmem S512x1024 .f32) (harg1 : arg1.IsWhole) (arg2 : Memref sig .tc .vmem S512x1024 .bf16) (harg2 : arg2.IsWhole)
  (arg3 : Memref sig .tc .vmem S1024x1024 .bf16) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1x1024x5632 .bf16) (harg6 : arg6.IsWhole)
  (arg7 : Memref sig .tc .vmem S3x5632 .f32) (harg7 : arg7.IsWhole) (arg8 : Memref sig .tc .vmem S1x5632 .f32) (harg8 : arg8.IsWhole)
  (arg9 : Memref sig .tc .vmem S1x2816x1024 .bf16) (harg9 : arg9.IsWhole) (arg10 : Memref sig .tc .vmem S1x1024 .f32) (harg10 : arg10.IsWhole)
  (arg11 : Memref sig .tc .vmem S1x1024 .f32) (harg11 : arg11.IsWhole) (arg12 : Memref sig .tc .vmem S1024x512 .bf16) (harg12 : arg12.IsWhole)
  (arg13 : Memref sig .tc .vmem S1x512 .f32) (harg13 : arg13.IsWhole) (arg14 : Memref sig .tc .vmem S1x1024 .f32) (harg14 : arg14.IsWhole)
  (arg15 : Memref sig .tc .vmem S1024x1024 .bf16) (harg15 : arg15.IsWhole) (arg16 : Memref sig .tc .vmem S1x1024 .f32) (harg16 : arg16.IsWhole)
  (arg17 : Memref sig .tc .vmem S512x1024 .f32) (harg17 : arg17.IsWhole) (arg18 : Memref sig .tc .vmem S512x512 .bf16) (harg18 : arg18.IsWhole)
  (arg19 : Memref sig .tc .vmem S512x1024 .bf16) (harg19 : arg19.IsWhole) (arg20 : Memref sig .tc .vmem S8x5632 .f32) (harg20 : arg20.IsWhole)
  (arg21 : Memref sig .tc .vmem S520x256 .f32) (harg21 : arg21.IsWhole) (arg22 : Memref sig .tc .vmem S512x2816 .bf16) (harg22 : arg22.IsWhole)
  (x0 : Vec Ideal S512x1024 .f32) (x1 : Vec Ideal S512x1024 .bf16) (x2 : Vec Ideal S1024x1024 .bf16) (x3 : Vec Ideal S1x1024 .f32)
  (x4 : Vec Ideal S1x1024 .f32) (x5 : Vec Ideal S1x1024x5632 .bf16) (x6 : Vec Ideal S3x5632 .f32) (x7 : Vec Ideal S1x5632 .f32)
  (x8 : Vec Ideal S1x2816x1024 .bf16) (x9 : Vec Ideal S1x1024 .f32) (x10 : Vec Ideal S1x1024 .f32) (x11 : Vec Ideal S1024x512 .bf16)
  (x12 : Vec Ideal S1x512 .f32) (x13 : Vec Ideal S1x1024 .f32) (x14 : Vec Ideal S1024x1024 .bf16) (x15 : Vec Ideal S1x1024 .f32)
  (xs0 : Vec Ideal S8x5632 .f32)

/-- The residual tile. -/
def xTile : FVec Ideal S512x1024 .f32 :=
  Cert.Ffn1Ideal.Gen.k0_pay3 (whole2 arg1 harg1 x0 ![0, 0] inb_S512x1024_S512x1024_0_0) (whole2 arg4 harg4 x3 ![0, 0] inb_S1x1024_S1x1024_0_0)
    (whole2 arg2 harg2 x1 ![0, 0] inb_S512x1024_S512x1024_0_0) (whole2 arg3 harg3 x2 ![0, 0] inb_S1024x1024_S1024x1024_0_0)

/-- The residual tile, normalized. -/
def hnTile : FVec Ideal S512x1024 .bf16 :=
  Cert.Ffn1Ideal.Gen.k0_pay4 (whole2 arg1 harg1 x0 ![0, 0] inb_S512x1024_S512x1024_0_0) (whole2 arg4 harg4 x3 ![0, 0] inb_S1x1024_S1x1024_0_0)
    (whole2 arg2 harg2 x1 ![0, 0] inb_S512x1024_S512x1024_0_0) (whole2 arg3 harg3 x2 ![0, 0] inb_S1024x1024_S1024x1024_0_0)
    (whole2 arg5 harg5 x4 ![0, 0] inb_S1x1024_S1x1024_0_0)

/-- The activations, with the rows before the tile given. -/
def actTile (hal : Fin 22 → Vec Ideal S8x256 .f32) : Vec Ideal S512x2816 .bf16 :=
  actsV arg21.view arg22.view (hnTile arg1 harg1 arg2 harg2 arg3 harg3 arg4 harg4 arg5 harg5 x0 x1 x2 x3 x4) (wBlk arg6 harg6 x5) hal (tapBlk arg7 harg7 x6) (biasBlk arg8 harg8 x7)

/-- The first output's block. -/
def outTile (hal : Fin 22 → Vec Ideal S8x256 .f32) : FVec Ideal S512x1024 .f32 :=
  outV arg21.view arg22.view (xTile arg1 harg1 arg2 harg2 arg3 harg3 arg4 harg4 x0 x1 x2 x3) (hnTile arg1 harg1 arg2 harg2 arg3 harg3 arg4 harg4 arg5 harg5 x0 x1 x2 x3 x4)
    (wBlk arg6 harg6 x5) hal (tapBlk arg7 harg7 x6) (biasBlk arg8 harg8 x7) (whole2 arg9 harg9 x8 ![0, 0, 0] inb_S1x2816x1024_S1x2816x1024_0_0_0)

/-- The second output's block: the keys and values. -/
def kvTile (hal : Fin 22 → Vec Ideal S8x256 .f32) : FVec Ideal S512x512 .bf16 :=
  k0_pay1 (k0_pay142 (xTile arg1 harg1 arg2 harg2 arg3 harg3 arg4 harg4 x0 x1 x2 x3) (actTile arg1 harg1 arg2 harg2 arg3 harg3 arg4 harg4 arg5 harg5 arg6 harg6 arg7 harg7 arg8 harg8 arg21 arg22 x0 x1 x2 x3 x4 x5 x6 x7 hal)
      (whole2 arg9 harg9 x8 ![0, 0, 0] inb_S1x2816x1024_S1x2816x1024_0_0_0) (whole2 arg11 harg11 x10 ![0, 0] inb_S1x1024_S1x1024_0_0) (whole2 arg12 harg12 x11 ![0, 0] inb_S1024x512_S1024x512_0_0))
    (k0_pay143 (whole2 arg13 harg13 x12 ![0, 0] inb_S1x512_S1x512_0_0))

/-- The third output's block: the queries. -/
def qTile (hal : Fin 22 → Vec Ideal S8x256 .f32) : FVec Ideal S512x1024 .bf16 :=
  k0_pay2 (k0_pay141 (xTile arg1 harg1 arg2 harg2 arg3 harg3 arg4 harg4 x0 x1 x2 x3) (actTile arg1 harg1 arg2 harg2 arg3 harg3 arg4 harg4 arg5 harg5 arg6 harg6 arg7 harg7 arg8 harg8 arg21 arg22 x0 x1 x2 x3 x4 x5 x6 x7 hal) (whole2 arg9 harg9 x8 ![0, 0, 0] inb_S1x2816x1024_S1x2816x1024_0_0_0))
    (whole2 arg14 harg14 x13 ![0, 0] inb_S1x1024_S1x1024_0_0) (whole2 arg15 harg15 x14 ![0, 0] inb_S1024x1024_S1024x1024_0_0) (whole2 arg16 harg16 x15 ![0, 0] inb_S1x1024_S1x1024_0_0)

section Runs

set_option maxHeartbeats 1000000

/-- At a sequence's start, the run's one store of the first output. -/
theorem runA_out (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).1
      = [⟨Rect.unit (s := S512x1024) ![0, 0] S512x1024.size inb_S512x1024_S512x1024_0_0, outTile arg1 harg1 arg2 harg2 arg3 harg3 arg4 harg4 arg5 harg5 arg6 harg6 arg7 harg7 arg8 harg8 arg9 harg9 arg21 arg22 x0 x1 x2 x3 x4 x5 x6 x7 x8 (clearedBlk arg20.view (hnTile arg1 harg1 arg2 harg2 arg3 harg3 arg4 harg4 arg5 harg5 x0 x1 x2 x3 x4) (wBlk arg6 harg6 x5))⟩] := by
  rfl

/-- At a sequence's start, the run's one store of the keys and values. -/
theorem runA_kv (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.1
      = [⟨Rect.unit (s := S512x512) ![0, 0] S512x512.size inb_S512x512_S512x512_0_0, kvTile arg1 harg1 arg2 harg2 arg3 harg3 arg4 harg4 arg5 harg5 arg6 harg6 arg7 harg7 arg8 harg8 arg9 harg9 arg11 harg11 arg12 harg12 arg13 harg13 arg21 arg22 x0 x1 x2 x3 x4 x5 x6 x7 x8 x10 x11 x12 (clearedBlk arg20.view (hnTile arg1 harg1 arg2 harg2 arg3 harg3 arg4 harg4 arg5 harg5 x0 x1 x2 x3 x4) (wBlk arg6 harg6 x5))⟩] := by
  rfl

/-- At a sequence's start, the run's one store of the queries. -/
theorem runA_q (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.2.1
      = [⟨Rect.unit (s := S512x1024) ![0, 0] S512x1024.size inb_S512x1024_S512x1024_0_0, qTile arg1 harg1 arg2 harg2 arg3 harg3 arg4 harg4 arg5 harg5 arg6 harg6 arg7 harg7 arg8 harg8 arg9 harg9 arg14 harg14 arg15 harg15 arg16 harg16 arg21 arg22 x0 x1 x2 x3 x4 x5 x6 x7 x8 x13 x14 x15 (clearedBlk arg20.view (hnTile arg1 harg1 arg2 harg2 arg3 harg3 arg4 harg4 arg5 harg5 x0 x1 x2 x3 x4) (wBlk arg6 harg6 x5))⟩] := by
  rfl

/-- At a sequence's start, the run's stores of the rows left for the next tile. -/
theorem runA_halo (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.2.2.1
      = haloPieces (hnTile arg1 harg1 arg2 harg2 arg3 harg3 arg4 harg4 arg5 harg5 x0 x1 x2 x3 x4) (wBlk arg6 harg6 x5) cleared 22 (le_refl 22) := by
  rfl

/-- At any other point, the run's one store of the first output. -/
theorem runB_out (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0).1
      = [⟨Rect.unit (s := S512x1024) ![0, 0] S512x1024.size inb_S512x1024_S512x1024_0_0, outTile arg1 harg1 arg2 harg2 arg3 harg3 arg4 harg4 arg5 harg5 arg6 harg6 arg7 harg7 arg8 harg8 arg9 harg9 arg21 arg22 x0 x1 x2 x3 x4 x5 x6 x7 x8 (haloBlk arg20 harg20 xs0)⟩] := by
  rfl

/-- At any other point, the run's one store of the keys and values. -/
theorem runB_kv (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0).2.1
      = [⟨Rect.unit (s := S512x512) ![0, 0] S512x512.size inb_S512x512_S512x512_0_0, kvTile arg1 harg1 arg2 harg2 arg3 harg3 arg4 harg4 arg5 harg5 arg6 harg6 arg7 harg7 arg8 harg8 arg9 harg9 arg11 harg11 arg12 harg12 arg13 harg13 arg21 arg22 x0 x1 x2 x3 x4 x5 x6 x7 x8 x10 x11 x12 (haloBlk arg20 harg20 xs0)⟩] := by
  rfl

/-- At any other point, the run's one store of the queries. -/
theorem runB_q (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0).2.2.1
      = [⟨Rect.unit (s := S512x1024) ![0, 0] S512x1024.size inb_S512x1024_S512x1024_0_0, qTile arg1 harg1 arg2 harg2 arg3 harg3 arg4 harg4 arg5 harg5 arg6 harg6 arg7 harg7 arg8 harg8 arg9 harg9 arg14 harg14 arg15 harg15 arg16 harg16 arg21 arg22 x0 x1 x2 x3 x4 x5 x6 x7 x8 x13 x14 x15 (haloBlk arg20 harg20 xs0)⟩] := by
  rfl

/-- At any other point, the run's stores of the rows left for the next tile. -/
theorem runB_halo (hc0 : ¬cond0_0 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15 xs0).2.2.2.1
      = haloPieces (hnTile arg1 harg1 arg2 harg2 arg3 harg3 arg4 harg4 arg5 harg5 x0 x1 x2 x3 x4) (wBlk arg6 harg6 x5) [] 22 (le_refl 22) := by
  rfl

end Runs

end Ffn0

end
-- ==== Proof.Ffn0Tile.lean ====
/-
  The blocks of the keys and values and of the queries that the first layer's feed-forward call stores, entry by entry of the tile.
-/
module

public import proofs.«01_k».proof.Proof.FfnTile
public import proofs.«01_k».proof.Proof.Gen.Ffn0Ideal.Value

@[expose] public section

set_option maxRecDepth 16384

noncomputable section

namespace Ffn

/-- A row's projection: of the row normalized with the gain `g`. -/
def proj {n : ℕ} (x : Fin 1024 → EReal) (g : Fin 1024 → EReal) (w : Fin 1024 → Fin n → EReal) (b : Fin n → EReal) (c : Fin n) : EReal :=
  (∑ k, norm x g k * w k c) + b c

end Ffn

namespace Ffn0

open Ffn Cert.Ffn0Ideal Cert.Ffn0Ideal.Gen Idealize.ShloMosaic Idealize.ShloMosaic.TcCoe Idealize.SL.Sem

/-- The queries' scale, the bits of 1/8. -/
def eighth : EReal := Ideal.ofBits .f32 0x3E000000#32

variable (x : FVec Ideal S512x1024 .f32) (a : Vec Ideal S512x2816 .bf16) (wd : Vec Ideal S1x2816x1024 .bf16)

theorem normed_apply (g : Vec Ideal S1x1024 .f32) (p : Fin 512) (k : Fin 1024) :
    (k0_pay141 x a wd (ix2 p k) * g (ix2 0 k) : EReal) = norm (fun j => k0_pay140 x a wd (ix2 p j)) (fun j => g (ix2 0 j)) k := by
  unfold k0_pay141
  generalize k0_pay140 x a wd = y
  pointwise []
  rfl

theorem kv_apply (g : Vec Ideal S1x1024 .f32) (w : Vec Ideal S1024x512 .bf16) (b : Vec Ideal S1x512 .f32) (p : Fin 512) (c : Fin 512) :
    k0_pay1 (k0_pay142 x a wd g w) (k0_pay143 b) (ix2 p c)
      = proj (fun j => k0_pay140 x a wd (ix2 p j)) (fun j => g (ix2 0 j)) (fun k j => w (ix2 k j)) (fun j => b (ix2 0 j)) c := by
  unfold proj
  simp only [← normed_apply]
  unfold k0_pay142
  generalize k0_pay141 x a wd = y
  pointwise [k0_pay1, k0_pay143]

theorem q_apply (g : Vec Ideal S1x1024 .f32) (w : Vec Ideal S1024x1024 .bf16) (b : Vec Ideal S1x1024 .f32) (p : Fin 512) (c : Fin 1024) :
    k0_pay2 (k0_pay141 x a wd) g w b (ix2 p c)
      = proj (fun j => k0_pay140 x a wd (ix2 p j)) (fun j => g (ix2 0 j)) (fun k j => w (ix2 k j)) (fun j => b (ix2 0 j)) c * eighth := by
  unfold proj
  simp only [← normed_apply]
  generalize k0_pay141 x a wd = y
  pointwise [k0_pay2]
  rfl

end Ffn0

end
-- ==== Proof.Ffn0Array.lean ====
/-
  The three result arrays of the first layer's feed-forward call, entry by entry, of the launched arrays: row by row they are
  `Inputs.out` of Proof/FfnRow.lean and its two projections. The scratch a grid point leaves holds the projected rows of its own
  tile, whatever it found there.
-/
module

public import proofs.«01_k».proof.Proof.Ffn0Run
public import proofs.«01_k».proof.Proof.Ffn0Tile

@[expose] public section

set_option maxRecDepth 16384
set_option backward.proofsInPublic true

noncomputable section

namespace Ffn0

open Ffn Cert.Ffn0Ideal Cert.Ffn0Ideal.Gen Idealize.ShloMosaic Idealize.ShloMosaic.TcCoe Idealize.SL.Sem

variable (m : (ℓ : Loc nD τ sig) → Buf (Elt Ideal) ℓ) (c : Dev nD)

/-- The call's arguments, of the launched memory. -/
def inputs : Inputs where
  h R C := (m ((c.tc : Thread nD τ).loc main_arg0) : Vec Ideal S32768x1024 .f32) (ix2 R C)
  o R C := (m ((c.tc : Thread nD τ).loc main_arg1) : Vec Ideal S32768x1024 .bf16) (ix2 R C)
  wo k j := (m ((c.tc : Thread nD τ).loc main_arg2) : Vec Ideal S1024x1024 .bf16) (ix2 k j)
  bo k := (m ((c.tc : Thread nD τ).loc main_arg3) : Vec Ideal S1x1024 .f32) (ix2 0 k)
  g k := (m ((c.tc : Thread nD τ).loc main_arg4) : Vec Ideal S1x1024 .f32) (ix2 0 k)
  wu k C := (m ((c.tc : Thread nD τ).loc main_arg5) : Vec Ideal S2x1024x5632 .bf16) (ix3 0 k C)
  cw j C := (m ((c.tc : Thread nD τ).loc main_arg6) : Vec Ideal S3x5632 .f32) (ix2 j C)
  cb C := (m ((c.tc : Thread nD τ).loc main_arg7) : Vec Ideal S1x5632 .f32) (ix2 0 C)
  wd f j := (m ((c.tc : Thread nD τ).loc main_arg8) : Vec Ideal S2x2816x1024 .bf16) (ix3 0 f j)

/-! The gains of the two projections' normalizations, their matrices and their biases. -/

def kvGain (k : Fin 1024) : EReal := (m ((c.tc : Thread nD τ).loc main_arg10) : Vec Ideal S1x1024 .f32) (ix2 0 k)
def kvMat (k : Fin 1024) (j : Fin 512) : EReal := (m ((c.tc : Thread nD τ).loc main_arg11) : Vec Ideal S1024x512 .bf16) (ix2 k j)
def kvBias (j : Fin 512) : EReal := (m ((c.tc : Thread nD τ).loc main_arg12) : Vec Ideal S1x512 .f32) (ix2 0 j)
def qGain (k : Fin 1024) : EReal := (m ((c.tc : Thread nD τ).loc main_arg13) : Vec Ideal S1x1024 .f32) (ix2 0 k)
def qMat (k j : Fin 1024) : EReal := (m ((c.tc : Thread nD τ).loc main_arg14) : Vec Ideal S1024x1024 .bf16) (ix2 k j)
def qBias (j : Fin 1024) : EReal := (m ((c.tc : Thread nD τ).loc main_arg15) : Vec Ideal S1x1024 .f32) (ix2 0 j)

/-! ## The blocks, of the launched arrays -/

/-- The tiled windows' block indices, decided over the grid. -/
theorem tiled : ∀ t : Fin grid0.N, win0_0.index t 0 = t.val ∧ win0_0.index t 1 = 0 ∧ win0_1.index t 0 = t.val ∧ win0_1.index t 1 = 0
    ∧ win0_16.index t 0 = t.val ∧ win0_16.index t 1 = 0 ∧ t.val < 64 := by
  decide +kernel

/-- The projections' outputs' block indices, decided over the grid. -/
theorem projTiled : ∀ t : Fin grid0.N, win0_17.index t 0 = t.val ∧ win0_17.index t 1 = 0 ∧ win0_18.index t 0 = t.val ∧ win0_18.index t 1 = 0 := by
  decide +kernel

/-- The untiled windows' block indices, decided over the grid. -/
theorem untiled : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0 ∧ win0_5.index t 2 = 0)
    ∧ (win0_6.index t 0 = 0 ∧ win0_6.index t 1 = 0) ∧ (win0_7.index t 0 = 0 ∧ win0_7.index t 1 = 0)
    ∧ (win0_8.index t 0 = 0 ∧ win0_8.index t 1 = 0 ∧ win0_8.index t 2 = 0) := by
  decide +kernel

/-- The projections' windows' block indices, decided over the grid. -/
theorem projUntiled : ∀ t : Fin grid0.N, (win0_10.index t 0 = 0 ∧ win0_10.index t 1 = 0) ∧ (win0_11.index t 0 = 0 ∧ win0_11.index t 1 = 0)
    ∧ (win0_12.index t 0 = 0 ∧ win0_12.index t 1 = 0) ∧ (win0_13.index t 0 = 0 ∧ win0_13.index t 1 = 0)
    ∧ (win0_14.index t 0 = 0 ∧ win0_14.index t 1 = 0) ∧ (win0_15.index t 0 = 0 ∧ win0_15.index t 1 = 0) := by
  decide +kernel

theorem lt64 (t : Fin cfg0.N) : t.val < 64 := (tiled t).2.2.2.2.2.2

theorem iblk_h (t : Fin cfg0.N) (p : Fin 512) (k : Fin 1024) : (iblk m c 0 t : Vec Ideal S512x1024 .f32) (ix2 p k) = (inputs m c).h (rowAt t.val (lt64 t) p) k :=
  congrArg (m (c.tc.loc main_arg0)) (funext fun a => Fin.ext (match a with
    | ⟨0, _⟩ => at_block (tiled t).1
    | ⟨1, _⟩ => at_zero (tiled t).2.1))

theorem iblk_o (t : Fin cfg0.N) (p : Fin 512) (k : Fin 1024) : (iblk m c 1 t : Vec Ideal S512x1024 .bf16) (ix2 p k) = (inputs m c).o (rowAt t.val (lt64 t) p) k :=
  congrArg (m (c.tc.loc main_arg1)) (funext fun a => Fin.ext (match a with
    | ⟨0, _⟩ => at_block (tiled t).2.2.1
    | ⟨1, _⟩ => at_zero (tiled t).2.2.2.1))

theorem iblk_wo (t : Fin cfg0.N) (j : Fin 1024) (k : Fin 1024) : (iblk m c 2 t : Vec Ideal S1024x1024 .bf16) (ix2 j k) = (inputs m c).wo j k :=
  congrArg (m (c.tc.loc main_arg2)) (funext fun a => Fin.ext (match a with
    | ⟨0, _⟩ => at_zero (untiled t).1.1
    | ⟨1, _⟩ => at_zero (untiled t).1.2))

theorem iblk_bo (t : Fin cfg0.N) (k : Fin 1024) : (iblk m c 3 t : Vec Ideal S1x1024 .f32) (ix2 0 k) = (inputs m c).bo k :=
  congrArg (m (c.tc.loc main_arg3)) (funext fun a => Fin.ext (match a with
    | ⟨0, _⟩ => at_zero (untiled t).2.1.1
    | ⟨1, _⟩ => at_zero (untiled t).2.1.2))

theorem iblk_g (t : Fin cfg0.N) (k : Fin 1024) : (iblk m c 4 t : Vec Ideal S1x1024 .f32) (ix2 0 k) = (inputs m c).g k :=
  congrArg (m (c.tc.loc main_arg4)) (funext fun a => Fin.ext (match a with
    | ⟨0, _⟩ => at_zero (untiled t).2.2.1.1
    | ⟨1, _⟩ => at_zero (untiled t).2.2.1.2))

theorem iblk_wu (t : Fin cfg0.N) (j : Fin 1024) (k : Fin 5632) : (iblk m c 5 t : Vec Ideal S1x1024x5632 .bf16) (ix3 0 j k) = (inputs m c).wu j k :=
  congrArg (m (c.tc.loc main_arg5)) (funext fun a => Fin.ext (match a with
    | ⟨0, _⟩ => at_zero (untiled t).2.2.2.1.1
    | ⟨1, _⟩ => at_zero (untiled t).2.2.2.1.2.1
    | ⟨2, _⟩ => at_zero (untiled t).2.2.2.1.2.2))

theorem iblk_cw (t : Fin cfg0.N) (j : Fin 3) (k : Fin 5632) : (iblk m c 6 t : Vec Ideal S3x5632 .f32) (ix2 j k) = (inputs m c).cw j k :=
  congrArg (m (c.tc.loc main_arg6)) (funext fun a => Fin.ext (match a with
    | ⟨0, _⟩ => at_zero (untiled t).2.2.2.2.1.1
    | ⟨1, _⟩ => at_zero (untiled t).2.2.2.2.1.2))

theorem iblk_cb (t : Fin cfg0.N) (k : Fin 5632) : (iblk m c 7 t : Vec Ideal S1x5632 .f32) (ix2 0 k) = (inputs m c).cb k :=
  congrArg (m (c.tc.loc main_arg7)) (funext fun a => Fin.ext (match a with
    | ⟨0, _⟩ => at_zero (untiled t).2.2.2.2.2.1.1
    | ⟨1, _⟩ => at_zero (untiled t).2.2.2.2.2.1.2))

theorem iblk_wd (t : Fin cfg0.N) (j : Fin 2816) (k : Fin 1024) : (iblk m c 8 t : Vec Ideal S1x2816x1024 .bf16) (ix3 0 j k) = (inputs m c).wd j k :=
  congrArg (m (c.tc.loc main_arg8)) (funext fun a => Fin.ext (match a with
    | ⟨0, _⟩ => at_zero (untiled t).2.2.2.2.2.2.1
    | ⟨1, _⟩ => at_zero (untiled t).2.2.2.2.2.2.2.1
    | ⟨2, _⟩ => at_zero (untiled t).2.2.2.2.2.2.2.2))

theorem iblk_gkv (t : Fin cfg0.N) (k : Fin 1024) : (iblk m c 10 t : Vec Ideal S1x1024 .f32) (ix2 0 k) = kvGain m c k :=
  congrArg (m (c.tc.loc main_arg10)) (funext fun a => Fin.ext (match a with
    | ⟨0, _⟩ => at_zero (projUntiled t).1.1
    | ⟨1, _⟩ => at_zero (projUntiled t).1.2))

theorem iblk_wkv (t : Fin cfg0.N) (k : Fin 1024) (j : Fin 512) : (iblk m c 11 t : Vec Ideal S1024x512 .bf16) (ix2 k j) = kvMat m c k j :=
  congrArg (m (c.tc.loc main_arg11)) (funext fun a => Fin.ext (match a with
    | ⟨0, _⟩ => at_zero (projUntiled t).2.1.1
    | ⟨1, _⟩ => at_zero (projUntiled t).2.1.2))

theorem iblk_bkv (t : Fin cfg0.N) (j : Fin 512) : (iblk m c 12 t : Vec Ideal S1x512 .f32) (ix2 0 j) = kvBias m c j :=
  congrArg (m (c.tc.loc main_arg12)) (funext fun a => Fin.ext (match a with
    | ⟨0, _⟩ => at_zero (projUntiled t).2.2.1.1
    | ⟨1, _⟩ => at_zero (projUntiled t).2.2.1.2))

theorem iblk_gq (t : Fin cfg0.N) (k : Fin 1024) : (iblk m c 13 t : Vec Ideal S1x1024 .f32) (ix2 0 k) = qGain m c k :=
  congrArg (m (c.tc.loc main_arg13)) (funext fun a => Fin.ext (match a with
    | ⟨0, _⟩ => at_zero (projUntiled t).2.2.2.1.1
    | ⟨1, _⟩ => at_zero (projUntiled t).2.2.2.1.2))

theorem iblk_wq (t : Fin cfg0.N) (k j : Fin 1024) : (iblk m c 14 t : Vec Ideal S1024x1024 .bf16) (ix2 k j) = qMat m c k j :=
  congrArg (m (c.tc.loc main_arg14)) (funext fun a => Fin.ext (match a with
    | ⟨0, _⟩ => at_zero (projUntiled t).2.2.2.2.1.1
    | ⟨1, _⟩ => at_zero (projUntiled t).2.2.2.2.1.2))

theorem iblk_bq (t : Fin cfg0.N) (j : Fin 1024) : (iblk m c 15 t : Vec Ideal S1x1024 .f32) (ix2 0 j) = qBias m c j :=
  congrArg (m (c.tc.loc main_arg15)) (funext fun a => Fin.ext (match a with
    | ⟨0, _⟩ => at_zero (projUntiled t).2.2.2.2.2.1
    | ⟨1, _⟩ => at_zero (projUntiled t).2.2.2.2.2.2))

/-! ## The tile of a grid point -/

section Point

variable (t : Fin cfg0.N)
  (arg1 : Memref sig .tc .vmem S512x1024 .f32) (harg1 : arg1.IsWhole) (arg2 : Memref sig .tc .vmem S512x1024 .bf16) (harg2 : arg2.IsWhole)
  (arg3 : Memref sig .tc .vmem S1024x1024 .bf16) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1x1024x5632 .bf16) (harg6 : arg6.IsWhole)
  (arg7 : Memref sig .tc .vmem S3x5632 .f32) (harg7 : arg7.IsWhole) (arg8 : Memref sig .tc .vmem S1x5632 .f32) (harg8 : arg8.IsWhole)
  (arg9 : Memref sig .tc .vmem S1x2816x1024 .bf16) (harg9 : arg9.IsWhole)
  (arg11 : Memref sig .tc .vmem S1x1024 .f32) (harg11 : arg11.IsWhole) (arg12 : Memref sig .tc .vmem S1024x512 .bf16) (harg12 : arg12.IsWhole)
  (arg13 : Memref sig .tc .vmem S1x512 .f32) (harg13 : arg13.IsWhole) (arg14 : Memref sig .tc .vmem S1x1024 .f32) (harg14 : arg14.IsWhole)
  (arg15 : Memref sig .tc .vmem S1024x1024 .bf16) (harg15 : arg15.IsWhole) (arg16 : Memref sig .tc .vmem S1x1024 .f32) (harg16 : arg16.IsWhole)
  (arg21 : Memref sig .tc .vmem S520x256 .f32) (arg22 : Memref sig .tc .vmem S512x2816 .bf16)

theorem xTile_apply (p : Fin 512) (k : Fin 1024) :
    xTile arg1 harg1 arg2 harg2 arg3 harg3 arg4 harg4 (iblk m c 0 t) (iblk m c 1 t) (iblk m c 2 t) (iblk m c 3 t) (ix2 p k) = (inputs m c).x (rowAt t.val (lt64 t) p) k := by
  unfold xTile
  rw [pay3_apply, whole2_eq, whole2_eq, whole2_eq, whole2_eq]
  unfold Inputs.x
  simp only [iblk_h, iblk_o, iblk_wo, iblk_bo]

theorem hnTile_apply (p : Fin 512) (k : Fin 1024) :
    hnTile arg1 harg1 arg2 harg2 arg3 harg3 arg4 harg4 arg5 harg5 (iblk m c 0 t) (iblk m c 1 t) (iblk m c 2 t) (iblk m c 3 t) (iblk m c 4 t) (ix2 p k)
      = norm ((inputs m c).x (rowAt t.val (lt64 t) p)) (inputs m c).g k := by
  unfold hnTile
  rw [pay4_apply]
  have e := xTile_apply m c t arg1 harg1 arg2 harg2 arg3 harg3 arg4 harg4 p
  unfold xTile at e
  simp only [e]
  refine congrArg (fun g => norm _ g k) (funext fun k => ?_)
  rw [whole2_eq]
  exact iblk_g m c t k

theorem wBlk_at (n : Fin 22) (k : Fin 1024) (l : Fin 256) : wBlk arg6 harg6 (iblk m c 5 t) n (ix3 0 k l) = (inputs m c).wu k (col n l) :=
  (wBlk_apply arg6 harg6 _ n k l).trans (iblk_wu m c t k (col n l))

theorem outTile_apply (hal : Fin 22 → Vec Ideal S8x256 .f32)
    (hhal : ∀ n (s : Fin 8) l, hal n (ix2 s l) = if t.val % 8 = 0 then 0 else (inputs m c).u ⟨t.val * 512 - 8 + s, by have := lt64 t; omega⟩ (col n l))
    (p : Fin 512) (k : Fin 1024) :
    outTile arg1 harg1 arg2 harg2 arg3 harg3 arg4 harg4 arg5 harg5 arg6 harg6 arg7 harg7 arg8 harg8 arg9 harg9 arg21 arg22
      (iblk m c 0 t) (iblk m c 1 t) (iblk m c 2 t) (iblk m c 3 t) (iblk m c 4 t) (iblk m c 5 t) (iblk m c 6 t) (iblk m c 7 t) (iblk m c 8 t) hal (ix2 p k)
      = (inputs m c).out (rowAt t.val (lt64 t) p) k := by
  unfold outTile
  exact out_tile (inputs m c) t.val (lt64 t) arg21.view arg22.view _ _ _ hal _ _ _
    (xTile_apply m c t arg1 harg1 arg2 harg2 arg3 harg3 arg4 harg4)
    (hnTile_apply m c t arg1 harg1 arg2 harg2 arg3 harg3 arg4 harg4 arg5 harg5)
    (wBlk_at m c t arg6 harg6)
    (fun n j l => (tapBlk_apply arg7 harg7 _ n j l).trans (iblk_cw m c t j (col n l)))
    (fun n l => (biasBlk_apply arg8 harg8 _ n l).trans (iblk_cb m c t (col n l)))
    (fun f k => (congrFun (whole2_eq arg9 harg9 _ _ _) _).trans (iblk_wd m c t f k)) hhal p k

theorem kvTile_apply (hal : Fin 22 → Vec Ideal S8x256 .f32)
    (hhal : ∀ n (s : Fin 8) l, hal n (ix2 s l) = if t.val % 8 = 0 then 0 else (inputs m c).u ⟨t.val * 512 - 8 + s, by have := lt64 t; omega⟩ (col n l))
    (p : Fin 512) (j : Fin 512) :
    kvTile arg1 harg1 arg2 harg2 arg3 harg3 arg4 harg4 arg5 harg5 arg6 harg6 arg7 harg7 arg8 harg8 arg9 harg9 arg11 harg11 arg12 harg12 arg13 harg13 arg21 arg22
      (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) hal (ix2 p j)
      = proj ((inputs m c).out (rowAt t.val (lt64 t) p)) (kvGain m c) (kvMat m c) (kvBias m c) j := by
  unfold kvTile
  rw [kv_apply, whole2_eq arg11, whole2_eq arg12, whole2_eq arg13]
  simp only [iblk_gkv, iblk_wkv, iblk_bkv]
  exact congrArg (fun r => proj r _ _ _ j) (funext fun k => outTile_apply m c t arg1 harg1 arg2 harg2 arg3 harg3 arg4 harg4 arg5 harg5 arg6 harg6 arg7 harg7 arg8 harg8 arg9 harg9 arg21 arg22 hal hhal p k)

theorem qTile_apply (hal : Fin 22 → Vec Ideal S8x256 .f32)
    (hhal : ∀ n (s : Fin 8) l, hal n (ix2 s l) = if t.val % 8 = 0 then 0 else (inputs m c).u ⟨t.val * 512 - 8 + s, by have := lt64 t; omega⟩ (col n l))
    (p : Fin 512) (j : Fin 1024) :
    qTile arg1 harg1 arg2 harg2 arg3 harg3 arg4 harg4 arg5 harg5 arg6 harg6 arg7 harg7 arg8 harg8 arg9 harg9 arg14 harg14 arg15 harg15 arg16 harg16 arg21 arg22
      (iblk m c 0 t) (iblk m c 1 t) (iblk m c 2 t) (iblk m c 3 t) (iblk m c 4 t) (iblk m c 5 t) (iblk m c 6 t) (iblk m c 7 t) (iblk m c 8 t) (iblk m c 13 t) (iblk m c 14 t) (iblk m c 15 t) hal (ix2 p j)
      = proj ((inputs m c).out (rowAt t.val (lt64 t) p)) (qGain m c) (qMat m c) (qBias m c) j * eighth := by
  unfold qTile
  rw [q_apply, whole2_eq arg14, whole2_eq arg15, whole2_eq arg16]
  simp only [iblk_gq, iblk_wq, iblk_bq]
  exact congrArg (fun r => proj r _ _ _ j * eighth) (funext fun k => outTile_apply m c t arg1 harg1 arg2 harg2 arg3 harg3 arg4 harg4 arg5 harg5 arg6 harg6 arg7 harg7 arg8 harg8 arg9 harg9 arg21 arg22 hal hhal p k)

end Point

/-! ## The scratch between grid points -/

/-- After any grid point the carried scratch holds the point's own last eight rows, projected. -/
theorem halo_eq (t : Fin cfg0.N) (s : Fin 8) (C : Fin 5632) :
    (outsAt0 m c t.val t.isLt).2.2.2 (ix2 s C) = (inputs m c).u ⟨t.val * 512 + 504 + s, by have := lt64 t; omega⟩ C := by
  by_cases h0 : t.val % 8 = 0
  · rw [outsAt0_A m c t h0]
    dsimp only
    unfold sout0_A_0
    rw [View.read_writes_junk_eq_canon, runA_halo]
    exact halo_tile (inputs m c) t.val (lt64 t) _ _ (hnTile_apply m c t _ _ _ _ _ _ _ _ _ _) (wBlk_at m c t _ _) _ s C
  · rw [outsAt0_B m c t h0]
    dsimp only
    unfold sout0_B_0
    rw [View.read_writes_junk_eq_canon, runB_halo]
    exact halo_tile (inputs m c) t.val (lt64 t) _ _ (hnTile_apply m c t _ _ _ _ _ _ _ _ _ _) (wBlk_at m c t _ _) _ s C

/-! ## The result arrays -/

/-- What the tile before has left: the rows before the tile. -/
theorem before_eq (t : Fin cfg0.N) (h0 : ¬ t.val % 8 = 0) (n : Fin 22) (s : Fin 8) (l : Fin 256) :
    (outsAt0 m c (t.val - 1) (by omega)).2.2.2 (ix2 s (col n l)) = (inputs m c).u ⟨t.val * 512 - 8 + s, by have := lt64 t; omega⟩ (col n l) := by
  have hp : t.val - 1 < cfg0.N := by omega
  refine (halo_eq m c ⟨t.val - 1, hp⟩ s (col n l)).trans (congrArg (fun r => (inputs m c).u r (col n l)) (Fin.ext ?_))
  show (t.val - 1) * 512 + 504 + (s : ℕ) = t.val * 512 - 8 + s
  omega

theorem canon_whole {a b : ℕ} {e : EltTy} (inb : ∀ d, (![0, 0] : Fin 2 → ℕ) d + (⟨2, ![a, b]⟩ : Shape).size d ≤ (⟨2, ![a, b]⟩ : Shape).size d) {v : Vec Ideal ⟨2, ![a, b]⟩ e} :
    View.canon [(⟨Rect.unit (s := ⟨2, ![a, b]⟩) ![0, 0] (⟨2, ![a, b]⟩ : Shape).size inb, v⟩ : View.Piece (Elt Ideal) ⟨2, ![a, b]⟩ e)] = v :=
  View.canon_cons_unit_zero (funext fun a => by match a with | ⟨0, _⟩ => rfl | ⟨1, _⟩ => rfl) inb v []

/-! ### The first output -/

/-- What a grid point leaves in the block of the first output. -/
theorem out_eq (t : Fin cfg0.N) (p : Fin 512) (j : Fin 1024) :
    (outsAt0 m c t.val t.isLt).1 (ix2 p j) = (inputs m c).out (rowAt t.val (lt64 t) p) j := by
  by_cases h0 : t.val % 8 = 0
  · rw [outsAt0_A m c t h0]
    dsimp only
    unfold out0_A_16
    rw [View.read_writes_junk_eq_canon, runA_out]
    refine (congrFun (canon_whole _) _).trans ?_
    exact outTile_apply m c t _ _ _ _ _ _ _ _ _ _ _ _ _ _ _ _ _ _ _ _ _ (fun n s l => by rw [if_pos h0]; exact clearedBlk_apply _ _ _ n s l) p j
  · rw [outsAt0_B m c t h0]
    dsimp only
    unfold out0_B_16
    rw [View.read_writes_junk_eq_canon, runB_out]
    refine (congrFun (canon_whole _) _).trans ?_
    exact outTile_apply m c t _ _ _ _ _ _ _ _ _ _ _ _ _ _ _ _ _ _ _ _ _ (fun n s l => by rw [if_neg h0, haloBlk_apply]; exact before_eq m c t h0 n s l) p j

/-- The array of the first output. -/
def resultArr : Vec Ideal S32768x1024 .f32 := fun y => (inputs m c).out (y 0) (y 1)

theorem out_flushed (t : Fin cfg0.N) :
    (dats m 0 c).flushed 16 t = ((cfg0.win 16).blk t).view.read (Elt Ideal) (resultArr m c) := by
  rw [Value.flushed16]
  funext y
  rw [View.read_apply]
  show (outsAt0 m c t.val t.isLt).1 y = resultArr m c (((cfg0.win 16).blk t).view.emb y)
  have ey : (y : S512x1024.Idx) = ix2 (show Fin 512 from y 0) (show Fin 1024 from y 1) := eq_ix2 y
  refine (congrArg (outsAt0 m c t.val t.isLt).1 ey).trans ((out_eq m c t _ _).trans ?_)
  have e0 : ((cfg0.win 16).blk t).view.emb y 0 = rowAt t.val (lt64 t) (y 0) := Fin.ext (at_block (tiled t).2.2.2.2.1)
  have e1 : ((cfg0.win 16).blk t).view.emb y 1 = (show Fin 1024 from y 1) := Fin.ext (at_zero (tiled t).2.2.2.2.2.1)
  unfold resultArr
  rw [e0, e1]

/-- The array of the first output after the run. -/
theorem out_final : (dats m 0 c).arrAt 16 cfg0.N = resultArr m c :=
  (dats m 0 c).arrAt_eq_of_cover 16 (resultArr m c) (fun t _ => out_flushed m c t) fun i =>
    (Value.covered_iff16 i).mpr ⟨Nat.zero_le _, (i 0).isLt, Nat.zero_le _, (i 1).isLt⟩

/-! ### The keys and values -/

/-- What a grid point leaves in the block of the keys and values. -/
theorem kv_eq (t : Fin cfg0.N) (p : Fin 512) (j : Fin 512) :
    (outsAt0 m c t.val t.isLt).2.1 (ix2 p j) = proj ((inputs m c).out (rowAt t.val (lt64 t) p)) (kvGain m c) (kvMat m c) (kvBias m c) j := by
  by_cases h0 : t.val % 8 = 0
  · rw [outsAt0_A m c t h0]
    dsimp only
    unfold out0_A_17
    rw [View.read_writes_junk_eq_canon, runA_kv]
    refine (congrFun (canon_whole _) _).trans ?_
    exact kvTile_apply m c t _ _ _ _ _ _ _ _ _ _ _ _ _ _ _ _ _ _ _ _ _ _ _ _ _ _ _ (fun n s l => by rw [if_pos h0]; exact clearedBlk_apply _ _ _ n s l) p j
  · rw [outsAt0_B m c t h0]
    dsimp only
    unfold out0_B_17
    rw [View.read_writes_junk_eq_canon, runB_kv]
    refine (congrFun (canon_whole _) _).trans ?_
    exact kvTile_apply m c t _ _ _ _ _ _ _ _ _ _ _ _ _ _ _ _ _ _ _ _ _ _ _ _ _ _ _ (fun n s l => by rw [if_neg h0, haloBlk_apply]; exact before_eq m c t h0 n s l) p j

/-- The array of the keys and values. -/
def kvArr : Vec Ideal S32768x512 .bf16 := fun y => proj ((inputs m c).out (y 0)) (kvGain m c) (kvMat m c) (kvBias m c) (y 1)

theorem kv_flushed (t : Fin cfg0.N) :
    (dats m 0 c).flushed 17 t = ((cfg0.win 17).blk t).view.read (Elt Ideal) (kvArr m c) := by
  rw [Value.flushed17]
  funext y
  rw [View.read_apply]
  show (outsAt0 m c t.val t.isLt).2.1 y = kvArr m c (((cfg0.win 17).blk t).view.emb y)
  have ey : (y : S512x512.Idx) = ix2 (show Fin 512 from y 0) (show Fin 512 from y 1) := eq_ix2 y
  refine (congrArg (outsAt0 m c t.val t.isLt).2.1 ey).trans ((kv_eq m c t _ _).trans ?_)
  have e0 : ((cfg0.win 17).blk t).view.emb y 0 = rowAt t.val (lt64 t) (y 0) := Fin.ext (at_block (projTiled t).1)
  have e1 : ((cfg0.win 17).blk t).view.emb y 1 = (show Fin 512 from y 1) := Fin.ext (at_zero (projTiled t).2.1)
  unfold kvArr
  rw [e0, e1]

/-- The array of the keys and values after the run. -/
theorem kv_final : (dats m 0 c).arrAt 17 cfg0.N = kvArr m c :=
  (dats m 0 c).arrAt_eq_of_cover 17 (kvArr m c) (fun t _ => kv_flushed m c t) fun i =>
    (Value.covered_iff17 i).mpr ⟨Nat.zero_le _, (i 0).isLt, Nat.zero_le _, (i 1).isLt⟩

/-! ### The queries -/

/-- What a grid point leaves in the block of the queries. -/
theorem q_eq (t : Fin cfg0.N) (p : Fin 512) (j : Fin 1024) :
    (outsAt0 m c t.val t.isLt).2.2.1 (ix2 p j) = proj ((inputs m c).out (rowAt t.val (lt64 t) p)) (qGain m c) (qMat m c) (qBias m c) j * eighth := by
  by_cases h0 : t.val % 8 = 0
  · rw [outsAt0_A m c t h0]
    dsimp only
    unfold out0_A_18
    rw [View.read_writes_junk_eq_canon, runA_q]
    refine (congrFun (canon_whole _) _).trans ?_
    exact qTile_apply m c t _ _ _ _ _ _ _ _ _ _ _ _ _ _ _ _ _ _ _ _ _ _ _ _ _ _ _ (fun n s l => by rw [if_pos h0]; exact clearedBlk_apply _ _ _ n s l) p j
  · rw [outsAt0_B m c t h0]
    dsimp only
    unfold out0_B_18
    rw [View.read_writes_junk_eq_canon, runB_q]
    refine (congrFun (canon_whole _) _).trans ?_
    exact qTile_apply m c t _ _ _ _ _ _ _ _ _ _ _ _ _ _ _ _ _ _ _ _ _ _ _ _ _ _ _ (fun n s l => by rw [if_neg h0, haloBlk_apply]; exact before_eq m c t h0 n s l) p j

/-- The array of the queries. -/
def qArr : Vec Ideal S32768x1024 .bf16 := fun y => proj ((inputs m c).out (y 0)) (qGain m c) (qMat m c) (qBias m c) (y 1) * eighth

theorem q_flushed (t : Fin cfg0.N) :
    (dats m 0 c).flushed 18 t = ((cfg0.win 18).blk t).view.read (Elt Ideal) (qArr m c) := by
  rw [Value.flushed18]
  funext y
  rw [View.read_apply]
  show (outsAt0 m c t.val t.isLt).2.2.1 y = qArr m c (((cfg0.win 18).blk t).view.emb y)
  have ey : (y : S512x1024.Idx) = ix2 (show Fin 512 from y 0) (show Fin 1024 from y 1) := eq_ix2 y
  refine (congrArg (outsAt0 m c t.val t.isLt).2.2.1 ey).trans ((q_eq m c t _ _).trans ?_)
  have e0 : ((cfg0.win 18).blk t).view.emb y 0 = rowAt t.val (lt64 t) (y 0) := Fin.ext (at_block (projTiled t).2.2.1)
  have e1 : ((cfg0.win 18).blk t).view.emb y 1 = (show Fin 1024 from y 1) := Fin.ext (at_zero (projTiled t).2.2.2)
  unfold qArr
  rw [e0, e1]

/-- The array of the queries after the run. -/
theorem q_final : (dats m 0 c).arrAt 18 cfg0.N = qArr m c :=
  (dats m 0 c).arrAt_eq_of_cover 18 (qArr m c) (fun t _ => q_flushed m c t) fun i =>
    (Value.covered_iff18 i).mpr ⟨Nat.zero_le _, (i 0).isLt, Nat.zero_le _, (i 1).isLt⟩

end Ffn0

end
-- ==== Proof.Ffn0Claims.lean ====
/-
  The first layer's feed-forward call: its reference's three results, entry by entry, and the equality of the kernel's and the
  reference's result arrays under the precondition that what the gates are computed from is finite.
-/
module

public import proofs.«01_k».proof.Defs
public import proofs.«01_k».proof.Proof.Ffn0Array
public import proofs.«01_k».proof.Proof.FfnRef
public import proofs.«01_k».proof.Proof.SwaClaims
public import proofs.«01_k».proof.Proof.Gen.RefFfn0Ideal.Run
public import proofs.«01_k».proof.Proof.Gen.Pre_finite0

@[expose] public section

set_option maxRecDepth 16384

noncomputable section

namespace Ffn0Claims

open Idealize.ShloMosaic Idealize.ShloMosaic.TcCoe Idealize.SL.Sem

section Reference

open Cert.RefFfn0Ideal Cert.RefFfn0Ideal.Gen

/-- The layer's up-projection. -/
def up (w : FVec Ideal S2x1024x5632 .bf16) : FVec Ideal S1024x5632 .f32 :=
  extf .f32 (shapeCast _ (extractStridedSlice S1x1024x5632 ![0, 0, 0] w slices_S2x1024x5632_S1x1024x5632_0_0_0) shapeCasts_S1x1024x5632_S1024x5632) bitsLt_bf16_f32

/-- The layer's down-projection. -/
def down (w : FVec Ideal S2x2816x1024 .bf16) : FVec Ideal S2816x1024 .f32 :=
  extf .f32 (shapeCast _ (extractStridedSlice S1x2816x1024 ![0, 0, 0] w slices_S2x2816x1024_S1x2816x1024_0_0_0) shapeCasts_S1x2816x1024_S2816x1024) bitsLt_bf16_f32

theorem up_apply (w : FVec Ideal S2x1024x5632 .bf16) (k : Fin 1024) (C : Fin 5632) : up w (ix2 k C) = w (ix3 0 k C) := by
  pointwise [up]

theorem down_apply (w : FVec Ideal S2x2816x1024 .bf16) (f : Fin 2816) (c : Fin 1024) : down w (ix2 f c) = w (ix3 0 f c) := by
  pointwise [down]

/-- The keys and values. -/
def kvS (x : FVec Ideal S8x4096x1024 .f32) (g : FVec Ideal S1x1024 .f32) (w : FVec Ideal S1024x512 .bf16) (b : FVec Ideal S1x512 .f32) : FVec Ideal S32768x512 .bf16 :=
  shapeCast _ (truncf .bf16 (addf (Host.dotGeneral dot_S8x4096x1024_S1024x512_S8x4096x512_2_0_01_1_n_n none (FfnRef.normS x g) (extf .f32 w bitsLt_bf16_f32))
    (broadcastInDim S8x4096x512 ![0, 1, 2] bcast_S1x1x512_S8x4096x512_0_1_2 (broadcastInDim S1x1x512 ![1, 2] bcast_S1x512_S1x1x512_1_2 b))) bitsLt_bf16_f32)
    shapeCasts_S8x4096x512_S32768x512

/-- The queries. -/
def qS (x : FVec Ideal S8x4096x1024 .f32) (g : FVec Ideal S1x1024 .f32) (w : FVec Ideal S1024x1024 .bf16) (b : FVec Ideal S1x1024 .f32) : FVec Ideal S32768x1024 .bf16 :=
  shapeCast _ (truncf .bf16 (mulf (addf (FfnRef.dotS (FfnRef.normS x g) w) (FfnRef.rowS b))
    (broadcastInDim S8x4096x1024 ![] bcast_S_S8x4096x1024 (constant S_ .f32 0x3E000000#32))) bitsLt_bf16_f32) shapeCasts_S8x4096x1024_S32768x1024

theorem kvS_apply (x : FVec Ideal S8x4096x1024 .f32) (g : FVec Ideal S1x1024 .f32) (w : FVec Ideal S1024x512 .bf16) (b : FVec Ideal S1x512 .f32) (R : Fin 32768) (c : Fin 512) :
    kvS x g w b (ix2 R c) = Ffn.proj (fun k => x (ix3 ⟨R / 4096, by omega⟩ ⟨R % 4096, by omega⟩ k)) (fun k => g (ix2 0 k)) (fun k j => w (ix2 k j)) (fun j => b (ix2 0 j)) c := by
  unfold Ffn.proj
  simp only [← FfnRef.normS_apply]
  unfold kvS
  generalize FfnRef.normS x g = n
  pointwise []

theorem qS_apply (x : FVec Ideal S8x4096x1024 .f32) (g : FVec Ideal S1x1024 .f32) (w : FVec Ideal S1024x1024 .bf16) (b : FVec Ideal S1x1024 .f32) (R : Fin 32768) (c : Fin 1024) :
    qS x g w b (ix2 R c) = Ffn.proj (fun k => x (ix3 ⟨R / 4096, by omega⟩ ⟨R % 4096, by omega⟩ k)) (fun k => g (ix2 0 k)) (fun k j => w (ix2 k j)) (fun j => b (ix2 0 j)) c * Ffn0.eighth := by
  unfold Ffn.proj
  simp only [← FfnRef.normS_apply]
  unfold qS
  generalize FfnRef.normS x g = n
  pointwise [FfnRef.dotS_apply, FfnRef.rowS_apply]
  rfl

/-- The run's first term is the layer. -/
theorem run_out (m : (ℓ : Loc nD τ sig) → Buf (Elt Ideal) ℓ) (c : Dev nD) :
    Value.res_out0 m c = FfnRef.flat (FfnRef.layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (up (m ((c.tc : Thread nD τ).loc main_arg5))) (m ((c.tc : Thread nD τ).loc main_arg6)) (m ((c.tc : Thread nD τ).loc main_arg7))
      (down (m ((c.tc : Thread nD τ).loc main_arg8)))) := by
  rfl

/-- The second is the keys and values of the layer. -/
theorem run_kv (m : (ℓ : Loc nD τ sig) → Buf (Elt Ideal) ℓ) (c : Dev nD) :
    Value.res_out1 m c = kvS (FfnRef.layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (up (m ((c.tc : Thread nD τ).loc main_arg5))) (m ((c.tc : Thread nD τ).loc main_arg6)) (m ((c.tc : Thread nD τ).loc main_arg7))
      (down (m ((c.tc : Thread nD τ).loc main_arg8))))
      (m ((c.tc : Thread nD τ).loc main_arg10)) (m ((c.tc : Thread nD τ).loc main_arg11)) (m ((c.tc : Thread nD τ).loc main_arg12)) := by
  rfl

/-- The third is the queries of the layer. -/
theorem run_q (m : (ℓ : Loc nD τ sig) → Buf (Elt Ideal) ℓ) (c : Dev nD) :
    Value.res_out2 m c = qS (FfnRef.layer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (up (m ((c.tc : Thread nD τ).loc main_arg5))) (m ((c.tc : Thread nD τ).loc main_arg6)) (m ((c.tc : Thread nD τ).loc main_arg7))
      (down (m ((c.tc : Thread nD τ).loc main_arg8))))
      (m ((c.tc : Thread nD τ).loc main_arg13)) (m ((c.tc : Thread nD τ).loc main_arg14)) (m ((c.tc : Thread nD τ).loc main_arg15)) := by
  rfl

end Reference

section Pre

open Cert.Pre_finite0 Cert.Pre_finite0.Gen

variable (h : FVec Ideal S32768x1024 .f32) (o : FVec Ideal S32768x1024 .bf16) (wo : FVec Ideal S1024x1024 .bf16) (bo g : FVec Ideal S1x1024 .f32)
  (wu : FVec Ideal S2x1024x5632 .bf16) (cw : FVec Ideal S3x5632 .f32) (cb : FVec Ideal S1x5632 .f32) (wd : FVec Ideal S2x2816x1024 .bf16) (fg gkv : FVec Ideal S1x1024 .f32)
  (wkv : FVec Ideal S1024x512 .bf16) (bkv : FVec Ideal S1x512 .f32) (gq : FVec Ideal S1x1024 .f32) (wq : FVec Ideal S1024x1024 .bf16) (bq : FVec Ideal S1x1024 .f32)

/-- The precondition says that what the gates are computed from is finite. -/
theorem gate_fin (p0 : (fn (F := Ideal) h o wo bo g wu cw cb wd fg gkv wkv bkv gq wq bq).1 = fun _ => 1#1) (p1 : (fn (F := Ideal) h o wo bo g wu cw cb wd fg gkv wkv bkv gq wq bq).2.1 = fun _ => 1#1)
    (p2 : (fn (F := Ideal) h o wo bo g wu cw cb wd fg gkv wkv bkv gq wq bq).2.2.1 = fun _ => 1#1) (p3 : (fn (F := Ideal) h o wo bo g wu cw cb wd fg gkv wkv bkv gq wq bq).2.2.2.1 = fun _ => 1#1)
    (p4 : (fn (F := Ideal) h o wo bo g wu cw cb wd fg gkv wkv bkv gq wq bq).2.2.2.2.1 = fun _ => 1#1) (p5 : (fn (F := Ideal) h o wo bo g wu cw cb wd fg gkv wkv bkv gq wq bq).2.2.2.2.2.1 = fun _ => 1#1)
    (p6 : (fn (F := Ideal) h o wo bo g wu cw cb wd fg gkv wkv bkv gq wq bq).2.2.2.2.2.2.1 = fun _ => 1#1) (p7 : (fn (F := Ideal) h o wo bo g wu cw cb wd fg gkv wkv bkv gq wq bq).2.2.2.2.2.2.2 = fun _ => 1#1) :
    (FfnRef.inputs h o wo bo g (up wu) cw cb (down wd)).GateFin where
  h R c := SwaClaims.fin_of_cmp _ (congrFun p0 (ix2 R c))
  o R c := SwaClaims.fin_of_cmp _ (congrFun p1 (ix2 R c))
  wo k j := SwaClaims.fin_of_cmp _ (congrFun p2 (ix2 k j))
  bo k := SwaClaims.fin_of_cmp _ (congrFun p3 (ix2 0 k))
  g k := SwaClaims.fin_of_cmp _ (congrFun p4 (ix2 0 k))
  wu k C := by
    have e : shapeCast S1024x2816 (extractStridedSlice S1x1024x2816 ![0, 0, 0] wu slices_S2x1024x5632_S1x1024x2816_0_0_0) shapeCasts_S1x1024x2816_S1024x2816 (ix2 k C)
        = wu (ix3 0 k ⟨C, by omega⟩) := by pointwise []
    show Attn.Fin' (up wu (ix2 k ⟨C, by omega⟩))
    rw [up_apply, ← e]
    exact SwaClaims.fin_of_cmp _ (congrFun p5 (ix2 k C))
  cw j C := by
    have e : extractStridedSlice S3x2816 ![0, 0] cw slices_S3x5632_S3x2816_0_0 (ix2 j C) = cw (ix2 j ⟨C, by omega⟩) := by pointwise []
    show Attn.Fin' (cw (ix2 j ⟨C, by omega⟩))
    rw [← e]
    exact SwaClaims.fin_of_cmp _ (congrFun p6 (ix2 j C))
  cb C := by
    have e : extractStridedSlice S1x2816 ![0, 0] cb slices_S1x5632_S1x2816_0_0 (ix2 0 C) = cb (ix2 0 ⟨C, by omega⟩) := by pointwise []
    show Attn.Fin' (cb (ix2 0 ⟨C, by omega⟩))
    rw [← e]
    exact SwaClaims.fin_of_cmp _ (congrFun p7 (ix2 0 C))

end Pre

section Equality

open Cert.RefFfn0Ideal Cert.RefFfn0Ideal.Gen

variable (h : FVec Ideal S32768x1024 .f32) (o : FVec Ideal S32768x1024 .bf16) (wo : FVec Ideal S1024x1024 .bf16) (bo g : FVec Ideal S1x1024 .f32)
  (wu : FVec Ideal S2x1024x5632 .bf16) (cw : FVec Ideal S3x5632 .f32) (cb : FVec Ideal S1x5632 .f32) (wd : FVec Ideal S2x2816x1024 .bf16)

/-- The reference's layer, row by row. -/
theorem layer_row (hI : (FfnRef.inputs h o wo bo g (up wu) cw cb (down wd)).GateFin) (R : Fin 32768) :
    (fun k : Fin 1024 => FfnRef.layer h o wo bo g (up wu) cw cb (down wd) (ix3 ⟨R / 4096, by omega⟩ ⟨R % 4096, by omega⟩ k))
      = (FfnRef.inputs h o wo bo g (up wu) cw cb (down wd)).out R := by
  have hr : FfnRef.row ⟨R / 4096, by omega⟩ ⟨R % 4096, by omega⟩ = R := Fin.ext (Nat.div_add_mod' R.val 4096)
  funext k
  rw [FfnRef.layer_eq h o wo bo g (up wu) cw cb (down wd) hI, hr]

end Equality

/-- The kernel's arguments are the reference's. -/
theorem inputs_eq (m : (ℓ : Loc Cert.Ffn0Ideal.nD Cert.Ffn0Ideal.τ Cert.Ffn0Ideal.sig) → Buf (Elt Ideal) ℓ) (c : Dev Cert.Ffn0Ideal.nD) :
    Ffn0.inputs m c = FfnRef.inputs (m ((c.tc : Thread Cert.Ffn0Ideal.nD Cert.Ffn0Ideal.τ).loc Cert.Ffn0Ideal.main_arg0)) (m ((c.tc : Thread Cert.Ffn0Ideal.nD Cert.Ffn0Ideal.τ).loc Cert.Ffn0Ideal.main_arg1))
      (m ((c.tc : Thread Cert.Ffn0Ideal.nD Cert.Ffn0Ideal.τ).loc Cert.Ffn0Ideal.main_arg2)) (m ((c.tc : Thread Cert.Ffn0Ideal.nD Cert.Ffn0Ideal.τ).loc Cert.Ffn0Ideal.main_arg3))
      (m ((c.tc : Thread Cert.Ffn0Ideal.nD Cert.Ffn0Ideal.τ).loc Cert.Ffn0Ideal.main_arg4)) (up (m ((c.tc : Thread Cert.Ffn0Ideal.nD Cert.Ffn0Ideal.τ).loc Cert.Ffn0Ideal.main_arg5)))
      (m ((c.tc : Thread Cert.Ffn0Ideal.nD Cert.Ffn0Ideal.τ).loc Cert.Ffn0Ideal.main_arg6)) (m ((c.tc : Thread Cert.Ffn0Ideal.nD Cert.Ffn0Ideal.τ).loc Cert.Ffn0Ideal.main_arg7))
      (down (m ((c.tc : Thread Cert.Ffn0Ideal.nD Cert.Ffn0Ideal.τ).loc Cert.Ffn0Ideal.main_arg8))) := by
  unfold Ffn0.inputs FfnRef.inputs
  simp only [up_apply, down_apply]

/-! ## The claims -/

/-- The reference leaves its arguments unchanged and has no semaphore. -/
theorem reference_frame : Cert.quiescent_RefFfn0Ideal := fun m ρ _ =>
  (θ_run Cert.RefFfn0Ideal.defs _ _).mono (fun r h => ⟨fun c => (h c).2.2.2, sem_eq_zero_of_no_sems (by decide) r.2⟩)
    (Cert.RefFfn0Ideal.Value.run m ρ)

/-- The two programs' results are equal. -/
theorem algebraic : Cert.algebraic_Ffn0Ideal_RefFfn0Ideal_pre_finite0 := by
  intro m ρ m' ρ' hpre hagree
  refine ⟨fun c => Ffn0.resultArr m c, fun c => Ffn0.kvArr m c, fun c => Ffn0.qArr m c, ?_, ?_⟩
  · exact (θ_run Cert.Ffn0Ideal.defs _ _).mono (fun _ h c => ⟨(h c).1.trans (Ffn0.out_final m c), (h c).2.1.trans (Ffn0.kv_final m c),
      (h c).2.2.1.trans (Ffn0.q_final m c), (h c).2.2.2⟩) (Cert.Ffn0Ideal.Value.run_blocks m ρ)
  · refine (θ_run Cert.RefFfn0Ideal.defs _ _).mono (fun _ h c => ?_) (Cert.RefFfn0Ideal.Value.run m' ρ')
    obtain ⟨h0, h1, h2, h3, h4, h5, h6, h7, h8, -, h10, h11, h12, h13, h14, h15⟩ := hagree c
    obtain ⟨p0, p1, p2, p3, p4, p5, p6, p7⟩ := hpre c
    have hI := gate_fin _ _ _ _ _ _ _ _ _ _ _ _ _ _ _ _ p0 p1 p2 p3 p4 p5 p6 p7
    refine ⟨(h c).1.trans ((run_out m' c).trans ?_), (h c).2.1.trans ((run_kv m' c).trans ?_), (h c).2.2.1.trans ((run_q m' c).trans ?_), (h c).2.2.2⟩
    · rw [h0, h1, h2, h3, h4, h5, h6, h7, h8]
      funext y
      rw [eq_ix2 y]
      refine (FfnRef.flat_apply _ (y 0) (y 1)).trans ((congrFun (layer_row _ _ _ _ _ _ _ _ _ hI (y 0)) (y 1)).trans ?_)
      rw [← inputs_eq]
      rfl
    · rw [h0, h1, h2, h3, h4, h5, h6, h7, h8, h10, h11, h12]
      funext y
      rw [eq_ix2 y]
      refine (kvS_apply _ _ _ _ (y 0) (y 1)).trans ?_
      rw [layer_row _ _ _ _ _ _ _ _ _ hI (y 0), ← inputs_eq]
      rfl
    · rw [h0, h1, h2, h3, h4, h5, h6, h7, h8, h13, h14, h15]
      funext y
      rw [eq_ix2 y]
      refine (qS_apply _ _ _ _ (y 0) (y 1)).trans ?_
      rw [layer_row _ _ _ _ _ _ _ _ _ hI (y 0), ← inputs_eq]
      rfl

end Ffn0Claims

end
-- ==== Proof.InProjBlock.lean ====
/-
  The delta layer's projection kernel's block of one grid point, in functions of what it loads. The 4096 projected columns are 32
  slabs of 128: 24 of queries, keys and values (8 heads each), 8 of gates. A slab of the first 24 goes through a scratch of its
  own: eight rows from before the tile and then the tile's 256 rows; once convolved, its last eight rows take the place of the first.
-/
module

public import proofs.«01_k».proof.Proof.Gen.InProjIdeal.Value
public import Idealize.ShloMosaic.PureOps.Ideal

@[expose] public section

set_option maxRecDepth 16384
set_option backward.proofsInPublic true

noncomputable section

namespace InProj

open Cert.InProjIdeal Cert.InProjIdeal.Gen Idealize.ShloMosaic Idealize.ShloMosaic.TcCoe Idealize.SL.Sem

theorem inb_w {n : ℕ} (h : n < 8) : ∀ a, (![0, 0, 512 * n] : Fin 3 → ℕ) a + S1x1024x512.size a ≤ S1x1024x4112.size a := by
  intro a
  match a with
  | ⟨0, _⟩ => exact le_of_eq (Nat.zero_add _)
  | ⟨1, _⟩ => exact le_of_eq (Nat.zero_add _)
  | ⟨2, _⟩ => show 512 * n + 512 ≤ 4112; omega

theorem inb_taps {s : ℕ} (h : s < 24) : ∀ a, (![s / 8, s % 8, 0, 0] : Fin 4 → ℕ) a + S1x1x4x128.size a ≤ S3x8x4x128.size a := by
  intro a
  match a with
  | ⟨0, _⟩ => show s / 8 + 1 ≤ 3; omega
  | ⟨1, _⟩ => show s % 8 + 1 ≤ 8; omega
  | ⟨2, _⟩ => exact le_of_eq (Nat.zero_add _)
  | ⟨3, _⟩ => exact le_of_eq (Nat.zero_add _)

theorem inb_rows {s o : ℕ} (h : s < 24) (ho : o ≤ 8) : ∀ a, (![s, o, 0] : Fin 3 → ℕ) a + S1x256x128.size a ≤ S24x264x128.size a := by
  intro a
  match a with
  | ⟨0, _⟩ => show s + 1 ≤ 24; omega
  | ⟨1, _⟩ => show o + 256 ≤ 264; omega
  | ⟨2, _⟩ => exact le_of_eq (Nat.zero_add _)

theorem inb_halo {s : ℕ} (h : s < 24) : ∀ a, (![s, 0, 0] : Fin 3 → ℕ) a + S1x8x128.size a ≤ S24x264x128.size a := by
  intro a
  match a with
  | ⟨0, _⟩ => show s + 1 ≤ 24; omega
  | ⟨1, _⟩ => show 0 + 8 ≤ 264; omega
  | ⟨2, _⟩ => exact le_of_eq (Nat.zero_add _)

theorem inb_head {s : ℕ} (h : s < 8) : ∀ a, (![s, 0, 0] : Fin 3 → ℕ) a + S1x256x128.size a ≤ S8x256x128.size a := by
  intro a
  match a with
  | ⟨0, _⟩ => show s + 1 ≤ 8; omega
  | ⟨1, _⟩ => exact le_of_eq (Nat.zero_add _)
  | ⟨2, _⟩ => exact le_of_eq (Nat.zero_add _)

theorem slices_slab {j : ℕ} (h : j < 4) : S256x512.Slices ![0, 128 * j] S256x128 :=
  ⟨rfl, fun a => by
    match a with
    | ⟨0, _⟩ => exact le_of_eq (Nat.zero_add _)
    | ⟨1, _⟩ => show 128 * j + 128 ≤ 512; omega⟩

/-! ## The loads -/

/-- The projections' columns of chunk `n`: four slabs. -/
def wBlk {sig : RefSig} (a : Memref sig .tc .vmem S1x1024x4112 .bf16) (h : a.IsWhole) (x : Vec Ideal S1x1024x4112 .bf16) (n : Fin 8) : Vec Ideal S1x1024x512 .bf16 :=
  View.readAt (Elt Ideal) a.view (Rect.unit (s := S1x1024x4112) ![0, 0, 512 * n.val] S1x1024x512.size (inb_w n.isLt)).toLoadRect (h.unread x)

/-- A slab's four taps. -/
def tapBlk {sig : RefSig} (a : Memref sig .tc .vmem S3x8x4x128 .f32) (h : a.IsWhole) (x : Vec Ideal S3x8x4x128 .f32) (s : Fin 24) : Vec Ideal S1x1x4x128 .f32 :=
  View.readAt (Elt Ideal) a.view (Rect.unit (s := S3x8x4x128) ![s.val / 8, s.val % 8, 0, 0] S1x1x4x128.size (inb_taps s.isLt)).toLoadRect (h.unread x)

/-! ## The scratch -/

/-- The projected rows of slab `s` of the 32. -/
def slabU (hn : FVec Ideal S256x1024 .bf16) (w : Fin 8 → Vec Ideal S1x1024x512 .bf16) (s : Fin 32) : FVec Ideal S256x128 .f32 :=
  extractStridedSlice S256x128 ![0, 128 * (s.val % 4)] (k0_pay10 hn (w ⟨s.val / 4, by omega⟩)) (slices_slab (Nat.mod_lt _ (by decide)))

/-- The last eight of a slab's rows. -/
def lastRows (u : Vec Ideal S1x256x128 .f32) : Vec Ideal S1x8x128 .f32 := k0_pay17 u

/-- The rectangle of slab `s` that starts at row `o`. -/
abbrev rows (s : Fin 24) (o : ℕ) (ho : o ≤ 8) : Rect S24x264x128 := Rect.unit (s := S24x264x128) ![s.val, o, 0] S1x256x128.size (inb_rows s.isLt ho)

/-- A slab's rows are stored (`false`), and later its last eight rows take the place of its first (`true`): the stores, last first. -/
abbrev Ev : Type := Bool × Fin 24

/-- A grid point's stores in the scratch, last first: a chunk's slabs are stored before the chunk before it is convolved. -/
def order : List Ev :=
  [(true, 23), (true, 22), (true, 21), (true, 20), (true, 19), (true, 18), (true, 17), (true, 16),
   (false, 23), (false, 22), (false, 21), (false, 20), (true, 15), (true, 14), (true, 13), (true, 12),
   (false, 19), (false, 18), (false, 17), (false, 16), (true, 11), (true, 10), (true, 9), (true, 8),
   (false, 15), (false, 14), (false, 13), (false, 12), (true, 7), (true, 6), (true, 5), (true, 4),
   (false, 11), (false, 10), (false, 9), (false, 8), (true, 3), (true, 2), (true, 1), (true, 0),
   (false, 7), (false, 6), (false, 5), (false, 4), (false, 3), (false, 2), (false, 1), (false, 0)]

/-- Those made when slab `s` is convolved. -/
def upTo (s : Fin 24) : List Ev := order.drop (48 - (8 + 8 * (s.val / 4) + s.val % 4 - 4 * (s.val / 20)))

section Pieces

variable {sig : RefSig} (v : View sig .tc .vmem S24x264x128 .f32) (hn : FVec Ideal S256x1024 .bf16) (w : Fin 8 → Vec Ideal S1x1024x512 .bf16)

/-- One store, after the stores `L`. -/
def piece (L : List (View.Piece (Elt Ideal) S24x264x128 .f32)) : Ev → View.Piece (Elt Ideal) S24x264x128 .f32
  | (false, s) => ⟨rows s 8 (le_refl 8), shapeCast S1x256x128 (slabU hn w ⟨s.val, by omega⟩) shapeCasts_S256x128_S1x256x128⟩
  | (true, s) => ⟨Rect.unit (s := S24x264x128) ![s.val, 0, 0] S1x8x128.size (inb_halo s.isLt), lastRows (v.readCov L (rows s 8 (le_refl 8)).toLoadRect)⟩

/-- The stores of a list, over the stores `z`. -/
def pieces (z : List (View.Piece (Elt Ideal) S24x264x128 .f32)) : List Ev → List (View.Piece (Elt Ideal) S24x264x128 .f32)
  | [] => z
  | e :: t => piece v hn w (pieces z t) e :: pieces z t

/-- The store that clears the first rows at a sequence's start. -/
def cleared : List (View.Piece (Elt Ideal) S24x264x128 .f32) :=
  [⟨Rect.unit (s := S24x264x128) ![0, 0, 0] S24x8x128.size inb_S24x264x128_S24x8x128_0_0_0, (k0_pay3 : FVec Ideal S24x8x128 .f32)⟩]

/-! ## The outputs' tiles -/

variable (z : List (View.Piece (Elt Ideal) S24x264x128 .f32))
  (rd : List (View.Piece (Elt Ideal) S24x264x128 .f32) → (r : Rect S24x264x128) → r.shape.Idx → Elt Ideal .f32) (tap : Fin 24 → Vec Ideal S1x1x4x128 .f32)

/-- Slab `s` convolved and activated: its windows read with `rd`. -/
def actV (s : Fin 24) : FVec Ideal S256x128 .f32 :=
  k0_pay18 (v.readCov (pieces v hn w z (upTo s)) (rows s 8 (le_refl 8)).toLoadRect) (tap s)
    (rd (pieces v hn w z (upTo s)) (rows s 5 (by decide))) (rd (pieces v hn w z (upTo s)) (rows s 6 (by decide))) (rd (pieces v hn w z (upTo s)) (rows s 7 (by decide)))

/-- A query head's tile. -/
def qV (a : FVec Ideal S256x128 .f32) : FVec Ideal S1x256x128 .bf16 := k0_pay20 a (mulf a a)

/-- A key head's tile. -/
def kV (a : FVec Ideal S256x128 .f32) : FVec Ideal S1x256x128 .bf16 :=
  shapeCast S1x256x128 (truncf .bf16 (mulf a (broadcastTo S256x128 (rsqrt (addf
    (shapeCast S256x1 (multiReduction .add [1] S256 (mulf a a) 0x00000000#32 reduces_S256x128_S256 (.inl rfl) rfl) shapeCasts_S256_S256x1)
    (broadcast S256x1 (Scalar.ofBits .f32 0x358637BD#32)))) broadcasts_S256x1_S256x128)) bitsLt_bf16_f32) shapeCasts_S256x128_S1x256x128

/-- A value head's tile. -/
def vV (a : FVec Ideal S256x128 .f32) : FVec Ideal S1x256x128 .bf16 := shapeCast S1x256x128 (truncf .bf16 a bitsLt_bf16_f32) shapeCasts_S256x128_S1x256x128

/-- A slab, activated. -/
def siluV (u : FVec Ideal S256x128 .f32) : FVec Ideal S256x128 .f32 :=
  let h := mulf (broadcast S256x128 (Scalar.ofBits .f32 0x3F000000#32)) u
  addf (mulf h (tanh h)) h

/-- A head's stores in an output, last first: head `h`'s tile is `f h`. -/
def heads (f : Fin 8 → FVec Ideal S1x256x128 .bf16) : List (View.Piece (Elt Ideal) S8x256x128 .bf16) :=
  List.ofFn fun n : Fin 8 => ⟨Rect.unit (s := S8x256x128) ![7 - n.val, 0, 0] S1x256x128.size (inb_head (by omega)), f ⟨7 - n.val, by omega⟩⟩

end Pieces

end InProj

end
-- ==== Proof.InProjRun.lean ====
/-
  What the projection call's run of one grid point leaves in the blocks of its five outputs and in the scratch it carries to the
  next point, in the terms of Proof/InProjBlock.lean: for a point at a sequence's start and for any other.
-/
module

public import proofs.«01_k».proof.Proof.InProjBlock

@[expose] public section

set_option maxRecDepth 16384
set_option backward.proofsInPublic true

noncomputable section

namespace InProj

open Cert.InProjIdeal Cert.InProjIdeal.Gen Idealize.ShloMosaic Idealize.ShloMosaic.TcCoe Idealize.SL.Sem

variable (c : Dev nD) (i : grid0.Coords)
  (arg1 : Memref sig .tc .vmem S256x1024 .f32) (harg1 : arg1.IsWhole) (arg2 : Memref sig .tc .vmem S1x1024 .f32) (harg2 : arg2.IsWhole)
  (arg3 : Memref sig .tc .vmem S1x1024x4112 .bf16) (harg3 : arg3.IsWhole) (arg4 : Memref sig .tc .vmem S1024x128 .bf16) (harg4 : arg4.IsWhole)
  (arg5 : Memref sig .tc .vmem S3x8x4x128 .f32) (harg5 : arg5.IsWhole) (arg6 : Memref sig .tc .vmem S8x256x128 .bf16) (harg6 : arg6.IsWhole)
  (arg7 : Memref sig .tc .vmem S8x256x128 .bf16) (harg7 : arg7.IsWhole) (arg8 : Memref sig .tc .vmem S8x256x128 .bf16) (harg8 : arg8.IsWhole)
  (arg9 : Memref sig .tc .vmem S8x256x128 .bf16) (harg9 : arg9.IsWhole) (arg10 : Memref sig .tc .vmem S256x128 .f32) (harg10 : arg10.IsWhole)
  (arg11 : Memref sig .tc .vmem S24x264x128 .f32) (harg11 : arg11.IsWhole)
  (x0 : Vec Ideal S256x1024 .f32) (x1 : Vec Ideal S1x1024 .f32) (x2 : Vec Ideal S1x1024x4112 .bf16) (x3 : Vec Ideal S1024x128 .bf16)
  (x4 : Vec Ideal S3x8x4x128 .f32) (xs0 : Vec Ideal S24x264x128 .f32)

/-- A whole buffer's load. -/
def whole {s : Shape} {e : EltTy} (a : Memref sig .tc .vmem s e) (h : a.IsWhole) (x : Vec Ideal s e) (off : Fin s.rank → ℕ) (hin : ∀ d, off d + s.size d ≤ s.size d) : Vec Ideal s e :=
  View.readAt (Elt Ideal) a.view (Rect.unit (s := s) off s.size hin).toLoadRect (h.unread x)

/-- The tile's rows, normalized. -/
def hnTile : FVec Ideal S256x1024 .bf16 :=
  k0_pay4 (whole arg1 harg1 x0 ![0, 0] inb_S256x1024_S256x1024_0_0) (whole arg2 harg2 x1 ![0, 0] inb_S1x1024_S1x1024_0_0)

/-- A slab's tile at a sequence's start, convolved and activated. -/
def actA (s : Fin 24) : FVec Ideal S256x128 .f32 :=
  actV arg11.view (hnTile arg1 harg1 arg2 harg2 x0 x1) (wBlk arg3 harg3 x2) cleared (fun L r => arg11.view.readCov L r.toLoadRect) (tapBlk arg5 harg5 x4) s

/-- A slab's tile elsewhere: the scratch's contents `xs0` are under the stores. -/
def actB (s : Fin 24) : FVec Ideal S256x128 .f32 :=
  actV arg11.view (hnTile arg1 harg1 arg2 harg2 x0 x1) (wBlk arg3 harg3 x2) []
    (fun L r => View.readAt (Elt Ideal) arg11.view r.toLoadRect (arg11.view.writes (Elt Ideal) (harg11.unread xs0) L)) (tapBlk arg5 harg5 x4) s

/-- A gate head's tile. -/
def gateTile (h : Fin 8) : FVec Ideal S1x256x128 .bf16 := vV (siluV (slabU (hnTile arg1 harg1 arg2 harg2 x0 x1) (wBlk arg3 harg3 x2) ⟨24 + h.val, by omega⟩))

/-- The fifth output's tile. -/
def smallTile : FVec Ideal S256x128 .f32 := k0_pay2 (hnTile arg1 harg1 arg2 harg2 x0 x1) (whole arg4 harg4 x3 ![0, 0] inb_S1024x128_S1024x128_0_0)

/-- At a sequence's start, the run's stores of the queries. -/
theorem runA_q (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4).1
      = heads fun h => qV (actA arg1 harg1 arg2 harg2 arg3 harg3 arg5 harg5 arg11 x0 x1 x2 x4 ⟨h.val, by omega⟩) := by
  rfl

/-- At a sequence's start, the run's stores of the keys. -/
theorem runA_k (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4).2.1
      = heads fun h => kV (actA arg1 harg1 arg2 harg2 arg3 harg3 arg5 harg5 arg11 x0 x1 x2 x4 ⟨8 + h.val, by omega⟩) := by
  rfl

/-- At a sequence's start, the run's stores of the values. -/
theorem runA_v (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4).2.2.1
      = heads fun h => vV (actA arg1 harg1 arg2 harg2 arg3 harg3 arg5 harg5 arg11 x0 x1 x2 x4 ⟨16 + h.val, by omega⟩) := by
  rfl

/-- At a sequence's start, the run's stores of the gates. -/
theorem runA_gate (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4).2.2.2.1
      = heads (gateTile arg1 harg1 arg2 harg2 arg3 harg3 x0 x1 x2) := by
  rfl

/-- At a sequence's start, the run's one store of the fifth output. -/
theorem runA_small (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4).2.2.2.2.1
      = [⟨Rect.unit (s := S256x128) ![0, 0] S256x128.size inb_S256x128_S256x128_0_0, smallTile arg1 harg1 arg2 harg2 arg4 harg4 x0 x1 x3⟩] := by
  rfl

/-- At a sequence's start, the run's stores in the scratch. -/
theorem runA_scratch (hc0 : cond0_0 i) :
    (kernelRun0_A c i arg1 harg1 arg2 harg2 arg3 harg3 arg4 harg4 arg5 harg5 arg6 harg6 arg7 harg7 arg8 harg8 arg9 harg9 arg10 harg10 arg11 harg11 hc0 x0 x1 x2 x3 x4).2.2.2.2.2.1
      = pieces arg11.view (hnTile arg1 harg1 arg2 harg2 x0 x1) (wBlk arg3 harg3 x2) cleared order := by
  rfl

/-- At any other point, the run's stores of the queries. -/
theorem runB_q (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 xs0).1
      = heads fun h => qV (actB arg1 harg1 arg2 harg2 arg3 harg3 arg5 harg5 arg11 harg11 x0 x1 x2 x4 xs0 ⟨h.val, by omega⟩) := by
  rfl

/-- At any other point, the run's stores of the keys. -/
theorem runB_k (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 xs0).2.1
      = heads fun h => kV (actB arg1 harg1 arg2 harg2 arg3 harg3 arg5 harg5 arg11 harg11 x0 x1 x2 x4 xs0 ⟨8 + h.val, by omega⟩) := by
  rfl

/-- At any other point, the run's stores of the values. -/
theorem runB_v (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 xs0).2.2.1
      = heads fun h => vV (actB arg1 harg1 arg2 harg2 arg3 harg3 arg5 harg5 arg11 harg11 x0 x1 x2 x4 xs0 ⟨16 + h.val, by omega⟩) := by
  rfl

/-- At any other point, the run's stores of the gates. -/
theorem runB_gate (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 xs0).2.2.2.1
      = heads (gateTile arg1 harg1 arg2 harg2 arg3 harg3 x0 x1 x2) := by
  rfl

/-- At any other point, the run's one store of the fifth output. -/
theorem runB_small (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 xs0).2.2.2.2.1
      = [⟨Rect.unit (s := S256x128) ![0, 0] S256x128.size inb_S256x128_S256x128_0_0, smallTile arg1 harg1 arg2 harg2 arg4 harg4 x0 x1 x3⟩] := by
  rfl

/-- At any other point, the run's stores in the scratch. -/
theorem runB_scratch (hc0 : ¬cond0_0 i) :
    (kernelRun0_B c i arg1 harg1 arg2 harg2 arg3 harg3 arg4 harg4 arg5 harg5 arg6 harg6 arg7 harg7 arg8 harg8 arg9 harg9 arg10 harg10 arg11 harg11 hc0 x0 x1 x2 x3 x4 xs0).2.2.2.2.2.1
      = pieces arg11.view (hnTile arg1 harg1 arg2 harg2 x0 x1) (wBlk arg3 harg3 x2) [] order := by
  rfl

end InProj

end
-- ==== Proof.InProjRow.lean ====
/-
  The delta layer's projections of one row, as functions over the extended reals: the row normalized and projected, its first 3072
  columns convolved with the three rows before it and activated, heads of 128 columns of them normalized; the last 1024 activated.
-/
module

public import proofs.«01_k».proof.Proof.FfnRow

@[expose] public section

noncomputable section

namespace InProj

open Idealize.ShloMosaic Ffn

/-- The pattern of the queries' factor: one over the root of 128. -/
def factor : EReal := Ideal.ofBits .f32 0x3DB504F3#32

/-- Four rows convolved, the latest row first, as the kernel adds them. -/
def conv4 (u3 u0 u1 u2 : EReal) (w : Fin 4 → EReal) : EReal := ((u3 * w 3 + u0 * w 0) + u1 * w 1) + u2 * w 2

/-- A head's scale: one over the root of its sum of squares and epsilon. -/
def unitScale (a : Fin 128 → EReal) : EReal := Ideal.rsqrt (∑ l, a l * a l + eps)

/-- Column `l` of head `s` of the 24. -/
def headCol (s : Fin 24) (l : Fin 128) : Fin 3072 := ⟨128 * s + l, by omega⟩

/-- The call's arguments. -/
structure Inputs where
  x : Fin 32768 → Fin 1024 → EReal
  g : Fin 1024 → EReal
  w : Fin 1024 → Fin 4096 → EReal
  ws : Fin 1024 → Fin 128 → EReal
  cw : Fin 4 → Fin 3072 → EReal

namespace Inputs

variable (I : Inputs)

/-- A row, normalized and projected. -/
def u (R : Fin 32768) (C : Fin 4096) : EReal := ∑ k, norm (I.x R) I.g k * I.w k C

/-- The projected row `d` before row `R`, zero off the sequence. -/
def before (R : Fin 32768) (d : ℕ) (C : Fin 4096) : EReal := if (R : ℕ) % 4096 < d then 0 else I.u ⟨R - d, by omega⟩ C

/-- A convolved row. -/
def conv (R : Fin 32768) (C : Fin 3072) : EReal :=
  conv4 (I.u R ⟨C, by omega⟩) (I.before R 3 ⟨C, by omega⟩) (I.before R 2 ⟨C, by omega⟩) (I.before R 1 ⟨C, by omega⟩) (fun j => I.cw j C)

/-- Head `s` of the 24, activated. -/
def act (R : Fin 32768) (s : Fin 24) (l : Fin 128) : EReal := silu (I.conv R (headCol s l))

/-- A query head. -/
def q (R : Fin 32768) (h : Fin 8) (l : Fin 128) : EReal := I.act R ⟨h, by omega⟩ l * (unitScale (I.act R ⟨h, by omega⟩) * factor)

/-- A key head. -/
def k (R : Fin 32768) (h : Fin 8) (l : Fin 128) : EReal := I.act R ⟨8 + h, by omega⟩ l * unitScale (I.act R ⟨8 + h, by omega⟩)

/-- A value head. -/
def v (R : Fin 32768) (h : Fin 8) (l : Fin 128) : EReal := I.act R ⟨16 + h, by omega⟩ l

/-- A gate head. -/
def gate (R : Fin 32768) (h : Fin 8) (l : Fin 128) : EReal := silu (I.u R ⟨3072 + 128 * h + l, by omega⟩)

/-- A row, normalized and projected to 128 columns. -/
def small (R : Fin 32768) (l : Fin 128) : EReal := ∑ k, norm (I.x R) I.g k * I.ws k l

end Inputs

theorem conv4_congr {a a' b b' c c' d d' : EReal} {w w' : Fin 4 → EReal} (ha : a = a') (hb : b = b') (hc : c = c') (hd : d = d') (hw : w = w') :
    conv4 a b c d w = conv4 a' b' c' d' w' := by rw [ha, hb, hc, hd, hw]

end InProj

end
-- ==== Proof.InProjValue.lean ====
/-
  The projection kernel's block of one grid point, entry by entry, in the terms of Proof/InProjRow.lean.
-/
module

public import proofs.«01_k».proof.Proof.InProjBlock
public import proofs.«01_k».proof.Proof.InProjRow
public import Idealize.ShloMosaic.Lib.Pointwise
public import Idealize.ShloMosaic.Lib.ValueIdx

@[expose] public section

set_option maxRecDepth 16384
set_option backward.proofsInPublic true

noncomputable section

namespace InProj

open Ffn Cert.InProjIdeal Cert.InProjIdeal.Gen Idealize.ShloMosaic Idealize.ShloMosaic.TcCoe Idealize.SL.Sem

theorem pay4_apply (x : Vec Ideal S256x1024 .f32) (g : Vec Ideal S1x1024 .f32) (p : Fin 256) (c : Fin 1024) :
    k0_pay4 x g (ix2 p c) = norm (fun k => x (ix2 p k)) (fun k => g (ix2 0 k)) c := by
  pointwise [k0_pay4]
  rfl

theorem pay10_apply (hn : FVec Ideal S256x1024 .bf16) (w : Vec Ideal S1x1024x512 .bf16) (p : Fin 256) (l : Fin 512) :
    k0_pay10 hn w (ix2 p l) = ∑ k : Fin 1024, (hn (ix2 p k) * w (ix3 0 k l) : EReal) := by
  pointwise [k0_pay10]

theorem pay2_apply (hn : FVec Ideal S256x1024 .bf16) (w : Vec Ideal S1024x128 .bf16) (p : Fin 256) (l : Fin 128) :
    k0_pay2 hn w (ix2 p l) = ∑ k : Fin 1024, (hn (ix2 p k) * w (ix2 k l) : EReal) := by
  pointwise [k0_pay2]

theorem pay3_apply (y : S24x8x128.Idx) : (k0_pay3 : FVec Ideal S24x8x128 .f32) y = (0 : EReal) := by
  show Ideal.ofBits .f32 0x00000000#32 = 0
  simp [Ideal.ofBits, Ideal.ieee]

theorem slabU_apply (hn : FVec Ideal S256x1024 .bf16) (w : Fin 8 → Vec Ideal S1x1024x512 .bf16) (s : Fin 32) (p : Fin 256) (l : Fin 128) :
    slabU hn w s (ix2 p l) = ∑ k : Fin 1024, (hn (ix2 p k) * w ⟨s / 4, by omega⟩ (ix3 0 k ⟨128 * (s % 4) + l, by omega⟩) : EReal) := by
  unfold slabU
  rw [← pay10_apply]
  refine congrArg (k0_pay10 hn (w ⟨s / 4, by omega⟩)) (funext fun d => Fin.ext ?_)
  match d with
  | ⟨0, _⟩ => show 0 + (p : ℕ) = p; omega
  | ⟨1, _⟩ => show 128 * ((s : ℕ) % 4) + (l : ℕ) = 128 * (s % 4) + l; rfl

theorem lastRows_apply (u : Vec Ideal S1x256x128 .f32) (q : Fin 8) (l : Fin 128) : lastRows u (ix3 0 q l) = u (ix3 0 ⟨248 + q, by omega⟩ l) := by
  pointwise [lastRows, k0_pay17, k0_pay16]

theorem cast_apply {e : EltTy} (a : Vec Ideal S256x128 e) (p : Fin 256) (l : Fin 128) :
    shapeCast S1x256x128 a shapeCasts_S256x128_S1x256x128 (ix3 0 p l) = a (ix2 p l) := by
  pointwise []

theorem pay18_apply (u : Vec Ideal S1x256x128 .f32) (tap : Vec Ideal S1x1x4x128 .f32) (u0 u1 u2 : Vec Ideal S1x256x128 .f32) (p : Fin 256) (l : Fin 128) :
    k0_pay18 u tap u0 u1 u2 (ix2 p l)
      = silu (conv4 (u (ix3 0 p l)) (u0 (ix3 0 p l)) (u1 (ix3 0 p l)) (u2 (ix3 0 p l)) (fun j => tap (ix4 0 0 j l))) := by
  pointwise [k0_pay18, k0_pay16]
  rfl

theorem qV_apply (a : FVec Ideal S256x128 .f32) (p : Fin 256) (l : Fin 128) :
    qV a (ix3 0 p l) = a (ix2 p l) * (unitScale (fun l => a (ix2 p l)) * factor) := by
  pointwise [qV, k0_pay20]
  rfl

theorem kV_apply (a : FVec Ideal S256x128 .f32) (p : Fin 256) (l : Fin 128) :
    kV a (ix3 0 p l) = a (ix2 p l) * unitScale (fun l => a (ix2 p l)) := by
  pointwise [kV]
  rfl

theorem vV_apply (a : FVec Ideal S256x128 .f32) (p : Fin 256) (l : Fin 128) : vV a (ix3 0 p l) = a (ix2 p l) := by
  pointwise [vV]

theorem siluV_apply (a : FVec Ideal S256x128 .f32) (p : Fin 256) (l : Fin 128) : siluV a (ix2 p l) = silu (a (ix2 p l)) := by
  pointwise [siluV]
  rfl

/-! ## The scratch -/

/-- A way to read a list of stores back: the last store where it stored, the others elsewhere. -/
structure Reads (f : List (View.Piece (Elt Ideal) S24x264x128 .f32) → S24x264x128.Idx → EReal) : Prop where
  emb : ∀ (r : Rect S24x264x128) (w : r.shape.Idx → Elt Ideal .f32) L x, f (⟨r, w⟩ :: L) (r.emb x) = w x
  off : ∀ (p : View.Piece (Elt Ideal) S24x264x128 .f32) L y, y ∉ p.1.set → f (p :: L) y = f L y

theorem reads_canon : Reads View.canon where
  emb r w L x := View.canon_cons_emb r w L x
  off p L _ h := View.canon_cons_of_not_mem p L h

theorem reads_writes {sig : RefSig} (v : View sig .tc .vmem S24x264x128 .f32) (f : v.ty.Contents (Elt Ideal)) :
    Reads fun L => v.read (Elt Ideal) (v.writes (Elt Ideal) f L) where
  emb r w L x := View.read_slice_write_emb (v := v) r _ w (Finset.mem_univ x)
  off p L y h := View.read_slice_write_of_not_mem (v := v) p.1 _ _ _ (by rw [Rect.map_emb_univ]; exact h)

/-- A halo's store comes after the store of its slab. -/
def ordered : List Ev → Bool
  | [] => true
  | (b, s) :: t => (!b || t.contains (false, s)) && ordered t

theorem upTo_stored : ∀ s : Fin 24, (false, s) ∈ upTo s := by decide +kernel

theorem upTo_kept : ∀ s : Fin 24, (true, s) ∉ upTo s := by decide +kernel

theorem order_halo : ∀ s : Fin 24, (true, s) ∈ order := by decide +kernel

theorem order_ordered : ordered order = true := by decide +kernel

theorem rows_emb (s : Fin 24) (o : ℕ) (ho : o ≤ 8) (p : Fin 256) (l : Fin 128) : (rows s o ho).emb (ix3 0 p l) = ix3 s ⟨o + p, by omega⟩ l := by
  funext d
  apply Fin.ext
  match d with
  | ⟨0, _⟩ => show (s : ℕ) + 1 * 0 = s; omega
  | ⟨1, _⟩ => show o + 1 * (p : ℕ) = o + p; omega
  | ⟨2, _⟩ => show 0 + 1 * (l : ℕ) = l; omega

theorem halo_emb (s : Fin 24) (q : Fin 8) (l : Fin 128) :
    (Rect.unit (s := S24x264x128) ![s.val, 0, 0] S1x8x128.size (inb_halo s.isLt)).emb (ix3 0 q l) = ix3 s ⟨q, by omega⟩ l := by
  funext d
  apply Fin.ext
  match d with
  | ⟨0, _⟩ => show (s : ℕ) + 1 * 0 = s; omega
  | ⟨1, _⟩ => show 0 + 1 * (q : ℕ) = q; omega
  | ⟨2, _⟩ => show 0 + 1 * (l : ℕ) = l; omega

section Scratch

variable {f : List (View.Piece (Elt Ideal) S24x264x128 .f32) → S24x264x128.Idx → EReal} (hf : Reads f)
  {sig : RefSig} (v : View sig .tc .vmem S24x264x128 .f32) (hn : FVec Ideal S256x1024 .bf16) (w : Fin 8 → Vec Ideal S1x1024x512 .bf16)
  (z : List (View.Piece (Elt Ideal) S24x264x128 .f32))

/-- A store's rows: a slab's own from the eighth on, its halo's the first eight. -/
theorem piece_not_mem (L : List (View.Piece (Elt Ideal) S24x264x128 .f32)) (b : Bool) (s' s : Fin 24) (q : Fin 264) (l : Fin 128)
    (h : s' ≠ s ∨ (b = true ∧ 8 ≤ (q : ℕ)) ∨ (b = false ∧ (q : ℕ) < 8)) : ix3 s q l ∉ (piece v hn w L (b, s')).1.set := by
  cases b with
  | false =>
    show ix3 s q l ∉ (Rect.unit (s := S24x264x128) ![s'.val, 8, 0] S1x256x128.size (inb_rows s'.isLt (le_refl 8))).set
    rw [Rect.mem_set_unit]
    intro hm
    have h0 : (s' : ℕ) ≤ s ∧ (s : ℕ) < s' + 1 := hm 0
    have h1 : 8 ≤ (q : ℕ) := (hm 1).1
    rcases h with h | h | h
    · exact h (Fin.ext (by omega))
    · exact Bool.false_ne_true h.1
    · omega
  | true =>
    show ix3 s q l ∉ (Rect.unit (s := S24x264x128) ![s'.val, 0, 0] S1x8x128.size (inb_halo s'.isLt)).set
    rw [Rect.mem_set_unit]
    intro hm
    have h0 : (s' : ℕ) ≤ s ∧ (s : ℕ) < s' + 1 := hm 0
    have h1 : (q : ℕ) < 0 + 8 := (hm 1).2
    rcases h with h | h | h
    · exact h (Fin.ext (by omega))
    · omega
    · exact Bool.false_ne_true h.1.symm

include hf in
/-- A stored slab's rows. -/
theorem stored (es : List Ev) (s : Fin 24) (h : (false, s) ∈ es) (p : Fin 256) (l : Fin 128) :
    f (pieces v hn w z es) (ix3 s ⟨8 + p, by omega⟩ l) = slabU hn w ⟨s, by omega⟩ (ix2 p l) := by
  induction es with
  | nil => exact absurd h List.not_mem_nil
  | cons e t ih =>
    obtain ⟨b, s'⟩ := e
    unfold pieces
    by_cases he : b = false ∧ s' = s
    · obtain ⟨rfl, rfl⟩ := he
      rw [← rows_emb s' 8 (le_refl 8)]
      exact (hf.emb _ _ _ _).trans (cast_apply (e := .f32) _ p l)
    · refine (hf.off _ _ _ (piece_not_mem v hn w _ b s' s _ l ?_)).trans (ih ?_)
      · by_cases hs : s' = s
        · refine .inr (.inl ⟨?_, Nat.le_add_right _ _⟩)
          cases b with
          | false => exact absurd ⟨rfl, hs⟩ he
          | true => rfl
        · exact .inl hs
      · rcases List.mem_cons.mp h with h | h
        · exact absurd ⟨(congrArg Prod.fst h).symm, (congrArg Prod.snd h).symm⟩ he
        · exact h

include hf in
/-- A slab's first eight rows, before its halo's store. -/
theorem kept (es : List Ev) (s : Fin 24) (h : (true, s) ∉ es) (q : Fin 264) (hq : (q : ℕ) < 8) (l : Fin 128) :
    f (pieces v hn w z es) (ix3 s q l) = f z (ix3 s q l) := by
  induction es with
  | nil => rfl
  | cons e t ih =>
    obtain ⟨b, s'⟩ := e
    unfold pieces
    refine (hf.off _ _ _ (piece_not_mem v hn w _ b s' s q l ?_)).trans (ih fun h' => h (List.mem_cons_of_mem _ h'))
    by_cases hs : s' = s
    · refine .inr (.inr ⟨?_, hq⟩)
      cases b with
      | false => rfl
      | true => exact absurd (List.mem_cons.mpr (.inl (by rw [hs]))) h
    · exact .inl hs

theorem ordered_cons {b : Bool} {s : Fin 24} {t : List Ev} (h : ordered ((b, s) :: t) = true) : (b = true → (false, s) ∈ t) ∧ ordered t = true := by
  unfold ordered at h
  rw [Bool.and_eq_true] at h
  refine ⟨fun hb => ?_, h.2⟩
  have h1 := h.1
  rw [hb, Bool.not_true, Bool.false_or] at h1
  exact List.contains_iff_mem.mp h1

include hf in
/-- And after it: the slab's last eight rows. -/
theorem halo (es : List Ev) (ho : ordered es = true) (s : Fin 24) (h : (true, s) ∈ es) (q : Fin 8) (l : Fin 128) :
    f (pieces v hn w z es) (ix3 s ⟨q, by omega⟩ l) = slabU hn w ⟨s, by omega⟩ (ix2 ⟨248 + q, by omega⟩ l) := by
  induction es with
  | nil => exact absurd h List.not_mem_nil
  | cons e t ih =>
    obtain ⟨b, s'⟩ := e
    obtain ⟨h1, h2⟩ := ordered_cons ho
    unfold pieces
    by_cases he : b = true ∧ s' = s
    · obtain ⟨rfl, rfl⟩ := he
      rw [← halo_emb]
      refine (hf.emb _ _ _ _).trans ((lastRows_apply _ q l).trans ?_)
      rw [View.readCov_eq_canon']
      exact (congrArg (View.canon (pieces v hn w z t)) (rows_emb s' 8 (le_refl 8) _ l)).trans (stored reads_canon v hn w z t s' (h1 rfl) _ l)
    · refine (hf.off _ _ _ (piece_not_mem v hn w _ b s' s _ l ?_)).trans (ih h2 ?_)
      · by_cases hs : s' = s
        · refine .inr (.inr ⟨?_, q.isLt⟩)
          cases b with
          | false => rfl
          | true => exact absurd ⟨rfl, hs⟩ he
        · exact .inl hs
      · rcases List.mem_cons.mp h with h | h
        · exact absurd ⟨(congrArg Prod.fst h).symm, (congrArg Prod.snd h).symm⟩ he
        · exact h

/-! ## A convolved slab -/

/-- The projected row `d` rows before the tile's row `p`: before the tile, what `zv` says. -/
def back (zv : Fin 24 → Fin 8 → Fin 128 → EReal) (s : Fin 24) (d : ℕ) (hd : d ≤ 8) (p : Fin 256) (l : Fin 128) : EReal :=
  if h : (p : ℕ) < d then zv s ⟨8 - d + p, by omega⟩ l else slabU hn w ⟨s, by omega⟩ (ix2 ⟨p - d, by omega⟩ l)

variable (zv : Fin 24 → Fin 8 → Fin 128 → EReal) (hz : ∀ s (q : Fin 8) l, f z (ix3 s ⟨q, by omega⟩ l) = zv s q l)
  (rd : List (View.Piece (Elt Ideal) S24x264x128 .f32) → (r : Rect S24x264x128) → r.shape.Idx → Elt Ideal .f32) (hrd : ∀ L r x, rd L r x = f L (r.emb x))
  (tap : Fin 24 → Vec Ideal S1x1x4x128 .f32)

include hf hz hrd in
theorem window (s : Fin 24) (d : ℕ) (hd : d ≤ 8) (o : ℕ) (ho : o ≤ 8) (hod : o = 8 - d) (p : Fin 256) (l : Fin 128) :
    rd (pieces v hn w z (upTo s)) (rows s o ho) (ix3 0 p l) = back hn w zv s d hd p l := by
  subst hod
  rw [hrd, rows_emb]
  unfold back
  by_cases h : (p : ℕ) < d
  · rw [dif_pos h, ← hz]
    exact kept hf v hn w z (upTo s) s (upTo_kept s) _ (show 8 - d + (p : ℕ) < 8 by omega) l
  · rw [dif_neg h, ← stored hf v hn w z (upTo s) s (upTo_stored s)]
    refine congrArg (fun r => f (pieces v hn w z (upTo s)) (ix3 s r l)) (Fin.ext ?_)
    show 8 - d + (p : ℕ) = 8 + (p - d)
    omega

include hf hz hrd in
theorem actV_apply (s : Fin 24) (p : Fin 256) (l : Fin 128) :
    actV v hn w z rd tap s (ix2 p l)
      = silu (conv4 (slabU hn w ⟨s, by omega⟩ (ix2 p l)) (back hn w zv s 3 (by decide) p l) (back hn w zv s 2 (by decide) p l) (back hn w zv s 1 (by decide) p l)
          (fun j => tap s (ix4 0 0 j l))) := by
  unfold actV
  rw [pay18_apply]
  refine congrArg silu (conv4_congr ?_ (window hf v hn w z zv hz rd hrd s 3 _ 5 _ rfl p l) (window hf v hn w z zv hz rd hrd s 2 _ 6 _ rfl p l)
    (window hf v hn w z zv hz rd hrd s 1 _ 7 _ rfl p l) rfl)
  rw [View.readCov_eq_canon']
  exact (congrArg (View.canon (pieces v hn w z (upTo s))) (rows_emb s 8 (le_refl 8) p l)).trans (stored reads_canon v hn w z (upTo s) s (upTo_stored s) p l)

end Scratch

/-! ## The heads' stores -/

theorem head_emb (h : Fin 8) (p : Fin 256) (l : Fin 128) :
    (Rect.unit (s := S8x256x128) ![h.val, 0, 0] S1x256x128.size (inb_head h.isLt)).emb (ix3 0 p l) = ix3 h p l := by
  funext d
  apply Fin.ext
  match d with
  | ⟨0, _⟩ => show (h : ℕ) + 1 * 0 = h; omega
  | ⟨1, _⟩ => show 0 + 1 * (p : ℕ) = p; omega
  | ⟨2, _⟩ => show 0 + 1 * (l : ℕ) = l; omega

/-- What the heads' stores leave in an output's block. -/
theorem heads_apply (F : Fin 8 → FVec Ideal S1x256x128 .bf16) (h : Fin 8) (p : Fin 256) (l : Fin 128) :
    View.canon (heads F) (ix3 h p l) = F h (ix3 0 p l) := by
  have key := View.canon_apply_of_pieces (fun y : S8x256x128.Idx => F (y 0) (ix3 0 (y 1) (y 2))) (heads F) ?_ (ix3 h p l) ?_
  · exact key
  · intro pc hpc
    unfold heads at hpc
    obtain ⟨n, rfl⟩ := List.mem_ofFn.mp hpc
    intro x
    show F ⟨7 - n.val, by omega⟩ x = F ((Rect.unit (s := S8x256x128) ![7 - n.val, 0, 0] S1x256x128.size (inb_head (by omega))).emb x 0) _
    have e0 : (Rect.unit (s := S8x256x128) ![7 - n.val, 0, 0] S1x256x128.size (inb_head (by omega))).emb x 0 = (⟨7 - n.val, by omega⟩ : Fin 8) := by
      have h0 : (x 0 : ℕ) < 1 := (x 0).isLt
      apply Fin.ext
      show 7 - n.val + 1 * (x 0 : ℕ) = 7 - n.val
      omega
    rw [e0]
    refine congrArg (F ⟨7 - n.val, by omega⟩) (funext fun d => Fin.ext ?_)
    match d with
    | ⟨0, _⟩ => have h0 : (x 0 : ℕ) < 1 := (x 0).isLt; show (x 0 : ℕ) = 0; omega
    | ⟨1, _⟩ => show (x 1 : ℕ) = 0 + 1 * (x 1 : ℕ); omega
    | ⟨2, _⟩ => show (x 2 : ℕ) = 0 + 1 * (x 2 : ℕ); omega
  · refine ⟨_, List.mem_ofFn.mpr ⟨⟨7 - h.val, by omega⟩, rfl⟩, ?_⟩
    show ix3 h p l ∈ (Rect.unit (s := S8x256x128) ![7 - (7 - h.val), 0, 0] S1x256x128.size (inb_head (by omega))).set
    rw [Rect.mem_set_unit]
    intro d
    match d with
    | ⟨0, _⟩ => show 7 - (7 - h.val) ≤ h.val ∧ h.val < 7 - (7 - h.val) + 1; omega
    | ⟨1, _⟩ => show 0 ≤ p.val ∧ p.val < 0 + 256; omega
    | ⟨2, _⟩ => show 0 ≤ l.val ∧ l.val < 0 + 128; omega

end InProj

end
-- ==== Proof.InProjArray.lean ====
/-
  The five result arrays of the delta layer's projection call, entry by entry, of the launched arrays: they are the heads and the
  small projection of Proof/InProjRow.lean. The first eight rows of a slab's scratch hold, after a grid point, its last eight rows.
-/
module

public import proofs.«01_k».proof.Proof.InProjRun
public import proofs.«01_k».proof.Proof.InProjValue
public import proofs.«01_k».proof.Proof.FfnTile

@[expose] public section

set_option maxRecDepth 16384
set_option backward.proofsInPublic true

noncomputable section

namespace InProj

open Ffn (norm silu at_block at_zero)
open Cert.InProjIdeal Cert.InProjIdeal.Gen Idealize.ShloMosaic Idealize.ShloMosaic.TcCoe Idealize.SL.Sem

/-! ## The loads -/

section Loads

variable {sig : RefSig}

theorem wBlk_apply (a : Memref sig .tc .vmem S1x1024x4112 .bf16) (h : a.IsWhole) (x : Vec Ideal S1x1024x4112 .bf16) (n : Fin 8) (k : Fin 1024) (l : Fin 512) :
    wBlk a h x n (ix3 0 k l) = x (ix3 0 k ⟨512 * n + l, by omega⟩) := by
  unfold wBlk
  rw [View.readAt_eq_ld, h.read_unread]
  refine congrArg x (funext fun d => Fin.ext ?_)
  match d with
  | ⟨0, _⟩ => show 0 + 1 * 0 = 0; rfl
  | ⟨1, _⟩ => show 0 + 1 * (k : ℕ) = k; omega
  | ⟨2, _⟩ => show 512 * (n : ℕ) + 1 * (l : ℕ) = 512 * n + l; omega

theorem tapBlk_apply (a : Memref sig .tc .vmem S3x8x4x128 .f32) (h : a.IsWhole) (x : Vec Ideal S3x8x4x128 .f32) (s : Fin 24) (j : Fin 4) (l : Fin 128) :
    tapBlk a h x s (ix4 0 0 j l) = x (ix4 ⟨s / 8, by omega⟩ ⟨s % 8, by omega⟩ j l) := by
  unfold tapBlk
  rw [View.readAt_eq_ld, h.read_unread]
  refine congrArg x (funext fun d => Fin.ext ?_)
  match d with
  | ⟨0, _⟩ => show (s : ℕ) / 8 + 1 * 0 = s / 8; omega
  | ⟨1, _⟩ => show (s : ℕ) % 8 + 1 * 0 = s % 8; omega
  | ⟨2, _⟩ => show 0 + 1 * (j : ℕ) = j; omega
  | ⟨3, _⟩ => show 0 + 1 * (l : ℕ) = l; omega

end Loads

theorem whole_eq {s : Shape} {e : EltTy} (a : Memref sig .tc .vmem s e) (h : a.IsWhole) (x : Vec Ideal s e) (off : Fin s.rank → ℕ)
    (hin : ∀ d, off d + s.size d ≤ s.size d) : whole a h x off hin = x := by
  unfold whole
  rw [View.readAt_eq_ld, h.read_unread]
  exact View.ld_unit_zero (funext fun d => by have := hin d; omega) hin x

/-! ## A tile, of the call's arguments -/

section Tile

variable (I : Inputs) (T : ℕ) (hT : T < 128)

/-- Row `p` of tile `T`. -/
def tileRow (p : Fin 256) : Fin 32768 := ⟨T * 256 + p, by omega⟩

/-- A slab's rows just before the tile. -/
def zrows (s : Fin 24) (q : Fin 8) (l : Fin 128) : EReal :=
  if T % 16 = 0 then 0 else I.u ⟨T * 256 - 8 + q, by omega⟩ ⟨128 * s + l, by omega⟩

variable (hn : FVec Ideal S256x1024 .bf16) (w : Fin 8 → Vec Ideal S1x1024x512 .bf16)
  (hhn : ∀ p c, hn (ix2 p c) = norm (I.x (tileRow T hT p)) I.g c)
  (hw : ∀ (n : Fin 8) k (l : Fin 512), w n (ix3 0 k l) = I.w k ⟨512 * n + l, by omega⟩)

include hhn hw in
theorem slabU_tile (s : Fin 32) (p : Fin 256) (l : Fin 128) : slabU hn w s (ix2 p l) = I.u (tileRow T hT p) ⟨128 * s + l, by omega⟩ := by
  rw [slabU_apply]
  unfold Inputs.u
  refine Finset.sum_congr rfl fun k _ => ?_
  rw [hhn, hw]
  refine congrArg (fun C => norm (I.x (tileRow T hT p)) I.g k * I.w k C) (Fin.ext ?_)
  show 512 * ((s : ℕ) / 4) + (128 * (s % 4) + l) = 128 * s + l
  omega

include hhn hw in
theorem back_tile (s : Fin 24) (d : ℕ) (hd : d ≤ 8) (p : Fin 256) (l : Fin 128) :
    back hn w (zrows I T hT) s d hd p l = I.before (tileRow T hT p) d ⟨128 * s + l, by omega⟩ := by
  unfold back Inputs.before zrows
  have hr : (tileRow T hT p : ℕ) = T * 256 + p := rfl
  by_cases h : (p : ℕ) < d
  · rw [dif_pos h]
    by_cases h8 : T % 16 = 0
    · rw [if_pos h8, if_pos (by rw [hr]; omega)]
    · rw [if_neg h8, if_neg (by rw [hr]; omega)]
      refine congrArg (fun r => I.u r ⟨128 * s + l, by omega⟩) (Fin.ext ?_)
      show T * 256 - 8 + (8 - d + (p : ℕ)) = T * 256 + p - d
      omega
  · rw [dif_neg h, if_neg (by rw [hr]; omega), slabU_tile I T hT hn w hhn hw]
    refine congrArg (fun r => I.u r ⟨128 * s + l, by omega⟩) (Fin.ext ?_)
    show T * 256 + ((p : ℕ) - d) = T * 256 + p - d
    omega

variable {f : List (View.Piece (Elt Ideal) S24x264x128 .f32) → S24x264x128.Idx → EReal} (hf : Reads f)
  {sig : RefSig} (v : View sig .tc .vmem S24x264x128 .f32) (z : List (View.Piece (Elt Ideal) S24x264x128 .f32))
  (hz : ∀ s (q : Fin 8) l, f z (ix3 s ⟨q, by omega⟩ l) = zrows I T hT s q l)
  (rd : List (View.Piece (Elt Ideal) S24x264x128 .f32) → (r : Rect S24x264x128) → r.shape.Idx → Elt Ideal .f32) (hrd : ∀ L r x, rd L r x = f L (r.emb x))
  (tap : Fin 24 → Vec Ideal S1x1x4x128 .f32) (htap : ∀ s j l, tap s (ix4 0 0 j l) = I.cw j (headCol s l))

include hhn hw hf hz hrd htap in
/-- A convolved slab's entries. -/
theorem actV_tile (s : Fin 24) (p : Fin 256) (l : Fin 128) : actV v hn w z rd tap s (ix2 p l) = I.act (tileRow T hT p) s l := by
  rw [actV_apply hf v hn w z (zrows I T hT) hz rd hrd]
  unfold Inputs.act Inputs.conv
  exact congrArg silu (conv4_congr (slabU_tile I T hT hn w hhn hw ⟨s, by omega⟩ p l) (back_tile I T hT hn w hhn hw s 3 _ p l) (back_tile I T hT hn w hhn hw s 2 _ p l)
    (back_tile I T hT hn w hhn hw s 1 _ p l) (funext fun j => htap s j l))

end Tile

theorem cleared_apply (s : Fin 24) (q : Fin 8) (l : Fin 128) : View.canon cleared (ix3 s ⟨q, by omega⟩ l) = (0 : EReal) := by
  have e : ix3 s ⟨q, by omega⟩ l = (Rect.unit (s := S24x264x128) ![0, 0, 0] S24x8x128.size inb_S24x264x128_S24x8x128_0_0_0).emb (ix3 s q l) := by
    funext d
    apply Fin.ext
    match d with
    | ⟨0, _⟩ => show (s : ℕ) = 0 + 1 * s; omega
    | ⟨1, _⟩ => show (q : ℕ) = 0 + 1 * q; omega
    | ⟨2, _⟩ => show (l : ℕ) = 0 + 1 * l; omega
  unfold cleared
  rw [e, View.canon_cons_emb]
  exact pay3_apply _

/-! ## The call's arguments and blocks -/

variable (m : (ℓ : Loc nD τ sig) → Buf (Elt Ideal) ℓ) (c : Dev nD)

/-- The call's arguments, of the launched memory. -/
def inputs : Inputs where
  x R C := (m ((c.tc : Thread nD τ).loc main_arg0) : Vec Ideal S32768x1024 .f32) (ix2 R C)
  g k := (m ((c.tc : Thread nD τ).loc main_arg1) : Vec Ideal S1x1024 .f32) (ix2 0 k)
  w k C := (m ((c.tc : Thread nD τ).loc main_arg2) : Vec Ideal S1x1024x4112 .bf16) (ix3 0 k ⟨C, by omega⟩)
  ws k l := (m ((c.tc : Thread nD τ).loc main_arg3) : Vec Ideal S1024x128 .bf16) (ix2 k l)
  cw j C := (m ((c.tc : Thread nD τ).loc main_arg4) : Vec Ideal S3x8x4x128 .f32) (ix4 ⟨C / 1024, by omega⟩ ⟨C / 128 % 8, by omega⟩ j ⟨C % 128, by omega⟩)

/-- The tiled windows' block indices, decided over the grid. -/
theorem tiled : ∀ t : Fin grid0.N, win0_0.index t 0 = t.val ∧ win0_0.index t 1 = 0 ∧ win0_9.index t 0 = t.val ∧ win0_9.index t 1 = 0 ∧ t.val < 128 := by
  decide +kernel

/-- The head-major outputs' block indices, decided over the grid. -/
theorem headTiled : ∀ t : Fin grid0.N, (win0_5.index t 0 = 0 ∧ win0_5.index t 1 = t.val ∧ win0_5.index t 2 = 0) ∧ (win0_6.index t 0 = 0 ∧ win0_6.index t 1 = t.val ∧ win0_6.index t 2 = 0)
    ∧ (win0_7.index t 0 = 0 ∧ win0_7.index t 1 = t.val ∧ win0_7.index t 2 = 0) ∧ (win0_8.index t 0 = 0 ∧ win0_8.index t 1 = t.val ∧ win0_8.index t 2 = 0) := by
  decide +kernel

/-- The untiled windows' block indices, decided over the grid. -/
theorem untiled : ∀ t : Fin grid0.N, (win0_1.index t 0 = 0 ∧ win0_1.index t 1 = 0) ∧ (win0_2.index t 0 = 0 ∧ win0_2.index t 1 = 0 ∧ win0_2.index t 2 = 0)
    ∧ (win0_3.index t 0 = 0 ∧ win0_3.index t 1 = 0) ∧ (win0_4.index t 0 = 0 ∧ win0_4.index t 1 = 0 ∧ win0_4.index t 2 = 0 ∧ win0_4.index t 3 = 0) := by
  decide +kernel

theorem lt128 (t : Fin cfg0.N) : t.val < 128 := (tiled t).2.2.2.2

theorem iblk_x (t : Fin cfg0.N) (p : Fin 256) (k : Fin 1024) : (iblk m c 0 t : Vec Ideal S256x1024 .f32) (ix2 p k) = (inputs m c).x (tileRow t.val (lt128 t) p) k :=
  congrArg (m (c.tc.loc main_arg0)) (funext fun a => Fin.ext (match a with
    | ⟨0, _⟩ => at_block (tiled t).1
    | ⟨1, _⟩ => at_zero (tiled t).2.1))

theorem iblk_g (t : Fin cfg0.N) (k : Fin 1024) : (iblk m c 1 t : Vec Ideal S1x1024 .f32) (ix2 0 k) = (inputs m c).g k :=
  congrArg (m (c.tc.loc main_arg1)) (funext fun a => Fin.ext (match a with
    | ⟨0, _⟩ => at_zero (untiled t).1.1
    | ⟨1, _⟩ => at_zero (untiled t).1.2))

theorem iblk_w (t : Fin cfg0.N) (k : Fin 1024) (C : Fin 4096) : (iblk m c 2 t : Vec Ideal S1x1024x4112 .bf16) (ix3 0 k ⟨C, by omega⟩) = (inputs m c).w k C :=
  congrArg (m (c.tc.loc main_arg2)) (funext fun a => Fin.ext (match a with
    | ⟨0, _⟩ => at_zero (untiled t).2.1.1
    | ⟨1, _⟩ => at_zero (untiled t).2.1.2.1
    | ⟨2, _⟩ => at_zero (untiled t).2.1.2.2))

theorem iblk_ws (t : Fin cfg0.N) (k : Fin 1024) (l : Fin 128) : (iblk m c 3 t : Vec Ideal S1024x128 .bf16) (ix2 k l) = (inputs m c).ws k l :=
  congrArg (m (c.tc.loc main_arg3)) (funext fun a => Fin.ext (match a with
    | ⟨0, _⟩ => at_zero (untiled t).2.2.1.1
    | ⟨1, _⟩ => at_zero (untiled t).2.2.1.2))

theorem iblk_cw (t : Fin cfg0.N) (a : Fin 3) (b : Fin 8) (j : Fin 4) (l : Fin 128) :
    (iblk m c 4 t : Vec Ideal S3x8x4x128 .f32) (ix4 a b j l) = (m ((c.tc : Thread nD τ).loc main_arg4) : Vec Ideal S3x8x4x128 .f32) (ix4 a b j l) :=
  congrArg (m (c.tc.loc main_arg4)) (funext fun d => Fin.ext (match d with
    | ⟨0, _⟩ => at_zero (untiled t).2.2.2.1
    | ⟨1, _⟩ => at_zero (untiled t).2.2.2.2.1
    | ⟨2, _⟩ => at_zero (untiled t).2.2.2.2.2.1
    | ⟨3, _⟩ => at_zero (untiled t).2.2.2.2.2.2))

/-! ## The tiles of a grid point -/

section Point

variable (t : Fin cfg0.N)
  (arg1 : Memref sig .tc .vmem S256x1024 .f32) (harg1 : arg1.IsWhole) (arg2 : Memref sig .tc .vmem S1x1024 .f32) (harg2 : arg2.IsWhole)
  (arg3 : Memref sig .tc .vmem S1x1024x4112 .bf16) (harg3 : arg3.IsWhole) (arg4 : Memref sig .tc .vmem S1024x128 .bf16) (harg4 : arg4.IsWhole)
  (arg5 : Memref sig .tc .vmem S3x8x4x128 .f32) (harg5 : arg5.IsWhole) (arg11 : Memref sig .tc .vmem S24x264x128 .f32) (harg11 : arg11.IsWhole)

theorem hnTile_apply (p : Fin 256) (k : Fin 1024) :
    hnTile arg1 harg1 arg2 harg2 (iblk m c 0 t) (iblk m c 1 t) (ix2 p k) = norm ((inputs m c).x (tileRow t.val (lt128 t) p)) (inputs m c).g k := by
  unfold hnTile
  rw [pay4_apply, whole_eq, whole_eq]
  simp only [iblk_x, iblk_g]

theorem wBlk_at (n : Fin 8) (k : Fin 1024) (l : Fin 512) : wBlk arg3 harg3 (iblk m c 2 t) n (ix3 0 k l) = (inputs m c).w k ⟨512 * n + l, by omega⟩ :=
  (wBlk_apply arg3 harg3 _ n k l).trans (iblk_w m c t k ⟨512 * n + l, by omega⟩)

theorem tapBlk_at (s : Fin 24) (j : Fin 4) (l : Fin 128) : tapBlk arg5 harg5 (iblk m c 4 t) s (ix4 0 0 j l) = (inputs m c).cw j (headCol s l) := by
  refine (tapBlk_apply arg5 harg5 _ s j l).trans ((iblk_cw m c t _ _ j l).trans ?_)
  refine congrArg (m ((c.tc : Thread nD τ).loc main_arg4)) (funext fun d => Fin.ext ?_)
  match d with
  | ⟨0, _⟩ => show (s : ℕ) / 8 = (128 * s + l) / 1024; omega
  | ⟨1, _⟩ => show (s : ℕ) % 8 = (128 * s + l) / 128 % 8; omega
  | ⟨2, _⟩ => rfl
  | ⟨3, _⟩ => show (l : ℕ) = (128 * s + l) % 128; omega

theorem actA_apply (h0 : t.val % 16 = 0) (s : Fin 24) (p : Fin 256) (l : Fin 128) :
    actA arg1 harg1 arg2 harg2 arg3 harg3 arg5 harg5 arg11 (iblk m c 0 t) (iblk m c 1 t) (iblk m c 2 t) (iblk m c 4 t) s (ix2 p l)
      = (inputs m c).act (tileRow t.val (lt128 t) p) s l := by
  unfold actA
  exact actV_tile (inputs m c) t.val (lt128 t) _ _ (hnTile_apply m c t arg1 harg1 arg2 harg2) (wBlk_at m c t arg3 harg3) reads_canon arg11.view cleared
    (fun s q l => by unfold zrows; rw [if_pos h0]; exact cleared_apply s q l) _ (fun L r x => congrFun (View.readCov_eq_canon' arg11.view L r.toLoadRect) x) _
    (tapBlk_at m c t arg5 harg5) s p l

theorem actB_apply (xs0 : Vec Ideal S24x264x128 .f32) (hxs : ∀ s (q : Fin 8) l, xs0 (ix3 s ⟨q, by omega⟩ l) = zrows (inputs m c) t.val (lt128 t) s q l)
    (s : Fin 24) (p : Fin 256) (l : Fin 128) :
    actB arg1 harg1 arg2 harg2 arg3 harg3 arg5 harg5 arg11 harg11 (iblk m c 0 t) (iblk m c 1 t) (iblk m c 2 t) (iblk m c 4 t) xs0 s (ix2 p l)
      = (inputs m c).act (tileRow t.val (lt128 t) p) s l := by
  unfold actB
  exact actV_tile (inputs m c) t.val (lt128 t) _ _ (hnTile_apply m c t arg1 harg1 arg2 harg2) (wBlk_at m c t arg3 harg3)
    (reads_writes arg11.view (harg11.unread xs0)) arg11.view []
    (fun s q l => (congrFun (harg11.read_unread xs0) _).trans (hxs s q l)) _ (fun L r x => rfl) _
    (tapBlk_at m c t arg5 harg5) s p l

theorem gateTile_apply (h : Fin 8) (p : Fin 256) (l : Fin 128) :
    gateTile arg1 harg1 arg2 harg2 arg3 harg3 (iblk m c 0 t) (iblk m c 1 t) (iblk m c 2 t) h (ix3 0 p l) = (inputs m c).gate (tileRow t.val (lt128 t) p) h l := by
  unfold gateTile
  rw [vV_apply, siluV_apply, slabU_tile (inputs m c) t.val (lt128 t) _ _ (hnTile_apply m c t arg1 harg1 arg2 harg2) (wBlk_at m c t arg3 harg3)]
  unfold Inputs.gate
  refine congrArg (fun C => silu ((inputs m c).u (tileRow t.val (lt128 t) p) C)) (Fin.ext ?_)
  show 128 * (24 + (h : ℕ)) + l = 3072 + 128 * h + l
  omega

theorem smallTile_apply (p : Fin 256) (l : Fin 128) :
    smallTile arg1 harg1 arg2 harg2 arg4 harg4 (iblk m c 0 t) (iblk m c 1 t) (iblk m c 3 t) (ix2 p l) = (inputs m c).small (tileRow t.val (lt128 t) p) l := by
  unfold smallTile
  rw [pay2_apply, whole_eq arg4]
  simp only [hnTile_apply, iblk_ws]
  rfl

end Point

/-! ## The scratch between grid points -/

/-- After any grid point a slab's first rows are the point's own last eight rows, projected. -/
theorem scratch_eq (t : Fin cfg0.N) (s : Fin 24) (q : Fin 8) (l : Fin 128) :
    (outsAt0 m c t.val t.isLt).2.2.2.2.2 (ix3 s ⟨q, by omega⟩ l) = (inputs m c).u (tileRow t.val (lt128 t) ⟨248 + q, by omega⟩) ⟨128 * s + l, by omega⟩ := by
  by_cases h0 : t.val % 16 = 0
  · rw [outsAt0_A m c t h0]
    dsimp only
    unfold sout0_A_0
    rw [View.read_writes_junk_eq_canon, runA_scratch]
    exact (halo reads_canon _ _ _ _ order order_ordered s (order_halo s) q l).trans
      (slabU_tile (inputs m c) t.val (lt128 t) _ _ (hnTile_apply m c t _ _ _ _) (wBlk_at m c t _ _) ⟨s, by omega⟩ _ l)
  · rw [outsAt0_B m c t h0]
    dsimp only
    unfold sout0_B_0
    rw [View.read_writes_junk_eq_canon, runB_scratch]
    exact (halo reads_canon _ _ _ _ order order_ordered s (order_halo s) q l).trans
      (slabU_tile (inputs m c) t.val (lt128 t) _ _ (hnTile_apply m c t _ _ _ _) (wBlk_at m c t _ _) ⟨s, by omega⟩ _ l)

/-- What the tile before has left: the rows before the tile. -/
theorem before_eq (t : Fin cfg0.N) (h0 : ¬ t.val % 16 = 0) (s : Fin 24) (q : Fin 8) (l : Fin 128) :
    (outsAt0 m c (t.val - 1) (by omega)).2.2.2.2.2 (ix3 s ⟨q, by omega⟩ l) = zrows (inputs m c) t.val (lt128 t) s q l := by
  have hp : t.val - 1 < cfg0.N := by omega
  unfold zrows
  rw [if_neg h0]
  refine (scratch_eq m c ⟨t.val - 1, hp⟩ s q l).trans (congrArg (fun r => (inputs m c).u r ⟨128 * s + l, by omega⟩) (Fin.ext ?_))
  show (t.val - 1) * 256 + (248 + (q : ℕ)) = t.val * 256 - 8 + q
  omega

/-! ## The result arrays -/

/-- A head-major array, of its rows' heads. -/
def headArr (F : Fin 32768 → Fin 8 → Fin 128 → EReal) : Vec Ideal S8x32768x128 .bf16 := fun y => F (y 1) (y 0) (y 2)

/-! ### The queries -/

/-- What a grid point leaves in the block of the queries. -/
theorem q_eq (t : Fin cfg0.N) (h : Fin 8) (p : Fin 256) (l : Fin 128) :
    (outsAt0 m c t.val t.isLt).1 (ix3 h p l) = (inputs m c).q (tileRow t.val (lt128 t) p) h l := by
  by_cases h0 : t.val % 16 = 0
  · rw [outsAt0_A m c t h0]
    dsimp only
    unfold out0_A_5
    rw [View.read_writes_junk_eq_canon, runA_q]
    refine (heads_apply _ h p l).trans ((qV_apply _ p l).trans ?_)
    simp only [actA_apply m c t _ _ _ _ _ _ _ _ _ h0]
    rfl
  · rw [outsAt0_B m c t h0]
    dsimp only
    unfold out0_B_5
    rw [View.read_writes_junk_eq_canon, runB_q]
    refine (heads_apply _ h p l).trans ((qV_apply _ p l).trans ?_)
    simp only [actB_apply m c t _ _ _ _ _ _ _ _ _ _ _ (before_eq m c t h0)]
    rfl

theorem q_flushed (t : Fin cfg0.N) :
    (dats m 0 c).flushed 5 t = ((cfg0.win 5).blk t).view.read (Elt Ideal) (headArr (inputs m c).q) := by
  rw [Value.flushed5]
  funext y
  rw [View.read_apply]
  show (outsAt0 m c t.val t.isLt).1 y = headArr (inputs m c).q (((cfg0.win 5).blk t).view.emb y)
  have ey : (y : S8x256x128.Idx) = ix3 (show Fin 8 from y 0) (show Fin 256 from y 1) (show Fin 128 from y 2) := eq_ix3 y
  refine (congrArg (outsAt0 m c t.val t.isLt).1 ey).trans ((q_eq m c t _ _ _).trans ?_)
  have e0 : ((cfg0.win 5).blk t).view.emb y 0 = (show Fin 8 from y 0) := Fin.ext (at_zero (headTiled t).1.1)
  have e1 : ((cfg0.win 5).blk t).view.emb y 1 = tileRow t.val (lt128 t) (y 1) := Fin.ext (at_block (headTiled t).1.2.1)
  have e2 : ((cfg0.win 5).blk t).view.emb y 2 = (show Fin 128 from y 2) := Fin.ext (at_zero (headTiled t).1.2.2)
  unfold headArr
  rw [e0, e1, e2]

/-- The array of the queries after the run. -/
theorem q_final : (dats m 0 c).arrAt 5 cfg0.N = headArr (inputs m c).q :=
  (dats m 0 c).arrAt_eq_of_cover 5 (headArr (inputs m c).q) (fun t _ => q_flushed m c t) fun i =>
    (Value.covered_iff5 i).mpr ⟨Nat.zero_le _, (i 0).isLt, Nat.zero_le _, (i 1).isLt, Nat.zero_le _, (i 2).isLt⟩

/-! ### The keys -/

/-- What a grid point leaves in the block of the keys. -/
theorem k_eq (t : Fin cfg0.N) (h : Fin 8) (p : Fin 256) (l : Fin 128) :
    (outsAt0 m c t.val t.isLt).2.1 (ix3 h p l) = (inputs m c).k (tileRow t.val (lt128 t) p) h l := by
  by_cases h0 : t.val % 16 = 0
  · rw [outsAt0_A m c t h0]
    dsimp only
    unfold out0_A_6
    rw [View.read_writes_junk_eq_canon, runA_k]
    refine (heads_apply _ h p l).trans ((kV_apply _ p l).trans ?_)
    simp only [actA_apply m c t _ _ _ _ _ _ _ _ _ h0]
    rfl
  · rw [outsAt0_B m c t h0]
    dsimp only
    unfold out0_B_6
    rw [View.read_writes_junk_eq_canon, runB_k]
    refine (heads_apply _ h p l).trans ((kV_apply _ p l).trans ?_)
    simp only [actB_apply m c t _ _ _ _ _ _ _ _ _ _ _ (before_eq m c t h0)]
    rfl

theorem k_flushed (t : Fin cfg0.N) :
    (dats m 0 c).flushed 6 t = ((cfg0.win 6).blk t).view.read (Elt Ideal) (headArr (inputs m c).k) := by
  rw [Value.flushed6]
  funext y
  rw [View.read_apply]
  show (outsAt0 m c t.val t.isLt).2.1 y = headArr (inputs m c).k (((cfg0.win 6).blk t).view.emb y)
  have ey : (y : S8x256x128.Idx) = ix3 (show Fin 8 from y 0) (show Fin 256 from y 1) (show Fin 128 from y 2) := eq_ix3 y
  refine (congrArg (outsAt0 m c t.val t.isLt).2.1 ey).trans ((k_eq m c t _ _ _).trans ?_)
  have e0 : ((cfg0.win 6).blk t).view.emb y 0 = (show Fin 8 from y 0) := Fin.ext (at_zero (headTiled t).2.1.1)
  have e1 : ((cfg0.win 6).blk t).view.emb y 1 = tileRow t.val (lt128 t) (y 1) := Fin.ext (at_block (headTiled t).2.1.2.1)
  have e2 : ((cfg0.win 6).blk t).view.emb y 2 = (show Fin 128 from y 2) := Fin.ext (at_zero (headTiled t).2.1.2.2)
  unfold headArr
  rw [e0, e1, e2]

/-- The array of the keys after the run. -/
theorem k_final : (dats m 0 c).arrAt 6 cfg0.N = headArr (inputs m c).k :=
  (dats m 0 c).arrAt_eq_of_cover 6 (headArr (inputs m c).k) (fun t _ => k_flushed m c t) fun i =>
    (Value.covered_iff6 i).mpr ⟨Nat.zero_le _, (i 0).isLt, Nat.zero_le _, (i 1).isLt, Nat.zero_le _, (i 2).isLt⟩

/-! ### The values -/

/-- What a grid point leaves in the block of the values. -/
theorem v_eq (t : Fin cfg0.N) (h : Fin 8) (p : Fin 256) (l : Fin 128) :
    (outsAt0 m c t.val t.isLt).2.2.1 (ix3 h p l) = (inputs m c).v (tileRow t.val (lt128 t) p) h l := by
  by_cases h0 : t.val % 16 = 0
  · rw [outsAt0_A m c t h0]
    dsimp only
    unfold out0_A_7
    rw [View.read_writes_junk_eq_canon, runA_v]
    refine (heads_apply _ h p l).trans ((vV_apply _ p l).trans ?_)
    simp only [actA_apply m c t _ _ _ _ _ _ _ _ _ h0]
    rfl
  · rw [outsAt0_B m c t h0]
    dsimp only
    unfold out0_B_7
    rw [View.read_writes_junk_eq_canon, runB_v]
    refine (heads_apply _ h p l).trans ((vV_apply _ p l).trans ?_)
    simp only [actB_apply m c t _ _ _ _ _ _ _ _ _ _ _ (before_eq m c t h0)]
    rfl

theorem v_flushed (t : Fin cfg0.N) :
    (dats m 0 c).flushed 7 t = ((cfg0.win 7).blk t).view.read (Elt Ideal) (headArr (inputs m c).v) := by
  rw [Value.flushed7]
  funext y
  rw [View.read_apply]
  show (outsAt0 m c t.val t.isLt).2.2.1 y = headArr (inputs m c).v (((cfg0.win 7).blk t).view.emb y)
  have ey : (y : S8x256x128.Idx) = ix3 (show Fin 8 from y 0) (show Fin 256 from y 1) (show Fin 128 from y 2) := eq_ix3 y
  refine (congrArg (outsAt0 m c t.val t.isLt).2.2.1 ey).trans ((v_eq m c t _ _ _).trans ?_)
  have e0 : ((cfg0.win 7).blk t).view.emb y 0 = (show Fin 8 from y 0) := Fin.ext (at_zero (headTiled t).2.2.1.1)
  have e1 : ((cfg0.win 7).blk t).view.emb y 1 = tileRow t.val (lt128 t) (y 1) := Fin.ext (at_block (headTiled t).2.2.1.2.1)
  have e2 : ((cfg0.win 7).blk t).view.emb y 2 = (show Fin 128 from y 2) := Fin.ext (at_zero (headTiled t).2.2.1.2.2)
  unfold headArr
  rw [e0, e1, e2]

/-- The array of the values after the run. -/
theorem v_final : (dats m 0 c).arrAt 7 cfg0.N = headArr (inputs m c).v :=
  (dats m 0 c).arrAt_eq_of_cover 7 (headArr (inputs m c).v) (fun t _ => v_flushed m c t) fun i =>
    (Value.covered_iff7 i).mpr ⟨Nat.zero_le _, (i 0).isLt, Nat.zero_le _, (i 1).isLt, Nat.zero_le _, (i 2).isLt⟩

/-! ### The gates -/

/-- What a grid point leaves in the block of the gates. -/
theorem gate_eq (t : Fin cfg0.N) (h : Fin 8) (p : Fin 256) (l : Fin 128) :
    (outsAt0 m c t.val t.isLt).2.2.2.1 (ix3 h p l) = (inputs m c).gate (tileRow t.val (lt128 t) p) h l := by
  by_cases h0 : t.val % 16 = 0
  · rw [outsAt0_A m c t h0]
    dsimp only
    unfold out0_A_8
    rw [View.read_writes_junk_eq_canon, runA_gate]
    exact (heads_apply _ h p l).trans (gateTile_apply m c t _ _ _ _ _ _ h p l)
  · rw [outsAt0_B m c t h0]
    dsimp only
    unfold out0_B_8
    rw [View.read_writes_junk_eq_canon, runB_gate]
    exact (heads_apply _ h p l).trans (gateTile_apply m c t _ _ _ _ _ _ h p l)

theorem gate_flushed (t : Fin cfg0.N) :
    (dats m 0 c).flushed 8 t = ((cfg0.win 8).blk t).view.read (Elt Ideal) (headArr (inputs m c).gate) := by
  rw [Value.flushed8]
  funext y
  rw [View.read_apply]
  show (outsAt0 m c t.val t.isLt).2.2.2.1 y = headArr (inputs m c).gate (((cfg0.win 8).blk t).view.emb y)
  have ey : (y : S8x256x128.Idx) = ix3 (show Fin 8 from y 0) (show Fin 256 from y 1) (show Fin 128 from y 2) := eq_ix3 y
  refine (congrArg (outsAt0 m c t.val t.isLt).2.2.2.1 ey).trans ((gate_eq m c t _ _ _).trans ?_)
  have e0 : ((cfg0.win 8).blk t).view.emb y 0 = (show Fin 8 from y 0) := Fin.ext (at_zero (headTiled t).2.2.2.1)
  have e1 : ((cfg0.win 8).blk t).view.emb y 1 = tileRow t.val (lt128 t) (y 1) := Fin.ext (at_block (headTiled t).2.2.2.2.1)
  have e2 : ((cfg0.win 8).blk t).view.emb y 2 = (show Fin 128 from y 2) := Fin.ext (at_zero (headTiled t).2.2.2.2.2)
  unfold headArr
  rw [e0, e1, e2]

/-- The array of the gates after the run. -/
theorem gate_final : (dats m 0 c).arrAt 8 cfg0.N = headArr (inputs m c).gate :=
  (dats m 0 c).arrAt_eq_of_cover 8 (headArr (inputs m c).gate) (fun t _ => gate_flushed m c t) fun i =>
    (Value.covered_iff8 i).mpr ⟨Nat.zero_le _, (i 0).isLt, Nat.zero_le _, (i 1).isLt, Nat.zero_le _, (i 2).isLt⟩

/-! ### The fifth output -/

/-- What a grid point leaves in the block of the fifth output. -/
theorem small_eq (t : Fin cfg0.N) (p : Fin 256) (l : Fin 128) :
    (outsAt0 m c t.val t.isLt).2.2.2.2.1 (ix2 p l) = (inputs m c).small (tileRow t.val (lt128 t) p) l := by
  have z : (![0, 0] : Fin 2 → ℕ) = fun _ => 0 := funext fun a => by match a with | ⟨0, _⟩ => rfl | ⟨1, _⟩ => rfl
  by_cases h0 : t.val % 16 = 0
  · rw [outsAt0_A m c t h0]
    dsimp only
    unfold out0_A_9
    rw [View.read_writes_junk_eq_canon, runA_small]
    exact (congrFun (View.canon_cons_unit_zero z inb_S256x128_S256x128_0_0 _ []) _).trans (smallTile_apply m c t _ _ _ _ _ _ p l)
  · rw [outsAt0_B m c t h0]
    dsimp only
    unfold out0_B_9
    rw [View.read_writes_junk_eq_canon, runB_small]
    exact (congrFun (View.canon_cons_unit_zero z inb_S256x128_S256x128_0_0 _ []) _).trans (smallTile_apply m c t _ _ _ _ _ _ p l)

/-- The array of the fifth output. -/
def smallArr : Vec Ideal S32768x128 .f32 := fun y => (inputs m c).small (y 0) (y 1)

theorem small_flushed (t : Fin cfg0.N) :
    (dats m 0 c).flushed 9 t = ((cfg0.win 9).blk t).view.read (Elt Ideal) (smallArr m c) := by
  rw [Value.flushed9]
  funext y
  rw [View.read_apply]
  show (outsAt0 m c t.val t.isLt).2.2.2.2.1 y = smallArr m c (((cfg0.win 9).blk t).view.emb y)
  have ey : (y : S256x128.Idx) = ix2 (show Fin 256 from y 0) (show Fin 128 from y 1) := eq_ix2 y
  refine (congrArg (outsAt0 m c t.val t.isLt).2.2.2.2.1 ey).trans ((small_eq m c t _ _).trans ?_)
  have e0 : ((cfg0.win 9).blk t).view.emb y 0 = tileRow t.val (lt128 t) (y 0) := Fin.ext (at_block (tiled t).2.2.1)
  have e1 : ((cfg0.win 9).blk t).view.emb y 1 = (show Fin 128 from y 1) := Fin.ext (at_zero (tiled t).2.2.2.1)
  unfold smallArr
  rw [e0, e1]

/-- The array of the fifth output after the run. -/
theorem small_final : (dats m 0 c).arrAt 9 cfg0.N = smallArr m c :=
  (dats m 0 c).arrAt_eq_of_cover 9 (smallArr m c) (fun t _ => small_flushed m c t) fun i =>
    (Value.covered_iff9 i).mpr ⟨Nat.zero_le _, (i 0).isLt, Nat.zero_le _, (i 1).isLt⟩

end InProj

end
-- ==== Proof.InProjRef.lean ====
/-
  The projections' reference in stages (the rows normalized and projected, convolved, activated, split into heads, the heads
  normalized and put first), read entry by entry in the terms of Proof/InProjRow.lean.
-/
module

public import proofs.«01_k».proof.Proof.FfnRef
public import proofs.«01_k».proof.Proof.InProjRow
public import proofs.«01_k».proof.Proof.Gen.RefInProjIdeal.Run

@[expose] public section

set_option maxRecDepth 16384
set_option backward.proofsInPublic true

noncomputable section

namespace InProj

open Idealize.ShloMosaic Ffn

namespace Inputs

variable (I : Inputs)

/-- What the activations are computed from is finite. -/
structure ActFin : Prop where
  x : ∀ R c, Attn.Fin' (I.x R c)
  g : ∀ k, Attn.Fin' (I.g k)
  w : ∀ k C, Attn.Fin' (I.w k C)
  cw : ∀ j C, Attn.Fin' (I.cw j C)

variable {I}

theorem u_fin (hI : I.ActFin) (R : Fin 32768) (C : Fin 4096) : Attn.Fin' (I.u R C) :=
  Attn.Fin'.sum _ _ fun k _ => (((hI.x R k).mul (scale_fin (hI.x R))).mul (hI.g k)).mul (hI.w k C)

theorem before_fin (hI : I.ActFin) (R : Fin 32768) (d : ℕ) (C : Fin 4096) : Attn.Fin' (I.before R d C) := by
  unfold before
  split
  · exact Attn.Fin'.coe 0
  · exact u_fin hI _ C

/-- The convolved rows are finite. -/
theorem conv_fin (hI : I.ActFin) (R : Fin 32768) (C : Fin 3072) : Attn.Fin' (I.conv R C) :=
  ((((u_fin hI R _).mul (hI.cw 3 C)).add ((before_fin hI R 3 _).mul (hI.cw 0 C))).add ((before_fin hI R 2 _).mul (hI.cw 1 C))).add ((before_fin hI R 1 _).mul (hI.cw 2 C))

end Inputs

end InProj

namespace InProjRef

open Ffn InProj Cert.RefInProjIdeal Cert.RefInProjIdeal.Gen Idealize.ShloMosaic Idealize.ShloMosaic.TcCoe Idealize.SL.Sem

/-! ## The stages -/

/-- The rows, normalized. -/
def hS (x : FVec Ideal S32768x1024 .f32) (g : FVec Ideal S1x1024 .f32) : FVec Ideal S8x4096x1024 .f32 :=
  FfnRef.normS (shapeCast _ x shapeCasts_S32768x1024_S8x4096x1024) g

/-- The projections' columns. -/
def wS (w : FVec Ideal S1x1024x4112 .bf16) : FVec Ideal S1024x4096 .f32 :=
  extf .f32 (shapeCast _ (extractStridedSlice S1x1024x4096 ![0, 0, 0] w slices_S1x1024x4112_S1x1024x4096_0_0_0) shapeCasts_S1x1024x4096_S1024x4096) bitsLt_bf16_f32

/-- The rows, projected. -/
def projS (h : FVec Ideal S8x4096x1024 .f32) (w : FVec Ideal S1024x4096 .f32) : FVec Ideal S8x4096x4096 .f32 :=
  Host.dotGeneral dot_S8x4096x1024_S1024x4096_S8x4096x4096_2_0_01_1_n_n none h w

/-- The taps, a row for each. -/
def tapsS (cw : FVec Ideal S3x8x4x128 .f32) : FVec Ideal S4x3072 .f32 :=
  shapeCast _ (transpose S4x3x8x128 [2, 0, 1, 3] cw transposes_S3x8x4x128_S4x3x8x128_2_0_1_3) shapeCasts_S4x3x8x128_S4x3072

/-- Three rows of zeros before each sequence's convolved columns. -/
def padS (p : FVec Ideal S8x4096x4096 .f32) : FVec Ideal S8x4099x3072 .f32 :=
  pad S8x4099x3072 ![0, 3, 0] ![0, 0, 0] ![0, 0, 0] (extractStridedSlice S8x4096x3072 ![0, 0, 0] p slices_S8x4096x4096_S8x4096x3072_0_0_0)
    (sitofp .f32 (constantI S_ 32 0#32)) pads_S8x4096x3072_S8x4099x3072_000_300_000 h_S_

/-- A row of taps over every row. -/
def tapS (r : FVec Ideal S1x3072 .f32) : FVec Ideal S8x4096x3072 .f32 :=
  broadcastInDim S8x4096x3072 ![0, 1, 2] bcast_S1x1x3072_S8x4096x3072_0_1_2 (broadcastInDim S1x1x3072 ![2] bcast_S3072_S1x1x3072_2 (shapeCast _ r shapeCasts_S1x3072_S3072))

/-- The convolved rows, of the padded ones. -/
def convS (u : FVec Ideal S8x4099x3072 .f32) (cw : FVec Ideal S4x3072 .f32) : FVec Ideal S8x4096x3072 .f32 :=
  addf (addf (addf
      (mulf (extractStridedSlice S8x4096x3072 ![0, 3, 0] u slices_S8x4099x3072_S8x4096x3072_0_3_0) (tapS (extractStridedSlice S1x3072 ![3, 0] cw slices_S4x3072_S1x3072_3_0)))
      (mulf (extractStridedSlice S8x4096x3072 ![0, 0, 0] u slices_S8x4099x3072_S8x4096x3072_0_0_0) (tapS (extractStridedSlice S1x3072 ![0, 0] cw slices_S4x3072_S1x3072_0_0))))
      (mulf (extractStridedSlice S8x4096x3072 ![0, 1, 0] u slices_S8x4099x3072_S8x4096x3072_0_1_0) (tapS (extractStridedSlice S1x3072 ![1, 0] cw slices_S4x3072_S1x3072_1_0))))
      (mulf (extractStridedSlice S8x4096x3072 ![0, 2, 0] u slices_S8x4099x3072_S8x4096x3072_0_2_0) (tapS (extractStridedSlice S1x3072 ![2, 0] cw slices_S4x3072_S1x3072_2_0)))

/-- Entries times their logistics. -/
def siluS {s : Shape} (hb : S_.BroadcastsInDim s (![] : Fin 0 → Fin s.rank)) (x : FVec Ideal s .f32) : FVec Ideal s .f32 :=
  mulf x (Host.divf (broadcastInDim s ![] hb (constant S_ .f32 0x3F800000#32))
    (addf (broadcastInDim s ![] hb (constant S_ .f32 0x3F800000#32)) (Host.exp (Host.negf x))))

/-- The activations of the first 3072 columns. -/
def actS (x : FVec Ideal S32768x1024 .f32) (g : FVec Ideal S1x1024 .f32) (w : FVec Ideal S1x1024x4112 .bf16) (cw : FVec Ideal S3x8x4x128 .f32) : FVec Ideal S8x4096x3072 .f32 :=
  siluS bcast_S_S8x4096x3072 (convS (padS (projS (hS x g) (wS w))) (tapsS cw))

/-- Columns split into heads. -/
def splitS (t : FVec Ideal S8x4096x1024 .f32) : FVec Ideal S8x4096x8x128 .f32 := shapeCast _ t shapeCasts_S8x4096x1024_S8x4096x8x128

/-- The heads' sums of squares. -/
def squaresS (t : FVec Ideal S8x4096x8x128 .f32) : FVec Ideal S8x4096x8 .f32 :=
  Host.reduceAdd (mulf t t) (constant S_ .f32 0x00000000#32) reducesTo_S8x4096x8x128_S8x4096x8_d3 h_S_

/-- The heads' scales, of their sums of squares. -/
def scalesS (q : FVec Ideal S8x4096x8 .f32) : FVec Ideal S8x4096x8x1 .f32 :=
  Host.rsqrt (addf (broadcastInDim S8x4096x8x1 ![0, 1, 2] bcast_S8x4096x8_S8x4096x8x1_0_1_2 q) (broadcastInDim S8x4096x8x1 ![] bcast_S_S8x4096x8x1 (constant S_ .f32 0x358637BD#32)))

/-- The heads, normalized. -/
def unitS (t : FVec Ideal S8x4096x8x128 .f32) : FVec Ideal S8x4096x8x128 .f32 :=
  mulf t (broadcastInDim S8x4096x8x128 ![0, 1, 2, 3] bcast_S8x4096x8x1_S8x4096x8x128_0_1_2_3 (scalesS (squaresS t)))

/-- The queries' factor. -/
def factorS (t : FVec Ideal S8x4096x8x128 .f32) : FVec Ideal S8x4096x8x128 .f32 :=
  mulf t (broadcastInDim S8x4096x8x128 ![] bcast_S_S8x4096x8x128 (constant S_ .f32 0x3DB504F3#32))

/-- The heads first. -/
def majorS (t : FVec Ideal S8x4096x8x128 .f32) : FVec Ideal S8x32768x128 .bf16 :=
  truncf .bf16 (transpose S8x32768x128 [1, 0, 2] (shapeCast S32768x8x128 t shapeCasts_S8x4096x8x128_S32768x8x128) transposes_S32768x8x128_S8x32768x128_1_0_2) bitsLt_bf16_f32

/-- The heads first, of unsplit columns. -/
def majorS' (t : FVec Ideal S8x4096x1024 .f32) : FVec Ideal S8x32768x128 .bf16 :=
  truncf .bf16 (transpose S8x32768x128 [1, 0, 2] (shapeCast S32768x8x128 t shapeCasts_S8x4096x1024_S32768x8x128) transposes_S32768x8x128_S8x32768x128_1_0_2) bitsLt_bf16_f32

/-- The small projection. -/
def smallS (h : FVec Ideal S8x4096x1024 .f32) (w : FVec Ideal S1024x128 .bf16) : FVec Ideal S32768x128 .f32 :=
  shapeCast _ (Host.dotGeneral dot_S8x4096x1024_S1024x128_S8x4096x128_2_0_01_1_n_n none h (extf .f32 w bitsLt_bf16_f32)) shapeCasts_S8x4096x128_S32768x128

/-! ## The stages, entry by entry -/

theorem hS_apply (x : FVec Ideal S32768x1024 .f32) (g : FVec Ideal S1x1024 .f32) (b : Fin 8) (s : Fin 4096) (k : Fin 1024) :
    hS x g (ix3 b s k) = norm (fun k => x (ix2 (FfnRef.row b s) k)) (fun k => g (ix2 0 k)) k := by
  have e : ∀ k : Fin 1024, shapeCast S8x4096x1024 x shapeCasts_S32768x1024_S8x4096x1024 (ix3 b s k) = x (ix2 (FfnRef.row b s) k) := fun k => by
    pointwise []
    rfl
  unfold hS
  rw [FfnRef.normS_apply]
  exact congrArg (fun r => norm r (fun k => g (ix2 0 k)) k) (funext e)

theorem wS_apply (w : FVec Ideal S1x1024x4112 .bf16) (k : Fin 1024) (C : Fin 4096) : wS w (ix2 k C) = w (ix3 0 k ⟨C, by omega⟩) := by
  pointwise [wS]

theorem projS_apply (h : FVec Ideal S8x4096x1024 .f32) (w : FVec Ideal S1024x4096 .f32) (b : Fin 8) (s : Fin 4096) (C : Fin 4096) :
    projS h w (ix3 b s C) = ∑ k : Fin 1024, (h (ix3 b s k) * w (ix2 k C) : EReal) := by
  pointwise [projS]

theorem tapsS_apply (cw : FVec Ideal S3x8x4x128 .f32) (j : Fin 4) (C : Fin 3072) :
    tapsS cw (ix2 j C) = cw (ix4 ⟨C / 1024, by omega⟩ ⟨C / 128 % 8, by omega⟩ j ⟨C % 128, by omega⟩) := by
  pointwise [tapsS]

theorem padS_apply (p : FVec Ideal S8x4096x4096 .f32) (b : Fin 8) (s : Fin 4099) (C : Fin 3072) :
    padS p (ix3 b s C) = if h : (s : ℕ) < 3 then (0 : EReal) else p (ix3 b ⟨s - 3, by omega⟩ ⟨C, by omega⟩) := by
  pointwise [padS]
  by_cases h : (s : ℕ) < 3
  · rw [dif_pos h, dif_neg (by omega), FfnRef.sitofp_zero]
  · rw [dif_neg h, dif_pos (by omega)]

theorem tapS_apply (r : FVec Ideal S1x3072 .f32) (b : Fin 8) (s : Fin 4096) (C : Fin 3072) : tapS r (ix3 b s C) = r (ix2 0 C) := by
  pointwise [tapS]

theorem convS_apply (u : FVec Ideal S8x4099x3072 .f32) (cw : FVec Ideal S4x3072 .f32) (b : Fin 8) (s : Fin 4096) (C : Fin 3072) :
    convS u cw (ix3 b s C) = conv4 (u (ix3 b ⟨3 + s, by omega⟩ C)) (u (ix3 b ⟨s, by omega⟩ C)) (u (ix3 b ⟨1 + s, by omega⟩ C)) (u (ix3 b ⟨2 + s, by omega⟩ C))
      (fun j => cw (ix2 j C)) := by
  pointwise [convS, tapS_apply]
  rfl

theorem siluS_apply {s : Shape} (hb : S_.BroadcastsInDim s (![] : Fin 0 → Fin s.rank)) (x : FVec Ideal s .f32) (y : s.Idx) (h : Attn.Fin' (x y)) :
    siluS hb x y = silu (x y) := by
  rw [silu_eq h, ← ofBits_one]
  rfl

theorem splitS_apply (t : FVec Ideal S8x4096x1024 .f32) (b : Fin 8) (s : Fin 4096) (h : Fin 8) (l : Fin 128) :
    splitS t (ix4 b s h l) = t (ix3 b s ⟨128 * h + l, by omega⟩) := by
  pointwise [splitS]
  exact congrArg (fun C => t (ix3 b s C)) (Fin.ext (show (h : ℕ) * 128 + l = 128 * h + l by omega))

theorem lift_eq (h : S8x4096x8x128.Reduces [3] S8x4096x8) (b : Fin 8) (s : Fin 4096) (a : Fin 8) (k : Fin 128) : h.lift (ix3 b s a) k = ix4 b s a k :=
  funext fun d => Fin.ext (by match d with | ⟨0, _⟩ => rfl | ⟨1, _⟩ => rfl | ⟨2, _⟩ => rfl | ⟨3, _⟩ => rfl)

theorem squaresS_apply (t : FVec Ideal S8x4096x8x128 .f32) (b : Fin 8) (s : Fin 4096) (h : Fin 8) :
    squaresS t (ix3 b s h) = ∑ l : Fin 128, (t (ix4 b s h l) * t (ix4 b s h l) : EReal) := by
  have e : ∀ y : FVec Ideal S8x4096x8x128 .f32, Host.reduceAdd y (constant S_ .f32 0x00000000#32) reducesTo_S8x4096x8x128_S8x4096x8_d3 h_S_ (ix3 b s h)
      = ∑ l : Fin 128, (y (ix4 b s h l) : EReal) := by
    intro y
    simp only [Host.reduceAdd, Ideal.hostReduceAdd_def]
    rw [Ideal.hostReduceAdd_single reducesTo_S8x4096x8x128_S8x4096x8_d3 (by decide)]
    refine (congrArg (fun z : EReal => z + _) (show Ideal.ofBits .f32 0x00000000#32 = (0 : EReal) by simp [Ideal.ofBits, Ideal.ieee])).trans ?_
    rw [zero_add]
    exact Finset.sum_congr rfl fun l _ => congrArg y (lift_eq _ b s h l)
  exact e (mulf t t)

theorem unitS_apply (t : FVec Ideal S8x4096x8x128 .f32) (b : Fin 8) (s : Fin 4096) (h : Fin 8) (l : Fin 128) :
    unitS t (ix4 b s h l) = t (ix4 b s h l) * unitScale (fun l => t (ix4 b s h l)) := by
  have e : ∀ q : FVec Ideal S8x4096x8 .f32, scalesS q (ix4 b s h 0) = Ideal.rsqrt (q (ix3 b s h) + eps) := fun q => by
    pointwise [scalesS]
    rfl
  pointwise [unitS, e, squaresS_apply]
  rfl

theorem factorS_apply (t : FVec Ideal S8x4096x8x128 .f32) (b : Fin 8) (s : Fin 4096) (h : Fin 8) (l : Fin 128) :
    factorS t (ix4 b s h l) = (t (ix4 b s h l) * factor : EReal) := by
  pointwise [factorS]
  rfl

theorem majorS_apply (t : FVec Ideal S8x4096x8x128 .f32) (h : Fin 8) (R : Fin 32768) (l : Fin 128) :
    majorS t (ix3 h R l) = t (ix4 ⟨R / 4096, by omega⟩ ⟨R % 4096, by omega⟩ h l) := by
  pointwise [majorS]

theorem majorS'_apply (t : FVec Ideal S8x4096x1024 .f32) (h : Fin 8) (R : Fin 32768) (l : Fin 128) :
    majorS' t (ix3 h R l) = t (ix3 ⟨R / 4096, by omega⟩ ⟨R % 4096, by omega⟩ ⟨128 * h + l, by omega⟩) := by
  pointwise [majorS']
  exact congrArg (fun C => t (ix3 ⟨R / 4096, by omega⟩ ⟨R % 4096, by omega⟩ C)) (Fin.ext (show (h : ℕ) * 128 + l = 128 * h + l by omega))

theorem smallS_apply (n : FVec Ideal S8x4096x1024 .f32) (w : FVec Ideal S1024x128 .bf16) (R : Fin 32768) (l : Fin 128) :
    smallS n w (ix2 R l) = ∑ k : Fin 1024, (n (ix3 ⟨R / 4096, by omega⟩ ⟨R % 4096, by omega⟩ k) * w (ix2 k l) : EReal) := by
  pointwise [smallS]

/-! ## The projections -/

/-- The call's arguments, of the reference's. -/
def inputs (x : FVec Ideal S32768x1024 .f32) (g : FVec Ideal S1x1024 .f32) (w : FVec Ideal S1x1024x4112 .bf16) (ws : FVec Ideal S1024x128 .bf16)
    (cw : FVec Ideal S3x8x4x128 .f32) : InProj.Inputs where
  x R C := x (ix2 R C)
  g k := g (ix2 0 k)
  w k C := w (ix3 0 k ⟨C, by omega⟩)
  ws k l := ws (ix2 k l)
  cw j C := cw (ix4 ⟨C / 1024, by omega⟩ ⟨C / 128 % 8, by omega⟩ j ⟨C % 128, by omega⟩)

section Call

variable (x : FVec Ideal S32768x1024 .f32) (g : FVec Ideal S1x1024 .f32) (w : FVec Ideal S1x1024x4112 .bf16) (ws : FVec Ideal S1024x128 .bf16)
  (cw : FVec Ideal S3x8x4x128 .f32)

theorem u_eq (b : Fin 8) (s : Fin 4096) (C : Fin 4096) : projS (hS x g) (wS w) (ix3 b s C) = (inputs x g w ws cw).u (FfnRef.row b s) C := by
  rw [projS_apply]
  exact Finset.sum_congr rfl fun k _ => by rw [hS_apply, wS_apply]; rfl

theorem pad_eq (b : Fin 8) (s : Fin 4096) (d : ℕ) (hd : d ≤ 3) (C : Fin 3072) :
    padS (projS (hS x g) (wS w)) (ix3 b ⟨3 - d + s, by omega⟩ C) = (inputs x g w ws cw).before (FfnRef.row b s) d ⟨C, by omega⟩ := by
  rw [padS_apply]
  unfold InProj.Inputs.before
  have hr : (FfnRef.row b s : ℕ) = b * 4096 + s := rfl
  by_cases hs : (s : ℕ) < d
  · rw [dif_pos (show 3 - d + (s : ℕ) < 3 by omega), if_pos (by rw [hr]; omega)]
  · rw [dif_neg (show ¬ 3 - d + (s : ℕ) < 3 by omega), if_neg (by rw [hr]; omega), u_eq x g w ws cw]
    refine congrArg (fun r => (inputs x g w ws cw).u r ⟨C, by omega⟩) (Fin.ext ?_)
    show (b : ℕ) * 4096 + (3 - d + s - 3) = b * 4096 + s - d
    omega

theorem conv_eq (b : Fin 8) (s : Fin 4096) (C : Fin 3072) :
    convS (padS (projS (hS x g) (wS w))) (tapsS cw) (ix3 b s C) = (inputs x g w ws cw).conv (FfnRef.row b s) C := by
  rw [convS_apply]
  refine conv4_congr ?_ ((congrArg _ (congrArg (fun r => ix3 b r C) (Fin.ext (Nat.zero_add _).symm))).trans (pad_eq x g w ws cw b s 3 (le_refl 3) C))
    (pad_eq x g w ws cw b s 2 (by omega) C) (pad_eq x g w ws cw b s 1 (by omega) C) (funext fun j => tapsS_apply cw j C)
  refine (pad_eq x g w ws cw b s 0 (by omega) C).trans ?_
  unfold InProj.Inputs.before
  rw [if_neg (Nat.not_lt_zero _)]
  rfl

variable (hI : (inputs x g w ws cw).ActFin)

include hI in
theorem act_eq (b : Fin 8) (s : Fin 4096) (C : Fin 3072) : actS x g w cw (ix3 b s C) = silu ((inputs x g w ws cw).conv (FfnRef.row b s) C) := by
  unfold actS
  rw [siluS_apply _ _ _ (by rw [conv_eq x g w ws cw]; exact InProj.Inputs.conv_fin hI _ C), conv_eq x g w ws cw]

/-- The 1024 columns of the activations from column `o` on: queries, keys or values. -/
def partS (o : ℕ) (ho : S8x4096x3072.Slices ![0, 0, o] S8x4096x1024) : FVec Ideal S8x4096x1024 .f32 := extractStridedSlice S8x4096x1024 ![0, 0, o] (actS x g w cw) ho

include hI in
theorem part_eq (o : ℕ) (n : ℕ) (hn : n ≤ 16) (hon : o = 128 * n) (ho : S8x4096x3072.Slices ![0, 0, o] S8x4096x1024) (b : Fin 8) (s : Fin 4096) (h : Fin 8) (l : Fin 128) :
    partS x g w cw o ho (ix3 b s ⟨128 * h + l, by omega⟩) = (inputs x g w ws cw).act (FfnRef.row b s) ⟨n + h, by omega⟩ l := by
  unfold InProj.Inputs.act
  rw [← act_eq x g w ws cw hI]
  refine congrArg (actS x g w cw) (funext fun d => Fin.ext ?_)
  match d with
  | ⟨0, _⟩ => show 0 + (b : ℕ) = b; omega
  | ⟨1, _⟩ => show 0 + (s : ℕ) = s; omega
  | ⟨2, _⟩ => show o + (128 * (h : ℕ) + l) = 128 * (n + h) + l; omega

theorem row_at (R : Fin 32768) : FfnRef.row ⟨R / 4096, by omega⟩ ⟨R % 4096, by omega⟩ = R := Fin.ext (Nat.div_add_mod' R.val 4096)

include hI in
theorem q_eq (h : Fin 8) (R : Fin 32768) (l : Fin 128) :
    majorS (factorS (unitS (splitS (partS x g w cw 0 slices_S8x4096x3072_S8x4096x1024_0_0_0)))) (ix3 h R l) = (inputs x g w ws cw).q R h l := by
  rw [majorS_apply, factorS_apply, unitS_apply]
  simp only [splitS_apply, part_eq x g w ws cw hI 0 0 (by decide) rfl, row_at, Nat.zero_add]
  rw [mul_assoc]
  rfl

include hI in
theorem k_eq (h : Fin 8) (R : Fin 32768) (l : Fin 128) :
    majorS (unitS (splitS (partS x g w cw 1024 slices_S8x4096x3072_S8x4096x1024_0_0_1024))) (ix3 h R l) = (inputs x g w ws cw).k R h l := by
  rw [majorS_apply, unitS_apply]
  simp only [splitS_apply, part_eq x g w ws cw hI 1024 8 (by decide) rfl, row_at]
  rfl

include hI in
theorem v_eq (h : Fin 8) (R : Fin 32768) (l : Fin 128) :
    majorS' (partS x g w cw 2048 slices_S8x4096x3072_S8x4096x1024_0_0_2048) (ix3 h R l) = (inputs x g w ws cw).v R h l := by
  rw [majorS'_apply]
  simp only [part_eq x g w ws cw hI 2048 16 (by decide) rfl, row_at]
  rfl

/-- The gates. -/
def gateS : FVec Ideal S8x4096x1024 .f32 :=
  siluS bcast_S_S8x4096x1024 (extractStridedSlice S8x4096x1024 ![0, 0, 3072] (projS (hS x g) (wS w)) slices_S8x4096x4096_S8x4096x1024_0_0_3072)

include hI in
theorem gate_eq (h : Fin 8) (R : Fin 32768) (l : Fin 128) : majorS' (gateS x g w) (ix3 h R l) = (inputs x g w ws cw).gate R h l := by
  have e : ∀ y : FVec Ideal S8x4096x4096 .f32, extractStridedSlice S8x4096x1024 ![0, 0, 3072] y slices_S8x4096x4096_S8x4096x1024_0_0_3072
      (ix3 ⟨R / 4096, by omega⟩ ⟨R % 4096, by omega⟩ ⟨128 * h + l, by omega⟩) = y (ix3 ⟨R / 4096, by omega⟩ ⟨R % 4096, by omega⟩ ⟨3072 + 128 * h + l, by omega⟩) := by
    intro y
    refine congrArg y (funext fun d => Fin.ext ?_)
    match d with
    | ⟨0, _⟩ => show 0 + (R : ℕ) / 4096 = R / 4096; omega
    | ⟨1, _⟩ => show 0 + (R : ℕ) % 4096 = R % 4096; omega
    | ⟨2, _⟩ => show 3072 + (128 * (h : ℕ) + l) = 3072 + 128 * h + l; omega
  have e' := (e (projS (hS x g) (wS w))).trans (u_eq x g w ws cw _ _ _)
  rw [row_at] at e'
  rw [majorS'_apply]
  unfold gateS
  rw [siluS_apply _ _ _ (by rw [e']; exact InProj.Inputs.u_fin hI _ _), e']
  rfl

theorem small_eq (R : Fin 32768) (l : Fin 128) : smallS (hS x g) ws (ix2 R l) = (inputs x g w ws cw).small R l := by
  rw [smallS_apply]
  simp only [hS_apply, row_at]
  rfl

end Call

end InProjRef

end
-- ==== Proof.InProjClaims.lean ====
/-
  The delta layer's projection call: its reference's five results, entry by entry, and the equality of the kernel's and the
  reference's result arrays under the precondition that what the activations are computed from is finite.
-/
module

public import proofs.«01_k».proof.Defs
public import proofs.«01_k».proof.Proof.InProjArray
public import proofs.«01_k».proof.Proof.InProjRef
public import proofs.«01_k».proof.Proof.SwaClaims
public import proofs.«01_k».proof.Proof.Gen.Pre_finite2

@[expose] public section

set_option maxRecDepth 16384

noncomputable section

namespace InProjClaims

open Idealize.ShloMosaic Idealize.ShloMosaic.TcCoe Idealize.SL.Sem

section Reference

open Cert.RefInProjIdeal Cert.RefInProjIdeal.Gen InProjRef

variable (m : (ℓ : Loc nD τ sig) → Buf (Elt Ideal) ℓ) (c : Dev nD)

/-- The run's first term is the queries. -/
theorem run_q : Value.res_out0 m c = majorS (factorS (unitS (splitS (partS (m ((c.tc : Thread nD τ).loc main_arg0)) (m ((c.tc : Thread nD τ).loc main_arg1))
    (m ((c.tc : Thread nD τ).loc main_arg2)) (m ((c.tc : Thread nD τ).loc main_arg4)) 0 slices_S8x4096x3072_S8x4096x1024_0_0_0)))) := by
  rfl

/-- The second is the keys. -/
theorem run_k : Value.res_out1 m c = majorS (unitS (splitS (partS (m ((c.tc : Thread nD τ).loc main_arg0)) (m ((c.tc : Thread nD τ).loc main_arg1))
    (m ((c.tc : Thread nD τ).loc main_arg2)) (m ((c.tc : Thread nD τ).loc main_arg4)) 1024 slices_S8x4096x3072_S8x4096x1024_0_0_1024))) := by
  rfl

/-- The third is the values. -/
theorem run_v : Value.res_out2 m c = majorS' (partS (m ((c.tc : Thread nD τ).loc main_arg0)) (m ((c.tc : Thread nD τ).loc main_arg1))
    (m ((c.tc : Thread nD τ).loc main_arg2)) (m ((c.tc : Thread nD τ).loc main_arg4)) 2048 slices_S8x4096x3072_S8x4096x1024_0_0_2048) := by
  rfl

end Reference

section Pre

open Cert.Pre_finite2 Cert.Pre_finite2.Gen

variable (x : FVec Ideal S32768x1024 .f32) (g : FVec Ideal S1x1024 .f32) (w : FVec Ideal S1x1024x4112 .bf16) (ws : FVec Ideal S1024x128 .bf16)
  (cw : FVec Ideal S3x8x4x128 .f32)

/-- The precondition says that what the activations are computed from is finite. -/
theorem act_fin (p0 : (fn (F := Ideal) x g w ws cw).1 = fun _ => 1#1) (p1 : (fn (F := Ideal) x g w ws cw).2.1 = fun _ => 1#1)
    (p2 : (fn (F := Ideal) x g w ws cw).2.2.1 = fun _ => 1#1) (p3 : (fn (F := Ideal) x g w ws cw).2.2.2 = fun _ => 1#1) :
    (InProjRef.inputs x g w ws cw).ActFin where
  x R c := SwaClaims.fin_of_cmp _ (congrFun p0 (ix2 R c))
  g k := SwaClaims.fin_of_cmp _ (congrFun p1 (ix2 0 k))
  w k C := by
    have e : shapeCast S1024x4096 (extractStridedSlice S1x1024x4096 ![0, 0, 0] w slices_S1x1024x4112_S1x1024x4096_0_0_0) shapeCasts_S1x1024x4096_S1024x4096 (ix2 k C)
        = w (ix3 0 k ⟨C, by omega⟩) := by pointwise []
    show Attn.Fin' (w (ix3 0 k ⟨C, by omega⟩))
    rw [← e]
    exact SwaClaims.fin_of_cmp _ (congrFun p2 (ix2 k C))
  cw j C := SwaClaims.fin_of_cmp _ (congrFun p3 (ix4 ⟨C / 1024, by omega⟩ ⟨C / 128 % 8, by omega⟩ j ⟨C % 128, by omega⟩))

end Pre

/-- An array of heads, entry by entry. -/
theorem head_ext {f f' : FVec Ideal Cert.RefInProjIdeal.S8x32768x128 .bf16} (h : ∀ (a : Fin 8) (R : Fin 32768) (l : Fin 128), f (ix3 a R l) = f' (ix3 a R l)) : f = f' :=
  funext fun y => by
    rw [eq_ix3 y]
    exact h (y 0) (y 1) (y 2)

/-! ## The claims -/

/-- The reference leaves its arguments unchanged and has no semaphore. -/
theorem reference_frame : Cert.quiescent_RefInProjIdeal := fun m ρ _ =>
  (θ_run Cert.RefInProjIdeal.defs _ _).mono (fun r h => ⟨fun c => (h c).2.2.2.2.2, sem_eq_zero_of_no_sems (by decide) r.2⟩)
    (Cert.RefInProjIdeal.Value.run m ρ)

/-- The two programs' results are equal. -/
theorem algebraic : Cert.algebraic_InProjIdeal_RefInProjIdeal_pre_finite2 := by
  intro m ρ m' ρ' hpre hagree
  refine ⟨fun c => InProj.headArr (InProj.inputs m c).q, fun c => InProj.headArr (InProj.inputs m c).k, fun c => InProj.headArr (InProj.inputs m c).v,
    fun c => InProj.headArr (InProj.inputs m c).gate, fun c => InProj.smallArr m c, ?_, ?_⟩
  · exact (θ_run Cert.InProjIdeal.defs _ _).mono (fun _ h c => ⟨(h c).1.trans (InProj.q_final m c), (h c).2.1.trans (InProj.k_final m c),
      (h c).2.2.1.trans (InProj.v_final m c), (h c).2.2.2.1.trans (InProj.gate_final m c), (h c).2.2.2.2.1.trans (InProj.small_final m c), (h c).2.2.2.2.2⟩)
      (Cert.InProjIdeal.Value.run_blocks m ρ)
  · refine (θ_run Cert.RefInProjIdeal.defs _ _).mono (fun _ h c => ?_) (Cert.RefInProjIdeal.Value.run m' ρ')
    obtain ⟨h0, h1, h2, h3, h4⟩ := hagree c
    obtain ⟨p0, p1, p2, p3⟩ := hpre c
    have hI := act_fin _ _ _ (m ((c.tc : Thread Cert.InProjIdeal.nD Cert.InProjIdeal.τ).loc Cert.InProjIdeal.main_arg3)) _ p0 p1 p2 p3
    refine ⟨(h c).1.trans ((run_q m' c).trans ?_), (h c).2.1.trans ((run_k m' c).trans ?_), (h c).2.2.1.trans ((run_v m' c).trans ?_),
      (h c).2.2.2.1.trans (Eq.trans (b := InProjRef.majorS' (InProjRef.gateS _ _ _)) rfl ?_), (h c).2.2.2.2.1.trans (Eq.trans (b := InProjRef.smallS (InProjRef.hS _ _) _) rfl ?_), (h c).2.2.2.2.2⟩
    · rw [h0, h1, h2, h4]
      exact head_ext fun a R l => InProjRef.q_eq _ _ _ _ _ hI a R l
    · rw [h0, h1, h2, h4]
      exact head_ext fun a R l => InProjRef.k_eq _ _ _ _ _ hI a R l
    · rw [h0, h1, h2, h4]
      exact head_ext fun a R l => InProjRef.v_eq _ _ _ _ _ hI a R l
    · rw [h0, h1, h2]
      exact head_ext fun a R l => InProjRef.gate_eq _ _ _ _ _ hI a R l
    · rw [h0, h1, h3]
      funext y
      rw [eq_ix2 y]
      exact InProjRef.small_eq _ _ (m ((c.tc : Thread Cert.InProjIdeal.nD Cert.InProjIdeal.τ).loc Cert.InProjIdeal.main_arg2)) _
        (m ((c.tc : Thread Cert.InProjIdeal.nD Cert.InProjIdeal.τ).loc Cert.InProjIdeal.main_arg4)) (y 0) (y 1)

end InProjClaims

end
-- ==== Proof.lean ====
/- The certificate's claims, assembled: the frames, the idealization's named constants, and the equality of the results of the
   sliding-window attention (Proof/SwaClaims.lean) and of the feed-forward calls (Proof/Ffn1Claims.lean, Proof/Ffn0Claims.lean) and of the
   delta layer's projections (Proof/InProjClaims.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Ffn1
public import proofs.«01_k».proof.Proof.Gen.Ffn1.Skeleton
public import proofs.«01_k».proof.Proof.Gen.Ffn1.Launch
public import proofs.«01_k».proof.Proof.Gen.Ffn1.Points
public import proofs.«01_k».proof.Proof.Gen.Ffn1.Frame
public import proofs.«01_k».proof.Proof.Gen.Ffn1Ideal
public import proofs.«01_k».proof.Proof.Gen.Ffn1Ideal.Skeleton
public import proofs.«01_k».proof.Proof.Gen.Ffn1Ideal.Launch
public import proofs.«01_k».proof.Proof.Gen.Ffn1Ideal.Points
public import proofs.«01_k».proof.Proof.Gen.Ffn1Ideal.Frame
public import proofs.«01_k».proof.Proof.Gen.Ffn1Ideal.Value
public import proofs.«01_k».proof.Proof.Gen.RefFfn1Ideal
public import proofs.«01_k».proof.Proof.Gen.RefFfn1Ideal.Run
public import proofs.«01_k».proof.Proof.Gen.RefFfn1Ideal.Read
public import proofs.«01_k».proof.Proof.Gen.Pre_finite1
public import proofs.«01_k».proof.Proof.Gen.Ffn0
public import proofs.«01_k».proof.Proof.Gen.Ffn0.Skeleton
public import proofs.«01_k».proof.Proof.Gen.Ffn0.Launch
public import proofs.«01_k».proof.Proof.Gen.Ffn0.Points
public import proofs.«01_k».proof.Proof.Gen.Ffn0.Frame
public import proofs.«01_k».proof.Proof.Gen.Ffn0Ideal
public import proofs.«01_k».proof.Proof.Gen.Ffn0Ideal.Skeleton
public import proofs.«01_k».proof.Proof.Gen.Ffn0Ideal.Launch
public import proofs.«01_k».proof.Proof.Gen.Ffn0Ideal.Points
public import proofs.«01_k».proof.Proof.Gen.Ffn0Ideal.Frame
public import proofs.«01_k».proof.Proof.Gen.Ffn0Ideal.Value
public import proofs.«01_k».proof.Proof.Gen.RefFfn0Ideal
public import proofs.«01_k».proof.Proof.Gen.RefFfn0Ideal.Run
public import proofs.«01_k».proof.Proof.Gen.RefFfn0Ideal.Read
public import proofs.«01_k».proof.Proof.Gen.Pre_finite0
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.RefInProjIdeal
public import proofs.«01_k».proof.Proof.Gen.RefInProjIdeal.Run
public import proofs.«01_k».proof.Proof.Gen.RefInProjIdeal.Read
public import proofs.«01_k».proof.Proof.Gen.Pre_finite2
public import proofs.«01_k».proof.Proof.SwaClaims
public import proofs.«01_k».proof.Proof.Ffn1Claims
public import proofs.«01_k».proof.Proof.Ffn0Claims
public import proofs.«01_k».proof.Proof.InProjClaims
public import Idealize.ShloMosaic.Adequacy
public import Idealize.ShloMosaic.Init

@[expose] public section

noncomputable section

namespace Cert.Proof

open Idealize.ShloMosaic Idealize.SL.Sem Cert.Kernel

/-- Everything that the certificate claims. -/
theorem claim : Cert.Claim := ⟨Cert.Kernel.Gen.facts, Cert.KernelIdeal.Gen.facts, Cert.ReferenceIdeal.Gen.facts, Cert.Ffn1.Gen.facts, Cert.Ffn1Ideal.Gen.facts,
  Cert.RefFfn1Ideal.Gen.facts, Cert.Ffn0.Gen.facts, Cert.Ffn0Ideal.Gen.facts, Cert.RefFfn0Ideal.Gen.facts, Cert.InProj.Gen.facts, Cert.InProjIdeal.Gen.facts,
  Cert.RefInProjIdeal.Gen.facts, Cert.Pre_finite.Gen.facts, Cert.Pre_finite1.Gen.facts, Cert.Pre_finite0.Gen.facts, Cert.Pre_finite2.Gen.facts,
  fun m ρ _ => Cert.Kernel.Gen.frame m ρ, fun m ρ _ => Cert.KernelIdeal.Gen.frame m ρ, fun m ρ _ => Cert.KernelIdeal.Gen.frame m ρ,
  SwaClaims.reference_frame, fun m ρ _ => SwaClaims.reference_frame m ρ trivial,
  fun m ρ _ => Cert.Ffn1.Gen.frame m ρ, fun m ρ _ => Cert.Ffn1Ideal.Gen.frame m ρ, fun m ρ _ => Cert.Ffn1Ideal.Gen.frame m ρ,
  Ffn1Claims.reference_frame, fun m ρ _ => Ffn1Claims.reference_frame m ρ trivial,
  fun m ρ _ => Cert.Ffn0.Gen.frame m ρ, fun m ρ _ => Cert.Ffn0Ideal.Gen.frame m ρ, fun m ρ _ => Cert.Ffn0Ideal.Gen.frame m ρ,
  Ffn0Claims.reference_frame, fun m ρ _ => Ffn0Claims.reference_frame m ρ trivial,
  fun m ρ _ => Cert.InProj.Gen.frame m ρ, fun m ρ _ => Cert.InProjIdeal.Gen.frame m ρ, fun m ρ _ => Cert.InProjIdeal.Gen.frame m ρ,
  InProjClaims.reference_frame, fun m ρ _ => InProjClaims.reference_frame m ρ trivial,
  SwaClaims.preserves, SwaClaims.algebraic, trivial, Ffn1Claims.algebraic, trivial, Ffn0Claims.algebraic,
  trivial, InProjClaims.algebraic⟩

end Cert.Proof

end
